-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "q_scale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x1024 : Shape := ⟨3, ![16, 2048, 1024]⟩
abbrev S1x4x64 : Shape := ⟨3, ![1, 4, 64]⟩
abbrev S1x128 : Shape := ⟨2, ![1, 128]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S16x2048x1024 .f32) (main_arg3 : FVec F S16x2048x1024 .f32) (main_arg4 : FVec F S1x4x64 .f32) (main_arg5 : FVec F S1x128 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  let main_v14 : FVec F S1x4x64 .f32 := Host.absf main_arg4
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Kernel.lean ====
abbrev S16x2048x1024 : Shape := ⟨3, ![16, 2048, 1024]⟩
abbrev S1x4x64 : Shape := ⟨3, ![1, 4, 64]⟩
abbrev S1x128 : Shape := ⟨2, ![1, 128]⟩
abbrev S_ : Shape := ⟨0, ![]⟩
abbrev S16x1024x2048 : Shape := ⟨3, ![16, 1024, 2048]⟩
abbrev S4x64 : Shape := ⟨2, ![4, 64]⟩
abbrev S128 : Shape := ⟨1, ![128]⟩
abbrev S8 : Shape := ⟨1, ![8]⟩
abbrev S128x1 : Shape := ⟨2, ![128, 1]⟩
abbrev S128x256 : Shape := ⟨2, ![128, 256]⟩
abbrev S1x256x2048 : Shape := ⟨3, ![1, 256, 2048]⟩
abbrev S1x2048x256 : Shape := ⟨3, ![1, 2048, 256]⟩
abbrev S2x2048x256 : Shape := ⟨3, ![2, 2048, 256]⟩
abbrev S2x144x2048 : Shape := ⟨3, ![2, 144, 2048]⟩
abbrev S4x2048x256 : Shape := ⟨3, ![4, 2048, 256]⟩
abbrev S2048x128 : Shape := ⟨2, ![2048, 128]⟩
abbrev S1x2048x128 : Shape := ⟨3, ![1, 2048, 128]⟩
abbrev S16x2048 : Shape := ⟨2, ![16, 2048]⟩
abbrev S1x16x2048 : Shape := ⟨3, ![1, 16, 2048]⟩
abbrev S1x128x2048 : Shape := ⟨3, ![1, 128, 2048]⟩
abbrev S128x2048 : Shape := ⟨2, ![128, 2048]⟩
abbrev S16x256 : Shape := ⟨2, ![16, 256]⟩
abbrev S1 : Shape := ⟨1, ![1]⟩
abbrev S64x256 : Shape := ⟨2, ![64, 256]⟩
abbrev S112x256 : Shape := ⟨2, ![112, 256]⟩
abbrev S256x256 : Shape := ⟨2, ![256, 256]⟩
abbrev S1x64 : Shape := ⟨2, ![1, 64]⟩
abbrev S1x1 : Shape := ⟨2, ![1, 1]⟩
abbrev S1x128x256 : Shape := ⟨3, ![1, 128, 256]⟩
abbrev S1x256x256 : Shape := ⟨3, ![1, 256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S1x512x256 : Shape := ⟨3, ![1, 512, 256]⟩
abbrev S512x256 : Shape := ⟨2, ![512, 256]⟩
abbrev S64x8x256 : Shape := ⟨3, ![64, 8, 256]⟩
abbrev S1x144x256 : Shape := ⟨3, ![1, 144, 256]⟩
abbrev S144x256 : Shape := ⟨2, ![144, 256]⟩
abbrev S1x144x512 : Shape := ⟨3, ![1, 144, 512]⟩
abbrev S144x512 : Shape := ⟨2, ![144, 512]⟩

abbrev nBuf : Space → Nat
  | .hbm => 37
  | .vmem => 16
  | .smem => 1
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S1x4x64, .f32⟩
  | .hbm, ⟨5, _⟩ => ⟨S1x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S16x2048x1024, .bf16⟩
  | .hbm, ⟨13, _⟩ => ⟨S16x1024x2048, .bf16⟩
  | .hbm, ⟨14, _⟩ => ⟨S16x2048x1024, .bf16⟩
  | .hbm, ⟨15, _⟩ => ⟨S16x1024x2048, .bf16⟩
  | .hbm, ⟨16, _⟩ => ⟨S16x1024x2048, .f32⟩
  | .hbm, ⟨17, _⟩ => ⟨S16x2048x1024, .bf16⟩
  | .hbm, ⟨18, _⟩ => ⟨S4x64, .f32⟩
  | .hbm, ⟨19, _⟩ => ⟨S128, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S128x1, .f32⟩
  | .hbm, ⟨35, _⟩ => ⟨S128x256, .f32⟩
  | .hbm, ⟨36, _⟩ => ⟨S16x1024x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .f32⟩
  | .local _ .vmem, ⟨7, _⟩ => ⟨S1x256x2048, .f32⟩
  | .local _ .vmem, ⟨8, _⟩ => ⟨S4x64, .f32⟩
  | .local _ .vmem, ⟨9, _⟩ => ⟨S128x256, .f32⟩
  | .local _ .vmem, ⟨10, _⟩ => ⟨S1x256x2048, .bf16⟩
  | .local _ .vmem, ⟨11, _⟩ => ⟨S1x256x2048, .bf16⟩
  | .local _ .vmem, ⟨12, _⟩ => ⟨S2x2048x256, .bf16⟩
  | .local _ .vmem, ⟨13, _⟩ => ⟨S2x144x2048, .bf16⟩
  | .local _ .vmem, ⟨14, _⟩ => ⟨S4x2048x256, .f32⟩
  | .local _ .vmem, ⟨15, _⟩ => ⟨S4x2048x256, .bf16⟩
  | .local _ .smem, ⟨0, _⟩ => ⟨S8, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_off1 (i : grid0.Coords) (c0_i32_23 : BitVec 32) : Fin 1 → Nat :=
  let arg1 : BitVec 32 := BitVec.ofNat 32 (i 1).val
  let c2_i32 : BitVec 32 := 2#32
  let v26 : BitVec 32 := Scalar.muli arg1 c2_i32
  let v27 : BitVec 32 := Scalar.addi v26 c0_i32_23
  let v28 : Index := Scalar.indexCast v27
  ![v28.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x1024 : Shape := ⟨3, ![16, 2048, 1024]⟩
abbrev S1x4x64 : Shape := ⟨3, ![1, 4, 64]⟩
abbrev S1x128 : Shape := ⟨2, ![1, 128]⟩
abbrev S16x2048x8x2x64 : Shape := ⟨5, ![16, 2048, 8, 2, 64]⟩
abbrev S16x2048x8x128 : Shape := ⟨4, ![16, 2048, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8 : Shape := ⟨1, ![8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x1x1 : Shape := ⟨3, ![8, 1, 1]⟩
abbrev S8x2048x2048 : Shape := ⟨3, ![8, 2048, 2048]⟩
abbrev S16x8x2x2048x2048 : Shape := ⟨5, ![16, 8, 2, 2048, 2048]⟩
abbrev S1x8x1x2048x2048 : Shape := ⟨5, ![1, 8, 1, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S128 : Shape := ⟨1, ![128]⟩
abbrev S1x1x1x128 : Shape := ⟨4, ![1, 1, 1, 128]⟩
abbrev S16x1024x2048 : Shape := ⟨3, ![16, 1024, 2048]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S1x4x64, .f32⟩
  | .hbm, ⟨5, _⟩ => ⟨S1x128, .f32⟩
  | .hbm, ⟨6, _⟩ => ⟨S16x2048x8x2x64, .f32⟩
  | .hbm, ⟨7, _⟩ => ⟨S16x2048x8x2x64, .f32⟩
  | .hbm, ⟨8, _⟩ => ⟨S16x2048x8x128, .f32⟩
  | .hbm, ⟨9, _⟩ => ⟨S4x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S2048, .i32⟩
  | .hbm, ⟨44, _⟩ => ⟨S2048x1, .i32⟩
  | .hbm, ⟨45, _⟩ => ⟨S1x2048, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S2048x2048, .f32⟩
  | .hbm, ⟨50, _⟩ => ⟨S1x2048x2048, .f32⟩
  | .hbm, ⟨51, _⟩ => ⟨S_, .f32⟩
  | .hbm, ⟨52, _⟩ => ⟨S1x2048x2048, .f32⟩
  | .hbm, ⟨53, _⟩ => ⟨S1x2048x2048, .i1⟩
  | .hbm, ⟨54, _⟩ => ⟨S8x1x1, .f32⟩
  | .hbm, ⟨55, _⟩ => ⟨S8x1x1, .f32⟩
  | .hbm, ⟨56, _⟩ => ⟨S1x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S_, .f32⟩
  | .hbm, ⟨62, _⟩ => ⟨S8x2048x2048, .i1⟩
  | .hbm, ⟨63, _⟩ => ⟨S8x2048x2048, .f32⟩
  | .hbm, ⟨64, _⟩ => ⟨S8x2048x2048, .f32⟩
  | .hbm, ⟨65, _⟩ => ⟨S16x8x2x2048x2048, .f32⟩
  | .hbm, ⟨66, _⟩ => ⟨S_, .f32⟩
  | .hbm, ⟨67, _⟩ => ⟨S16x8x2x2048x2048, .f32⟩
  | .hbm, ⟨68, _⟩ => ⟨S16x8x2x2048x2048, .f32⟩
  | .hbm, ⟨69, _⟩ => ⟨S1x8x1x2048x2048, .f32⟩
  | .hbm, ⟨70, _⟩ => ⟨S16x8x2x2048x2048, .f32⟩
  | .hbm, ⟨71, _⟩ => ⟨S16x8x2x2048x2048, .f32⟩
  | .hbm, ⟨72, _⟩ => ⟨S_, .f32⟩
  | .hbm, ⟨73, _⟩ => ⟨S16x8x2x2048, .f32⟩
  | .hbm, ⟨74, _⟩ => ⟨S_, .f32⟩
  | .hbm, ⟨75, _⟩ => ⟨S16x8x2x2048, .f32⟩
  | .hbm, ⟨76, _⟩ => ⟨S16x8x2x2048, .f32⟩
  | .hbm, ⟨77, _⟩ => ⟨S16x8x2x2048x1, .f32⟩
  | .hbm, ⟨78, _⟩ => ⟨S16x8x2x2048x2048, .f32⟩
  | .hbm, ⟨79, _⟩ => ⟨S16x8x2x2048x2048, .f32⟩
  | .hbm, ⟨80, _⟩ => ⟨S16x8x2x2048x2048, .f32⟩
  | .hbm, ⟨81, _⟩ => ⟨S_, .f32⟩
  | .hbm, ⟨82, _⟩ => ⟨S16x8x2x2048, .f32⟩
  | .hbm, ⟨83, _⟩ => ⟨S16x8x2x2048x1, .f32⟩
  | .hbm, ⟨84, _⟩ => ⟨S16x8x2x2048x2048, .f32⟩
  | .hbm, ⟨85, _⟩ => ⟨S16x8x2x2048x2048, .f32⟩
  | .hbm, ⟨86, _⟩ => ⟨S16x8x1x2048x2048, .f32⟩
  | .hbm, ⟨87, _⟩ => ⟨S16x8x2048x2048, .f32⟩
  | .hbm, ⟨88, _⟩ => ⟨S16x8x1x2048x2048, .f32⟩
  | .hbm, ⟨89, _⟩ => ⟨S16x8x2048x2048, .f32⟩
  | .hbm, ⟨90, _⟩ => ⟨S16x8x2048x2048, .f32⟩
  | .hbm, ⟨91, _⟩ => ⟨S16x8x2048x2048, .f32⟩
  | .hbm, ⟨92, _⟩ => ⟨S16x8x2048x2048, .f32⟩
  | .hbm, ⟨93, _⟩ => ⟨S16x8x128x2048, .f32⟩
  | .hbm, ⟨94, _⟩ => ⟨S16x2048x8x128, .f32⟩
  | .hbm, ⟨95, _⟩ => ⟨S16x2048x8x128, .f32⟩
  | .hbm, ⟨96, _⟩ => ⟨S_, .f32⟩
  | .hbm, ⟨97, _⟩ => ⟨S16x2048x8, .f32⟩
  | .hbm, ⟨98, _⟩ => ⟨S16x2048x8x1, .f32⟩
  | .hbm, ⟨99, _⟩ => ⟨S_, .f32⟩
  | .hbm, ⟨100, _⟩ => ⟨S16x2048x8x1, .f32⟩
  | .hbm, ⟨101, _⟩ => ⟨S16x2048x8x1, .f32⟩
  | .hbm, ⟨102, _⟩ => ⟨S_, .f32⟩
  | .hbm, ⟨103, _⟩ => ⟨S16x2048x8x1, .f32⟩
  | .hbm, ⟨104, _⟩ => ⟨S16x2048x8x1, .f32⟩
  | .hbm, ⟨105, _⟩ => ⟨S16x2048x8x1, .f32⟩
  | .hbm, ⟨106, _⟩ => ⟨S16x2048x8x128, .f32⟩
  | .hbm, ⟨107, _⟩ => ⟨S16x2048x8x128, .f32⟩
  | .hbm, ⟨108, _⟩ => ⟨S128, .f32⟩
  | .hbm, ⟨109, _⟩ => ⟨S1x1x1x128, .f32⟩
  | .hbm, ⟨110, _⟩ => ⟨S16x2048x8x128, .f32⟩
  | .hbm, ⟨111, _⟩ => ⟨S16x2048x8x128, .f32⟩
  | .hbm, ⟨112, _⟩ => ⟨S_, .f32⟩
  | .hbm, ⟨113, _⟩ => ⟨S16x2048x8x128, .f32⟩
  | .hbm, ⟨114, _⟩ => ⟨S16x2048x8x128, .f32⟩
  | .hbm, ⟨115, _⟩ => ⟨S16x2048x1024, .f32⟩
  | .hbm, ⟨116, _⟩ => ⟨S16x2048x1024, .f32⟩
  | .hbm, ⟨117, _⟩ => ⟨S16x2048x1024, .f32⟩
  | .hbm, ⟨118, _⟩ => ⟨S_, .f32⟩
  | .hbm, ⟨119, _⟩ => ⟨S16x2048x1024, .f32⟩
  | .hbm, ⟨120, _⟩ => ⟨S16x2048x1024, .f32⟩
  | .hbm, ⟨121, _⟩ => ⟨S_, .f32⟩
  | .hbm, ⟨122, _⟩ => ⟨S16x2048x1024, .f32⟩
  | .hbm, ⟨123, _⟩ => ⟨S16x2048x1024, .f32⟩
  | .hbm, ⟨124, _⟩ => ⟨S16x2048x1024, .f32⟩
  | .hbm, ⟨125, _⟩ => ⟨S16x2048x1024, .f32⟩
  | .hbm, ⟨126, _⟩ => ⟨S16x1024x2048, .f32⟩
  | .hbm, ⟨127, _⟩ => ⟨S16x1024x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024x1024 : Shape := ⟨3, ![1, 1024, 1024]⟩
abbrev S1x1024 : Shape := ⟨2, ![1, 1024]⟩
abbrev S16x1024x2048 : Shape := ⟨3, ![16, 1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x1024x1024, .f32⟩
  | .hbm, ⟨3, _⟩ => ⟨S1x1024, .f32⟩
  | .hbm, ⟨4, _⟩ => ⟨S16x2048x1024, .bf16⟩
  | .hbm, ⟨5, _⟩ => ⟨S16x1024x2048, .bf16⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x2048x1024 : Shape := ⟨3, ![16, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x1024x1024, .f32⟩
  | .hbm, ⟨3, _⟩ => ⟨S1x1024, .f32⟩
  | .hbm, ⟨4, _⟩ => ⟨S1024x1024, .f32⟩
  | .hbm, ⟨5, _⟩ => ⟨S16x2048x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024x1024 : Shape := ⟨3, ![1, 1024, 1024]⟩
abbrev S1x1024 : Shape := ⟨2, ![1, 1024]⟩
abbrev S1024 : Shape := ⟨1, ![1024]⟩
abbrev S1024x2048 : Shape := ⟨2, ![1024, 2048]⟩
abbrev S1x1024x2048 : Shape := ⟨3, ![1, 1024, 2048]⟩
abbrev S2x1024 : Shape := ⟨2, ![2, 1024]⟩
abbrev S1024x1024 : Shape := ⟨2, ![1024, 1024]⟩
abbrev S2x8x2048x1024 : Shape := ⟨4, ![2, 8, 2048, 1024]⟩
abbrev S2x8x1024x2048 : Shape := ⟨4, ![2, 8, 1024, 2048]⟩
abbrev S2x1x256x1024 : Shape := ⟨4, ![2, 1, 256, 1024]⟩
abbrev S2x1x1024x256 : Shape := ⟨4, ![2, 1, 1024, 256]⟩
abbrev S2x256x1024 : Shape := ⟨3, ![2, 256, 1024]⟩
abbrev S2x2x256x1024 : Shape := ⟨4, ![2, 2, 256, 1024]⟩
abbrev S1x1x256x1024 : Shape := ⟨4, ![1, 1, 256, 1024]⟩
abbrev S256x1024 : Shape := ⟨2, ![256, 1024]⟩
abbrev S1x256x1024 : Shape := ⟨3, ![1, 256, 1024]⟩
abbrev S1024x256 : Shape := ⟨2, ![1024, 256]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 37
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x1024x1024, .f32⟩
  | .hbm, ⟨3, _⟩ => ⟨S1x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S1x1024x2048, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | .hbm, ⟨12, _⟩ => ⟨S1024x2048, .f32⟩
  | .hbm, ⟨13, _⟩ => ⟨S1024x1024, .f32⟩
  | .hbm, ⟨14, _⟩ => ⟨S1024x1024, .f32⟩
  | .hbm, ⟨15, _⟩ => ⟨S1024x2048, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024, .f32⟩
  | .hbm, ⟨23, _⟩ => ⟨S2x8x2048x1024, .f32⟩
  | .hbm, ⟨24, _⟩ => ⟨S2x8x2048x1024, .f32⟩
  | .hbm, ⟨25, _⟩ => ⟨S2x8x2048x1024, .bf16⟩
  | .hbm, ⟨26, _⟩ => ⟨S1024x1024, .bf16⟩
  | .hbm, ⟨27, _⟩ => ⟨S1x1024, .f32⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S2x8x2048x1024, .f32⟩
  | .hbm, ⟨33, _⟩ => ⟨S2x8x1024x2048, .bf16⟩
  | .hbm, ⟨34, _⟩ => ⟨S2x8x1024x2048, .f32⟩
  | .hbm, ⟨35, _⟩ => ⟨S2x8x2048x1024, .bf16⟩
  | .hbm, ⟨36, _⟩ => ⟨S2x8x1024x2048, .bf16⟩
  | .local _ .vmem, ⟨0, _⟩ => ⟨S2x1x256x1024, .f32⟩
  | .local _ .vmem, ⟨1, _⟩ => ⟨S2x1x256x1024, .f32⟩
  | .local _ .vmem, ⟨2, _⟩ => ⟨S2x1x256x1024, .bf16⟩
  | .local _ .vmem, ⟨3, _⟩ => ⟨S2x1x256x1024, .bf16⟩
  | .local _ .vmem, ⟨4, _⟩ => ⟨S1024x1024, .bf16⟩
  | .local _ .vmem, ⟨5, _⟩ => ⟨S1x1024, .f32⟩
  | .local _ .vmem, ⟨6, _⟩ => ⟨S2x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2x1x256x1024, .f32⟩
  | .local _ .vmem, ⟨12, _⟩ => ⟨S2x1x256x1024, .f32⟩
  | .local _ .vmem, ⟨13, _⟩ => ⟨S2x1x1024x256, .bf16⟩
  | .local _ .vmem, ⟨14, _⟩ => ⟨S2x1x1024x256, .bf16⟩
  | .local _ .vmem, ⟨15, _⟩ => ⟨S2x1x1024x256, .f32⟩
  | .local _ .vmem, ⟨16, _⟩ => ⟨S2x1x1024x256, .f32⟩
  | .local _ .vmem, ⟨17, _⟩ => ⟨S2x1x256x1024, .bf16⟩
  | .local _ .vmem, ⟨18, _⟩ => ⟨S2x1x256x1024, .bf16⟩
  | .local _ .vmem, ⟨19, _⟩ => ⟨S2x1x1024x256, .bf16⟩
  | .local _ .vmem, ⟨20, _⟩ => ⟨S2x1x1024x256, .bf16⟩
  | .local _ .vmem, ⟨21, _⟩ => ⟨S2x256x1024, .bf16⟩
  | .local _ .vmem, ⟨22, _⟩ => ⟨S2x256x1024, .f32⟩
  | .local _ .vmem, ⟨23, _⟩ => ⟨S2x2x256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S2x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel3Ideal.lean ====
variable {F : FTy → Type} [FloatOps F] [Named F]
def κ : String → Option EReal := fun
  | "q_scale" => some (((Real.log 256)⁻¹ : ℝ) : EReal)
  | _ => none
-- ==== Reference3Ideal.lean ====
abbrev S16x2048x1024 : Shape := ⟨3, ![16, 2048, 1024]⟩
abbrev S1x1024x1024 : Shape := ⟨3, ![1, 1024, 1024]⟩
abbrev S1x1024 : Shape := ⟨2, ![1, 1024]⟩
abbrev S1024 : Shape := ⟨1, ![1024]⟩
abbrev S1024x2048 : Shape := ⟨2, ![1024, 2048]⟩
abbrev S1x1024x2048 : Shape := ⟨3, ![1, 1024, 2048]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S2x8x2048x1024 : Shape := ⟨4, ![2, 8, 2048, 1024]⟩
abbrev S16x1024x2048 : Shape := ⟨3, ![16, 1024, 2048]⟩
abbrev S2x8x1024x2048 : Shape := ⟨4, ![2, 8, 1024, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x1024x1024, .f32⟩
  | .hbm, ⟨3, _⟩ => ⟨S1x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S1x1024x2048, .f32⟩
  | .hbm, ⟨8, _⟩ => ⟨S1024x1024, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S1024x2048, .f32⟩
  | .hbm, ⟨46, _⟩ => ⟨S16x2048x2048, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S16x2048x2048, .f32⟩
  | .hbm, ⟨51, _⟩ => ⟨S16x2048x1024, .f32⟩
  | .hbm, ⟨52, _⟩ => ⟨S_, .f32⟩
  | .hbm, ⟨53, _⟩ => ⟨S_, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S2x8x2048x1024, .f32⟩
  | .hbm, ⟨60, _⟩ => ⟨S16x1024x2048, .f32⟩
  | .hbm, ⟨61, _⟩ => ⟨S16x1024x2048, .bf16⟩
  | .hbm, ⟨62, _⟩ => ⟨S2x8x1024x2048, .bf16⟩
  | .hbm, ⟨63, _⟩ => ⟨S16x1024x2048, .f32⟩
  | .hbm, ⟨64, _⟩ => ⟨S2x8x1024x2048, .f32⟩
  | .hbm, ⟨65, _⟩ => ⟨S16x2048x1024, .bf16⟩
  | .hbm, ⟨66, _⟩ => ⟨S2x8x2048x1024, .bf16⟩
  | .hbm, ⟨67, _⟩ => ⟨S16x1024x2048, .f32⟩
  | .hbm, ⟨68, _⟩ => ⟨S16x1024x2048, .bf16⟩
  | .hbm, ⟨69, _⟩ => ⟨S2x8x1024x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.Hand.Out.lean ====
/- What the output projection leaves in its result array: the projected, normalised and weighted gated output added to
   the residual input, which is the plain computation of the reference, element by element. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen

variable (m : (ℓ : Loc nD τ sig) → Buf (Elt Ideal) ℓ)

/-- The projection of the gated output by the weights. -/
abbrev proj (Z : FVec Ideal S16x2048x1024 .f32) (W : FVec Ideal S1x1024x1024 .f32) : FVec Ideal S16x2048x1024 .f32 :=
  Host.dotGeneral Cert.Reference2Ideal.dot_S16x2048x1024_S1024x1024_S16x2048x1024_2_0_01_1_n_n none Z
    (shapeCast Cert.Reference2Ideal.S1024x1024 W Cert.Reference2Ideal.Gen.shapeCasts_S1x1024x1024_S1024x1024)

/-- The reference's result as a function of the arguments. -/
abbrev ref (X Z : FVec Ideal S16x2048x1024 .f32) (W : FVec Ideal S1x1024x1024 .f32) (G : FVec Ideal S1x1024 .f32) :
    FVec Ideal S16x2048x1024 .f32 :=
  addf X (mulf (mulf (proj Z W)
    (broadcastInDim S16x2048x1024 ![0, 1, 2] Cert.Reference2Ideal.Gen.bcast_S16x2048x1_S16x2048x1024_0_1_2
      (Host.rsqrt (addf (Host.divf
        (broadcastInDim Cert.Reference2Ideal.S16x2048x1 ![0, 1] Cert.Reference2Ideal.Gen.bcast_S16x2048_S16x2048x1_0_1
          (Host.reduceAdd (mulf (proj Z W) (proj Z W)) (constant Cert.Reference2Ideal.S_ .f32 0x00000000#32)
            Cert.Reference2Ideal.Gen.reducesTo_S16x2048x1024_S16x2048_d2 Cert.Reference2Ideal.Gen.h_S_))
        (broadcastInDim Cert.Reference2Ideal.S16x2048x1 ![] Cert.Reference2Ideal.Gen.bcast_S_S16x2048x1
          (constant Cert.Reference2Ideal.S_ .f32 0x44800000#32)))
        (broadcastInDim Cert.Reference2Ideal.S16x2048x1 ![] Cert.Reference2Ideal.Gen.bcast_S_S16x2048x1
          (constant Cert.Reference2Ideal.S_ .f32 0x358637BD#32))))))
    (broadcastInDim S16x2048x1024 ![0, 1, 2] Cert.Reference2Ideal.Gen.bcast_S1x1x1024_S16x2048x1024_0_1_2
      (broadcastInDim Cert.Reference2Ideal.S1x1x1024 ![2] Cert.Reference2Ideal.Gen.bcast_S1024_S1x1x1024_2
        (shapeCast Cert.Reference2Ideal.S1024 G Cert.Reference2Ideal.Gen.shapeCasts_S1x1024_S1024))))

/-- The windows' block indices at every grid point. -/
theorem idx : ∀ t : Fin cfg0.N,
    win0_0.index t = ![t.val / 2, t.val % 2, 0] ∧ win0_1.index t = ![t.val / 2, 0, t.val % 2]
      ∧ win0_2.index t = ![0, 0] ∧ win0_3.index t = ![0, 0] ∧ win0_4.index t = ![t.val / 2, t.val % 2, 0] :=
  (by decide +kernel : ∀ t : Fin grid0.N,
    win0_0.index t = ![t.val / 2, t.val % 2, 0] ∧ win0_1.index t = ![t.val / 2, 0, t.val % 2]
      ∧ win0_2.index t = ![0, 0] ∧ win0_3.index t = ![0, 0] ∧ win0_4.index t = ![t.val / 2, t.val % 2, 0])

/-- What the body stores at an index of its block is the reference's element at the place of that index. -/
theorem point (c : Dev nD) (t : Fin cfg0.N) (y : S1x1024x1024.Idx) :
    k0_pay1 (iblk m c 1 t) (iblk m c 2 t) (iblk m c 0 t) (iblk m c 3 t) y
      = ref (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, ref, proj]
  blk_point [iblk, V, idx t]

/-- The result array after the run. -/
theorem final (c : Dev nD) : (dats m 0 c).arrAt 4 (cfgs 0).N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Kernel2Ideal.Out

end
-- ==== Proof.Hand.OutClaims.lean ====
/- The claims about the output projection: the frames of its two printings and of its reference, and their equal results. -/
module

public import proofs.«01_k».proof.Defs
public import proofs.«01_k».proof.Proof.Gen.Kernel2.Frame
public import proofs.«01_k».proof.Proof.Hand.Out
public import Idealize.ShloMosaic.Lib.Quiescent
public import Idealize.ShloMosaic.Lib.Claim

@[expose] public section

noncomputable section

open Idealize.ShloMosaic Idealize.ShloMosaic.TcCoe Idealize.SL.Sem

namespace Cert.Proof.OutClaims

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨_, (θ_run Cert.Kernel2Ideal.defs _ _).mono
    (fun _ h c => ⟨(h c).1.trans (Cert.Kernel2Ideal.Out.final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  obtain ⟨h0, h1, h2, h3⟩ := hagree c
  rw [h0, h1, h2, h3]

end Cert.Proof.OutClaims

end
-- ==== Proof.Hand.AttnFrames.lean ====
/- The frames of the attention's two printings and of its reference, and the values its named constants stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof.AttnClaims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_finite : Cert.quiescent_KernelIdeal_pre_finite := fun m ρ _ => Cert.KernelIdeal.Gen.frame m ρ
theorem frame_ri_finite : Cert.quiescent_ReferenceIdeal_pre_finite := fun m ρ _ => frame_ri m ρ trivial

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

end Cert.Proof.AttnClaims

end
-- ==== Proof.Hand.Fin.lean ====
/- The precondition read: every query, key, value and weight argument is a real number. -/
module

public import proofs.«01_k».proof.Defs
public import proofs.«01_k».proof.Proof.Gen.Pre_finite
public import Idealize.ShloMosaic.Lib.ReduceAll
public import Idealize.ShloMosaic.Lib.Affine
public import Idealize.ShloMosaic.Lib.Pipeline.ValueKit

@[expose] public section

set_option maxRecDepth 16384

noncomputable section

open Idealize.ShloMosaic Idealize.ShloMosaic.TcCoe Idealize.SL.Sem

namespace Cert.Finite

open Cert.Pre_finite

theorem inf_val : Ideal.ofBits FTy.f32 0x7F800000#32 = ⊤ := by
  simp [Ideal.ofBits, Ideal.ieee]

theorem real_of (x : EReal) (h : max x (-x) < ⊤) : x = ((x.toReal : ℝ) : EReal) := by
  induction x using EReal.rec with
  | bot => exact absurd h (by simp)
  | top => exact absurd h (by simp)
  | coe r => rfl

instance : Subsingleton S_.Idx := ⟨fun a b => funext fun x => x.elim0⟩

theorem all_real {s : Shape} (x : FVec Ideal s .f32) (y : FVec Ideal s .f32) (hy : ∀ i, y i = Ideal.ofBits FTy.f32 0x7F800000#32) (h : ∀ i, cmpf .olt (Host.absf x) y i = 1#1) (i : s.Idx) :
    x i = (((x i : EReal).toReal : ℝ) : EReal) := by
  refine real_of _ ?_
  have h' := h i
  have e : cmpf .olt (Host.absf x) y i = Ideal.cmp .olt (max (x i) (-(x i))) (y i) := rfl
  rw [e, hy, inf_val] at h'
  unfold Ideal.cmp at h'
  by_contra hc
  simp [hc] at h'

theorem of_pre (a0 a1 a2 a3 : FVec Ideal S16x2048x1024 .f32) (a4 : FVec Ideal S1x4x64 .f32) (a5 : FVec Ideal S1x128 .f32)
    (h : Cert.Pre_finite.fn (F := Ideal) a0 a1 a2 a3 a4 a5 = fun _ => 1#1) :
    (∀ i, a0 i = (((a0 i : EReal).toReal : ℝ) : EReal)) ∧ (∀ i, a1 i = (((a1 i : EReal).toReal : ℝ) : EReal)) ∧ (∀ i, a2 i = (((a2 i : EReal).toReal : ℝ) : EReal)) ∧ (∀ i, a4 i = (((a4 i : EReal).toReal : ℝ) : EReal)) := by
  have h' := congrFun h (fun a => a.elim0)
  unfold Cert.Pre_finite.fn Cert.Pre_finite.fn_part1 at h'
  dsimp only at h'
  obtain ⟨h', h4⟩ := IntOp.andi_eq_one.mp h'
  obtain ⟨h', h2⟩ := IntOp.andi_eq_one.mp h'
  obtain ⟨h0, h1⟩ := IntOp.andi_eq_one.mp h'
  exact ⟨all_real _ _ (fun _ => rfl) (Host.reduce_andi_all _ _ _ _ _ h0), all_real _ _ (fun _ => rfl) (Host.reduce_andi_all _ _ _ _ _ h1), all_real _ _ (fun _ => rfl) (Host.reduce_andi_all _ _ _ _ _ h2),
    all_real _ _ (fun _ => rfl) (Host.reduce_andi_all _ _ _ _ _ h4)⟩

end Cert.Finite

end
-- ==== Proof.Hand.Ref.lean ====
/- The reference attention in stages. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-- The bias of a head, a query and a key. -/
def rB : FVec Ideal S8x2048x2048 .f32 :=
  select (broadcastInDim S8x2048x2048 ![0, 1, 2] bcast_S1x2048x2048_S8x2048x2048_0_1_2 (cmpf .oge (broadcastInDim S1x2048x2048 ![1, 2] bcast_S2048x2048_S1x2048x2048_1_2 (sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) : FVec Ideal S1x2048x2048 .f32) (broadcastInDim S1x2048x2048 ![] bcast_S_S1x2048x2048 (constant S_ .f32 0x00000000#32)))) (mulf (broadcastInDim S8x2048x2048 ![0, 1, 2] bcast_S8x1x1_S8x2048x2048_0_1_2 (Host.negf (broadcastInDim S8x1x1 ![0] bcast_S8_S8x1x1_0 (Host.exp (mulf (broadcastInDim S8 ![] bcast_S_S8 (constant S_ .f32 0x3F317218#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32)))))))) (broadcastInDim S8x2048x2048 ![0, 1, 2] bcast_S1x2048x2048_S8x2048x2048_0_1_2 (broadcastInDim S1x2048x2048 ![1, 2] bcast_S2048x2048_S1x2048x2048_1_2 (sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))))) (broadcastInDim S8x2048x2048 ![] bcast_S_S8x2048x2048 (id (constant (F := Ideal) S_ .f32 0xFF800000#32)))

/-- The scores. -/
def rS (a0 : FVec Ideal S16x2048x1024 .f32) (a1 : FVec Ideal S16x2048x1024 .f32) : FVec Ideal S16x8x2x2048x2048 .f32 :=
  addf (mulf (Host.dotGeneral dot_S16x2048x8x2x64_S16x2048x8x2x64_S16x8x2x2048x2048_4_4_1_1_023_023 none (shapeCast _ a0 shapeCasts_S16x2048x1024_S16x2048x8x2x64) (shapeCast _ a1 shapeCasts_S16x2048x1024_S16x2048x8x2x64)) (broadcastInDim S16x8x2x2048x2048 ![] bcast_S_S16x8x2x2048x2048 (constant S_ .f32 0x3E000000#32))) (broadcastInDim S16x8x2x2048x2048 ![0, 1, 2, 3, 4] bcast_S1x8x1x2048x2048_S16x8x2x2048x2048_0_1_2_3_4 (broadcastInDim S1x8x1x2048x2048 ![1, 3, 4] bcast_S8x2048x2048_S1x8x1x2048x2048_1_3_4 (rB)))

/-- Their row maxima. -/
def rM (a0 : FVec Ideal S16x2048x1024 .f32) (a1 : FVec Ideal S16x2048x1024 .f32) : FVec Ideal S16x8x2x2048 .f32 :=
  maximumf (broadcastInDim S16x8x2x2048 ![] bcast_S_S16x8x2x2048 (constant S_ .f32 0xFF800000#32)) (Host.reduce FloatOps.maximumf (rS a0 a1) (constant S_ .f32 0xFF800000#32) reducesTo_S16x8x2x2048x2048_S16x8x2x2048_d4 h_S_)

/-- The exponentials. -/
def rE (a0 : FVec Ideal S16x2048x1024 .f32) (a1 : FVec Ideal S16x2048x1024 .f32) : FVec Ideal S16x8x2x2048x2048 .f32 :=
  Host.exp (subf (rS a0 a1) (broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 (rM a0 a1))))

/-- The rows divided by their sums. -/
def rP (a0 : FVec Ideal S16x2048x1024 .f32) (a1 : FVec Ideal S16x2048x1024 .f32) : FVec Ideal S16x8x2x2048x2048 .f32 :=
  Host.divf (rE a0 a1) (broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 (Host.reduceAdd (rE a0 a1) (constant S_ .f32 0x00000000#32) reducesTo_S16x8x2x2048x2048_S16x8x2x2048_d4 h_S_)))

/-- The second weight of the difference. -/
def rL (a4 : FVec Ideal S1x4x64 .f32) : FVec Ideal S_ .f32 :=
  addf (subf (Host.exp (Host.reduceAdd (mulf (shapeCast _ (extractStridedSlice S1x64 ![0, 0] (shapeCast _ a4 shapeCasts_S1x4x64_S4x64) slices_S4x64_S1x64_0_0) shapeCasts_S1x64_S64) (shapeCast _ (extractStridedSlice S1x64 ![1, 0] (shapeCast _ a4 shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ a4 shapeCasts_S1x4x64_S4x64) slices_S4x64_S1x64_2_0) shapeCasts_S1x64_S64) (shapeCast _ (extractStridedSlice S1x64 ![3, 0] (shapeCast _ a4 shapeCasts_S1x4x64_S4x64) slices_S4x64_S1x64_3_0) shapeCasts_S1x64_S64)) (constant S_ .f32 0x00000000#32) reducesTo_S64_S_d0 h_S_))) (constant S_ .f32 0x3EF1014C#32)

/-- The difference of the two maps. -/
def rA (a0 : FVec Ideal S16x2048x1024 .f32) (a1 : FVec Ideal S16x2048x1024 .f32) (a4 : FVec Ideal S1x4x64 .f32) : FVec Ideal S16x8x2048x2048 .f32 :=
  subf (shapeCast _ (extractStridedSlice S16x8x1x2048x2048 ![0, 0, 0, 0, 0] (rP a0 a1) slices_S16x8x2x2048x2048_S16x8x1x2048x2048_0_0_0_0_0) shapeCasts_S16x8x1x2048x2048_S16x8x2048x2048) (mulf (broadcastInDim S16x8x2048x2048 ![] bcast_S_S16x8x2048x2048 (rL a4)) (shapeCast _ (extractStridedSlice S16x8x1x2048x2048 ![0, 0, 1, 0, 0] (rP a0 a1) slices_S16x8x2x2048x2048_S16x8x1x2048x2048_0_0_1_0_0) shapeCasts_S16x8x1x2048x2048_S16x8x2048x2048))

/-- The map times the values. -/
def rO (a0 : FVec Ideal S16x2048x1024 .f32) (a1 : FVec Ideal S16x2048x1024 .f32) (a2 : FVec Ideal S16x2048x1024 .f32) (a4 : FVec Ideal S1x4x64 .f32) : FVec Ideal S16x2048x8x128 .f32 :=
  transpose S16x2048x8x128 [0, 3, 1, 2] (Host.dotGeneral dot_S16x2048x8x128_S16x8x2048x2048_S16x8x128x2048_1_3_3_2_02_01 none (shapeCast _ a2 shapeCasts_S16x2048x1024_S16x2048x8x128) (rA a0 a1 a4)) transposes_S16x8x128x2048_S16x2048x8x128_0_3_1_2

/-- The result. -/
def rR (a0 : FVec Ideal S16x2048x1024 .f32) (a1 : FVec Ideal S16x2048x1024 .f32) (a2 : FVec Ideal S16x2048x1024 .f32) (a3 : FVec Ideal S16x2048x1024 .f32) (a4 : FVec Ideal S1x4x64 .f32) (a5 : FVec Ideal S1x128 .f32) : FVec Ideal S16x1024x2048 .bf16 :=
  truncf .bf16 (transpose S16x1024x2048 [0, 2, 1] (mulf (shapeCast _ (mulf (mulf (mulf (rO a0 a1 a2 a4) (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf (rO a0 a1 a2 a4) (rO a0 a1 a2 a4)) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 (shapeCast _ a5 shapeCasts_S1x128_S128)))) (broadcastInDim S16x2048x8x128 ![] bcast_S_S16x2048x8x128 (constant S_ .f32 0x3F077F5A#32))) shapeCasts_S16x2048x8x128_S16x2048x1024) (mulf a3 (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf a3)))))) transposes_S16x2048x1024_S16x1024x2048_0_2_1) bitsLt_bf16_f32

theorem res_eq (m : (ℓ : Loc nD τ sig) → Buf (Elt Ideal) ℓ) (c : Dev nD) : Value.res_out0 (F := Ideal) m c =
    rR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_out0 Value.res_main_v93
  rfl

end Cert.ReferenceIdeal.Att

end
-- ==== Proof.Hand.RefAt.lean ====
/- The reference attention's stages at an index. -/
module

public import proofs.«01_k».proof.Proof.Hand.Ref
public import Idealize.ShloMosaic.Lib.Pointwise

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

theorem rS_at (a0 a1 : FVec Ideal S16x2048x1024 .f32) (b : Fin 16) (h : Fin 8) (e : Fin 2) (q k : Fin 2048) :
    rS a0 a1 (ix5 b h e q k) = (∑ x : Fin 64, a0 (ix3 b q ⟨h.val * 128 + e.val * 64 + x.val, by omega⟩) * a1 (ix3 b k ⟨h.val * 128 + e.val * 64 + x.val, by omega⟩))
      * Ideal.ofBits FTy.f32 1040187392#32 + rB (ix3 h q k) := by
  pointwise [rS]

theorem rB_at (h : Fin 8) (q k : Fin 2048) :
    rB (ix3 h q k) = if (0 : EReal) ≤ FloatOps.sitofp (F := Ideal) FTy.f32 (IntOp.subi (BitVec.ofNat 32 q.val) (BitVec.ofNat 32 k.val)) then
      -Ideal.exp (Ideal.ofBits FTy.f32 1060205080#32 *
        Ideal.div (Ideal.ofBits FTy.f32 3238002688#32 * (1 + (FloatOps.sitofp (F := Ideal) FTy.f32 (BitVec.ofNat 32 h.val) : EReal))) (Ideal.ofBits FTy.f32 1090519040#32)) *
        (FloatOps.sitofp (F := Ideal) FTy.f32 (IntOp.subi (BitVec.ofNat 32 q.val) (BitVec.ofNat 32 k.val)) : EReal)
      else Ideal.ofBits FTy.f32 4286578688#32 := by
  pointwise [rB]
  rfl

/-- The row maxima of scores. -/
def mx (s : FVec Ideal S16x8x2x2048x2048 .f32) : FVec Ideal S16x8x2x2048 .f32 :=
  maximumf (broadcastInDim S16x8x2x2048 ![] bcast_S_S16x8x2x2048 (constant S_ .f32 0xFF800000#32)) (Host.reduce FloatOps.maximumf s (constant S_ .f32 0xFF800000#32) reducesTo_S16x8x2x2048x2048_S16x8x2x2048_d4 h_S_)

theorem fold_at (s : FVec Ideal S16x8x2x2048x2048 .f32) (b : Fin 16) (h : Fin 8) (e : Fin 2) (q : Fin 2048) :
    (Host.reduce FloatOps.maximumf s (constant S_ .f32 0xFF800000#32) reducesTo_S16x8x2x2048x2048_S16x8x2x2048_d4 h_S_ : FVec Ideal S16x8x2x2048 .f32) (ix4 b h e q)
      = Finset.fold max (Ideal.ofBits FTy.f32 4286578688#32) (fun x => s (ix5 b h e q x)) Finset.univ := by
  pointwise []

theorem neg_at (b : Fin 16) (h : Fin 8) (e : Fin 2) (q : Fin 2048) :
    (broadcastInDim S16x8x2x2048 ![] bcast_S_S16x8x2x2048 (constant S_ .f32 0xFF800000#32) : FVec Ideal S16x8x2x2048 .f32) (ix4 b h e q) = Ideal.ofBits FTy.f32 4286578688#32 := by
  pointwise []

theorem two_at (x y : FVec Ideal S16x8x2x2048 .f32) (i : S16x8x2x2048.Idx) : maximumf x y i = max (x i : EReal) (y i) := rfl

theorem mx_at (s : FVec Ideal S16x8x2x2048x2048 .f32) (b : Fin 16) (h : Fin 8) (e : Fin 2) (q : Fin 2048) :
    mx s (ix4 b h e q) = max (Ideal.ofBits FTy.f32 4286578688#32) (Finset.fold max (Ideal.ofBits FTy.f32 4286578688#32) (fun x => s (ix5 b h e q x)) Finset.univ) := by
  rw [mx, two_at, neg_at, fold_at]

theorem rM_eq (a0 a1 : FVec Ideal S16x2048x1024 .f32) : rM a0 a1 = mx (rS a0 a1) := by
  unfold rM mx
  rfl

theorem rE_at (a0 a1 : FVec Ideal S16x2048x1024 .f32) (b : Fin 16) (h : Fin 8) (e : Fin 2) (q k : Fin 2048) :
    rE a0 a1 (ix5 b h e q k) = Ideal.exp (rS a0 a1 (ix5 b h e q k) - rM a0 a1 (ix4 b h e q)) := by
  pointwise [rE]

theorem rP_at (a0 a1 : FVec Ideal S16x2048x1024 .f32) (b : Fin 16) (h : Fin 8) (e : Fin 2) (q k : Fin 2048) :
    rP a0 a1 (ix5 b h e q k) = Ideal.div (rE a0 a1 (ix5 b h e q k)) (∑ j : Fin 2048, rE a0 a1 (ix5 b h e q j)) := by
  pointwise [rP]

theorem rL_at (a4 : FVec Ideal S1x4x64 .f32) :
    rL a4 ix0 = Ideal.exp (∑ x : Fin 64, a4 (ix3 0 0 x) * a4 (ix3 0 1 x)) - Ideal.exp (∑ x : Fin 64, a4 (ix3 0 2 x) * a4 (ix3 0 3 x)) + Ideal.ofBits FTy.f32 1055981900#32 := by
  pointwise [rL]

theorem sub_at (p : FVec Ideal S16x8x2x2048x2048 .f32) (l : FVec Ideal S_ .f32) (b : Fin 16) (h : Fin 8) (q k : Fin 2048) :
    (subf (shapeCast _ (extractStridedSlice S16x8x1x2048x2048 ![0, 0, 0, 0, 0] p slices_S16x8x2x2048x2048_S16x8x1x2048x2048_0_0_0_0_0) shapeCasts_S16x8x1x2048x2048_S16x8x2048x2048) (mulf (broadcastInDim S16x8x2048x2048 ![] bcast_S_S16x8x2048x2048 l) (shapeCast _ (extractStridedSlice S16x8x1x2048x2048 ![0, 0, 1, 0, 0] p slices_S16x8x2x2048x2048_S16x8x1x2048x2048_0_0_1_0_0) shapeCasts_S16x8x1x2048x2048_S16x8x2048x2048)) : FVec Ideal S16x8x2048x2048 .f32) (ix4 b h q k)
      = p (ix5 b h 0 q k) - l ix0 * p (ix5 b h 1 q k) := by
  pointwise []

theorem rA_at (a0 a1 : FVec Ideal S16x2048x1024 .f32) (a4 : FVec Ideal S1x4x64 .f32) (b : Fin 16) (h : Fin 8) (q k : Fin 2048) :
    rA a0 a1 a4 (ix4 b h q k) = rP a0 a1 (ix5 b h 0 q k) - rL a4 ix0 * rP a0 a1 (ix5 b h 1 q k) :=
  sub_at (rP a0 a1) (rL a4) b h q k

theorem rO_at (a0 a1 a2 : FVec Ideal S16x2048x1024 .f32) (a4 : FVec Ideal S1x4x64 .f32) (b : Fin 16) (q : Fin 2048) (h : Fin 8) (x : Fin 128) :
    rO a0 a1 a2 a4 (ix4 b q h x) = ∑ j : Fin 2048, a2 (ix3 b j ⟨h.val * 128 + x.val, by omega⟩) * rA a0 a1 a4 (ix4 b h q j) := by
  pointwise [rO]

theorem rR_at (a0 a1 a2 a3 : FVec Ideal S16x2048x1024 .f32) (a4 : FVec Ideal S1x4x64 .f32) (a5 : FVec Ideal S1x128 .f32) (b : Fin 16) (R : Fin 1024) (Q : Fin 2048) :
    rR a0 a1 a2 a3 a4 a5 (ix3 b R Q) =
      rO a0 a1 a2 a4 (ix4 b Q ⟨R.val / 128, by omega⟩ ⟨R.val % 128, by omega⟩) *
        Ideal.rsqrt (Ideal.div (∑ x : Fin 128, rO a0 a1 a2 a4 (ix4 b Q ⟨R.val / 128, by omega⟩ x) * rO a0 a1 a2 a4 (ix4 b Q ⟨R.val / 128, by omega⟩ x)) (Ideal.ofBits FTy.f32 1124073472#32)
          + Ideal.ofBits FTy.f32 897988541#32) * a5 (ix2 0 ⟨R.val % 128, by omega⟩) * Ideal.ofBits FTy.f32 1057455962#32
        * (a3 (ix3 b Q R) * Ideal.logistic (a3 (ix3 b Q R))) := by
  pointwise [rR, Ideal.logistic]

end Cert.ReferenceIdeal.Att

end
-- ==== Proof.Hand.Tile.lean ====
module

public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Att

open Cert.KernelIdeal Cert.KernelIdeal.Gen

/-- The augmented queries of the first map: 64 features, 64 zeros, the position rows, zeros. -/
def qa0 (pos : FVec Ideal S16x256 .bf16) (q : Vec Ideal S1x128x256 .bf16) : FVec Ideal S256x256 .bf16 :=
  concatenate S256x256 0 [⟨S64x256, extractStridedSlice S64x256 ![0, 0] (shapeCast S128x256 q shapeCasts_S1x128x256_S128x256) slices_S128x256_o0_0_S64x256⟩,
    ⟨S64x256, k0_pay15 (F := Ideal)⟩, ⟨S16x256, pos⟩, ⟨S112x256, k0_pay16 (F := Ideal)⟩] concatenates_S64x256_S64x256_S16x256_S112x256_S256x256_d0

def qa1 (pos : FVec Ideal S16x256 .bf16) (q : Vec Ideal S1x128x256 .bf16) : FVec Ideal S256x256 .bf16 :=
  concatenate S256x256 0 [⟨S64x256, k0_pay15 (F := Ideal)⟩, ⟨S64x256, extractStridedSlice S64x256 ![64, 0] (shapeCast S128x256 q shapeCasts_S1x128x256_S128x256) slices_S128x256_o64_0_S64x256⟩,
    ⟨S16x256, pos⟩, ⟨S112x256, k0_pay16 (F := Ideal)⟩] concatenates_S64x256_S64x256_S16x256_S112x256_S256x256_d0

def raw256 (qa : FVec Ideal S256x256 .bf16) (k : Vec Ideal S1x256x256 .bf16) : FVec Ideal S256x256 .f32 :=
  matmul dot_S256x256_S256x256_S256x256_1_0_0_1_n_n none (shapeCast S256x256 k shapeCasts_S1x256x256_S256x256 : FVec Ideal S256x256 .bf16) qa (constant S256x256 .f32 0x00000000#32)

def raw512 (qa : FVec Ideal S256x256 .bf16) (k : Vec Ideal S1x512x256 .bf16) : FVec Ideal S512x256 .f32 :=
  matmul dot_S512x256_S256x256_S512x256_1_0_0_1_n_n none (shapeCast S512x256 k shapeCasts_S1x512x256_S512x256 : FVec Ideal S512x256 .bf16) qa (constant S512x256 .f32 0x00000000#32)

def diag256 (s : FVec Ideal S256x256 .f32) : FVec Ideal S256x256 .f32 :=
  select k0_pay17 s (broadcast S256x256 (Named.named κ "mask" 0xF149F2CA#32 : Ideal .f32))

def diag512 (s : FVec Ideal S512x256 .f32) : FVec Ideal S512x256 .f32 :=
  concatenate S512x256 0 [⟨S256x256, extractStridedSlice S256x256 ![0, 0] s slices_S512x256_o0_0_S256x256⟩,
    ⟨S256x256, diag256 (extractStridedSlice S256x256 ![256, 0] s slices_S512x256_o256_0_S256x256)⟩] concatenates_S256x256_S256x256_S512x256_d0

def st256 (s : FVec Ideal S256x256 .f32) : FVec Ideal S1x256x256 .f32 := shapeCast S1x256x256 s shapeCasts_S256x256_S1x256x256
def st512 (s : FVec Ideal S512x256 .f32) : FVec Ideal S1x512x256 .f32 := shapeCast S1x512x256 s shapeCasts_S512x256_S1x512x256

def part256 (s : FVec Ideal S256x256 .f32) : FVec Ideal S8x256 .f32 :=
  multiReduction .maximumf [0] S8x256 (shapeCast S32x8x256 s shapeCasts_S256x256_S32x8x256) 0xFF800000#32 reduces_S32x8x256_S8x256 (.inl rfl) rfl
def part512 (s : FVec Ideal S512x256 .f32) : FVec Ideal S8x256 .f32 :=
  multiReduction .maximumf [0] S8x256 (shapeCast S64x8x256 s shapeCasts_S512x256_S64x8x256) 0xFF800000#32 reduces_S64x8x256_S8x256 (.inl rfl) rfl
def rowMax (x : FVec Ideal S8x256 .f32) : FVec Ideal S1x256 .f32 :=
  shapeCast S1x256 (multiReduction .maximumf [0] S256 x 0xFF800000#32 reduces_S8x256_S256 (.inl rfl) rfl) shapeCasts_S256_S1x256

def prob256 (m : FVec Ideal S1x256 .f32) (s : Vec Ideal S1x256x256 .f32) : FVec Ideal S1x256x256 .bf16 :=
  shapeCast S1x256x256 (truncf .bf16 (exp2 (subf (shapeCast S256x256 s shapeCasts_S1x256x256_S256x256) (broadcastTo S256x256 m broadcasts_S1x256_S256x256))) bitsLt_bf16_f32) shapeCasts_S256x256_S1x256x256
def prob512 (m : FVec Ideal S1x256 .f32) (s : Vec Ideal S1x512x256 .f32) : FVec Ideal S1x512x256 .bf16 :=
  shapeCast S1x512x256 (truncf .bf16 (exp2 (subf (shapeCast S512x256 s shapeCasts_S1x512x256_S512x256) (broadcastTo S512x256 m broadcasts_S1x256_S512x256))) bitsLt_bf16_f32) shapeCasts_S512x256_S1x512x256

def val256 (v : Vec Ideal S1x144x256 .bf16) (p : Vec Ideal S1x256x256 .bf16) : FVec Ideal S144x256 .f32 :=
  matmul dot_S144x256_S256x256_S144x256_1_0_0_1_n_n none (shapeCast S144x256 v shapeCasts_S1x144x256_S144x256 : FVec Ideal S144x256 .bf16) (shapeCast S256x256 p shapeCasts_S1x256x256_S256x256 : FVec Ideal S256x256 .bf16) (constant S144x256 .f32 0x00000000#32)
def val512 (v : Vec Ideal S1x144x512 .bf16) (p : Vec Ideal S1x512x256 .bf16) : FVec Ideal S144x256 .f32 :=
  matmul dot_S144x512_S512x256_S144x256_1_0_0_1_n_n none (shapeCast S144x512 v shapeCasts_S1x144x512_S144x512 : FVec Ideal S144x512 .bf16) (shapeCast S512x256 p shapeCasts_S1x512x256_S512x256 : FVec Ideal S512x256 .bf16) (constant S144x256 .f32 0x00000000#32)

def norm (a : FVec Ideal S144x256 .f32) : FVec Ideal S128x256 .f32 :=
  mulf (extractStridedSlice S128x256 ![0, 0] a slices_S144x256_o0_0_S128x256)
    (broadcastTo S128x256 (divf (broadcast S1x256 (Scalar.ofBits .f32 0x3F800000#32 : Ideal .f32)) (extractStridedSlice S1x256 ![128, 0] a slices_S144x256_o128_0_S1x256)) broadcasts_S1x256_S128x256)

def dif (lam : FVec Ideal S1x1 .f32) (o0 o1 : FVec Ideal S128x256 .f32) : FVec Ideal S128x256 .f32 :=
  subf o0 (mulf (broadcastTo S128x256 lam broadcasts_S1x1_S128x256) o1)

/-- The normalised difference, weighted and gated. -/
def gate (d : FVec Ideal S128x256 .f32) (g : Vec Ideal S128x256 .f32) (z : Vec Ideal S1x128x256 .f32) : FVec Ideal S1x128x256 .bf16 :=
  k0_pay45 d (broadcastTo S128x256 (rsqrt (addf (divf (shapeCast S1x256 (multiReduction .add [0] S256 (mulf d d) 0x00000000#32 reduces_S128x256_S256 (.inl rfl) rfl) shapeCasts_S256_S1x256)
    (broadcast S1x256 (Scalar.ofBits .f32 0x43000000#32 : Ideal .f32))) (broadcast S1x256 (Scalar.ofBits .f32 0x358637BD#32 : Ideal .f32)))) broadcasts_S1x256_S128x256) g z

theorem inbk256 (hh : Fin 2) (a : ℕ) (h : a + 256 ≤ 2048) : ∀ x, (![hh.val, a, 0] : Fin 3 → ℕ) x + S1x256x256.size x ≤ S2x2048x256.size x := fun x => by
  match x with
  | 0 => show hh.val + 1 ≤ 2; omega
  | 1 => exact h
  | 2 => show 0 + 256 ≤ 256; omega
theorem inbk512 (hh : Fin 2) (a : ℕ) (h : a + 512 ≤ 2048) : ∀ x, (![hh.val, a, 0] : Fin 3 → ℕ) x + S1x512x256.size x ≤ S2x2048x256.size x := fun x => by
  match x with
  | 0 => show hh.val + 1 ≤ 2; omega
  | 1 => exact h
  | 2 => show 0 + 256 ≤ 256; omega
theorem inbv256 (hh : Fin 2) (a : ℕ) (h : a + 256 ≤ 2048) : ∀ x, (![hh.val, 0, a] : Fin 3 → ℕ) x + S1x144x256.size x ≤ S2x144x2048.size x := fun x => by
  match x with
  | 0 => show hh.val + 1 ≤ 2; omega
  | 1 => show 0 + 144 ≤ 144; omega
  | 2 => exact h
theorem inbv512 (hh : Fin 2) (a : ℕ) (h : a + 512 ≤ 2048) : ∀ x, (![hh.val, 0, a] : Fin 3 → ℕ) x + S1x144x512.size x ≤ S2x144x2048.size x := fun x => by
  match x with
  | 0 => show hh.val + 1 ≤ 2; omega
  | 1 => show 0 + 144 ≤ 144; omega
  | 2 => exact h

theorem inbq (hh : Fin 2) (qi : Fin 8) : ∀ x, (![0, hh.val * 128, qi.val * 256] : Fin 3 → ℕ) x + S1x128x256.size x ≤ S1x256x2048.size x := fun x => by
  match x with
  | 0 => show 0 + 1 ≤ 1; omega
  | 1 => show hh.val * 128 + 128 ≤ 256; omega
  | 2 => show qi.val * 256 + 256 ≤ 2048; omega

/-- Rows `a` … of the keys of head `hh`. -/
def kt256 (KA : Vec Ideal S2x2048x256 .bf16) (hh : Fin 2) (a : ℕ) (h : a + 256 ≤ 2048) : Vec Ideal S1x256x256 .bf16 := fun y => KA ((Rect.unit (s := S2x2048x256) ![hh.val, a, 0] S1x256x256.size (inbk256 hh a h)).toLoadRect.idx y)
def kt512 (KA : Vec Ideal S2x2048x256 .bf16) (hh : Fin 2) (a : ℕ) (h : a + 512 ≤ 2048) : Vec Ideal S1x512x256 .bf16 := fun y => KA ((Rect.unit (s := S2x2048x256) ![hh.val, a, 0] S1x512x256.size (inbk512 hh a h)).toLoadRect.idx y)
def vt256 (VA : Vec Ideal S2x144x2048 .bf16) (hh : Fin 2) (a : ℕ) (h : a + 256 ≤ 2048) : Vec Ideal S1x144x256 .bf16 := fun y => VA ((Rect.unit (s := S2x144x2048) ![hh.val, 0, a] S1x144x256.size (inbv256 hh a h)).toLoadRect.idx y)
def vt512 (VA : Vec Ideal S2x144x2048 .bf16) (hh : Fin 2) (a : ℕ) (h : a + 512 ≤ 2048) : Vec Ideal S1x144x512 .bf16 := fun y => VA ((Rect.unit (s := S2x144x2048) ![hh.val, 0, a] S1x144x512.size (inbv512 hh a h)).toLoadRect.idx y)

def s0_0 (KA : Vec Ideal S2x2048x256 .bf16) (qa : FVec Ideal S256x256 .bf16) (hh : Fin 2) : FVec Ideal S256x256 .f32 := diag256 (raw256 qa (kt256 KA hh 0 (by decide)))
def mq0 (KA : Vec Ideal S2x2048x256 .bf16) (qa : FVec Ideal S256x256 .bf16) (hh : Fin 2) : FVec Ideal S1x256 .f32 := rowMax (part256 (s0_0 KA qa hh))
def acT0 (VA : Vec Ideal S2x144x2048 .bf16) (hh : Fin 2) (p0 : Vec Ideal S1x256x256 .bf16) : FVec Ideal S144x256 .f32 :=
  (val256 (vt256 VA hh 0 (by decide)) p0)
def ac0 (KA : Vec Ideal S2x2048x256 .bf16) (VA : Vec Ideal S2x144x2048 .bf16) (qa : FVec Ideal S256x256 .bf16) (hh : Fin 2) (m : FVec Ideal S1x256 .f32) : FVec Ideal S144x256 .f32 :=
  acT0 VA hh
    (prob256 m (st256 (s0_0 KA qa hh)))
def pc0 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac0 KA VA (qa0 pos q) hh (mq0 KA (qa0 pos q) hh))) (norm (ac0 KA VA (qa1 pos q) hh (mq0 KA (qa1 pos q) hh)))) g z

def s1_0 (KA : Vec Ideal S2x2048x256 .bf16) (qa : FVec Ideal S256x256 .bf16) (hh : Fin 2) : FVec Ideal S512x256 .f32 := diag512 (raw512 qa (kt512 KA hh 0 (by decide)))
def mq1 (KA : Vec Ideal S2x2048x256 .bf16) (qa : FVec Ideal S256x256 .bf16) (hh : Fin 2) : FVec Ideal S1x256 .f32 := rowMax (part512 (s1_0 KA qa hh))
def acT1 (VA : Vec Ideal S2x144x2048 .bf16) (hh : Fin 2) (p0 : Vec Ideal S1x512x256 .bf16) : FVec Ideal S144x256 .f32 :=
  (val512 (vt512 VA hh 0 (by decide)) p0)
def ac1 (KA : Vec Ideal S2x2048x256 .bf16) (VA : Vec Ideal S2x144x2048 .bf16) (qa : FVec Ideal S256x256 .bf16) (hh : Fin 2) (m : FVec Ideal S1x256 .f32) : FVec Ideal S144x256 .f32 :=
  acT1 VA hh
    (prob512 m (st512 (s1_0 KA qa hh)))
def pc1 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac1 KA VA (qa0 pos q) hh (mq1 KA (qa0 pos q) hh))) (norm (ac1 KA VA (qa1 pos q) hh (mq1 KA (qa1 pos q) hh)))) g z

def s2_0 (KA : Vec Ideal S2x2048x256 .bf16) (qa : FVec Ideal S256x256 .bf16) (hh : Fin 2) : FVec Ideal S512x256 .f32 := raw512 qa (kt512 KA hh 0 (by decide))
def s2_1 (KA : Vec Ideal S2x2048x256 .bf16) (qa : FVec Ideal S256x256 .bf16) (hh : Fin 2) : FVec Ideal S256x256 .f32 := diag256 (raw256 qa (kt256 KA hh 512 (by decide)))
def mq2 (KA : Vec Ideal S2x2048x256 .bf16) (qa : FVec Ideal S256x256 .bf16) (hh : Fin 2) : FVec Ideal S1x256 .f32 := rowMax (maximumf (part512 (s2_0 KA qa hh)) (part256 (s2_1 KA qa hh)))
def acT2 (VA : Vec Ideal S2x144x2048 .bf16) (hh : Fin 2) (p0 : Vec Ideal S1x512x256 .bf16) (p1 : Vec Ideal S1x256x256 .bf16) : FVec Ideal S144x256 .f32 :=
  (addf (val512 (vt512 VA hh 0 (by decide)) p0) (val256 (vt256 VA hh 512 (by decide)) p1))
def ac2 (KA : Vec Ideal S2x2048x256 .bf16) (VA : Vec Ideal S2x144x2048 .bf16) (qa : FVec Ideal S256x256 .bf16) (hh : Fin 2) (m : FVec Ideal S1x256 .f32) : FVec Ideal S144x256 .f32 :=
  acT2 VA hh
    (prob512 m (st512 (s2_0 KA qa hh)))
    (prob256 m (st256 (s2_1 KA qa hh)))
def pc2 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac2 KA VA (qa0 pos q) hh (mq2 KA (qa0 pos q) hh))) (norm (ac2 KA VA (qa1 pos q) hh (mq2 KA (qa1 pos q) hh)))) g z

def s3_0 (KA : Vec Ideal S2x2048x256 .bf16) (qa : FVec Ideal S256x256 .bf16) (hh : Fin 2) : FVec Ideal S512x256 .f32 := raw512 qa (kt512 KA hh 0 (by decide))
def s3_1 (KA : Vec Ideal S2x2048x256 .bf16) (qa : FVec Ideal S256x256 .bf16) (hh : Fin 2) : FVec Ideal S512x256 .f32 := diag512 (raw512 qa (kt512 KA hh 512 (by decide)))
def mq3 (KA : Vec Ideal S2x2048x256 .bf16) (qa : FVec Ideal S256x256 .bf16) (hh : Fin 2) : FVec Ideal S1x256 .f32 := rowMax (maximumf (part512 (s3_0 KA qa hh)) (part512 (s3_1 KA qa hh)))
def acT3 (VA : Vec Ideal S2x144x2048 .bf16) (hh : Fin 2) (p0 : Vec Ideal S1x512x256 .bf16) (p1 : Vec Ideal S1x512x256 .bf16) : FVec Ideal S144x256 .f32 :=
  (addf (val512 (vt512 VA hh 0 (by decide)) p0) (val512 (vt512 VA hh 512 (by decide)) p1))
def ac3 (KA : Vec Ideal S2x2048x256 .bf16) (VA : Vec Ideal S2x144x2048 .bf16) (qa : FVec Ideal S256x256 .bf16) (hh : Fin 2) (m : FVec Ideal S1x256 .f32) : FVec Ideal S144x256 .f32 :=
  acT3 VA hh
    (prob512 m (st512 (s3_0 KA qa hh)))
    (prob512 m (st512 (s3_1 KA qa hh)))
def pc3 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac3 KA VA (qa0 pos q) hh (mq3 KA (qa0 pos q) hh))) (norm (ac3 KA VA (qa1 pos q) hh (mq3 KA (qa1 pos q) hh)))) g z

def s4_0 (KA : Vec Ideal S2x2048x256 .bf16) (qa : FVec Ideal S256x256 .bf16) (hh : Fin 2) : FVec Ideal S512x256 .f32 := raw512 qa (kt512 KA hh 0 (by decide))
def s4_1 (KA : Vec Ideal S2x2048x256 .bf16) (qa : FVec Ideal S256x256 .bf16) (hh : Fin 2) : FVec Ideal S512x256 .f32 := raw512 qa (kt512 KA hh 512 (by decide))
def s4_2 (KA : Vec Ideal S2x2048x256 .bf16) (qa : FVec Ideal S256x256 .bf16) (hh : Fin 2) : FVec Ideal S256x256 .f32 := diag256 (raw256 qa (kt256 KA hh 1024 (by decide)))
def mq4 (KA : Vec Ideal S2x2048x256 .bf16) (qa : FVec Ideal S256x256 .bf16) (hh : Fin 2) : FVec Ideal S1x256 .f32 := rowMax (maximumf (maximumf (part512 (s4_0 KA qa hh)) (part512 (s4_1 KA qa hh))) (part256 (s4_2 KA qa hh)))
def acT4 (VA : Vec Ideal S2x144x2048 .bf16) (hh : Fin 2) (p0 : Vec Ideal S1x512x256 .bf16) (p1 : Vec Ideal S1x512x256 .bf16) (p2 : Vec Ideal S1x256x256 .bf16) : FVec Ideal S144x256 .f32 :=
  (addf (addf (val512 (vt512 VA hh 0 (by decide)) p0) (val512 (vt512 VA hh 512 (by decide)) p1)) (val256 (vt256 VA hh 1024 (by decide)) p2))
def ac4 (KA : Vec Ideal S2x2048x256 .bf16) (VA : Vec Ideal S2x144x2048 .bf16) (qa : FVec Ideal S256x256 .bf16) (hh : Fin 2) (m : FVec Ideal S1x256 .f32) : FVec Ideal S144x256 .f32 :=
  acT4 VA hh
    (prob512 m (st512 (s4_0 KA qa hh)))
    (prob512 m (st512 (s4_1 KA qa hh)))
    (prob256 m (st256 (s4_2 KA qa hh)))
def pc4 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac4 KA VA (qa0 pos q) hh (mq4 KA (qa0 pos q) hh))) (norm (ac4 KA VA (qa1 pos q) hh (mq4 KA (qa1 pos q) hh)))) g z

def s5_0 (KA : Vec Ideal S2x2048x256 .bf16) (qa : FVec Ideal S256x256 .bf16) (hh : Fin 2) : FVec Ideal S512x256 .f32 := raw512 qa (kt512 KA hh 0 (by decide))
def s5_1 (KA : Vec Ideal S2x2048x256 .bf16) (qa : FVec Ideal S256x256 .bf16) (hh : Fin 2) : FVec Ideal S512x256 .f32 := raw512 qa (kt512 KA hh 512 (by decide))
def s5_2 (KA : Vec Ideal S2x2048x256 .bf16) (qa : FVec Ideal S256x256 .bf16) (hh : Fin 2) : FVec Ideal S512x256 .f32 := diag512 (raw512 qa (kt512 KA hh 1024 (by decide)))
def mq5 (KA : Vec Ideal S2x2048x256 .bf16) (qa : FVec Ideal S256x256 .bf16) (hh : Fin 2) : FVec Ideal S1x256 .f32 := rowMax (maximumf (maximumf (part512 (s5_0 KA qa hh)) (part512 (s5_1 KA qa hh))) (part512 (s5_2 KA qa hh)))
def acT5 (VA : Vec Ideal S2x144x2048 .bf16) (hh : Fin 2) (p0 : Vec Ideal S1x512x256 .bf16) (p1 : Vec Ideal S1x512x256 .bf16) (p2 : Vec Ideal S1x512x256 .bf16) : FVec Ideal S144x256 .f32 :=
  (addf (addf (val512 (vt512 VA hh 0 (by decide)) p0) (val512 (vt512 VA hh 512 (by decide)) p1)) (val512 (vt512 VA hh 1024 (by decide)) p2))
def ac5 (KA : Vec Ideal S2x2048x256 .bf16) (VA : Vec Ideal S2x144x2048 .bf16) (qa : FVec Ideal S256x256 .bf16) (hh : Fin 2) (m : FVec Ideal S1x256 .f32) : FVec Ideal S144x256 .f32 :=
  acT5 VA hh
    (prob512 m (st512 (s5_0 KA qa hh)))
    (prob512 m (st512 (s5_1 KA qa hh)))
    (prob512 m (st512 (s5_2 KA qa hh)))
def pc5 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac5 KA VA (qa0 pos q) hh (mq5 KA (qa0 pos q) hh))) (norm (ac5 KA VA (qa1 pos q) hh (mq5 KA (qa1 pos q) hh)))) g z

def s6_0 (KA : Vec Ideal S2x2048x256 .bf16) (qa : FVec Ideal S256x256 .bf16) (hh : Fin 2) : FVec Ideal S512x256 .f32 := raw512 qa (kt512 KA hh 0 (by decide))
def s6_1 (KA : Vec Ideal S2x2048x256 .bf16) (qa : FVec Ideal S256x256 .bf16) (hh : Fin 2) : FVec Ideal S512x256 .f32 := raw512 qa (kt512 KA hh 512 (by decide))
def s6_2 (KA : Vec Ideal S2x2048x256 .bf16) (qa : FVec Ideal S256x256 .bf16) (hh : Fin 2) : FVec Ideal S512x256 .f32 := raw512 qa (kt512 KA hh 1024 (by decide))
def s6_3 (KA : Vec Ideal S2x2048x256 .bf16) (qa : FVec Ideal S256x256 .bf16) (hh : Fin 2) : FVec Ideal S256x256 .f32 := diag256 (raw256 qa (kt256 KA hh 1536 (by decide)))
def mq6 (KA : Vec Ideal S2x2048x256 .bf16) (qa : FVec Ideal S256x256 .bf16) (hh : Fin 2) : FVec Ideal S1x256 .f32 := rowMax (maximumf (maximumf (maximumf (part512 (s6_0 KA qa hh)) (part512 (s6_1 KA qa hh))) (part512 (s6_2 KA qa hh))) (part256 (s6_3 KA qa hh)))
def acT6 (VA : Vec Ideal S2x144x2048 .bf16) (hh : Fin 2) (p0 : Vec Ideal S1x512x256 .bf16) (p1 : Vec Ideal S1x512x256 .bf16) (p2 : Vec Ideal S1x512x256 .bf16) (p3 : Vec Ideal S1x256x256 .bf16) : FVec Ideal S144x256 .f32 :=
  (addf (addf (addf (val512 (vt512 VA hh 0 (by decide)) p0) (val512 (vt512 VA hh 512 (by decide)) p1)) (val512 (vt512 VA hh 1024 (by decide)) p2)) (val256 (vt256 VA hh 1536 (by decide)) p3))
def ac6 (KA : Vec Ideal S2x2048x256 .bf16) (VA : Vec Ideal S2x144x2048 .bf16) (qa : FVec Ideal S256x256 .bf16) (hh : Fin 2) (m : FVec Ideal S1x256 .f32) : FVec Ideal S144x256 .f32 :=
  acT6 VA hh
    (prob512 m (st512 (s6_0 KA qa hh)))
    (prob512 m (st512 (s6_1 KA qa hh)))
    (prob512 m (st512 (s6_2 KA qa hh)))
    (prob256 m (st256 (s6_3 KA qa hh)))
def pc6 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac6 KA VA (qa0 pos q) hh (mq6 KA (qa0 pos q) hh))) (norm (ac6 KA VA (qa1 pos q) hh (mq6 KA (qa1 pos q) hh)))) g z

def s7_0 (KA : Vec Ideal S2x2048x256 .bf16) (qa : FVec Ideal S256x256 .bf16) (hh : Fin 2) : FVec Ideal S512x256 .f32 := raw512 qa (kt512 KA hh 0 (by decide))
def s7_1 (KA : Vec Ideal S2x2048x256 .bf16) (qa : FVec Ideal S256x256 .bf16) (hh : Fin 2) : FVec Ideal S512x256 .f32 := raw512 qa (kt512 KA hh 512 (by decide))
def s7_2 (KA : Vec Ideal S2x2048x256 .bf16) (qa : FVec Ideal S256x256 .bf16) (hh : Fin 2) : FVec Ideal S512x256 .f32 := raw512 qa (kt512 KA hh 1024 (by decide))
def s7_3 (KA : Vec Ideal S2x2048x256 .bf16) (qa : FVec Ideal S256x256 .bf16) (hh : Fin 2) : FVec Ideal S512x256 .f32 := diag512 (raw512 qa (kt512 KA hh 1536 (by decide)))
def mq7 (KA : Vec Ideal S2x2048x256 .bf16) (qa : FVec Ideal S256x256 .bf16) (hh : Fin 2) : FVec Ideal S1x256 .f32 := rowMax (maximumf (maximumf (maximumf (part512 (s7_0 KA qa hh)) (part512 (s7_1 KA qa hh))) (part512 (s7_2 KA qa hh))) (part512 (s7_3 KA qa hh)))
def acT7 (VA : Vec Ideal S2x144x2048 .bf16) (hh : Fin 2) (p0 : Vec Ideal S1x512x256 .bf16) (p1 : Vec Ideal S1x512x256 .bf16) (p2 : Vec Ideal S1x512x256 .bf16) (p3 : Vec Ideal S1x512x256 .bf16) : FVec Ideal S144x256 .f32 :=
  (addf (addf (addf (val512 (vt512 VA hh 0 (by decide)) p0) (val512 (vt512 VA hh 512 (by decide)) p1)) (val512 (vt512 VA hh 1024 (by decide)) p2)) (val512 (vt512 VA hh 1536 (by decide)) p3))
def ac7 (KA : Vec Ideal S2x2048x256 .bf16) (VA : Vec Ideal S2x144x2048 .bf16) (qa : FVec Ideal S256x256 .bf16) (hh : Fin 2) (m : FVec Ideal S1x256 .f32) : FVec Ideal S144x256 .f32 :=
  acT7 VA hh
    (prob512 m (st512 (s7_0 KA qa hh)))
    (prob512 m (st512 (s7_1 KA qa hh)))
    (prob512 m (st512 (s7_2 KA qa hh)))
    (prob512 m (st512 (s7_3 KA qa hh)))
def pc7 (KA : Vec Ideal S2x2048x256 .bf16) (VA : Vec Ideal S2x144x2048 .bf16) (hh : Fin 2) (pos : FVec Ideal S16x256 .bf16) (lam : FVec Ideal S1x1 .f32)
    (q : Vec Ideal S1x128x256 .bf16) (g : Vec Ideal S128x256 .f32) (z : Vec Ideal S1x128x256 .f32) : FVec Ideal S1x128x256 .bf16 :=
  gate (dif lam (norm (ac7 KA VA (qa0 pos q) hh (mq7 KA (qa0 pos q) hh))) (norm (ac7 KA VA (qa1 pos q) hh (mq7 KA (qa1 pos q) hh)))) g z

end Cert.KernelIdeal.Att

end
-- ==== Proof.Hand.TileAt.lean ====
/- What the pieces of the attention's output are at an element, in real numbers: scores, the masked powers of two, and the
   normalised weighted sum of the values. -/
module

public import proofs.«01_k».proof.Proof.Hand.Tile
public import Idealize.ShloMosaic.Lib.Pointwise

@[expose] public section

set_option maxRecDepth 16384

noncomputable section

open Idealize.ShloMosaic Idealize.ShloMosaic.TcCoe Idealize.SL.Sem

namespace Cert.KernelIdeal.Att

open Cert.KernelIdeal Cert.KernelIdeal.Gen

/-- A masked score: the score up to the query's own position, minus infinity past it. -/
def msk (S : ℕ → ℝ) (Q j : ℕ) : EReal := if j ≤ Q then ((S j : ℝ) : EReal) else ⊥

/-- The weight of a key before the normalisation. -/
def wt (S : ℕ → ℝ) (Q j : ℕ) : ℝ := if j ≤ Q then Real.rpow 2 (S j) else 0

/-- The weighted mean of the values. -/
def soft (S v : ℕ → ℝ) (Q : ℕ) : ℝ :=
  (∑ j ∈ Finset.range 2048, wt S Q j * v j) / ∑ j ∈ Finset.range 2048, wt S Q j

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem negInf : Ideal.ofBits FTy.f32 4286578688#32 = ⊥ := by
  simp [Ideal.ofBits, Ideal.ieee]

theorem mask_bot : Named.named (F := Ideal) κ "mask" (φ := .f32) 4048155338#32 = ⊥ :=
  IdealRules.named_const.ideal_named_scalar _ _ _ _ rfl

theorem exp2_msk (S : ℕ → ℝ) (Q j : ℕ) (m : ℝ) :
    Ideal.exp2 (msk S Q j - (m : EReal)) = ((wt S Q j * Real.rpow 2 (-m) : ℝ) : EReal) := by
  unfold msk wt
  split
  · rw [← EReal.coe_sub, Ideal.exp2_coe]
    congr 1
    show (2 : ℝ) ^ (S j - m) = (2 : ℝ) ^ (S j) * (2 : ℝ) ^ (-m)
    rw [← Real.rpow_add (by norm_num), sub_eq_add_neg]
  · rw [EReal.bot_sub, Ideal.exp2_bot]; simp

theorem wt_nonneg (S : ℕ → ℝ) (Q j : ℕ) : 0 ≤ wt S Q j := by
  unfold wt; split
  · exact (Real.rpow_pos_of_pos (by norm_num : (0 : ℝ) < 2) _).le
  · exact le_rfl

theorem wt_sum_pos (S : ℕ → ℝ) (Q : ℕ) : 0 < ∑ j ∈ Finset.range 2048, wt S Q j := by
  refine Finset.sum_pos' (fun j _ => wt_nonneg S Q j) ⟨0, by simp, ?_⟩
  unfold wt; rw [if_pos (Nat.zero_le _)]
  exact Real.rpow_pos_of_pos (by norm_num : (0 : ℝ) < 2) _

theorem fold_max_ne_top {n : ℕ} (f : Fin n → EReal) (h : ∀ x, f x ≠ ⊤) :
    Finset.fold max (⊥ : EReal) f Finset.univ ≠ ⊤ := by
  have : Finset.fold max (⊥ : EReal) f Finset.univ < ⊤ := by
    rw [Finset.fold_max_lt]; exact ⟨bot_lt_top, fun x _ => lt_top_iff_ne_top.2 (h x)⟩
  exact this.ne

theorem le_fold_max {n : ℕ} (f : Fin n → EReal) (x : Fin n) : f x ≤ Finset.fold max (⊥ : EReal) f Finset.univ := by
  rw [Finset.le_fold_max]; exact Or.inr ⟨x, Finset.mem_univ _, le_rfl⟩

theorem msk_ne_top (S : ℕ → ℝ) (Q j : ℕ) : msk S Q j ≠ ⊤ := by
  unfold msk; split <;> simp

/-! ### The tiles at an element -/

theorem kt256_at (KA : Vec Ideal S2x2048x256 .bf16) (hh : Fin 2) (a : ℕ) (h : a + 256 ≤ 2048) (y : Fin 256) (f : Fin 256) :
    kt256 KA hh a h (ix3 0 y f) = KA (ix3 hh ⟨a + y.val, by omega⟩ f) := by
  unfold kt256; pointwise []; try rfl
theorem kt512_at (KA : Vec Ideal S2x2048x256 .bf16) (hh : Fin 2) (a : ℕ) (h : a + 512 ≤ 2048) (y : Fin 512) (f : Fin 256) :
    kt512 KA hh a h (ix3 0 y f) = KA (ix3 hh ⟨a + y.val, by omega⟩ f) := by
  unfold kt512; pointwise []; try rfl
theorem vt256_at (VA : Vec Ideal S2x144x2048 .bf16) (hh : Fin 2) (a : ℕ) (h : a + 256 ≤ 2048) (e : Fin 144) (y : Fin 256) :
    vt256 VA hh a h (ix3 0 e y) = VA (ix3 hh e ⟨a + y.val, by omega⟩) := by
  unfold vt256; pointwise []; try rfl
theorem vt512_at (VA : Vec Ideal S2x144x2048 .bf16) (hh : Fin 2) (a : ℕ) (h : a + 512 ≤ 2048) (e : Fin 144) (y : Fin 512) :
    vt512 VA hh a h (ix3 0 e y) = VA (ix3 hh e ⟨a + y.val, by omega⟩) := by
  unfold vt512; pointwise []; try rfl

theorem raw256_at (qa : FVec Ideal S256x256 .bf16) (k : Vec Ideal S1x256x256 .bf16) (y i : Fin 256) :
    raw256 qa k (ix2 y i) = ∑ f : Fin 256, k (ix3 0 y f) * qa (ix2 f i) := by
  pointwise [raw256]
theorem raw512_at (qa : FVec Ideal S256x256 .bf16) (k : Vec Ideal S1x512x256 .bf16) (y : Fin 512) (i : Fin 256) :
    raw512 qa k (ix2 y i) = ∑ f : Fin 256, k (ix3 0 y f) * qa (ix2 f i) := by
  pointwise [raw512]

theorem sle_256 (a b : Fin 256) (x y : EReal) :
    Scalar.select (IntOp.cmpi CmpIPredicate.sle (BitVec.ofNat 32 a.val) (BitVec.ofNat 32 b.val)) x y = if a.val ≤ b.val then x else y := by
  have e : IntOp.cmpi CmpIPredicate.sle (BitVec.ofNat 32 a.val) (BitVec.ofNat 32 b.val) = BitVec.ofBool (decide (a.val ≤ b.val)) := by
    have ha : (BitVec.ofNat 32 a.val).toInt = a.val := by
      rw [BitVec.toInt_eq_toNat_of_lt (by simp; omega)]; simp; omega
    have hb : (BitVec.ofNat 32 b.val).toInt = b.val := by
      rw [BitVec.toInt_eq_toNat_of_lt (by simp; omega)]; simp; omega
    show BitVec.ofBool (BitVec.sle _ _) = _
    rw [BitVec.sle, ha, hb]; simp
  rw [e]
  by_cases h : a.val ≤ b.val
  · simp [h, Scalar.select]
  · simp [h, Scalar.select]

theorem diag256_at (s : FVec Ideal S256x256 .f32) (y i : Fin 256) :
    diag256 s (ix2 y i) = if y.val ≤ i.val then s (ix2 y i) else ⊥ := by
  rw [← sle_256]
  pointwise [diag256, k0_pay17]
  rw [mask_bot]

theorem diag512_at (s : FVec Ideal S512x256 .f32) (y : Fin 512) (i : Fin 256) :
    diag512 s (ix2 y i) = if y.val ≤ 256 + i.val then s (ix2 y i) else ⊥ := by
  pointwise [diag512]
  split
  · next h => rw [if_pos (by omega)]
  · next h =>
    have := diag256_at (extractStridedSlice S256x256 ![256, 0] s slices_S512x256_o256_0_S256x256) ⟨y.val - 256, by omega⟩ i
    refine this.trans ?_
    pointwise []
    by_cases h2 : y.val ≤ 256 + i.val
    · rw [if_pos h2, if_pos (show y.val - 256 ≤ i.val by omega)]
      congr 2; ext; show 256 + (y.val - 256) = y.val; omega
    · rw [if_neg h2, if_neg (show ¬ y.val - 256 ≤ i.val by omega)]

theorem part256_at (s : FVec Ideal S256x256 .f32) (r : Fin 8) (i : Fin 256) :
    part256 s (ix2 r i) = Finset.fold max (⊥ : EReal) (fun x : Fin 32 => s (ix2 ⟨x.val * 8 + r.val, by omega⟩ i)) Finset.univ := by
  pointwise [part256]
  rw [negInf]
theorem part512_at (s : FVec Ideal S512x256 .f32) (r : Fin 8) (i : Fin 256) :
    part512 s (ix2 r i) = Finset.fold max (⊥ : EReal) (fun x : Fin 64 => s (ix2 ⟨x.val * 8 + r.val, by omega⟩ i)) Finset.univ := by
  pointwise [part512]
  rw [negInf]
theorem rowMax_at (x : FVec Ideal S8x256 .f32) (i : Fin 256) :
    rowMax x (ix2 0 i) = Finset.fold max (⊥ : EReal) (fun r : Fin 8 => x (ix2 r i)) Finset.univ := by
  pointwise [rowMax]
  rw [negInf]
theorem prob256_at (m : FVec Ideal S1x256 .f32) (s : FVec Ideal S256x256 .f32) (y i : Fin 256) :
    prob256 m (st256 s) (ix3 0 y i) = Ideal.exp2 (s (ix2 y i) - m (ix2 0 i)) := by
  pointwise [prob256, st256]; try rfl
theorem prob512_at (m : FVec Ideal S1x256 .f32) (s : FVec Ideal S512x256 .f32) (y : Fin 512) (i : Fin 256) :
    prob512 m (st512 s) (ix3 0 y i) = Ideal.exp2 (s (ix2 y i) - m (ix2 0 i)) := by
  pointwise [prob512, st512]; try rfl
theorem val256_at (v : Vec Ideal S1x144x256 .bf16) (p : Vec Ideal S1x256x256 .bf16) (e : Fin 144) (i : Fin 256) :
    val256 v p (ix2 e i) = ∑ y : Fin 256, v (ix3 0 e y) * p (ix3 0 y i) := by
  pointwise [val256]
theorem val512_at (v : Vec Ideal S1x144x512 .bf16) (p : Vec Ideal S1x512x256 .bf16) (e : Fin 144) (i : Fin 256) :
    val512 v p (ix2 e i) = ∑ y : Fin 512, v (ix3 0 e y) * p (ix3 0 y i) := by
  pointwise [val512]
theorem norm_at (a : FVec Ideal S144x256 .f32) (e : Fin 128) (i : Fin 256) :
    norm a (ix2 e i) = a (ix2 ⟨e.val, by omega⟩ i) * Ideal.div 1 (a (ix2 128 i)) := by
  pointwise [norm]

/-! ### A score tile, its part of the maximum and its part of the weighted sum -/

/-- A tile of scores from key `a` on, at one query. -/
def At256 (s : FVec Ideal S256x256 .f32) (i : Fin 256) (S : ℕ → ℝ) (Q a : ℕ) : Prop := ∀ y : Fin 256, s (ix2 y i) = msk S Q (a + y.val)
def At512 (s : FVec Ideal S512x256 .f32) (i : Fin 256) (S : ℕ → ℝ) (Q a : ℕ) : Prop := ∀ y : Fin 512, s (ix2 y i) = msk S Q (a + y.val)

/-- The scores of the augmented queries at one query are real. -/
def Sc (KA : Vec Ideal S2x2048x256 .bf16) (qa : FVec Ideal S256x256 .bf16) (hh : Fin 2) (i : Fin 256) (S : ℕ → ℝ) : Prop :=
  ∀ (j : ℕ) (h : j < 2048), ∑ f : Fin 256, KA (ix3 hh ⟨j, h⟩ f) * qa (ix2 f i) = ((S j : ℝ) : EReal)

section
variable {KA : Vec Ideal S2x2048x256 .bf16} {qa : FVec Ideal S256x256 .bf16} {hh : Fin 2} {i : Fin 256} {S : ℕ → ℝ}

theorem tile256 (H : Sc KA qa hh i S) (Q a : ℕ) (h : a + 256 ≤ 2048) (hQ : a + 255 ≤ Q) : At256 (raw256 qa (kt256 KA hh a h)) i S Q a := fun y => by
  rw [raw256_at]; unfold msk; rw [if_pos (by omega)]
  simp only [kt256_at]; exact H _ _
theorem tile512 (H : Sc KA qa hh i S) (Q a : ℕ) (h : a + 512 ≤ 2048) (hQ : a + 511 ≤ Q) : At512 (raw512 qa (kt512 KA hh a h)) i S Q a := fun y => by
  rw [raw512_at]; unfold msk; rw [if_pos (by omega)]
  simp only [kt512_at]; exact H _ _
theorem diagT256 (H : Sc KA qa hh i S) (a : ℕ) (h : a + 256 ≤ 2048) : At256 (diag256 (raw256 qa (kt256 KA hh a h))) i S (a + i.val) a := fun y => by
  rw [diag256_at, raw256_at]; unfold msk
  by_cases h2 : y.val ≤ i.val
  · rw [if_pos h2, if_pos (by omega)]; simp only [kt256_at]; exact H _ _
  · rw [if_neg h2, if_neg (by omega)]
theorem diagT512 (H : Sc KA qa hh i S) (a : ℕ) (h : a + 512 ≤ 2048) : At512 (diag512 (raw512 qa (kt512 KA hh a h))) i S (a + 256 + i.val) a := fun y => by
  rw [diag512_at, raw512_at]; unfold msk
  by_cases h2 : y.val ≤ 256 + i.val
  · rw [if_pos h2, if_pos (by omega)]; simp only [kt512_at]; exact H _ _
  · rw [if_neg h2, if_neg (by omega)]
end

/-- Rows of maxima at one query: none is plus infinity. -/
def NT (x : FVec Ideal S8x256 .f32) (i : Fin 256) : Prop := ∀ r : Fin 8, x (ix2 r i) ≠ ⊤
/-- Rows of maxima at one query: none is plus infinity and the first is at least a real. -/
def Good (x : FVec Ideal S8x256 .f32) (i : Fin 256) : Prop := NT x i ∧ x (ix2 0 i) ≠ ⊥

theorem part256_nt {s : FVec Ideal S256x256 .f32} {i : Fin 256} {S : ℕ → ℝ} {Q a : ℕ} (H : At256 s i S Q a) : NT (part256 s) i := fun r => by
  rw [part256_at]; exact fold_max_ne_top _ fun x => by rw [H]; exact msk_ne_top _ _ _
theorem part512_nt {s : FVec Ideal S512x256 .f32} {i : Fin 256} {S : ℕ → ℝ} {Q a : ℕ} (H : At512 s i S Q a) : NT (part512 s) i := fun r => by
  rw [part512_at]; exact fold_max_ne_top _ fun x => by rw [H]; exact msk_ne_top _ _ _
theorem part256_good {s : FVec Ideal S256x256 .f32} {i : Fin 256} {S : ℕ → ℝ} {Q : ℕ} (H : At256 s i S Q 0) : Good (part256 s) i := by
  refine ⟨part256_nt H, fun h => ?_⟩
  rw [part256_at] at h
  have := le_fold_max (fun x : Fin 32 => s (ix2 ⟨x.val * 8 + (0 : Fin 8).val, by omega⟩ i)) 0
  rw [h] at this
  have e : s (ix2 ⟨(0 : Fin 32).val * 8 + (0 : Fin 8).val, by decide⟩ i) = ((S 0 : ℝ) : EReal) := by
    rw [H]; unfold msk; rw [if_pos (by simp)]; simp
  rw [e] at this
  exact EReal.coe_ne_bot _ (le_bot_iff.1 this)
theorem part512_good {s : FVec Ideal S512x256 .f32} {i : Fin 256} {S : ℕ → ℝ} {Q : ℕ} (H : At512 s i S Q 0) : Good (part512 s) i := by
  refine ⟨part512_nt H, fun h => ?_⟩
  rw [part512_at] at h
  have := le_fold_max (fun x : Fin 64 => s (ix2 ⟨x.val * 8 + (0 : Fin 8).val, by omega⟩ i)) 0
  rw [h] at this
  have e : s (ix2 ⟨(0 : Fin 64).val * 8 + (0 : Fin 8).val, by decide⟩ i) = ((S 0 : ℝ) : EReal) := by
    rw [H]; unfold msk; rw [if_pos (by simp)]; simp
  rw [e] at this
  exact EReal.coe_ne_bot _ (le_bot_iff.1 this)
theorem max_at (x y : FVec Ideal S8x256 .f32) (r : Fin 8) (i : Fin 256) : maximumf x y (ix2 r i) = max (x (ix2 r i)) (y (ix2 r i)) := by
  pointwise []
theorem Good.max {x y : FVec Ideal S8x256 .f32} {i : Fin 256} (hx : Good x i) (hy : NT y i) : Good (maximumf x y) i := by
  refine ⟨fun r => ?_, ?_⟩
  · rw [max_at]; exact (max_lt (lt_top_iff_ne_top.2 (hx.1 r)) (lt_top_iff_ne_top.2 (hy r))).ne
  · rw [max_at]; intro h
    exact hx.2 (le_bot_iff.1 (h ▸ le_max_left _ _))
theorem Good.row {x : FVec Ideal S8x256 .f32} {i : Fin 256} (h : Good x i) : ∃ m : ℝ, rowMax x (ix2 0 i) = (m : EReal) := by
  rw [rowMax_at]
  have h1 := fold_max_ne_top _ h.1
  have h2 : Finset.fold Max.max (⊥ : EReal) (fun r : Fin 8 => x (ix2 r i)) Finset.univ ≠ ⊥ := fun hb => by
    have := le_fold_max (fun r : Fin 8 => x (ix2 r i)) 0
    rw [hb] at this
    exact h.2 (le_bot_iff.1 this)
  exact ⟨_, (EReal.coe_toReal h1 h2).symm⟩

/-- The rows of one head's values at one feature are real. -/
def Vl (VA : Vec Ideal S2x144x2048 .bf16) (hh : Fin 2) (e : Fin 144) (v : ℕ → ℝ) : Prop :=
  ∀ (j : ℕ) (h : j < 2048), VA (ix3 hh e ⟨j, h⟩) = ((v j : ℝ) : EReal)

/-- A key's share of the weighted sum. -/
def tm (S v : ℕ → ℝ) (Q : ℕ) (c : ℝ) (j : ℕ) : ℝ := v j * (wt S Q j * c)

theorem acc256 {VA : Vec Ideal S2x144x2048 .bf16} {hh : Fin 2} {e : Fin 144} {v : ℕ → ℝ} (hv : Vl VA hh e v)
    {s : FVec Ideal S256x256 .f32} {i : Fin 256} {S : ℕ → ℝ} {Q a : ℕ} (h : a + 256 ≤ 2048) (H : At256 s i S Q a)
    {m : FVec Ideal S1x256 .f32} {r : ℝ} (hm : m (ix2 0 i) = (r : EReal)) :
    val256 (vt256 VA hh a h) (prob256 m (st256 s)) (ix2 e i) = ((∑ y ∈ Finset.range 256, tm S v Q (Real.rpow 2 (-r)) (a + y) : ℝ) : EReal) := by
  rw [val256_at, Finset.sum_range, ← coe_sum]
  refine Finset.sum_congr rfl fun y _ => ?_
  rw [vt256_at, prob256_at, hm, H, exp2_msk, hv, tm, ← EReal.coe_mul]
theorem acc512 {VA : Vec Ideal S2x144x2048 .bf16} {hh : Fin 2} {e : Fin 144} {v : ℕ → ℝ} (hv : Vl VA hh e v)
    {s : FVec Ideal S512x256 .f32} {i : Fin 256} {S : ℕ → ℝ} {Q a : ℕ} (h : a + 512 ≤ 2048) (H : At512 s i S Q a)
    {m : FVec Ideal S1x256 .f32} {r : ℝ} (hm : m (ix2 0 i) = (r : EReal)) :
    val512 (vt512 VA hh a h) (prob512 m (st512 s)) (ix2 e i) = ((∑ y ∈ Finset.range 512, tm S v Q (Real.rpow 2 (-r)) (a + y) : ℝ) : EReal) := by
  rw [val512_at, Finset.sum_range, ← coe_sum]
  refine Finset.sum_congr rfl fun y _ => ?_
  rw [vt512_at, prob512_at, hm, H, exp2_msk, hv, tm, ← EReal.coe_mul]

theorem add_at {x y : FVec Ideal S144x256 .f32} {e : Fin 144} {i : Fin 256} {a b : ℕ} {f : ℕ → ℝ}
    (hx : x (ix2 e i) = ((∑ y ∈ Finset.range a, f y : ℝ) : EReal)) (hy : y (ix2 e i) = ((∑ y ∈ Finset.range b, f (a + y) : ℝ) : EReal)) :
    addf x y (ix2 e i) = ((∑ y ∈ Finset.range (a + b), f y : ℝ) : EReal) := by
  have e1 : addf x y (ix2 e i) = x (ix2 e i) + y (ix2 e i) := by pointwise []
  rw [e1, hx, hy, ← EReal.coe_add, Finset.sum_range_add]

theorem zero_base {x : EReal} {n : ℕ} {f : ℕ → ℝ} (h : x = ((∑ y ∈ Finset.range n, f (0 + y) : ℝ) : EReal)) :
    x = ((∑ y ∈ Finset.range n, f y : ℝ) : EReal) := by simpa only [Nat.zero_add] using h

/-- The weighted sum over the keys up to the query's own tile is the one over all keys. -/
theorem tm_all (S v : ℕ → ℝ) (Q : ℕ) (c : ℝ) (n : ℕ) (hn : Q < n) (h : n ≤ 2048) :
    ∑ y ∈ Finset.range n, tm S v Q c y = (∑ j ∈ Finset.range 2048, wt S Q j * v j) * c := by
  rw [Finset.sum_subset (s₂ := Finset.range 2048) (fun x hx => by simp at hx ⊢; omega), Finset.sum_mul]
  · exact Finset.sum_congr rfl fun j _ => by unfold tm; ring
  · intro x _ hx
    unfold tm wt; rw [if_neg (by simp at hx; omega)]; ring

theorem norm_soft {a : FVec Ideal S144x256 .f32} {e : Fin 128} {i : Fin 256} {S v : ℕ → ℝ} {Q n : ℕ} {c : ℝ} (hc : 0 < c) (hn : Q < n) (h : n ≤ 2048)
    (h1 : a (ix2 ⟨e.val, by omega⟩ i) = ((∑ y ∈ Finset.range n, tm S v Q c y : ℝ) : EReal))
    (h2 : a (ix2 128 i) = ((∑ y ∈ Finset.range n, tm S (fun _ => 1) Q c y : ℝ) : EReal)) :
    norm a (ix2 e i) = ((soft S v Q : ℝ) : EReal) := by
  rw [norm_at, h1, h2, tm_all _ _ _ _ _ hn h, tm_all _ _ _ _ _ hn h]
  simp only [mul_one]
  have hp := wt_sum_pos S Q
  rw [Ideal.div_coe (mul_pos hp hc).ne', one_mul, ← EReal.coe_mul]
  congr 1
  unfold soft
  field_simp

theorem nq0 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac0 KA VA qa hh (mq0 KA qa hh)) (ix2 e i) = ((soft S v (0 + i.val) : ℝ) : EReal) := by
  have t0 : At256 (s0_0 KA qa hh) i S (0 + i.val) 0 := diagT256 H 0 (by decide)
  obtain ⟨r, hr⟩ : ∃ r : ℝ, mq0 KA qa hh (ix2 0 i) = (r : EReal) := Good.row (part256_good t0)
  have key : ∀ (e : Fin 144) (v : ℕ → ℝ), Vl VA hh e v → ac0 KA VA qa hh (mq0 KA qa hh) (ix2 e i) = ((∑ y ∈ Finset.range 256, tm S v (0 + i.val) (Real.rpow 2 (-r)) y : ℝ) : EReal) := fun e v hv => by
    have a0 : (val256 (vt256 VA hh 0 (by decide)) (prob256 (mq0 KA qa hh) (st256 (s0_0 KA qa hh)))) (ix2 e i) = ((∑ y ∈ Finset.range 256, tm S v (0 + i.val) (Real.rpow 2 (-r)) y : ℝ) : EReal) :=
      zero_base (acc256 hv (by decide) t0 hr)
    exact a0
  exact norm_soft (Real.rpow_pos_of_pos (by norm_num : (0 : ℝ) < 2) _) (by omega) (by decide) (key _ _ hv) (key _ _ h1)

theorem nq1 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac1 KA VA qa hh (mq1 KA qa hh)) (ix2 e i) = ((soft S v (256 + i.val) : ℝ) : EReal) := by
  have t0 : At512 (s1_0 KA qa hh) i S (256 + i.val) 0 := diagT512 H 0 (by decide)
  obtain ⟨r, hr⟩ : ∃ r : ℝ, mq1 KA qa hh (ix2 0 i) = (r : EReal) := Good.row (part512_good t0)
  have key : ∀ (e : Fin 144) (v : ℕ → ℝ), Vl VA hh e v → ac1 KA VA qa hh (mq1 KA qa hh) (ix2 e i) = ((∑ y ∈ Finset.range 512, tm S v (256 + i.val) (Real.rpow 2 (-r)) y : ℝ) : EReal) := fun e v hv => by
    have a0 : (val512 (vt512 VA hh 0 (by decide)) (prob512 (mq1 KA qa hh) (st512 (s1_0 KA qa hh)))) (ix2 e i) = ((∑ y ∈ Finset.range 512, tm S v (256 + i.val) (Real.rpow 2 (-r)) y : ℝ) : EReal) :=
      zero_base (acc512 hv (by decide) t0 hr)
    exact a0
  exact norm_soft (Real.rpow_pos_of_pos (by norm_num : (0 : ℝ) < 2) _) (by omega) (by decide) (key _ _ hv) (key _ _ h1)

theorem nq2 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac2 KA VA qa hh (mq2 KA qa hh)) (ix2 e i) = ((soft S v (512 + i.val) : ℝ) : EReal) := by
  have t0 : At512 (s2_0 KA qa hh) i S (512 + i.val) 0 := tile512 H _ 0 (by decide) (by omega)
  have t1 : At256 (s2_1 KA qa hh) i S (512 + i.val) 512 := diagT256 H 512 (by decide)
  obtain ⟨r, hr⟩ : ∃ r : ℝ, mq2 KA qa hh (ix2 0 i) = (r : EReal) := Good.row ((part512_good t0).max (part256_nt t1))
  have key : ∀ (e : Fin 144) (v : ℕ → ℝ), Vl VA hh e v → ac2 KA VA qa hh (mq2 KA qa hh) (ix2 e i) = ((∑ y ∈ Finset.range 768, tm S v (512 + i.val) (Real.rpow 2 (-r)) y : ℝ) : EReal) := fun e v hv => by
    have a0 : (val512 (vt512 VA hh 0 (by decide)) (prob512 (mq2 KA qa hh) (st512 (s2_0 KA qa hh)))) (ix2 e i) = ((∑ y ∈ Finset.range 512, tm S v (512 + i.val) (Real.rpow 2 (-r)) y : ℝ) : EReal) :=
      zero_base (acc512 hv (by decide) t0 hr)
    have a1 := add_at (f := tm S v (512 + i.val) (Real.rpow 2 (-r))) a0 (acc256 hv (by decide) t1 hr)
    simp only [Nat.reduceAdd] at a1
    exact a1
  exact norm_soft (Real.rpow_pos_of_pos (by norm_num : (0 : ℝ) < 2) _) (by omega) (by decide) (key _ _ hv) (key _ _ h1)

theorem nq3 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac3 KA VA qa hh (mq3 KA qa hh)) (ix2 e i) = ((soft S v (768 + i.val) : ℝ) : EReal) := by
  have t0 : At512 (s3_0 KA qa hh) i S (768 + i.val) 0 := tile512 H _ 0 (by decide) (by omega)
  have t1 : At512 (s3_1 KA qa hh) i S (768 + i.val) 512 := diagT512 H 512 (by decide)
  obtain ⟨r, hr⟩ : ∃ r : ℝ, mq3 KA qa hh (ix2 0 i) = (r : EReal) := Good.row ((part512_good t0).max (part512_nt t1))
  have key : ∀ (e : Fin 144) (v : ℕ → ℝ), Vl VA hh e v → ac3 KA VA qa hh (mq3 KA qa hh) (ix2 e i) = ((∑ y ∈ Finset.range 1024, tm S v (768 + i.val) (Real.rpow 2 (-r)) y : ℝ) : EReal) := fun e v hv => by
    have a0 : (val512 (vt512 VA hh 0 (by decide)) (prob512 (mq3 KA qa hh) (st512 (s3_0 KA qa hh)))) (ix2 e i) = ((∑ y ∈ Finset.range 512, tm S v (768 + i.val) (Real.rpow 2 (-r)) y : ℝ) : EReal) :=
      zero_base (acc512 hv (by decide) t0 hr)
    have a1 := add_at (f := tm S v (768 + i.val) (Real.rpow 2 (-r))) a0 (acc512 hv (by decide) t1 hr)
    simp only [Nat.reduceAdd] at a1
    exact a1
  exact norm_soft (Real.rpow_pos_of_pos (by norm_num : (0 : ℝ) < 2) _) (by omega) (by decide) (key _ _ hv) (key _ _ h1)

theorem nq4 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac4 KA VA qa hh (mq4 KA qa hh)) (ix2 e i) = ((soft S v (1024 + i.val) : ℝ) : EReal) := by
  have t0 : At512 (s4_0 KA qa hh) i S (1024 + i.val) 0 := tile512 H _ 0 (by decide) (by omega)
  have t1 : At512 (s4_1 KA qa hh) i S (1024 + i.val) 512 := tile512 H _ 512 (by decide) (by omega)
  have t2 : At256 (s4_2 KA qa hh) i S (1024 + i.val) 1024 := diagT256 H 1024 (by decide)
  obtain ⟨r, hr⟩ : ∃ r : ℝ, mq4 KA qa hh (ix2 0 i) = (r : EReal) := Good.row (((part512_good t0).max (part512_nt t1)).max (part256_nt t2))
  have key : ∀ (e : Fin 144) (v : ℕ → ℝ), Vl VA hh e v → ac4 KA VA qa hh (mq4 KA qa hh) (ix2 e i) = ((∑ y ∈ Finset.range 1280, tm S v (1024 + i.val) (Real.rpow 2 (-r)) y : ℝ) : EReal) := fun e v hv => by
    have a0 : (val512 (vt512 VA hh 0 (by decide)) (prob512 (mq4 KA qa hh) (st512 (s4_0 KA qa hh)))) (ix2 e i) = ((∑ y ∈ Finset.range 512, tm S v (1024 + i.val) (Real.rpow 2 (-r)) y : ℝ) : EReal) :=
      zero_base (acc512 hv (by decide) t0 hr)
    have a1 := add_at (f := tm S v (1024 + i.val) (Real.rpow 2 (-r))) a0 (acc512 hv (by decide) t1 hr)
    simp only [Nat.reduceAdd] at a1
    have a2 := add_at (f := tm S v (1024 + i.val) (Real.rpow 2 (-r))) a1 (acc256 hv (by decide) t2 hr)
    simp only [Nat.reduceAdd] at a2
    exact a2
  exact norm_soft (Real.rpow_pos_of_pos (by norm_num : (0 : ℝ) < 2) _) (by omega) (by decide) (key _ _ hv) (key _ _ h1)

theorem nq5 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac5 KA VA qa hh (mq5 KA qa hh)) (ix2 e i) = ((soft S v (1280 + i.val) : ℝ) : EReal) := by
  have t0 : At512 (s5_0 KA qa hh) i S (1280 + i.val) 0 := tile512 H _ 0 (by decide) (by omega)
  have t1 : At512 (s5_1 KA qa hh) i S (1280 + i.val) 512 := tile512 H _ 512 (by decide) (by omega)
  have t2 : At512 (s5_2 KA qa hh) i S (1280 + i.val) 1024 := diagT512 H 1024 (by decide)
  obtain ⟨r, hr⟩ : ∃ r : ℝ, mq5 KA qa hh (ix2 0 i) = (r : EReal) := Good.row (((part512_good t0).max (part512_nt t1)).max (part512_nt t2))
  have key : ∀ (e : Fin 144) (v : ℕ → ℝ), Vl VA hh e v → ac5 KA VA qa hh (mq5 KA qa hh) (ix2 e i) = ((∑ y ∈ Finset.range 1536, tm S v (1280 + i.val) (Real.rpow 2 (-r)) y : ℝ) : EReal) := fun e v hv => by
    have a0 : (val512 (vt512 VA hh 0 (by decide)) (prob512 (mq5 KA qa hh) (st512 (s5_0 KA qa hh)))) (ix2 e i) = ((∑ y ∈ Finset.range 512, tm S v (1280 + i.val) (Real.rpow 2 (-r)) y : ℝ) : EReal) :=
      zero_base (acc512 hv (by decide) t0 hr)
    have a1 := add_at (f := tm S v (1280 + i.val) (Real.rpow 2 (-r))) a0 (acc512 hv (by decide) t1 hr)
    simp only [Nat.reduceAdd] at a1
    have a2 := add_at (f := tm S v (1280 + i.val) (Real.rpow 2 (-r))) a1 (acc512 hv (by decide) t2 hr)
    simp only [Nat.reduceAdd] at a2
    exact a2
  exact norm_soft (Real.rpow_pos_of_pos (by norm_num : (0 : ℝ) < 2) _) (by omega) (by decide) (key _ _ hv) (key _ _ h1)

theorem nq6 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac6 KA VA qa hh (mq6 KA qa hh)) (ix2 e i) = ((soft S v (1536 + i.val) : ℝ) : EReal) := by
  have t0 : At512 (s6_0 KA qa hh) i S (1536 + i.val) 0 := tile512 H _ 0 (by decide) (by omega)
  have t1 : At512 (s6_1 KA qa hh) i S (1536 + i.val) 512 := tile512 H _ 512 (by decide) (by omega)
  have t2 : At512 (s6_2 KA qa hh) i S (1536 + i.val) 1024 := tile512 H _ 1024 (by decide) (by omega)
  have t3 : At256 (s6_3 KA qa hh) i S (1536 + i.val) 1536 := diagT256 H 1536 (by decide)
  obtain ⟨r, hr⟩ : ∃ r : ℝ, mq6 KA qa hh (ix2 0 i) = (r : EReal) := Good.row ((((part512_good t0).max (part512_nt t1)).max (part512_nt t2)).max (part256_nt t3))
  have key : ∀ (e : Fin 144) (v : ℕ → ℝ), Vl VA hh e v → ac6 KA VA qa hh (mq6 KA qa hh) (ix2 e i) = ((∑ y ∈ Finset.range 1792, tm S v (1536 + i.val) (Real.rpow 2 (-r)) y : ℝ) : EReal) := fun e v hv => by
    have a0 : (val512 (vt512 VA hh 0 (by decide)) (prob512 (mq6 KA qa hh) (st512 (s6_0 KA qa hh)))) (ix2 e i) = ((∑ y ∈ Finset.range 512, tm S v (1536 + i.val) (Real.rpow 2 (-r)) y : ℝ) : EReal) :=
      zero_base (acc512 hv (by decide) t0 hr)
    have a1 := add_at (f := tm S v (1536 + i.val) (Real.rpow 2 (-r))) a0 (acc512 hv (by decide) t1 hr)
    simp only [Nat.reduceAdd] at a1
    have a2 := add_at (f := tm S v (1536 + i.val) (Real.rpow 2 (-r))) a1 (acc512 hv (by decide) t2 hr)
    simp only [Nat.reduceAdd] at a2
    have a3 := add_at (f := tm S v (1536 + i.val) (Real.rpow 2 (-r))) a2 (acc256 hv (by decide) t3 hr)
    simp only [Nat.reduceAdd] at a3
    exact a3
  exact norm_soft (Real.rpow_pos_of_pos (by norm_num : (0 : ℝ) < 2) _) (by omega) (by decide) (key _ _ hv) (key _ _ h1)

theorem nq7 {KA : Vec Ideal S2x2048x256 .bf16} {VA : Vec Ideal S2x144x2048 .bf16} {qa : FVec Ideal S256x256 .bf16} {hh : Fin 2} {i : Fin 256} {S v : ℕ → ℝ} {e : Fin 128}
    (H : Sc KA qa hh i S) (hv : Vl VA hh ⟨e.val, by omega⟩ v) (h1 : Vl VA hh 128 fun _ => 1) :
    norm (ac7 KA VA qa hh (mq7 KA qa hh)) (ix2 e i) = ((soft S v (1792 + i.val) : ℝ) : EReal) := by
  have t0 : At512 (s7_0 KA qa hh) i S (1792 + i.val) 0 := tile512 H _ 0 (by decide) (by omega)
  have t1 : At512 (s7_1 KA qa hh) i S (1792 + i.val) 512 := tile512 H _ 512 (by decide) (by omega)
  have t2 : At512 (s7_2 KA qa hh) i S (1792 + i.val) 1024 := tile512 H _ 1024 (by decide) (by omega)
  have t3 : At512 (s7_3 KA qa hh) i S (1792 + i.val) 1536 := diagT512 H 1536 (by decide)
  obtain ⟨r, hr⟩ : ∃ r : ℝ, mq7 KA qa hh (ix2 0 i) = (r : EReal) := Good.row ((((part512_good t0).max (part512_nt t1)).max (part512_nt t2)).max (part512_nt t3))
  have key : ∀ (e : Fin 144) (v : ℕ → ℝ), Vl VA hh e v → ac7 KA VA qa hh (mq7 KA qa hh) (ix2 e i) = ((∑ y ∈ Finset.range 2048, tm S v (1792 + i.val) (Real.rpow 2 (-r)) y : ℝ) : EReal) := fun e v hv => by
    have a0 : (val512 (vt512 VA hh 0 (by decide)) (prob512 (mq7 KA qa hh) (st512 (s7_0 KA qa hh)))) (ix2 e i) = ((∑ y ∈ Finset.range 512, tm S v (1792 + i.val) (Real.rpow 2 (-r)) y : ℝ) : EReal) :=
      zero_base (acc512 hv (by decide) t0 hr)
    have a1 := add_at (f := tm S v (1792 + i.val) (Real.rpow 2 (-r))) a0 (acc512 hv (by decide) t1 hr)
    simp only [Nat.reduceAdd] at a1
    have a2 := add_at (f := tm S v (1792 + i.val) (Real.rpow 2 (-r))) a1 (acc512 hv (by decide) t2 hr)
    simp only [Nat.reduceAdd] at a2
    have a3 := add_at (f := tm S v (1792 + i.val) (Real.rpow 2 (-r))) a2 (acc512 hv (by decide) t3 hr)
    simp only [Nat.reduceAdd] at a3
    exact a3
  exact norm_soft (Real.rpow_pos_of_pos (by norm_num : (0 : ℝ) < 2) _) (by omega) (by decide) (key _ _ hv) (key _ _ h1)

end Cert.KernelIdeal.Att

end
-- ==== Proof.Hand.Rows.lean ====
/- The position rows of the queries, the digits of the keys' positions, and the scores they make. -/
module

public import proofs.«01_k».proof.Proof.Hand.TileAt

@[expose] public section

set_option maxRecDepth 16384

noncomputable section

open Idealize.ShloMosaic Idealize.ShloMosaic.TcCoe Idealize.SL.Sem

namespace Cert.KernelIdeal.Att

open Cert.KernelIdeal Cert.KernelIdeal.Gen

theorem log2e_val : Named.named (F := Ideal) κ "log2e" (φ := .f32) 1069066811#32 = (((Real.log 2)⁻¹ : ℝ) : EReal) :=
  IdealRules.named_const.ideal_named_scalar _ _ _ _ rfl

theorem f256 : Ideal.ofBits FTy.f32 1132462080#32 = ((256 : ℝ) : EReal) := by
  simp [Ideal.ofBits, Ideal.ieee]; norm_num; rw [← EReal.coe_mul]; norm_num

/-- The digits of the positions, as the kernel computes them. -/
abbrev dig : FVec Ideal S2048x128 .bf16 :=
  k0_pay4 (F := Ideal) (iota .tc S2048x128 32 [0] iota_S2048x128_d0_w32) (iota .tc S2048x128 32 [1] iota_S2048x128_d1_w32) k0_pay2 k0_pay3 256#32 0#32

theorem sitofp_nat (n : ℕ) (h : n < 2048) : FloatOps.sitofp (F := Ideal) FTy.f32 (BitVec.ofNat 32 n) = ((n : ℝ) : EReal) := by
  show (((BitVec.ofNat 32 n).toInt : ℝ) : EReal) = _
  rw [BitVec.toInt_eq_toNat_of_lt (by simp; omega), BitVec.toNat_ofNat, Nat.mod_eq_of_lt (by omega)]
  simp

theorem dig0 (j : Fin 2048) : dig (ix2 j 0) = (((j.val / 256 : ℕ) : ℝ) : EReal) := by
  pointwise [dig, k0_pay4, k0_pay2, k0_pay3]
  refine (congrArg (FloatOps.sitofp (F := Ideal) FTy.f32) (?_ : _ = BitVec.ofNat 32 (j.val / 256))).trans (sitofp_nat _ (by omega))
  revert j; decide +kernel
theorem dig1 (j : Fin 2048) : dig (ix2 j 1) = (((j.val % 256 : ℕ) : ℝ) : EReal) := by
  pointwise [dig, k0_pay4, k0_pay2, k0_pay3]
  refine (congrArg (FloatOps.sitofp (F := Ideal) FTy.f32) (?_ : _ = BitVec.ofNat 32 (j.val % 256))).trans (sitofp_nat _ (by omega))
  revert j; decide +kernel

/-- The position rows for a slope. -/
def Pos (p : FVec Ideal S16x256 .bf16) (c : ℝ) : Prop := ∀ i : Fin 256, p (ix2 0 i) = ((c * 256 : ℝ) : EReal) ∧ p (ix2 1 i) = ((c : ℝ) : EReal)
  ∧ ∀ r : Fin 14, p (ix2 ⟨r.val + 2, by omega⟩ i) = 0

theorem pos13 (s : ℝ) : Pos (k0_pay13 (F := Ideal) (iota .tc S16x256 32 [0] iota_S16x256_d0_w32) ((s : ℝ) : EReal)) (s * (Real.log 2)⁻¹) := fun i => by
  refine ⟨?_, ?_, fun r => ?_⟩
  · pointwise [k0_pay13]
    rw [log2e_val, f256, ← EReal.coe_mul]
    exact (rfl : _ = ((s * (Real.log 2)⁻¹ : ℝ) : EReal) * ((256 : ℝ) : EReal)).trans (EReal.coe_mul _ _).symm
  · pointwise [k0_pay13]
    rw [log2e_val, ← EReal.coe_mul]; rfl
  · pointwise [k0_pay13]
    rw [log2e_val, f256, ← EReal.coe_mul, ← EReal.coe_sub, sub_self, ← EReal.coe_sub, sub_self]
    fin_vals r with hr
    all_goals simp only [hr]
    all_goals simp [Scalar.select, IntOp.cmpi]
theorem pos14 (s : ℝ) : Pos (k0_pay14 (F := Ideal) (iota .tc S16x256 32 [0] iota_S16x256_d0_w32) ((s : ℝ) : EReal)) (s * (Real.log 2)⁻¹) := pos13 s

theorem split4 (F : Fin 256 → EReal) : ∑ f, F f = (∑ d : Fin 64, F ⟨d.val, by omega⟩) + ((∑ d : Fin 64, F ⟨64 + d.val, by omega⟩)
    + ((∑ x : Fin 16, F ⟨128 + x.val, by omega⟩) + ∑ x : Fin 112, F ⟨144 + x.val, by omega⟩)) := by
  have h : ∑ f, F f = ∑ f : Fin (64 + (64 + (16 + 112))), F f := rfl
  rw [h, Fin.sum_univ_add, Fin.sum_univ_add, Fin.sum_univ_add]
  refine congrArg₂ (· + ·) rfl (congrArg₂ (· + ·) rfl (congrArg₂ (· + ·) ?_ ?_))
  · exact Finset.sum_congr rfl fun x _ => congrArg F (Fin.ext (by simp; omega))
  · exact Finset.sum_congr rfl fun x _ => congrArg F (Fin.ext (by simp; omega))

theorem score0_at (KA : Vec Ideal S2x2048x256 .bf16) (pos : FVec Ideal S16x256 .bf16) (q : Vec Ideal S1x128x256 .bf16) (hh : Fin 2) (j : Fin 2048) (i : Fin 256) :
    ∑ f : Fin 256, KA (ix3 hh j f) * qa0 pos q (ix2 f i)
      = (∑ d : Fin 64, KA (ix3 hh j ⟨d.val, by omega⟩) * q (ix3 0 ⟨d.val, by omega⟩ i)) + ∑ x : Fin 16, KA (ix3 hh j ⟨128 + x.val, by omega⟩) * pos (ix2 x i) := by
  pointwise [qa0, k0_pay15, k0_pay16]
  rw [split4]
  have a : ∀ d : Fin 64, ¬ 64 + d.val < 64 ∧ 64 + d.val - 64 < 64 := fun d => by omega
  have b : ∀ d : Fin 16, ¬ 128 + d.val < 64 ∧ ¬ 128 + d.val - 64 < 64 ∧ 128 + d.val - 64 - 64 < 16 ∧ 128 + d.val - 64 - 64 = d.val := fun d => by omega
  have e : ∀ d : Fin 112, ¬ 144 + d.val < 64 ∧ ¬ 144 + d.val - 64 < 64 ∧ ¬ 144 + d.val - 64 - 64 < 16 := fun d => by omega
  simp [a, b, e]
theorem score1_at (KA : Vec Ideal S2x2048x256 .bf16) (pos : FVec Ideal S16x256 .bf16) (q : Vec Ideal S1x128x256 .bf16) (hh : Fin 2) (j : Fin 2048) (i : Fin 256) :
    ∑ f : Fin 256, KA (ix3 hh j f) * qa1 pos q (ix2 f i)
      = (∑ d : Fin 64, KA (ix3 hh j ⟨64 + d.val, by omega⟩) * q (ix3 0 ⟨64 + d.val, by omega⟩ i)) + ∑ x : Fin 16, KA (ix3 hh j ⟨128 + x.val, by omega⟩) * pos (ix2 x i) := by
  pointwise [qa1, k0_pay15, k0_pay16]
  rw [split4]
  have a : ∀ d : Fin 64, ¬ 64 + d.val < 64 ∧ 64 + d.val - 64 < 64 ∧ 64 + d.val - 64 = d.val := fun d => by omega
  have b : ∀ d : Fin 16, ¬ 128 + d.val < 64 ∧ ¬ 128 + d.val - 64 < 64 ∧ 128 + d.val - 64 - 64 < 16 ∧ 128 + d.val - 64 - 64 = d.val := fun d => by omega
  have e : ∀ d : Fin 112, ¬ 144 + d.val < 64 ∧ ¬ 144 + d.val - 64 < 64 ∧ ¬ 144 + d.val - 64 - 64 < 16 := fun d => by omega
  simp [a, b, e]

theorem pos_sum {pos : FVec Ideal S16x256 .bf16} {c : ℝ} (hp : Pos pos c) (KA : Vec Ideal S2x2048x256 .bf16) (hh : Fin 2) (j : Fin 2048) (i : Fin 256)
    (h0 : KA (ix3 hh j 128) = (((j.val / 256 : ℕ) : ℝ) : EReal)) (h1 : KA (ix3 hh j 129) = (((j.val % 256 : ℕ) : ℝ) : EReal)) :
    ∑ x : Fin 16, KA (ix3 hh j ⟨128 + x.val, by omega⟩) * pos (ix2 x i) = ((c * j.val : ℝ) : EReal) := by
  rw [Fin.sum_univ_succ, Fin.sum_univ_succ, Finset.sum_eq_zero]
  · obtain ⟨p0, p1, -⟩ := hp i
    have e0 : KA (ix3 hh j ⟨128 + (0 : Fin 16).val, by omega⟩) = _ := h0
    have e1 : KA (ix3 hh j ⟨128 + (Fin.succ (0 : Fin 15)).val, by omega⟩) = _ := h1
    have e2 : pos (ix2 (Fin.succ (0 : Fin 15)) i) = _ := p1
    rw [e0, e1, e2, p0, add_zero, ← EReal.coe_mul, ← EReal.coe_mul, ← EReal.coe_add]
    congr 1
    have : (j.val : ℝ) = 256 * ((j.val / 256 : ℕ) : ℝ) + ((j.val % 256 : ℕ) : ℝ) := by
      exact_mod_cast (Nat.div_add_mod j.val 256).symm
    rw [this]; ring
  · intro x _
    have e := (hp i).2.2 x
    have e' : pos (ix2 x.succ.succ i) = 0 := e
    rw [e', mul_zero]

theorem lt256 (f : Fin 128) : f.val < 256 := by omega
theorem lt144 (f : Fin 128) : f.val < 144 := by omega

/-- The score of key `j` for one map: the scaled product of features plus the position's share. -/
def sc (kr qr : ℕ → ℕ → ℝ) (c : ℝ) (o : ℕ) (Q j : ℕ) : ℝ := (∑ d ∈ Finset.range 64, kr j (o + d) * qr (o + d) Q) + c * j

section
variable {KA : Vec Ideal S2x2048x256 .bf16} {pos : FVec Ideal S16x256 .bf16} {q : Vec Ideal S1x128x256 .bf16} {hh : Fin 2} {i : Fin 256} {c : ℝ} {kr : ℕ → ℕ → ℝ} {qr : ℕ → ℕ → ℝ} {Q : ℕ}
  (hp : Pos pos c) (hk : ∀ (j : Fin 2048) (f : Fin 128), KA (ix3 hh j ⟨f.val, lt256 f⟩) = ((kr j.val f.val : ℝ) : EReal))
  (h0 : ∀ j : Fin 2048, KA (ix3 hh j 128) = (((j.val / 256 : ℕ) : ℝ) : EReal)) (h1 : ∀ j : Fin 2048, KA (ix3 hh j 129) = (((j.val % 256 : ℕ) : ℝ) : EReal))
  (hq : ∀ f : Fin 128, q (ix3 0 f i) = ((qr f.val Q : ℝ) : EReal))
include hp hk h0 h1 hq

theorem sc0 : Sc KA (qa0 pos q) hh i (sc kr qr c 0 Q) := fun j hj => by
  rw [score0_at, pos_sum hp KA hh ⟨j, hj⟩ i (h0 _) (h1 _)]
  unfold sc
  rw [EReal.coe_add, Finset.sum_range, ← coe_sum]
  congr 1
  refine Finset.sum_congr rfl fun d _ => ?_
  have e := hk ⟨j, hj⟩ ⟨d.val, by omega⟩
  rw [EReal.coe_mul, Nat.zero_add, ← hq ⟨d.val, by omega⟩]
  exact congrArg (· * _) e
theorem sc1 : Sc KA (qa1 pos q) hh i (sc kr qr c 64 Q) := fun j hj => by
  rw [score1_at, pos_sum hp KA hh ⟨j, hj⟩ i (h0 _) (h1 _)]
  unfold sc
  rw [EReal.coe_add, Finset.sum_range, ← coe_sum]
  congr 1
  refine Finset.sum_congr rfl fun d _ => ?_
  have e := hk ⟨j, hj⟩ ⟨64 + d.val, by omega⟩
  rw [EReal.coe_mul, ← hq ⟨64 + d.val, by omega⟩]
  exact congrArg (· * _) e
end

end Cert.KernelIdeal.Att

end
-- ==== Proof.Hand.El.lean ====
/- One element of the attention's block: the normalised difference of the two maps' weighted means, weighted and gated. -/
module

public import proofs.«01_k».proof.Proof.Hand.Rows

@[expose] public section

set_option maxRecDepth 16384

noncomputable section

open Idealize.ShloMosaic Idealize.ShloMosaic.TcCoe Idealize.SL.Sem

namespace Cert.KernelIdeal.Att

open Cert.KernelIdeal Cert.KernelIdeal.Gen

/-- The normalised, weighted and gated element of a column of differences. -/
def gt (d : Fin 128 → EReal) (e : Fin 128) (g z : EReal) : EReal :=
  d e * Ideal.rsqrt (Ideal.div (∑ x, d x * d x) (Ideal.ofBits .f32 1124073472#32) + Ideal.ofBits .f32 897988541#32) * g * Ideal.ofBits .f32 1057455962#32
    * (z * (Ideal.ofBits .f32 1056964608#32 * Ideal.tanh (Ideal.ofBits .f32 1056964608#32 * z) + Ideal.ofBits .f32 1056964608#32))

theorem gate_at (d : FVec Ideal S128x256 .f32) (g : Vec Ideal S128x256 .f32) (z : Vec Ideal S1x128x256 .f32) (e : Fin 128) (i : Fin 256) :
    gate d g z (ix3 0 e i) = gt (fun x => d (ix2 x i)) e (g (ix2 e i)) (z (ix3 0 e i)) := by
  unfold gate gt
  pointwise [k0_pay45]

/-- The difference of the two maps' means, for one head's keys, queries and values. -/
def dm (kr qr vr : ℕ → ℕ → ℝ) (c l : ℝ) (Q x : ℕ) : ℝ :=
  soft (sc kr qr c 0 Q) (fun j => vr x j) Q - l * soft (sc kr qr c 64 Q) (fun j => vr x j) Q

section
variable {KA : Vec Ideal S2x2048x256 .bf16} {VA : Vec Ideal S2x144x2048 .bf16} {pos : FVec Ideal S16x256 .bf16} {q : Vec Ideal S1x128x256 .bf16} {hh : Fin 2} {c l : ℝ} {kr qr vr : ℕ → ℕ → ℝ}
  {lam : FVec Ideal S1x1 .f32} {g : Vec Ideal S128x256 .f32} {z : Vec Ideal S1x128x256 .f32} {i : Fin 256} {e : Fin 128}
  (hp : Pos pos c) (hk : ∀ (j : Fin 2048) (f : Fin 128), KA (ix3 hh j ⟨f.val, lt256 f⟩) = ((kr j.val f.val : ℝ) : EReal))
  (h0 : ∀ j : Fin 2048, KA (ix3 hh j 128) = (((j.val / 256 : ℕ) : ℝ) : EReal)) (h1 : ∀ j : Fin 2048, KA (ix3 hh j 129) = (((j.val % 256 : ℕ) : ℝ) : EReal))
  (hv : ∀ (x : Fin 128) (j : Fin 2048), VA (ix3 hh ⟨x.val, lt144 x⟩ j) = ((vr x.val j.val : ℝ) : EReal)) (hw : ∀ j : Fin 2048, VA (ix3 hh 128 j) = 1)
  (hl : lam (ix2 0 0) = ((l : ℝ) : EReal))
include hp hk h0 h1 hv hw hl

theorem dif_at {n0 n1 : FVec Ideal S128x256 .f32} {a b : ℝ} (x : Fin 128) (e0 : n0 (ix2 x i) = (a : EReal)) (e1 : n1 (ix2 x i) = (b : EReal)) :
    dif lam n0 n1 (ix2 x i) = ((a - l * b : ℝ) : EReal) := by
  have : dif lam n0 n1 (ix2 x i) = n0 (ix2 x i) - lam (ix2 0 0) * n1 (ix2 x i) := by pointwise [dif]
  rw [this, e0, e1, hl, ← EReal.coe_mul, ← EReal.coe_sub]

theorem pc0_at (hq : ∀ f : Fin 128, q (ix3 0 f i) = ((qr f.val (0 + i.val) : ℝ) : EReal)) :
    pc0 KA VA hh pos lam q g z (ix3 0 e i) = gt (fun x => ((dm kr qr vr c l (0 + i.val) x.val : ℝ) : EReal)) e (g (ix2 e i)) (z (ix3 0 e i)) := by
  unfold pc0
  rw [gate_at]
  refine congrArg (fun d => gt d e _ _) (funext fun x => ?_)
  exact dif_at hp hk h0 h1 hv hw hl x (nq0 (sc0 hp hk h0 h1 hq) (fun j hj => hv x ⟨j, hj⟩) (fun j hj => hw ⟨j, hj⟩))
    (nq0 (sc1 hp hk h0 h1 hq) (fun j hj => hv x ⟨j, hj⟩) (fun j hj => hw ⟨j, hj⟩))

theorem pc1_at (hq : ∀ f : Fin 128, q (ix3 0 f i) = ((qr f.val (256 + i.val) : ℝ) : EReal)) :
    pc1 KA VA hh pos lam q g z (ix3 0 e i) = gt (fun x => ((dm kr qr vr c l (256 + i.val) x.val : ℝ) : EReal)) e (g (ix2 e i)) (z (ix3 0 e i)) := by
  unfold pc1
  rw [gate_at]
  refine congrArg (fun d => gt d e _ _) (funext fun x => ?_)
  exact dif_at hp hk h0 h1 hv hw hl x (nq1 (sc0 hp hk h0 h1 hq) (fun j hj => hv x ⟨j, hj⟩) (fun j hj => hw ⟨j, hj⟩))
    (nq1 (sc1 hp hk h0 h1 hq) (fun j hj => hv x ⟨j, hj⟩) (fun j hj => hw ⟨j, hj⟩))

theorem pc2_at (hq : ∀ f : Fin 128, q (ix3 0 f i) = ((qr f.val (512 + i.val) : ℝ) : EReal)) :
    pc2 KA VA hh pos lam q g z (ix3 0 e i) = gt (fun x => ((dm kr qr vr c l (512 + i.val) x.val : ℝ) : EReal)) e (g (ix2 e i)) (z (ix3 0 e i)) := by
  unfold pc2
  rw [gate_at]
  refine congrArg (fun d => gt d e _ _) (funext fun x => ?_)
  exact dif_at hp hk h0 h1 hv hw hl x (nq2 (sc0 hp hk h0 h1 hq) (fun j hj => hv x ⟨j, hj⟩) (fun j hj => hw ⟨j, hj⟩))
    (nq2 (sc1 hp hk h0 h1 hq) (fun j hj => hv x ⟨j, hj⟩) (fun j hj => hw ⟨j, hj⟩))

theorem pc3_at (hq : ∀ f : Fin 128, q (ix3 0 f i) = ((qr f.val (768 + i.val) : ℝ) : EReal)) :
    pc3 KA VA hh pos lam q g z (ix3 0 e i) = gt (fun x => ((dm kr qr vr c l (768 + i.val) x.val : ℝ) : EReal)) e (g (ix2 e i)) (z (ix3 0 e i)) := by
  unfold pc3
  rw [gate_at]
  refine congrArg (fun d => gt d e _ _) (funext fun x => ?_)
  exact dif_at hp hk h0 h1 hv hw hl x (nq3 (sc0 hp hk h0 h1 hq) (fun j hj => hv x ⟨j, hj⟩) (fun j hj => hw ⟨j, hj⟩))
    (nq3 (sc1 hp hk h0 h1 hq) (fun j hj => hv x ⟨j, hj⟩) (fun j hj => hw ⟨j, hj⟩))

theorem pc4_at (hq : ∀ f : Fin 128, q (ix3 0 f i) = ((qr f.val (1024 + i.val) : ℝ) : EReal)) :
    pc4 KA VA hh pos lam q g z (ix3 0 e i) = gt (fun x => ((dm kr qr vr c l (1024 + i.val) x.val : ℝ) : EReal)) e (g (ix2 e i)) (z (ix3 0 e i)) := by
  unfold pc4
  rw [gate_at]
  refine congrArg (fun d => gt d e _ _) (funext fun x => ?_)
  exact dif_at hp hk h0 h1 hv hw hl x (nq4 (sc0 hp hk h0 h1 hq) (fun j hj => hv x ⟨j, hj⟩) (fun j hj => hw ⟨j, hj⟩))
    (nq4 (sc1 hp hk h0 h1 hq) (fun j hj => hv x ⟨j, hj⟩) (fun j hj => hw ⟨j, hj⟩))

theorem pc5_at (hq : ∀ f : Fin 128, q (ix3 0 f i) = ((qr f.val (1280 + i.val) : ℝ) : EReal)) :
    pc5 KA VA hh pos lam q g z (ix3 0 e i) = gt (fun x => ((dm kr qr vr c l (1280 + i.val) x.val : ℝ) : EReal)) e (g (ix2 e i)) (z (ix3 0 e i)) := by
  unfold pc5
  rw [gate_at]
  refine congrArg (fun d => gt d e _ _) (funext fun x => ?_)
  exact dif_at hp hk h0 h1 hv hw hl x (nq5 (sc0 hp hk h0 h1 hq) (fun j hj => hv x ⟨j, hj⟩) (fun j hj => hw ⟨j, hj⟩))
    (nq5 (sc1 hp hk h0 h1 hq) (fun j hj => hv x ⟨j, hj⟩) (fun j hj => hw ⟨j, hj⟩))

theorem pc6_at (hq : ∀ f : Fin 128, q (ix3 0 f i) = ((qr f.val (1536 + i.val) : ℝ) : EReal)) :
    pc6 KA VA hh pos lam q g z (ix3 0 e i) = gt (fun x => ((dm kr qr vr c l (1536 + i.val) x.val : ℝ) : EReal)) e (g (ix2 e i)) (z (ix3 0 e i)) := by
  unfold pc6
  rw [gate_at]
  refine congrArg (fun d => gt d e _ _) (funext fun x => ?_)
  exact dif_at hp hk h0 h1 hv hw hl x (nq6 (sc0 hp hk h0 h1 hq) (fun j hj => hv x ⟨j, hj⟩) (fun j hj => hw ⟨j, hj⟩))
    (nq6 (sc1 hp hk h0 h1 hq) (fun j hj => hv x ⟨j, hj⟩) (fun j hj => hw ⟨j, hj⟩))

theorem pc7_at (hq : ∀ f : Fin 128, q (ix3 0 f i) = ((qr f.val (1792 + i.val) : ℝ) : EReal)) :
    pc7 KA VA hh pos lam q g z (ix3 0 e i) = gt (fun x => ((dm kr qr vr c l (1792 + i.val) x.val : ℝ) : EReal)) e (g (ix2 e i)) (z (ix3 0 e i)) := by
  unfold pc7
  rw [gate_at]
  refine congrArg (fun d => gt d e _ _) (funext fun x => ?_)
  exact dif_at hp hk h0 h1 hv hw hl x (nq7 (sc0 hp hk h0 h1 hq) (fun j hj => hv x ⟨j, hj⟩) (fun j hj => hw ⟨j, hj⟩))
    (nq7 (sc1 hp hk h0 h1 hq) (fun j hj => hv x ⟨j, hj⟩) (fun j hj => hw ⟨j, hj⟩))

end

end Cert.KernelIdeal.Att

end
-- ==== Proof.Hand.PiecesA.lean ====
module

public import proofs.«01_k».proof.Proof.Hand.Tile
public import proofs.«01_k».proof.Proof.Gen.KernelIdeal.Frame
public import Idealize.ShloMosaic.Lib.Pipeline.ReadBack

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : cond0_0 i)
    (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32)

/-- The key buffer of the point. -/
def KA : Vec Ideal S2x2048x256 .bf16 := arg10.view.read (Elt Ideal) (arg10.view.writes (Elt Ideal) arg10.view.junk (kernelRun0_A.sl.HS0_4 c arg4 harg4 x2))
/-- The value buffer of the point. -/
def VA : Vec Ideal S2x144x2048 .bf16 := arg11.view.read (Elt Ideal) (arg11.view.writes (Elt Ideal) arg11.view.junk (kernelRun0_A.sl.HS1_4 c arg5 harg5 x3))
def QA (qi : Fin 8) (hh : Fin 2) : Vec Ideal S1x128x256 .bf16 := fun y => arg3.view.read (Elt Ideal) (harg3.unread x1) ((Rect.unit (s := S1x256x2048) ![0, hh.val * 128, qi.val * 256] S1x128x256.size (inbq hh qi)).toLoadRect.idx y)
def ZA (qi : Fin 8) (hh : Fin 2) : Vec Ideal S1x128x256 .f32 := fun y => arg6.view.read (Elt Ideal) (harg6.unread x4) ((Rect.unit (s := S1x256x2048) ![0, hh.val * 128, qi.val * 256] S1x128x256.size (inbq hh qi)).toLoadRect.idx y)
def GA : Vec Ideal S128x256 .f32 := View.readAt (Elt Ideal) arg8.view (Rect.unit (s := S128x256) ![0, 0] S128x256.size (by decide)).toLoadRect (harg8.unread x6)

theorem As0_0 : kernelRun0_A.sl.v202 c i arg2 harg2 arg3 harg3 arg4 harg4 arg10 arg12 x0 x1 x2 =
    st256 (s0_0 (KA c arg4 harg4 arg10 x2) (qa0 (kernelRun0_A.sl.r_1 c i arg2 harg2 x0) (QA arg3 harg3 x1 0 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Ap0_0 : kernelRun0_A.sl.v232 c i arg2 harg2 arg3 harg3 arg4 harg4 arg10 arg12 arg13 x0 x1 x2 =
    prob256 (mq0 (KA c arg4 harg4 arg10 x2) (qa0 (kernelRun0_A.sl.r_1 c i arg2 harg2 x0) (QA arg3 harg3 x1 0 0)) 0) (st256 (s0_0 (KA c arg4 harg4 arg10 x2) (qa0 (kernelRun0_A.sl.r_1 c i arg2 harg2 x0) (QA arg3 harg3 x1 0 0)) 0)) :=
  (View.readCov_cons_toLoadRect _ _ _ _).trans (congrArg (prob256 (mq0 (KA c arg4 harg4 arg10 x2) (qa0 (kernelRun0_A.sl.r_1 c i arg2 harg2 x0) (QA arg3 harg3 x1 0 0)) 0)) (As0_0 ..))
theorem As1_0 : kernelRun0_A.sl.v241 c i arg2 harg2 arg3 harg3 arg4 harg4 arg10 arg12 x0 x1 x2 =
    st256 (s0_0 (KA c arg4 harg4 arg10 x2) (qa1 (kernelRun0_A.sl.r_1 c i arg2 harg2 x0) (QA arg3 harg3 x1 0 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Ap1_0 : kernelRun0_A.sl.v271 c i arg2 harg2 arg3 harg3 arg4 harg4 arg10 arg12 arg13 x0 x1 x2 =
    prob256 (mq0 (KA c arg4 harg4 arg10 x2) (qa1 (kernelRun0_A.sl.r_1 c i arg2 harg2 x0) (QA arg3 harg3 x1 0 0)) 0) (st256 (s0_0 (KA c arg4 harg4 arg10 x2) (qa1 (kernelRun0_A.sl.r_1 c i arg2 harg2 x0) (QA arg3 harg3 x1 0 0)) 0)) :=
  (View.readCov_cons_toLoadRect _ _ _ _).trans (congrArg (prob256 (mq0 (KA c arg4 harg4 arg10 x2) (qa1 (kernelRun0_A.sl.r_1 c i arg2 harg2 x0) (QA arg3 harg3 x1 0 0)) 0)) (As1_0 ..))
theorem Apiece0_0 : (kernelRun0_A.sl.v312 c i arg2 harg2 arg3 harg3 arg4 harg4 arg5 harg5 arg6 harg6 arg7 harg7 arg8 harg8 arg10 arg11 arg12 arg13 x0 x1 x2 x3 x4 x5 x6 : S1x128x256.Idx → Ideal .bf16) =
    pc0 (KA c arg4 harg4 arg10 x2) (VA c arg5 harg5 arg11 x3) 0 (kernelRun0_A.sl.r_1 c i arg2 harg2 x0) (kernelRun0_A.sl.r_4 c arg7 harg7 x5) (QA arg3 harg3 x1 0 0) (GA arg8 harg8 x6) (ZA arg6 harg6 x4 0 0) := by
  show gate (dif (kernelRun0_A.sl.r_4 c arg7 harg7 x5) (norm (acT0 (VA c arg5 harg5 arg11 x3) 0 (kernelRun0_A.sl.v232 c i arg2 harg2 arg3 harg3 arg4 harg4 arg10 arg12 arg13 x0 x1 x2))) (norm (acT0 (VA c arg5 harg5 arg11 x3) 0 (kernelRun0_A.sl.v271 c i arg2 harg2 arg3 harg3 arg4 harg4 arg10 arg12 arg13 x0 x1 x2)))) (GA arg8 harg8 x6) (ZA arg6 harg6 x4 0 0) = _
  rw [Ap0_0, Ap1_0]
  rfl

theorem As2_0 : kernelRun0_A.sl.v313 c i arg2 harg2 arg3 harg3 arg4 harg4 arg10 arg12 x0 x1 x2 =
    st256 (s0_0 (KA c arg4 harg4 arg10 x2) (qa0 (kernelRun0_A.sl.r_3 c i arg2 harg2 x0) (QA arg3 harg3 x1 0 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Ap2_0 : kernelRun0_A.sl.v343 c i arg2 harg2 arg3 harg3 arg4 harg4 arg10 arg12 arg13 x0 x1 x2 =
    prob256 (mq0 (KA c arg4 harg4 arg10 x2) (qa0 (kernelRun0_A.sl.r_3 c i arg2 harg2 x0) (QA arg3 harg3 x1 0 1)) 1) (st256 (s0_0 (KA c arg4 harg4 arg10 x2) (qa0 (kernelRun0_A.sl.r_3 c i arg2 harg2 x0) (QA arg3 harg3 x1 0 1)) 1)) :=
  (View.readCov_cons_toLoadRect _ _ _ _).trans (congrArg (prob256 (mq0 (KA c arg4 harg4 arg10 x2) (qa0 (kernelRun0_A.sl.r_3 c i arg2 harg2 x0) (QA arg3 harg3 x1 0 1)) 1)) (As2_0 ..))
theorem As3_0 : kernelRun0_A.sl.v352 c i arg2 harg2 arg3 harg3 arg4 harg4 arg10 arg12 x0 x1 x2 =
    st256 (s0_0 (KA c arg4 harg4 arg10 x2) (qa1 (kernelRun0_A.sl.r_3 c i arg2 harg2 x0) (QA arg3 harg3 x1 0 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Ap3_0 : kernelRun0_A.sl.v382 c i arg2 harg2 arg3 harg3 arg4 harg4 arg10 arg12 arg13 x0 x1 x2 =
    prob256 (mq0 (KA c arg4 harg4 arg10 x2) (qa1 (kernelRun0_A.sl.r_3 c i arg2 harg2 x0) (QA arg3 harg3 x1 0 1)) 1) (st256 (s0_0 (KA c arg4 harg4 arg10 x2) (qa1 (kernelRun0_A.sl.r_3 c i arg2 harg2 x0) (QA arg3 harg3 x1 0 1)) 1)) :=
  (View.readCov_cons_toLoadRect _ _ _ _).trans (congrArg (prob256 (mq0 (KA c arg4 harg4 arg10 x2) (qa1 (kernelRun0_A.sl.r_3 c i arg2 harg2 x0) (QA arg3 harg3 x1 0 1)) 1)) (As3_0 ..))
theorem Apiece0_1 : (kernelRun0_A.sl.v423 c i arg2 harg2 arg3 harg3 arg4 harg4 arg5 harg5 arg6 harg6 arg7 harg7 arg8 harg8 arg10 arg11 arg12 arg13 x0 x1 x2 x3 x4 x5 x6 : S1x128x256.Idx → Ideal .bf16) =
    pc0 (KA c arg4 harg4 arg10 x2) (VA c arg5 harg5 arg11 x3) 1 (kernelRun0_A.sl.r_3 c i arg2 harg2 x0) (kernelRun0_A.sl.r_4 c arg7 harg7 x5) (QA arg3 harg3 x1 0 1) (GA arg8 harg8 x6) (ZA arg6 harg6 x4 0 1) := by
  show gate (dif (kernelRun0_A.sl.r_4 c arg7 harg7 x5) (norm (acT0 (VA c arg5 harg5 arg11 x3) 1 (kernelRun0_A.sl.v343 c i arg2 harg2 arg3 harg3 arg4 harg4 arg10 arg12 arg13 x0 x1 x2))) (norm (acT0 (VA c arg5 harg5 arg11 x3) 1 (kernelRun0_A.sl.v382 c i arg2 harg2 arg3 harg3 arg4 harg4 arg10 arg12 arg13 x0 x1 x2)))) (GA arg8 harg8 x6) (ZA arg6 harg6 x4 0 1) = _
  rw [Ap2_0, Ap3_0]
  rfl

theorem As4_0 : kernelRun0_A.sl.v424 c i arg2 harg2 arg3 harg3 arg4 harg4 arg10 arg12 x0 x1 x2 =
    st512 (s1_0 (KA c arg4 harg4 arg10 x2) (qa0 (kernelRun0_A.sl.r_1 c i arg2 harg2 x0) (QA arg3 harg3 x1 1 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Ap4_0 : kernelRun0_A.sl.v447 c i arg2 harg2 arg3 harg3 arg4 harg4 arg10 arg12 arg13 x0 x1 x2 =
    prob512 (mq1 (KA c arg4 harg4 arg10 x2) (qa0 (kernelRun0_A.sl.r_1 c i arg2 harg2 x0) (QA arg3 harg3 x1 1 0)) 0) (st512 (s1_0 (KA c arg4 harg4 arg10 x2) (qa0 (kernelRun0_A.sl.r_1 c i arg2 harg2 x0) (QA arg3 harg3 x1 1 0)) 0)) :=
  (View.readCov_cons_toLoadRect _ _ _ _).trans (congrArg (prob512 (mq1 (KA c arg4 harg4 arg10 x2) (qa0 (kernelRun0_A.sl.r_1 c i arg2 harg2 x0) (QA arg3 harg3 x1 1 0)) 0)) (As4_0 ..))
theorem As5_0 : kernelRun0_A.sl.v469 c i arg2 harg2 arg3 harg3 arg4 harg4 arg10 arg12 x0 x1 x2 =
    st512 (s1_0 (KA c arg4 harg4 arg10 x2) (qa1 (kernelRun0_A.sl.r_1 c i arg2 harg2 x0) (QA arg3 harg3 x1 1 0)) 0) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))
theorem Ap5_0 : kernelRun0_A.sl.v492 c i arg2 harg2 arg3 harg3 arg4 harg4 arg10 arg12 arg13 x0 x1 x2 =
    prob512 (mq1 (KA c arg4 harg4 arg10 x2) (qa1 (kernelRun0_A.sl.r_1 c i arg2 harg2 x0) (QA arg3 harg3 x1 1 0)) 0) (st512 (s1_0 (KA c arg4 harg4 arg10 x2) (qa1 (kernelRun0_A.sl.r_1 c i arg2 harg2 x0) (QA arg3 harg3 x1 1 0)) 0)) :=
  (View.readCov_cons_toLoadRect _ _ _ _).trans (congrArg (prob512 (mq1 (KA c arg4 harg4 arg10 x2) (qa1 (kernelRun0_A.sl.r_1 c i arg2 harg2 x0) (QA arg3 harg3 x1 1 0)) 0)) (As5_0 ..))
theorem Apiece1_0 : (k0_pay77 (kernelRun0_A.sl.r_4 c arg7 harg7 x5) (kernelRun0_A.sl.r_22 c i arg2 harg2 arg3 harg3 arg4 harg4 arg5 harg5 arg10 arg11 arg12 arg13 x0 x1 x2 x3) (kernelRun0_A.sl.v495 c i arg2 harg2 arg3 harg3 arg4 harg4 arg5 harg5 arg10 arg11 arg12 arg13 x0 x1 x2 x3) (kernelRun0_A.sl.v499 c i arg2 harg2 arg3 harg3 arg4 harg4 arg5 harg5 arg10 arg11 arg12 arg13 x0 x1 x2 x3) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 256] S1x128x256.size inb_S1x256x2048_S1x128x256_0_0_256).toLoadRect (harg6.unread x4)) : S1x128x256.Idx → Ideal .bf16) =
    pc1 (KA c arg4 harg4 arg10 x2) (VA c arg5 harg5 arg11 x3) 0 (kernelRun0_A.sl.r_1 c i arg2 harg2 x0) (kernelRun0_A.sl.r_4 c arg7 harg7 x5) (QA arg3 harg3 x1 1 0) (GA arg8 harg8 x6) (ZA arg6 harg6 x4 1 0) := by
  show gate (dif (kernelRun0_A.sl.r_4 c arg7 harg7 x5) (norm (acT1 (VA c arg5 harg5 arg11 x3) 0 (kernelRun0_A.sl.v447 c i arg2 harg2 arg3 harg3 arg4 harg4 arg10 arg12 arg13 x0 x1 x2))) (norm (acT1 (VA c arg5 harg5 arg11 x3) 0 (kernelRun0_A.sl.v492 c i arg2 harg2 arg3 harg3 arg4 harg4 arg10 arg12 arg13 x0 x1 x2)))) (GA arg8 harg8 x6) (ZA arg6 harg6 x4 1 0) = _
  rw [Ap4_0, Ap5_0]
  rfl

theorem As6_0 : kernelRun0_A.sl.v547 c i arg2 harg2 arg3 harg3 arg4 harg4 arg10 arg12 x0 x1 x2 =
    st512 (s1_0 (KA c arg4 harg4 arg10 x2) (qa0 (kernelRun0_A.sl.r_3 c i arg2 harg2 x0) (QA arg3 harg3 x1 1 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))
theorem Ap6_0 : kernelRun0_A.sl.v570 c i arg2 harg2 arg3 harg3 arg4 harg4 arg10 arg12 arg13 x0 x1 x2 =
    prob512 (mq1 (KA c arg4 harg4 arg10 x2) (qa0 (kernelRun0_A.sl.r_3 c i arg2 harg2 x0) (QA arg3 harg3 x1 1 1)) 1) (st512 (s1_0 (KA c arg4 harg4 arg10 x2) (qa0 (kernelRun0_A.sl.r_3 c i arg2 harg2 x0) (QA arg3 harg3 x1 1 1)) 1)) :=
  (View.readCov_cons_toLoadRect _ _ _ _).trans (congrArg (prob512 (mq1 (KA c arg4 harg4 arg10 x2) (qa0 (kernelRun0_A.sl.r_3 c i arg2 harg2 x0) (QA arg3 harg3 x1 1 1)) 1)) (As6_0 ..))
theorem As7_0 : kernelRun0_A.sl.v592 c i arg2 harg2 arg3 harg3 arg4 harg4 arg10 arg12 x0 x1 x2 =
    st512 (s1_0 (KA c arg4 harg4 arg10 x2) (qa1 (kernelRun0_A.sl.r_3 c i arg2 harg2 x0) (QA arg3 harg3 x1 1 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap7_0 : kernelRun0_A.sl.v615 c i arg2 harg2 arg3 harg3 arg4 harg4 arg10 arg12 arg13 x0 x1 x2 =
    prob512 (mq1 (KA c arg4 harg4 arg10 x2) (qa1 (kernelRun0_A.sl.r_3 c i arg2 harg2 x0) (QA arg3 harg3 x1 1 1)) 1) (st512 (s1_0 (KA c arg4 harg4 arg10 x2) (qa1 (kernelRun0_A.sl.r_3 c i arg2 harg2 x0) (QA arg3 harg3 x1 1 1)) 1)) :=
  (View.readCov_cons_toLoadRect _ _ _ _).trans (congrArg (prob512 (mq1 (KA c arg4 harg4 arg10 x2) (qa1 (kernelRun0_A.sl.r_3 c i arg2 harg2 x0) (QA arg3 harg3 x1 1 1)) 1)) (As7_0 ..))
theorem Apiece1_1 : (k0_pay97 (kernelRun0_A.sl.v641 c i arg2 harg2 arg3 harg3 arg4 harg4 arg5 harg5 arg7 harg7 arg8 harg8 arg10 arg11 arg12 arg13 x0 x1 x2 x3 x5 x6) (View.readAt (Elt Ideal) arg6.view (Rect.unit (s := S1x256x2048) ![0, 128, 256] S1x128x256.size inb_S1x256x2048_S1x128x256_0_128_256).toLoadRect (harg6.unread x4)) : S1x128x256.Idx → Ideal .bf16) =
    pc1 (KA c arg4 harg4 arg10 x2) (VA c arg5 harg5 arg11 x3) 1 (kernelRun0_A.sl.r_3 c i arg2 harg2 x0) (kernelRun0_A.sl.r_4 c arg7 harg7 x5) (QA arg3 harg3 x1 1 1) (GA arg8 harg8 x6) (ZA arg6 harg6 x4 1 1) := by
  show gate (dif (kernelRun0_A.sl.r_4 c arg7 harg7 x5) (norm (acT1 (VA c arg5 harg5 arg11 x3) 1 (kernelRun0_A.sl.v570 c i arg2 harg2 arg3 harg3 arg4 harg4 arg10 arg12 arg13 x0 x1 x2))) (norm (acT1 (VA c arg5 harg5 arg11 x3) 1 (kernelRun0_A.sl.v615 c i arg2 harg2 arg3 harg3 arg4 harg4 arg10 arg12 arg13 x0 x1 x2)))) (GA arg8 harg8 x6) (ZA arg6 harg6 x4 1 1) = _
  rw [Ap6_0, Ap7_0]
  rfl

theorem As8_0 : kernelRun0_A.sl.v670 c i arg2 harg2 arg3 harg3 arg4 harg4 arg10 arg12 x0 x1 x2 =
    st512 (s2_0 (KA c arg4 harg4 arg10 x2) (qa0 (kernelRun0_A.sl.r_1 c i arg2 harg2 x0) (QA arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap8_0 : kernelRun0_A.sl.v702 c i arg2 harg2 arg3 harg3 arg4 harg4 arg10 arg12 arg13 x0 x1 x2 =
    prob512 (mq2 (KA c arg4 harg4 arg10 x2) (qa0 (kernelRun0_A.sl.r_1 c i arg2 harg2 x0) (QA arg3 harg3 x1 2 0)) 0) (st512 (s2_0 (KA c arg4 harg4 arg10 x2) (qa0 (kernelRun0_A.sl.r_1 c i arg2 harg2 x0) (QA arg3 harg3 x1 2 0)) 0)) :=
  (View.readCov_skip _ _ _ _ _ rfl).trans ((View.readCov_cons_toLoadRect _ _ _ _).trans (congrArg (prob512 (mq2 (KA c arg4 harg4 arg10 x2) (qa0 (kernelRun0_A.sl.r_1 c i arg2 harg2 x0) (QA arg3 harg3 x1 2 0)) 0)) (As8_0 ..)))
theorem As8_1 : kernelRun0_A.sl.v679 c i arg2 harg2 arg3 harg3 arg4 harg4 arg10 arg12 x0 x1 x2 =
    st256 (s2_1 (KA c arg4 harg4 arg10 x2) (qa0 (kernelRun0_A.sl.r_1 c i arg2 harg2 x0) (QA arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap8_1 : kernelRun0_A.sl.v723 c i arg2 harg2 arg3 harg3 arg4 harg4 arg10 arg12 arg13 x0 x1 x2 =
    prob256 (mq2 (KA c arg4 harg4 arg10 x2) (qa0 (kernelRun0_A.sl.r_1 c i arg2 harg2 x0) (QA arg3 harg3 x1 2 0)) 0) (st256 (s2_1 (KA c arg4 harg4 arg10 x2) (qa0 (kernelRun0_A.sl.r_1 c i arg2 harg2 x0) (QA arg3 harg3 x1 2 0)) 0)) :=
  (View.readCov_cons_toLoadRect _ _ _ _).trans (congrArg (prob256 (mq2 (KA c arg4 harg4 arg10 x2) (qa0 (kernelRun0_A.sl.r_1 c i arg2 harg2 x0) (QA arg3 harg3 x1 2 0)) 0)) (As8_1 ..))
theorem As9_0 : kernelRun0_A.sl.v733 c i arg2 harg2 arg3 harg3 arg4 harg4 arg10 arg12 x0 x1 x2 =
    st512 (s2_0 (KA c arg4 harg4 arg10 x2) (qa1 (kernelRun0_A.sl.r_1 c i arg2 harg2 x0) (QA arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap9_0 : kernelRun0_A.sl.v765 c i arg2 harg2 arg3 harg3 arg4 harg4 arg10 arg12 arg13 x0 x1 x2 =
    prob512 (mq2 (KA c arg4 harg4 arg10 x2) (qa1 (kernelRun0_A.sl.r_1 c i arg2 harg2 x0) (QA arg3 harg3 x1 2 0)) 0) (st512 (s2_0 (KA c arg4 harg4 arg10 x2) (qa1 (kernelRun0_A.sl.r_1 c i arg2 harg2 x0) (QA arg3 harg3 x1 2 0)) 0)) :=
  (View.readCov_skip _ _ _ _ _ rfl).trans ((View.readCov_cons_toLoadRect _ _ _ _).trans (congrArg (prob512 (mq2 (KA c arg4 harg4 arg10 x2) (qa1 (kernelRun0_A.sl.r_1 c i arg2 harg2 x0) (QA arg3 harg3 x1 2 0)) 0)) (As9_0 ..)))
theorem As9_1 : kernelRun0_A.sl.v742 c i arg2 harg2 arg3 harg3 arg4 harg4 arg10 arg12 x0 x1 x2 =
    st256 (s2_1 (KA c arg4 harg4 arg10 x2) (qa1 (kernelRun0_A.sl.r_1 c i arg2 harg2 x0) (QA arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap9_1 : kernelRun0_A.sl.v786 c i arg2 harg2 arg3 harg3 arg4 harg4 arg10 arg12 arg13 x0 x1 x2 =
    prob256 (mq2 (KA c arg4 harg4 arg10 x2) (qa1 (kernelRun0_A.sl.r_1 c i arg2 harg2 x0) (QA arg3 harg3 x1 2 0)) 0) (st256 (s2_1 (KA c arg4 harg4 arg10 x2) (qa1 (kernelRun0_A.sl.r_1 c i arg2 harg2 x0) (QA arg3 harg3 x1 2 0)) 0)) :=
  (View.readCov_cons_toLoadRect _ _ _ _).trans (congrArg (prob256 (mq2 (KA c arg4 harg4 arg10 x2) (qa1 (kernelRun0_A.sl.r_1 c i arg2 harg2 x0) (QA arg3 harg3 x1 2 0)) 0)) (As9_1 ..))
theorem Apiece2_0 : (kernelRun0_A.sl.v828 c i arg2 harg2 arg3 harg3 arg4 harg4 arg5 harg5 arg6 harg6 arg7 harg7 arg8 harg8 arg10 arg11 arg12 arg13 x0 x1 x2 x3 x4 x5 x6 : S1x128x256.Idx → Ideal .bf16) =
    pc2 (KA c arg4 harg4 arg10 x2) (VA c arg5 harg5 arg11 x3) 0 (kernelRun0_A.sl.r_1 c i arg2 harg2 x0) (kernelRun0_A.sl.r_4 c arg7 harg7 x5) (QA arg3 harg3 x1 2 0) (GA arg8 harg8 x6) (ZA arg6 harg6 x4 2 0) := by
  show gate (dif (kernelRun0_A.sl.r_4 c arg7 harg7 x5) (norm (acT2 (VA c arg5 harg5 arg11 x3) 0 (kernelRun0_A.sl.v702 c i arg2 harg2 arg3 harg3 arg4 harg4 arg10 arg12 arg13 x0 x1 x2) (kernelRun0_A.sl.v723 c i arg2 harg2 arg3 harg3 arg4 harg4 arg10 arg12 arg13 x0 x1 x2))) (norm (acT2 (VA c arg5 harg5 arg11 x3) 0 (kernelRun0_A.sl.v765 c i arg2 harg2 arg3 harg3 arg4 harg4 arg10 arg12 arg13 x0 x1 x2) (kernelRun0_A.sl.v786 c i arg2 harg2 arg3 harg3 arg4 harg4 arg10 arg12 arg13 x0 x1 x2)))) (GA arg8 harg8 x6) (ZA arg6 harg6 x4 2 0) = _
  rw [Ap8_0, Ap8_1, Ap9_0, Ap9_1]
  rfl

theorem As10_0 : kernelRun0_A.sl.v829 c i arg2 harg2 arg3 harg3 arg4 harg4 arg10 arg12 x0 x1 x2 =
    st512 (s2_0 (KA c arg4 harg4 arg10 x2) (qa0 (kernelRun0_A.sl.r_3 c i arg2 harg2 x0) (QA arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap10_0 : kernelRun0_A.sl.v861 c i arg2 harg2 arg3 harg3 arg4 harg4 arg10 arg12 arg13 x0 x1 x2 =
    prob512 (mq2 (KA c arg4 harg4 arg10 x2) (qa0 (kernelRun0_A.sl.r_3 c i arg2 harg2 x0) (QA arg3 harg3 x1 2 1)) 1) (st512 (s2_0 (KA c arg4 harg4 arg10 x2) (qa0 (kernelRun0_A.sl.r_3 c i arg2 harg2 x0) (QA arg3 harg3 x1 2 1)) 1)) :=
  (View.readCov_skip _ _ _ _ _ rfl).trans ((View.readCov_cons_toLoadRect _ _ _ _).trans (congrArg (prob512 (mq2 (KA c arg4 harg4 arg10 x2) (qa0 (kernelRun0_A.sl.r_3 c i arg2 harg2 x0) (QA arg3 harg3 x1 2 1)) 1)) (As10_0 ..)))
theorem As10_1 : kernelRun0_A.sl.v838 c i arg2 harg2 arg3 harg3 arg4 harg4 arg10 arg12 x0 x1 x2 =
    st256 (s2_1 (KA c arg4 harg4 arg10 x2) (qa0 (kernelRun0_A.sl.r_3 c i arg2 harg2 x0) (QA arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap10_1 : kernelRun0_A.sl.v882 c i arg2 harg2 arg3 harg3 arg4 harg4 arg10 arg12 arg13 x0 x1 x2 =
    prob256 (mq2 (KA c arg4 harg4 arg10 x2) (qa0 (kernelRun0_A.sl.r_3 c i arg2 harg2 x0) (QA arg3 harg3 x1 2 1)) 1) (st256 (s2_1 (KA c arg4 harg4 arg10 x2) (qa0 (kernelRun0_A.sl.r_3 c i arg2 harg2 x0) (QA arg3 harg3 x1 2 1)) 1)) :=
  (View.readCov_cons_toLoadRect _ _ _ _).trans (congrArg (prob256 (mq2 (KA c arg4 harg4 arg10 x2) (qa0 (kernelRun0_A.sl.r_3 c i arg2 harg2 x0) (QA arg3 harg3 x1 2 1)) 1)) (As10_1 ..))
theorem As11_0 : kernelRun0_A.sl.v892 c i arg2 harg2 arg3 harg3 arg4 harg4 arg10 arg12 x0 x1 x2 =
    st512 (s2_0 (KA c arg4 harg4 arg10 x2) (qa1 (kernelRun0_A.sl.r_3 c i arg2 harg2 x0) (QA arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap11_0 : kernelRun0_A.sl.v924 c i arg2 harg2 arg3 harg3 arg4 harg4 arg10 arg12 arg13 x0 x1 x2 =
    prob512 (mq2 (KA c arg4 harg4 arg10 x2) (qa1 (kernelRun0_A.sl.r_3 c i arg2 harg2 x0) (QA arg3 harg3 x1 2 1)) 1) (st512 (s2_0 (KA c arg4 harg4 arg10 x2) (qa1 (kernelRun0_A.sl.r_3 c i arg2 harg2 x0) (QA arg3 harg3 x1 2 1)) 1)) :=
  (View.readCov_skip _ _ _ _ _ rfl).trans ((View.readCov_cons_toLoadRect _ _ _ _).trans (congrArg (prob512 (mq2 (KA c arg4 harg4 arg10 x2) (qa1 (kernelRun0_A.sl.r_3 c i arg2 harg2 x0) (QA arg3 harg3 x1 2 1)) 1)) (As11_0 ..)))
theorem As11_1 : kernelRun0_A.sl.v901 c i arg2 harg2 arg3 harg3 arg4 harg4 arg10 arg12 x0 x1 x2 =
    st256 (s2_1 (KA c arg4 harg4 arg10 x2) (qa1 (kernelRun0_A.sl.r_3 c i arg2 harg2 x0) (QA arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap11_1 : kernelRun0_A.sl.v945 c i arg2 harg2 arg3 harg3 arg4 harg4 arg10 arg12 arg13 x0 x1 x2 =
    prob256 (mq2 (KA c arg4 harg4 arg10 x2) (qa1 (kernelRun0_A.sl.r_3 c i arg2 harg2 x0) (QA arg3 harg3 x1 2 1)) 1) (st256 (s2_1 (KA c arg4 harg4 arg10 x2) (qa1 (kernelRun0_A.sl.r_3 c i arg2 harg2 x0) (QA arg3 harg3 x1 2 1)) 1)) :=
  (View.readCov_cons_toLoadRect _ _ _ _).trans (congrArg (prob256 (mq2 (KA c arg4 harg4 arg10 x2) (qa1 (kernelRun0_A.sl.r_3 c i arg2 harg2 x0) (QA arg3 harg3 x1 2 1)) 1)) (As11_1 ..))
theorem Apiece2_1 : (kernelRun0_A.sl.v987 c i arg2 harg2 arg3 harg3 arg4 harg4 arg5 harg5 arg6 harg6 arg7 harg7 arg8 harg8 arg10 arg11 arg12 arg13 x0 x1 x2 x3 x4 x5 x6 : S1x128x256.Idx → Ideal .bf16) =
    pc2 (KA c arg4 harg4 arg10 x2) (VA c arg5 harg5 arg11 x3) 1 (kernelRun0_A.sl.r_3 c i arg2 harg2 x0) (kernelRun0_A.sl.r_4 c arg7 harg7 x5) (QA arg3 harg3 x1 2 1) (GA arg8 harg8 x6) (ZA arg6 harg6 x4 2 1) := by
  show gate (dif (kernelRun0_A.sl.r_4 c arg7 harg7 x5) (norm (acT2 (VA c arg5 harg5 arg11 x3) 1 (kernelRun0_A.sl.v861 c i arg2 harg2 arg3 harg3 arg4 harg4 arg10 arg12 arg13 x0 x1 x2) (kernelRun0_A.sl.v882 c i arg2 harg2 arg3 harg3 arg4 harg4 arg10 arg12 arg13 x0 x1 x2))) (norm (acT2 (VA c arg5 harg5 arg11 x3) 1 (kernelRun0_A.sl.v924 c i arg2 harg2 arg3 harg3 arg4 harg4 arg10 arg12 arg13 x0 x1 x2) (kernelRun0_A.sl.v945 c i arg2 harg2 arg3 harg3 arg4 harg4 arg10 arg12 arg13 x0 x1 x2)))) (GA arg8 harg8 x6) (ZA arg6 harg6 x4 2 1) = _
  rw [Ap10_0, Ap10_1, Ap11_0, Ap11_1]
  rfl

theorem As12_0 : kernelRun0_A.sl.v988 c i arg2 harg2 arg3 harg3 arg4 harg4 arg10 arg12 x0 x1 x2 =
    st512 (s3_0 (KA c arg4 harg4 arg10 x2) (qa0 (kernelRun0_A.sl.r_1 c i arg2 harg2 x0) (QA arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap12_0 : kernelRun0_A.sl.v1020 c i arg2 harg2 arg3 harg3 arg4 harg4 arg10 arg12 arg13 x0 x1 x2 =
    prob512 (mq3 (KA c arg4 harg4 arg10 x2) (qa0 (kernelRun0_A.sl.r_1 c i arg2 harg2 x0) (QA arg3 harg3 x1 3 0)) 0) (st512 (s3_0 (KA c arg4 harg4 arg10 x2) (qa0 (kernelRun0_A.sl.r_1 c i arg2 harg2 x0) (QA arg3 harg3 x1 3 0)) 0)) :=
  (View.readCov_skip _ _ _ _ _ rfl).trans ((View.readCov_cons_toLoadRect _ _ _ _).trans (congrArg (prob512 (mq3 (KA c arg4 harg4 arg10 x2) (qa0 (kernelRun0_A.sl.r_1 c i arg2 harg2 x0) (QA arg3 harg3 x1 3 0)) 0)) (As12_0 ..)))
theorem As12_1 : kernelRun0_A.sl.v997 c i arg2 harg2 arg3 harg3 arg4 harg4 arg10 arg12 x0 x1 x2 =
    st512 (s3_1 (KA c arg4 harg4 arg10 x2) (qa0 (kernelRun0_A.sl.r_1 c i arg2 harg2 x0) (QA arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap12_1 : kernelRun0_A.sl.v1034 c i arg2 harg2 arg3 harg3 arg4 harg4 arg10 arg12 arg13 x0 x1 x2 =
    prob512 (mq3 (KA c arg4 harg4 arg10 x2) (qa0 (kernelRun0_A.sl.r_1 c i arg2 harg2 x0) (QA arg3 harg3 x1 3 0)) 0) (st512 (s3_1 (KA c arg4 harg4 arg10 x2) (qa0 (kernelRun0_A.sl.r_1 c i arg2 harg2 x0) (QA arg3 harg3 x1 3 0)) 0)) :=
  (View.readCov_cons_toLoadRect _ _ _ _).trans (congrArg (prob512 (mq3 (KA c arg4 harg4 arg10 x2) (qa0 (kernelRun0_A.sl.r_1 c i arg2 harg2 x0) (QA arg3 harg3 x1 3 0)) 0)) (As12_1 ..))
theorem As13_0 : kernelRun0_A.sl.v1057 c i arg2 harg2 arg3 harg3 arg4 harg4 arg10 arg12 x0 x1 x2 =
    st512 (s3_0 (KA c arg4 harg4 arg10 x2) (qa1 (kernelRun0_A.sl.r_1 c i arg2 harg2 x0) (QA arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap13_0 : kernelRun0_A.sl.v1089 c i arg2 harg2 arg3 harg3 arg4 harg4 arg10 arg12 arg13 x0 x1 x2 =
    prob512 (mq3 (KA c arg4 harg4 arg10 x2) (qa1 (kernelRun0_A.sl.r_1 c i arg2 harg2 x0) (QA arg3 harg3 x1 3 0)) 0) (st512 (s3_0 (KA c arg4 harg4 arg10 x2) (qa1 (kernelRun0_A.sl.r_1 c i arg2 harg2 x0) (QA arg3 harg3 x1 3 0)) 0)) :=
  (View.readCov_skip _ _ _ _ _ rfl).trans ((View.readCov_cons_toLoadRect _ _ _ _).trans (congrArg (prob512 (mq3 (KA c arg4 harg4 arg10 x2) (qa1 (kernelRun0_A.sl.r_1 c i arg2 harg2 x0) (QA arg3 harg3 x1 3 0)) 0)) (As13_0 ..)))
theorem As13_1 : kernelRun0_A.sl.v1066 c i arg2 harg2 arg3 harg3 arg4 harg4 arg10 arg12 x0 x1 x2 =
    st512 (s3_1 (KA c arg4 harg4 arg10 x2) (qa1 (kernelRun0_A.sl.r_1 c i arg2 harg2 x0) (QA arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap13_1 : kernelRun0_A.sl.v1247 c i arg2 harg2 arg3 harg3 arg4 harg4 arg10 arg12 arg13 x0 x1 x2 =
    prob512 (mq3 (KA c arg4 harg4 arg10 x2) (qa1 (kernelRun0_A.sl.r_1 c i arg2 harg2 x0) (QA arg3 harg3 x1 3 0)) 0) (st512 (s3_1 (KA c arg4 harg4 arg10 x2) (qa1 (kernelRun0_A.sl.r_1 c i arg2 harg2 x0) (QA arg3 harg3 x1 3 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KA c arg4 harg4 arg10 x2) (qa1 (kernelRun0_A.sl.r_1 c i arg2 harg2 x0) (QA arg3 harg3 x1 3 0)) 0)) (As13_1 ..)))))))))
theorem Apiece3_0 : (kernelRun0_A.sl.v1289 c i arg2 harg2 arg3 harg3 arg4 harg4 arg5 harg5 arg6 harg6 arg7 harg7 arg8 harg8 arg10 arg11 arg12 arg13 x0 x1 x2 x3 x4 x5 x6 : S1x128x256.Idx → Ideal .bf16) =
    pc3 (KA c arg4 harg4 arg10 x2) (VA c arg5 harg5 arg11 x3) 0 (kernelRun0_A.sl.r_1 c i arg2 harg2 x0) (kernelRun0_A.sl.r_4 c arg7 harg7 x5) (QA arg3 harg3 x1 3 0) (GA arg8 harg8 x6) (ZA arg6 harg6 x4 3 0) := by
  show gate (dif (kernelRun0_A.sl.r_4 c arg7 harg7 x5) (norm (acT3 (VA c arg5 harg5 arg11 x3) 0 (kernelRun0_A.sl.v1020 c i arg2 harg2 arg3 harg3 arg4 harg4 arg10 arg12 arg13 x0 x1 x2) (kernelRun0_A.sl.v1034 c i arg2 harg2 arg3 harg3 arg4 harg4 arg10 arg12 arg13 x0 x1 x2))) (norm (acT3 (VA c arg5 harg5 arg11 x3) 0 (kernelRun0_A.sl.v1089 c i arg2 harg2 arg3 harg3 arg4 harg4 arg10 arg12 arg13 x0 x1 x2) (kernelRun0_A.sl.v1247 c i arg2 harg2 arg3 harg3 arg4 harg4 arg10 arg12 arg13 x0 x1 x2)))) (GA arg8 harg8 x6) (ZA arg6 harg6 x4 3 0) = _
  rw [Ap12_0, Ap12_1, Ap13_0, Ap13_1]
  rfl

theorem As14_0 : kernelRun0_A.sl.v1101 c i arg2 harg2 arg3 harg3 arg4 harg4 arg10 arg12 x0 x1 x2 =
    st512 (s3_0 (KA c arg4 harg4 arg10 x2) (qa0 (kernelRun0_A.sl.r_3 c i arg2 harg2 x0) (QA arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap14_0 : kernelRun0_A.sl.v1331 c i arg2 harg2 arg3 harg3 arg4 harg4 arg10 arg12 arg13 x0 x1 x2 =
    prob512 (mq3 (KA c arg4 harg4 arg10 x2) (qa0 (kernelRun0_A.sl.r_3 c i arg2 harg2 x0) (QA arg3 harg3 x1 3 1)) 1) (st512 (s3_0 (KA c arg4 harg4 arg10 x2) (qa0 (kernelRun0_A.sl.r_3 c i arg2 harg2 x0) (QA arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KA c arg4 harg4 arg10 x2) (qa0 (kernelRun0_A.sl.r_3 c i arg2 harg2 x0) (QA arg3 harg3 x1 3 1)) 1)) (As14_0 ..))))))))))
theorem As14_1 : kernelRun0_A.sl.v1123 c i arg2 harg2 arg3 harg3 arg4 harg4 arg10 arg12 x0 x1 x2 =
    st512 (s3_1 (KA c arg4 harg4 arg10 x2) (qa0 (kernelRun0_A.sl.r_3 c i arg2 harg2 x0) (QA arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap14_1 : kernelRun0_A.sl.v1361 c i arg2 harg2 arg3 harg3 arg4 harg4 arg10 arg12 arg13 x0 x1 x2 =
    prob512 (mq3 (KA c arg4 harg4 arg10 x2) (qa0 (kernelRun0_A.sl.r_3 c i arg2 harg2 x0) (QA arg3 harg3 x1 3 1)) 1) (st512 (s3_1 (KA c arg4 harg4 arg10 x2) (qa0 (kernelRun0_A.sl.r_3 c i arg2 harg2 x0) (QA arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KA c arg4 harg4 arg10 x2) (qa0 (kernelRun0_A.sl.r_3 c i arg2 harg2 x0) (QA arg3 harg3 x1 3 1)) 1)) (As14_1 ..))))))))))
theorem As15_0 : kernelRun0_A.sl.v1144 c i arg2 harg2 arg3 harg3 arg4 harg4 arg10 arg12 x0 x1 x2 =
    st512 (s3_0 (KA c arg4 harg4 arg10 x2) (qa1 (kernelRun0_A.sl.r_3 c i arg2 harg2 x0) (QA arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap15_0 : kernelRun0_A.sl.v1394 c i arg2 harg2 arg3 harg3 arg4 harg4 arg10 arg12 arg13 x0 x1 x2 =
    prob512 (mq3 (KA c arg4 harg4 arg10 x2) (qa1 (kernelRun0_A.sl.r_3 c i arg2 harg2 x0) (QA arg3 harg3 x1 3 1)) 1) (st512 (s3_0 (KA c arg4 harg4 arg10 x2) (qa1 (kernelRun0_A.sl.r_3 c i arg2 harg2 x0) (QA arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KA c arg4 harg4 arg10 x2) (qa1 (kernelRun0_A.sl.r_3 c i arg2 harg2 x0) (QA arg3 harg3 x1 3 1)) 1)) (As15_0 ..))))))))))
theorem As15_1 : kernelRun0_A.sl.v1162 c i arg2 harg2 arg3 harg3 arg4 harg4 arg10 arg12 x0 x1 x2 =
    st512 (s3_1 (KA c arg4 harg4 arg10 x2) (qa1 (kernelRun0_A.sl.r_3 c i arg2 harg2 x0) (QA arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap15_1 : kernelRun0_A.sl.v1417 c i arg2 harg2 arg3 harg3 arg4 harg4 arg10 arg12 arg13 x0 x1 x2 =
    prob512 (mq3 (KA c arg4 harg4 arg10 x2) (qa1 (kernelRun0_A.sl.r_3 c i arg2 harg2 x0) (QA arg3 harg3 x1 3 1)) 1) (st512 (s3_1 (KA c arg4 harg4 arg10 x2) (qa1 (kernelRun0_A.sl.r_3 c i arg2 harg2 x0) (QA arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KA c arg4 harg4 arg10 x2) (qa1 (kernelRun0_A.sl.r_3 c i arg2 harg2 x0) (QA arg3 harg3 x1 3 1)) 1)) (As15_1 ..))))))))))
theorem Apiece3_1 : (k0_pay230 (kernelRun0_A.sl.v1444 c i arg2 harg2 arg3 harg3 arg4 harg4 arg5 harg5 arg7 harg7 arg8 harg8 arg10 arg11 arg12 arg13 x0 x1 x2 x3 x5 x6) (View.readAt (Elt Ideal) arg6.view (Rect.unit (s := S1x256x2048) ![0, 128, 768] S1x128x256.size inb_S1x256x2048_S1x128x256_0_128_768).toLoadRect (harg6.unread x4)) : S1x128x256.Idx → Ideal .bf16) =
    pc3 (KA c arg4 harg4 arg10 x2) (VA c arg5 harg5 arg11 x3) 1 (kernelRun0_A.sl.r_3 c i arg2 harg2 x0) (kernelRun0_A.sl.r_4 c arg7 harg7 x5) (QA arg3 harg3 x1 3 1) (GA arg8 harg8 x6) (ZA arg6 harg6 x4 3 1) := by
  show gate (dif (kernelRun0_A.sl.r_4 c arg7 harg7 x5) (norm (acT3 (VA c arg5 harg5 arg11 x3) 1 (kernelRun0_A.sl.v1331 c i arg2 harg2 arg3 harg3 arg4 harg4 arg10 arg12 arg13 x0 x1 x2) (kernelRun0_A.sl.v1361 c i arg2 harg2 arg3 harg3 arg4 harg4 arg10 arg12 arg13 x0 x1 x2))) (norm (acT3 (VA c arg5 harg5 arg11 x3) 1 (kernelRun0_A.sl.v1394 c i arg2 harg2 arg3 harg3 arg4 harg4 arg10 arg12 arg13 x0 x1 x2) (kernelRun0_A.sl.v1417 c i arg2 harg2 arg3 harg3 arg4 harg4 arg10 arg12 arg13 x0 x1 x2)))) (GA arg8 harg8 x6) (ZA arg6 harg6 x4 3 1) = _
  rw [Ap14_0, Ap14_1, Ap15_0, Ap15_1]
  rfl

theorem As16_0 : kernelRun0_A.sl.v1184 c i arg2 harg2 arg3 harg3 arg4 harg4 arg10 arg12 x0 x1 x2 =
    st512 (s4_0 (KA c arg4 harg4 arg10 x2) (qa0 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap16_0 : kernelRun0_A.sl.v1487 c i arg2 harg2 arg3 harg3 arg4 harg4 arg10 arg12 arg13 x0 x1 x2 =
    prob512 (mq4 (KA c arg4 harg4 arg10 x2) (qa0 (kernelRun0_A.sl.r_1 c i arg2 harg2 x0) (QA arg3 harg3 x1 4 0)) 0) (st512 (s4_0 (KA c arg4 harg4 arg10 x2) (qa0 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa0 (kernelRun0_A.sl.r_1 c i arg2 harg2 x0) (QA arg3 harg3 x1 4 0)) 0)) (As16_0 ..))))))))))
theorem As16_1 : kernelRun0_A.sl.v1205 c i arg2 harg2 arg3 harg3 arg4 harg4 arg10 arg12 x0 x1 x2 =
    st512 (s4_1 (KA c arg4 harg4 arg10 x2) (qa0 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap16_1 : kernelRun0_A.sl.v1513 c i arg2 harg2 arg3 harg3 arg4 harg4 arg10 arg12 arg13 x0 x1 x2 =
    prob512 (mq4 (KA c arg4 harg4 arg10 x2) (qa0 (kernelRun0_A.sl.r_1 c i arg2 harg2 x0) (QA arg3 harg3 x1 4 0)) 0) (st512 (s4_1 (KA c arg4 harg4 arg10 x2) (qa0 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa0 (kernelRun0_A.sl.r_1 c i arg2 harg2 x0) (QA arg3 harg3 x1 4 0)) 0)) (As16_1 ..))))))))))
theorem As16_2 : kernelRun0_A.sl.v1223 c i arg2 harg2 arg3 harg3 arg4 harg4 arg10 arg12 x0 x1 x2 =
    st256 (s4_2 (KA c arg4 harg4 arg10 x2) (qa0 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap16_2 : kernelRun0_A.sl.v1537 c i arg2 harg2 arg3 harg3 arg4 harg4 arg10 arg12 arg13 x0 x1 x2 =
    prob256 (mq4 (KA c arg4 harg4 arg10 x2) (qa0 (kernelRun0_A.sl.r_1 c i arg2 harg2 x0) (QA arg3 harg3 x1 4 0)) 0) (st256 (s4_2 (KA c arg4 harg4 arg10 x2) (qa0 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KA c arg4 harg4 arg10 x2) (qa0 (kernelRun0_A.sl.r_1 c i arg2 harg2 x0) (QA arg3 harg3 x1 4 0)) 0)) (As16_2 ..))))))))))
theorem As17_0 : kernelRun0_A.sl.v1302 c i arg2 harg2 arg3 harg3 arg4 harg4 arg10 arg12 x0 x1 x2 =
    st512 (s4_0 (KA c arg4 harg4 arg10 x2) (qa1 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap17_0 : kernelRun0_A.sl.v1574 c i arg2 harg2 arg3 harg3 arg4 harg4 arg10 arg12 arg13 x0 x1 x2 =
    prob512 (mq4 (KA c arg4 harg4 arg10 x2) (qa1 (kernelRun0_A.sl.r_1 c i arg2 harg2 x0) (QA arg3 harg3 x1 4 0)) 0) (st512 (s4_0 (KA c arg4 harg4 arg10 x2) (qa1 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa1 (kernelRun0_A.sl.r_1 c i arg2 harg2 x0) (QA arg3 harg3 x1 4 0)) 0)) (As17_0 ..))))))))))
theorem As17_1 : kernelRun0_A.sl.v1320 c i arg2 harg2 arg3 harg3 arg4 harg4 arg10 arg12 x0 x1 x2 =
    st512 (s4_1 (KA c arg4 harg4 arg10 x2) (qa1 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap17_1 : kernelRun0_A.sl.v1600 c i arg2 harg2 arg3 harg3 arg4 harg4 arg10 arg12 arg13 x0 x1 x2 =
    prob512 (mq4 (KA c arg4 harg4 arg10 x2) (qa1 (kernelRun0_A.sl.r_1 c i arg2 harg2 x0) (QA arg3 harg3 x1 4 0)) 0) (st512 (s4_1 (KA c arg4 harg4 arg10 x2) (qa1 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa1 (kernelRun0_A.sl.r_1 c i arg2 harg2 x0) (QA arg3 harg3 x1 4 0)) 0)) (As17_1 ..))))))))))
theorem As17_2 : kernelRun0_A.sl.v1350 c i arg2 harg2 arg3 harg3 arg4 harg4 arg10 arg12 x0 x1 x2 =
    st256 (s4_2 (KA c arg4 harg4 arg10 x2) (qa1 (kernelRun0_A.sl.r_1 c i arg2 harg2 x0) (QA arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap17_2 : kernelRun0_A.sl.v1624 c i arg2 harg2 arg3 harg3 arg4 harg4 arg10 arg12 arg13 x0 x1 x2 =
    prob256 (mq4 (KA c arg4 harg4 arg10 x2) (qa1 (kernelRun0_A.sl.r_1 c i arg2 harg2 x0) (QA arg3 harg3 x1 4 0)) 0) (st256 (s4_2 (KA c arg4 harg4 arg10 x2) (qa1 (kernelRun0_A.sl.r_1 c i arg2 harg2 x0) (QA arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KA c arg4 harg4 arg10 x2) (qa1 (kernelRun0_A.sl.r_1 c i arg2 harg2 x0) (QA arg3 harg3 x1 4 0)) 0)) (As17_2 ..))))))))))
theorem Apiece4_0 : (k0_pay269 (kernelRun0_A.sl.v1636 c i arg2 harg2 arg3 harg3 arg4 harg4 arg5 harg5 arg7 harg7 arg10 arg11 arg12 arg13 x0 x1 x2 x3 x5) (kernelRun0_A.sl.v1641 c i arg2 harg2 arg3 harg3 arg4 harg4 arg5 harg5 arg7 harg7 arg10 arg11 arg12 arg13 x0 x1 x2 x3 x5) (kernelRun0_A.sl.v399 (F := Ideal)) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 1024] S1x128x256.size inb_S1x256x2048_S1x128x256_0_0_1024).toLoadRect (harg6.unread x4)) : S1x128x256.Idx → Ideal .bf16) =
    pc4 (KA c arg4 harg4 arg10 x2) (VA c arg5 harg5 arg11 x3) 0 (kernelRun0_A.sl.r_1 c i arg2 harg2 x0) (kernelRun0_A.sl.r_4 c arg7 harg7 x5) (QA arg3 harg3 x1 4 0) (GA arg8 harg8 x6) (ZA arg6 harg6 x4 4 0) := by
  show gate (dif (kernelRun0_A.sl.r_4 c arg7 harg7 x5) (norm (acT4 (VA c arg5 harg5 arg11 x3) 0 (kernelRun0_A.sl.v1487 c i arg2 harg2 arg3 harg3 arg4 harg4 arg10 arg12 arg13 x0 x1 x2) (kernelRun0_A.sl.v1513 c i arg2 harg2 arg3 harg3 arg4 harg4 arg10 arg12 arg13 x0 x1 x2) (kernelRun0_A.sl.v1537 c i arg2 harg2 arg3 harg3 arg4 harg4 arg10 arg12 arg13 x0 x1 x2))) (norm (acT4 (VA c arg5 harg5 arg11 x3) 0 (kernelRun0_A.sl.v1574 c i arg2 harg2 arg3 harg3 arg4 harg4 arg10 arg12 arg13 x0 x1 x2) (kernelRun0_A.sl.v1600 c i arg2 harg2 arg3 harg3 arg4 harg4 arg10 arg12 arg13 x0 x1 x2) (kernelRun0_A.sl.v1624 c i arg2 harg2 arg3 harg3 arg4 harg4 arg10 arg12 arg13 x0 x1 x2)))) (GA arg8 harg8 x6) (ZA arg6 harg6 x4 4 0) = _
  rw [Ap16_0, Ap16_1, Ap16_2, Ap17_0, Ap17_1, Ap17_2]
  rfl

theorem As18_0 : kernelRun0_A.sl.v1383 c i arg2 harg2 arg3 harg3 arg4 harg4 arg10 arg12 x0 x1 x2 =
    st512 (s4_0 (KA c arg4 harg4 arg10 x2) (qa0 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap18_0 : kernelRun0_A.sl.v1694 c i arg2 harg2 arg3 harg3 arg4 harg4 arg10 arg12 arg13 x0 x1 x2 =
    prob512 (mq4 (KA c arg4 harg4 arg10 x2) (qa0 (kernelRun0_A.sl.r_3 c i arg2 harg2 x0) (QA arg3 harg3 x1 4 1)) 1) (st512 (s4_0 (KA c arg4 harg4 arg10 x2) (qa0 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa0 (kernelRun0_A.sl.r_3 c i arg2 harg2 x0) (QA arg3 harg3 x1 4 1)) 1)) (As18_0 ..))))))))))
theorem As18_1 : kernelRun0_A.sl.v1406 c i arg2 harg2 arg3 harg3 arg4 harg4 arg10 arg12 x0 x1 x2 =
    st512 (s4_1 (KA c arg4 harg4 arg10 x2) (qa0 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap18_1 : kernelRun0_A.sl.v1720 c i arg2 harg2 arg3 harg3 arg4 harg4 arg10 arg12 arg13 x0 x1 x2 =
    prob512 (mq4 (KA c arg4 harg4 arg10 x2) (qa0 (kernelRun0_A.sl.r_3 c i arg2 harg2 x0) (QA arg3 harg3 x1 4 1)) 1) (st512 (s4_1 (KA c arg4 harg4 arg10 x2) (qa0 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa0 (kernelRun0_A.sl.r_3 c i arg2 harg2 x0) (QA arg3 harg3 x1 4 1)) 1)) (As18_1 ..))))))))))
theorem As18_2 : kernelRun0_A.sl.v1476 c i arg2 harg2 arg3 harg3 arg4 harg4 arg10 arg12 x0 x1 x2 =
    st256 (s4_2 (KA c arg4 harg4 arg10 x2) (qa0 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap18_2 : kernelRun0_A.sl.v1744 c i arg2 harg2 arg3 harg3 arg4 harg4 arg10 arg12 arg13 x0 x1 x2 =
    prob256 (mq4 (KA c arg4 harg4 arg10 x2) (qa0 (kernelRun0_A.sl.r_3 c i arg2 harg2 x0) (QA arg3 harg3 x1 4 1)) 1) (st256 (s4_2 (KA c arg4 harg4 arg10 x2) (qa0 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KA c arg4 harg4 arg10 x2) (qa0 (kernelRun0_A.sl.r_3 c i arg2 harg2 x0) (QA arg3 harg3 x1 4 1)) 1)) (As18_2 ..))))))))))
theorem As19_0 : kernelRun0_A.sl.v1502 c i arg2 harg2 arg3 harg3 arg4 harg4 arg10 arg12 x0 x1 x2 =
    st512 (s4_0 (KA c arg4 harg4 arg10 x2) (qa1 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap19_0 : kernelRun0_A.sl.v1774 c i arg2 harg2 arg3 harg3 arg4 harg4 arg10 arg12 arg13 x0 x1 x2 =
    prob512 (mq4 (KA c arg4 harg4 arg10 x2) (qa1 (kernelRun0_A.sl.r_3 c i arg2 harg2 x0) (QA arg3 harg3 x1 4 1)) 1) (st512 (s4_0 (KA c arg4 harg4 arg10 x2) (qa1 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa1 (kernelRun0_A.sl.r_3 c i arg2 harg2 x0) (QA arg3 harg3 x1 4 1)) 1)) (As19_0 ..))))))))))
theorem As19_1 : kernelRun0_A.sl.v1526 c i arg2 harg2 arg3 harg3 arg4 harg4 arg10 arg12 x0 x1 x2 =
    st512 (s4_1 (KA c arg4 harg4 arg10 x2) (qa1 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap19_1 : kernelRun0_A.sl.v1801 c i arg2 harg2 arg3 harg3 arg4 harg4 arg10 arg12 arg13 x0 x1 x2 =
    prob512 (mq4 (KA c arg4 harg4 arg10 x2) (qa1 (kernelRun0_A.sl.r_3 c i arg2 harg2 x0) (QA arg3 harg3 x1 4 1)) 1) (st512 (s4_1 (KA c arg4 harg4 arg10 x2) (qa1 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KA c arg4 harg4 arg10 x2) (qa1 (kernelRun0_A.sl.r_3 c i arg2 harg2 x0) (QA arg3 harg3 x1 4 1)) 1)) (As19_1 ..))))))))))
theorem As19_2 : kernelRun0_A.sl.v1563 c i arg2 harg2 arg3 harg3 arg4 harg4 arg10 arg12 x0 x1 x2 =
    st256 (s4_2 (KA c arg4 harg4 arg10 x2) (qa1 (kernelRun0_A.sl.r_3 c i arg2 harg2 x0) (QA arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap19_2 : kernelRun0_A.sl.v1828 c i arg2 harg2 arg3 harg3 arg4 harg4 arg10 arg12 arg13 x0 x1 x2 =
    prob256 (mq4 (KA c arg4 harg4 arg10 x2) (qa1 (kernelRun0_A.sl.r_3 c i arg2 harg2 x0) (QA arg3 harg3 x1 4 1)) 1) (st256 (s4_2 (KA c arg4 harg4 arg10 x2) (qa1 (kernelRun0_A.sl.r_3 c i arg2 harg2 x0) (QA arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KA c arg4 harg4 arg10 x2) (qa1 (kernelRun0_A.sl.r_3 c i arg2 harg2 x0) (QA arg3 harg3 x1 4 1)) 1)) (As19_2 ..))))))))))
theorem Apiece4_1 : (kernelRun0_A.sl.v1870 c i arg2 harg2 arg3 harg3 arg4 harg4 arg5 harg5 arg6 harg6 arg7 harg7 arg8 harg8 arg10 arg11 arg12 arg13 x0 x1 x2 x3 x4 x5 x6 : S1x128x256.Idx → Ideal .bf16) =
    pc4 (KA c arg4 harg4 arg10 x2) (VA c arg5 harg5 arg11 x3) 1 (kernelRun0_A.sl.r_3 c i arg2 harg2 x0) (kernelRun0_A.sl.r_4 c arg7 harg7 x5) (QA arg3 harg3 x1 4 1) (GA arg8 harg8 x6) (ZA arg6 harg6 x4 4 1) := by
  show gate (dif (kernelRun0_A.sl.r_4 c arg7 harg7 x5) (norm (acT4 (VA c arg5 harg5 arg11 x3) 1 (kernelRun0_A.sl.v1694 c i arg2 harg2 arg3 harg3 arg4 harg4 arg10 arg12 arg13 x0 x1 x2) (kernelRun0_A.sl.v1720 c i arg2 harg2 arg3 harg3 arg4 harg4 arg10 arg12 arg13 x0 x1 x2) (kernelRun0_A.sl.v1744 c i arg2 harg2 arg3 harg3 arg4 harg4 arg10 arg12 arg13 x0 x1 x2))) (norm (acT4 (VA c arg5 harg5 arg11 x3) 1 (kernelRun0_A.sl.v1774 c i arg2 harg2 arg3 harg3 arg4 harg4 arg10 arg12 arg13 x0 x1 x2) (kernelRun0_A.sl.v1801 c i arg2 harg2 arg3 harg3 arg4 harg4 arg10 arg12 arg13 x0 x1 x2) (kernelRun0_A.sl.v1828 c i arg2 harg2 arg3 harg3 arg4 harg4 arg10 arg12 arg13 x0 x1 x2)))) (GA arg8 harg8 x6) (ZA arg6 harg6 x4 4 1) = _
  rw [Ap18_0, Ap18_1, Ap18_2, Ap19_0, Ap19_1, Ap19_2]
  rfl

theorem As20_0 : kernelRun0_A.sl.v1589 c i arg2 harg2 arg3 harg3 arg4 harg4 arg10 arg12 x0 x1 x2 =
    st512 (s5_0 (KA c arg4 harg4 arg10 x2) (qa0 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap20_0 : kernelRun0_A.sl.v1891 c i arg2 harg2 arg3 harg3 arg4 harg4 arg10 arg12 arg13 x0 x1 x2 =
    prob512 (mq5 (KA c arg4 harg4 arg10 x2) (qa0 (kernelRun0_A.sl.r_1 c i arg2 harg2 x0) (QA arg3 harg3 x1 5 0)) 0) (st512 (s5_0 (KA c arg4 harg4 arg10 x2) (qa0 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_1 c i arg2 harg2 x0) (QA arg3 harg3 x1 5 0)) 0)) (As20_0 ..))))))))))
theorem As20_1 : kernelRun0_A.sl.v1613 c i arg2 harg2 arg3 harg3 arg4 harg4 arg10 arg12 x0 x1 x2 =
    st512 (s5_1 (KA c arg4 harg4 arg10 x2) (qa0 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap20_1 : kernelRun0_A.sl.v1914 c i arg2 harg2 arg3 harg3 arg4 harg4 arg10 arg12 arg13 x0 x1 x2 =
    prob512 (mq5 (KA c arg4 harg4 arg10 x2) (qa0 (kernelRun0_A.sl.r_1 c i arg2 harg2 x0) (QA arg3 harg3 x1 5 0)) 0) (st512 (s5_1 (KA c arg4 harg4 arg10 x2) (qa0 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_1 c i arg2 harg2 x0) (QA arg3 harg3 x1 5 0)) 0)) (As20_1 ..))))))))))
theorem As20_2 : kernelRun0_A.sl.v1683 c i arg2 harg2 arg3 harg3 arg4 harg4 arg10 arg12 x0 x1 x2 =
    st512 (s5_2 (KA c arg4 harg4 arg10 x2) (qa0 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap20_2 : kernelRun0_A.sl.v1942 c i arg2 harg2 arg3 harg3 arg4 harg4 arg10 arg12 arg13 x0 x1 x2 =
    prob512 (mq5 (KA c arg4 harg4 arg10 x2) (qa0 (kernelRun0_A.sl.r_1 c i arg2 harg2 x0) (QA arg3 harg3 x1 5 0)) 0) (st512 (s5_2 (KA c arg4 harg4 arg10 x2) (qa0 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_1 c i arg2 harg2 x0) (QA arg3 harg3 x1 5 0)) 0)) (As20_2 ..))))))))))
theorem As21_0 : kernelRun0_A.sl.v1709 c i arg2 harg2 arg3 harg3 arg4 harg4 arg10 arg12 x0 x1 x2 =
    st512 (s5_0 (KA c arg4 harg4 arg10 x2) (qa1 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap21_0 : kernelRun0_A.sl.v1975 c i arg2 harg2 arg3 harg3 arg4 harg4 arg10 arg12 arg13 x0 x1 x2 =
    prob512 (mq5 (KA c arg4 harg4 arg10 x2) (qa1 (kernelRun0_A.sl.r_1 c i arg2 harg2 x0) (QA arg3 harg3 x1 5 0)) 0) (st512 (s5_0 (KA c arg4 harg4 arg10 x2) (qa1 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_1 c i arg2 harg2 x0) (QA arg3 harg3 x1 5 0)) 0)) (As21_0 ..))))))))))
theorem As21_1 : kernelRun0_A.sl.v1733 c i arg2 harg2 arg3 harg3 arg4 harg4 arg10 arg12 x0 x1 x2 =
    st512 (s5_1 (KA c arg4 harg4 arg10 x2) (qa1 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap21_1 : kernelRun0_A.sl.v1998 c i arg2 harg2 arg3 harg3 arg4 harg4 arg10 arg12 arg13 x0 x1 x2 =
    prob512 (mq5 (KA c arg4 harg4 arg10 x2) (qa1 (kernelRun0_A.sl.r_1 c i arg2 harg2 x0) (QA arg3 harg3 x1 5 0)) 0) (st512 (s5_1 (KA c arg4 harg4 arg10 x2) (qa1 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_1 c i arg2 harg2 x0) (QA arg3 harg3 x1 5 0)) 0)) (As21_1 ..))))))))))
theorem As21_2 : kernelRun0_A.sl.v1763 c i arg2 harg2 arg3 harg3 arg4 harg4 arg10 arg12 x0 x1 x2 =
    st512 (s5_2 (KA c arg4 harg4 arg10 x2) (qa1 (kernelRun0_A.sl.r_1 c i arg2 harg2 x0) (QA arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap21_2 : kernelRun0_A.sl.v2022 c i arg2 harg2 arg3 harg3 arg4 harg4 arg10 arg12 arg13 x0 x1 x2 =
    prob512 (mq5 (KA c arg4 harg4 arg10 x2) (qa1 (kernelRun0_A.sl.r_1 c i arg2 harg2 x0) (QA arg3 harg3 x1 5 0)) 0) (st512 (s5_2 (KA c arg4 harg4 arg10 x2) (qa1 (kernelRun0_A.sl.r_1 c i arg2 harg2 x0) (QA arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_1 c i arg2 harg2 x0) (QA arg3 harg3 x1 5 0)) 0)) (As21_2 ..))))))))))
theorem Apiece5_0 : (k0_pay335 (kernelRun0_A.sl.v2034 c i arg2 harg2 arg3 harg3 arg4 harg4 arg5 harg5 arg7 harg7 arg10 arg11 arg12 arg13 x0 x1 x2 x3 x5) (kernelRun0_A.sl.v2037 c i arg2 harg2 arg3 harg3 arg4 harg4 arg5 harg5 arg7 harg7 arg10 arg11 arg12 arg13 x0 x1 x2 x3 x5) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 1280] S1x128x256.size inb_S1x256x2048_S1x128x256_0_0_1280).toLoadRect (harg6.unread x4)) : S1x128x256.Idx → Ideal .bf16) =
    pc5 (KA c arg4 harg4 arg10 x2) (VA c arg5 harg5 arg11 x3) 0 (kernelRun0_A.sl.r_1 c i arg2 harg2 x0) (kernelRun0_A.sl.r_4 c arg7 harg7 x5) (QA arg3 harg3 x1 5 0) (GA arg8 harg8 x6) (ZA arg6 harg6 x4 5 0) := by
  show gate (dif (kernelRun0_A.sl.r_4 c arg7 harg7 x5) (norm (acT5 (VA c arg5 harg5 arg11 x3) 0 (kernelRun0_A.sl.v1891 c i arg2 harg2 arg3 harg3 arg4 harg4 arg10 arg12 arg13 x0 x1 x2) (kernelRun0_A.sl.v1914 c i arg2 harg2 arg3 harg3 arg4 harg4 arg10 arg12 arg13 x0 x1 x2) (kernelRun0_A.sl.v1942 c i arg2 harg2 arg3 harg3 arg4 harg4 arg10 arg12 arg13 x0 x1 x2))) (norm (acT5 (VA c arg5 harg5 arg11 x3) 0 (kernelRun0_A.sl.v1975 c i arg2 harg2 arg3 harg3 arg4 harg4 arg10 arg12 arg13 x0 x1 x2) (kernelRun0_A.sl.v1998 c i arg2 harg2 arg3 harg3 arg4 harg4 arg10 arg12 arg13 x0 x1 x2) (kernelRun0_A.sl.v2022 c i arg2 harg2 arg3 harg3 arg4 harg4 arg10 arg12 arg13 x0 x1 x2)))) (GA arg8 harg8 x6) (ZA arg6 harg6 x4 5 0) = _
  rw [Ap20_0, Ap20_1, Ap20_2, Ap21_0, Ap21_1, Ap21_2]
  rfl

theorem As22_0 : kernelRun0_A.sl.v1790 c i arg2 harg2 arg3 harg3 arg4 harg4 arg10 arg12 x0 x1 x2 =
    st512 (s5_0 (KA c arg4 harg4 arg10 x2) (qa0 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap22_0 : kernelRun0_A.sl.v2089 c i arg2 harg2 arg3 harg3 arg4 harg4 arg10 arg12 arg13 x0 x1 x2 =
    prob512 (mq5 (KA c arg4 harg4 arg10 x2) (qa0 (kernelRun0_A.sl.r_3 c i arg2 harg2 x0) (QA arg3 harg3 x1 5 1)) 1) (st512 (s5_0 (KA c arg4 harg4 arg10 x2) (qa0 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_3 c i arg2 harg2 x0) (QA arg3 harg3 x1 5 1)) 1)) (As22_0 ..))))))))))
theorem As22_1 : kernelRun0_A.sl.v1817 c i arg2 harg2 arg3 harg3 arg4 harg4 arg10 arg12 x0 x1 x2 =
    st512 (s5_1 (KA c arg4 harg4 arg10 x2) (qa0 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap22_1 : kernelRun0_A.sl.v2115 c i arg2 harg2 arg3 harg3 arg4 harg4 arg10 arg12 arg13 x0 x1 x2 =
    prob512 (mq5 (KA c arg4 harg4 arg10 x2) (qa0 (kernelRun0_A.sl.r_3 c i arg2 harg2 x0) (QA arg3 harg3 x1 5 1)) 1) (st512 (s5_1 (KA c arg4 harg4 arg10 x2) (qa0 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_3 c i arg2 harg2 x0) (QA arg3 harg3 x1 5 1)) 1)) (As22_1 ..))))))))))
theorem As22_2 : kernelRun0_A.sl.v1880 c i arg2 harg2 arg3 harg3 arg4 harg4 arg10 arg12 x0 x1 x2 =
    st512 (s5_2 (KA c arg4 harg4 arg10 x2) (qa0 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap22_2 : kernelRun0_A.sl.v2139 c i arg2 harg2 arg3 harg3 arg4 harg4 arg10 arg12 arg13 x0 x1 x2 =
    prob512 (mq5 (KA c arg4 harg4 arg10 x2) (qa0 (kernelRun0_A.sl.r_3 c i arg2 harg2 x0) (QA arg3 harg3 x1 5 1)) 1) (st512 (s5_2 (KA c arg4 harg4 arg10 x2) (qa0 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa0 (kernelRun0_A.sl.r_3 c i arg2 harg2 x0) (QA arg3 harg3 x1 5 1)) 1)) (As22_2 ..))))))))))
theorem As23_0 : kernelRun0_A.sl.v1903 c i arg2 harg2 arg3 harg3 arg4 harg4 arg10 arg12 x0 x1 x2 =
    st512 (s5_0 (KA c arg4 harg4 arg10 x2) (qa1 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap23_0 : kernelRun0_A.sl.v2169 c i arg2 harg2 arg3 harg3 arg4 harg4 arg10 arg12 arg13 x0 x1 x2 =
    prob512 (mq5 (KA c arg4 harg4 arg10 x2) (qa1 (kernelRun0_A.sl.r_3 c i arg2 harg2 x0) (QA arg3 harg3 x1 5 1)) 1) (st512 (s5_0 (KA c arg4 harg4 arg10 x2) (qa1 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_3 c i arg2 harg2 x0) (QA arg3 harg3 x1 5 1)) 1)) (As23_0 ..))))))))))
theorem As23_1 : kernelRun0_A.sl.v1931 c i arg2 harg2 arg3 harg3 arg4 harg4 arg10 arg12 x0 x1 x2 =
    st512 (s5_1 (KA c arg4 harg4 arg10 x2) (qa1 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap23_1 : kernelRun0_A.sl.v2196 c i arg2 harg2 arg3 harg3 arg4 harg4 arg10 arg12 arg13 x0 x1 x2 =
    prob512 (mq5 (KA c arg4 harg4 arg10 x2) (qa1 (kernelRun0_A.sl.r_3 c i arg2 harg2 x0) (QA arg3 harg3 x1 5 1)) 1) (st512 (s5_1 (KA c arg4 harg4 arg10 x2) (qa1 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_3 c i arg2 harg2 x0) (QA arg3 harg3 x1 5 1)) 1)) (As23_1 ..))))))))))
theorem As23_2 : kernelRun0_A.sl.v1964 c i arg2 harg2 arg3 harg3 arg4 harg4 arg10 arg12 x0 x1 x2 =
    st512 (s5_2 (KA c arg4 harg4 arg10 x2) (qa1 (kernelRun0_A.sl.r_3 c i arg2 harg2 x0) (QA arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap23_2 : kernelRun0_A.sl.v2223 c i arg2 harg2 arg3 harg3 arg4 harg4 arg10 arg12 arg13 x0 x1 x2 =
    prob512 (mq5 (KA c arg4 harg4 arg10 x2) (qa1 (kernelRun0_A.sl.r_3 c i arg2 harg2 x0) (QA arg3 harg3 x1 5 1)) 1) (st512 (s5_2 (KA c arg4 harg4 arg10 x2) (qa1 (kernelRun0_A.sl.r_3 c i arg2 harg2 x0) (QA arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KA c arg4 harg4 arg10 x2) (qa1 (kernelRun0_A.sl.r_3 c i arg2 harg2 x0) (QA arg3 harg3 x1 5 1)) 1)) (As23_2 ..))))))))))
theorem Apiece5_1 : (kernelRun0_A.sl.v2265 c i arg2 harg2 arg3 harg3 arg4 harg4 arg5 harg5 arg6 harg6 arg7 harg7 arg8 harg8 arg10 arg11 arg12 arg13 x0 x1 x2 x3 x4 x5 x6 : S1x128x256.Idx → Ideal .bf16) =
    pc5 (KA c arg4 harg4 arg10 x2) (VA c arg5 harg5 arg11 x3) 1 (kernelRun0_A.sl.r_3 c i arg2 harg2 x0) (kernelRun0_A.sl.r_4 c arg7 harg7 x5) (QA arg3 harg3 x1 5 1) (GA arg8 harg8 x6) (ZA arg6 harg6 x4 5 1) := by
  show gate (dif (kernelRun0_A.sl.r_4 c arg7 harg7 x5) (norm (acT5 (VA c arg5 harg5 arg11 x3) 1 (kernelRun0_A.sl.v2089 c i arg2 harg2 arg3 harg3 arg4 harg4 arg10 arg12 arg13 x0 x1 x2) (kernelRun0_A.sl.v2115 c i arg2 harg2 arg3 harg3 arg4 harg4 arg10 arg12 arg13 x0 x1 x2) (kernelRun0_A.sl.v2139 c i arg2 harg2 arg3 harg3 arg4 harg4 arg10 arg12 arg13 x0 x1 x2))) (norm (acT5 (VA c arg5 harg5 arg11 x3) 1 (kernelRun0_A.sl.v2169 c i arg2 harg2 arg3 harg3 arg4 harg4 arg10 arg12 arg13 x0 x1 x2) (kernelRun0_A.sl.v2196 c i arg2 harg2 arg3 harg3 arg4 harg4 arg10 arg12 arg13 x0 x1 x2) (kernelRun0_A.sl.v2223 c i arg2 harg2 arg3 harg3 arg4 harg4 arg10 arg12 arg13 x0 x1 x2)))) (GA arg8 harg8 x6) (ZA arg6 harg6 x4 5 1) = _
  rw [Ap22_0, Ap22_1, Ap22_2, Ap23_0, Ap23_1, Ap23_2]
  rfl

theorem As24_0 : kernelRun0_A.sl.v1987 c i arg2 harg2 arg3 harg3 arg4 harg4 arg10 arg12 x0 x1 x2 =
    st512 (s6_0 (KA c arg4 harg4 arg10 x2) (qa0 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap24_0 : kernelRun0_A.sl.v2286 c i arg2 harg2 arg3 harg3 arg4 harg4 arg10 arg12 arg13 x0 x1 x2 =
    prob512 (mq6 (KA c arg4 harg4 arg10 x2) (qa0 (kernelRun0_A.sl.r_1 c i arg2 harg2 x0) (QA arg3 harg3 x1 6 0)) 0) (st512 (s6_0 (KA c arg4 harg4 arg10 x2) (qa0 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_1 c i arg2 harg2 x0) (QA arg3 harg3 x1 6 0)) 0)) (As24_0 ..))))))))))
theorem As24_1 : kernelRun0_A.sl.v2011 c i arg2 harg2 arg3 harg3 arg4 harg4 arg10 arg12 x0 x1 x2 =
    st512 (s6_1 (KA c arg4 harg4 arg10 x2) (qa0 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap24_1 : kernelRun0_A.sl.v2309 c i arg2 harg2 arg3 harg3 arg4 harg4 arg10 arg12 arg13 x0 x1 x2 =
    prob512 (mq6 (KA c arg4 harg4 arg10 x2) (qa0 (kernelRun0_A.sl.r_1 c i arg2 harg2 x0) (QA arg3 harg3 x1 6 0)) 0) (st512 (s6_1 (KA c arg4 harg4 arg10 x2) (qa0 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_1 c i arg2 harg2 x0) (QA arg3 harg3 x1 6 0)) 0)) (As24_1 ..))))))))))
theorem As24_2 : kernelRun0_A.sl.v2078 c i arg2 harg2 arg3 harg3 arg4 harg4 arg10 arg12 x0 x1 x2 =
    st512 (s6_2 (KA c arg4 harg4 arg10 x2) (qa0 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap24_2 : kernelRun0_A.sl.v2340 c i arg2 harg2 arg3 harg3 arg4 harg4 arg10 arg12 arg13 x0 x1 x2 =
    prob512 (mq6 (KA c arg4 harg4 arg10 x2) (qa0 (kernelRun0_A.sl.r_1 c i arg2 harg2 x0) (QA arg3 harg3 x1 6 0)) 0) (st512 (s6_2 (KA c arg4 harg4 arg10 x2) (qa0 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_1 c i arg2 harg2 x0) (QA arg3 harg3 x1 6 0)) 0)) (As24_2 ..))))))))))
theorem As24_3 : kernelRun0_A.sl.v2104 c i arg2 harg2 arg3 harg3 arg4 harg4 arg10 arg12 x0 x1 x2 =
    st256 (s6_3 (KA c arg4 harg4 arg10 x2) (qa0 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap24_3 : kernelRun0_A.sl.v2367 c i arg2 harg2 arg3 harg3 arg4 harg4 arg10 arg12 arg13 x0 x1 x2 =
    prob256 (mq6 (KA c arg4 harg4 arg10 x2) (qa0 (kernelRun0_A.sl.r_1 c i arg2 harg2 x0) (QA arg3 harg3 x1 6 0)) 0) (st256 (s6_3 (KA c arg4 harg4 arg10 x2) (qa0 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KA c arg4 harg4 arg10 x2) (qa0 (kernelRun0_A.sl.r_1 c i arg2 harg2 x0) (QA arg3 harg3 x1 6 0)) 0)) (As24_3 ..))))))))))
theorem As25_0 : kernelRun0_A.sl.v2128 c i arg2 harg2 arg3 harg3 arg4 harg4 arg10 arg12 x0 x1 x2 =
    st512 (s6_0 (KA c arg4 harg4 arg10 x2) (qa1 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap25_0 : kernelRun0_A.sl.v2397 c i arg2 harg2 arg3 harg3 arg4 harg4 arg10 arg12 arg13 x0 x1 x2 =
    prob512 (mq6 (KA c arg4 harg4 arg10 x2) (qa1 (kernelRun0_A.sl.r_1 c i arg2 harg2 x0) (QA arg3 harg3 x1 6 0)) 0) (st512 (s6_0 (KA c arg4 harg4 arg10 x2) (qa1 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_1 c i arg2 harg2 x0) (QA arg3 harg3 x1 6 0)) 0)) (As25_0 ..))))))))))
theorem As25_1 : kernelRun0_A.sl.v2158 c i arg2 harg2 arg3 harg3 arg4 harg4 arg10 arg12 x0 x1 x2 =
    st512 (s6_1 (KA c arg4 harg4 arg10 x2) (qa1 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap25_1 : kernelRun0_A.sl.v2420 c i arg2 harg2 arg3 harg3 arg4 harg4 arg10 arg12 arg13 x0 x1 x2 =
    prob512 (mq6 (KA c arg4 harg4 arg10 x2) (qa1 (kernelRun0_A.sl.r_1 c i arg2 harg2 x0) (QA arg3 harg3 x1 6 0)) 0) (st512 (s6_1 (KA c arg4 harg4 arg10 x2) (qa1 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_1 c i arg2 harg2 x0) (QA arg3 harg3 x1 6 0)) 0)) (As25_1 ..))))))))))
theorem As25_2 : kernelRun0_A.sl.v2185 c i arg2 harg2 arg3 harg3 arg4 harg4 arg10 arg12 x0 x1 x2 =
    st512 (s6_2 (KA c arg4 harg4 arg10 x2) (qa1 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap25_2 : kernelRun0_A.sl.v2451 c i arg2 harg2 arg3 harg3 arg4 harg4 arg10 arg12 arg13 x0 x1 x2 =
    prob512 (mq6 (KA c arg4 harg4 arg10 x2) (qa1 (kernelRun0_A.sl.r_1 c i arg2 harg2 x0) (QA arg3 harg3 x1 6 0)) 0) (st512 (s6_2 (KA c arg4 harg4 arg10 x2) (qa1 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_1 c i arg2 harg2 x0) (QA arg3 harg3 x1 6 0)) 0)) (As25_2 ..))))))))))
theorem As25_3 : kernelRun0_A.sl.v2212 c i arg2 harg2 arg3 harg3 arg4 harg4 arg10 arg12 x0 x1 x2 =
    st256 (s6_3 (KA c arg4 harg4 arg10 x2) (qa1 (kernelRun0_A.sl.r_1 c i arg2 harg2 x0) (QA arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap25_3 : kernelRun0_A.sl.v2478 c i arg2 harg2 arg3 harg3 arg4 harg4 arg10 arg12 arg13 x0 x1 x2 =
    prob256 (mq6 (KA c arg4 harg4 arg10 x2) (qa1 (kernelRun0_A.sl.r_1 c i arg2 harg2 x0) (QA arg3 harg3 x1 6 0)) 0) (st256 (s6_3 (KA c arg4 harg4 arg10 x2) (qa1 (kernelRun0_A.sl.r_1 c i arg2 harg2 x0) (QA arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KA c arg4 harg4 arg10 x2) (qa1 (kernelRun0_A.sl.r_1 c i arg2 harg2 x0) (QA arg3 harg3 x1 6 0)) 0)) (As25_3 ..))))))))))
theorem Apiece6_0 : (kernelRun0_A.sl.v2520 c i arg2 harg2 arg3 harg3 arg4 harg4 arg5 harg5 arg6 harg6 arg7 harg7 arg8 harg8 arg10 arg11 arg12 arg13 x0 x1 x2 x3 x4 x5 x6 : S1x128x256.Idx → Ideal .bf16) =
    pc6 (KA c arg4 harg4 arg10 x2) (VA c arg5 harg5 arg11 x3) 0 (kernelRun0_A.sl.r_1 c i arg2 harg2 x0) (kernelRun0_A.sl.r_4 c arg7 harg7 x5) (QA arg3 harg3 x1 6 0) (GA arg8 harg8 x6) (ZA arg6 harg6 x4 6 0) := by
  show gate (dif (kernelRun0_A.sl.r_4 c arg7 harg7 x5) (norm (acT6 (VA c arg5 harg5 arg11 x3) 0 (kernelRun0_A.sl.v2286 c i arg2 harg2 arg3 harg3 arg4 harg4 arg10 arg12 arg13 x0 x1 x2) (kernelRun0_A.sl.v2309 c i arg2 harg2 arg3 harg3 arg4 harg4 arg10 arg12 arg13 x0 x1 x2) (kernelRun0_A.sl.v2340 c i arg2 harg2 arg3 harg3 arg4 harg4 arg10 arg12 arg13 x0 x1 x2) (kernelRun0_A.sl.v2367 c i arg2 harg2 arg3 harg3 arg4 harg4 arg10 arg12 arg13 x0 x1 x2))) (norm (acT6 (VA c arg5 harg5 arg11 x3) 0 (kernelRun0_A.sl.v2397 c i arg2 harg2 arg3 harg3 arg4 harg4 arg10 arg12 arg13 x0 x1 x2) (kernelRun0_A.sl.v2420 c i arg2 harg2 arg3 harg3 arg4 harg4 arg10 arg12 arg13 x0 x1 x2) (kernelRun0_A.sl.v2451 c i arg2 harg2 arg3 harg3 arg4 harg4 arg10 arg12 arg13 x0 x1 x2) (kernelRun0_A.sl.v2478 c i arg2 harg2 arg3 harg3 arg4 harg4 arg10 arg12 arg13 x0 x1 x2)))) (GA arg8 harg8 x6) (ZA arg6 harg6 x4 6 0) = _
  rw [Ap24_0, Ap24_1, Ap24_2, Ap24_3, Ap25_0, Ap25_1, Ap25_2, Ap25_3]
  rfl

theorem As26_0 : kernelRun0_A.sl.v2275 c i arg2 harg2 arg3 harg3 arg4 harg4 arg10 arg12 x0 x1 x2 =
    st512 (s6_0 (KA c arg4 harg4 arg10 x2) (qa0 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap26_0 : kernelRun0_A.sl.v2541 c i arg2 harg2 arg3 harg3 arg4 harg4 arg10 arg12 arg13 x0 x1 x2 =
    prob512 (mq6 (KA c arg4 harg4 arg10 x2) (qa0 (kernelRun0_A.sl.r_3 c i arg2 harg2 x0) (QA arg3 harg3 x1 6 1)) 1) (st512 (s6_0 (KA c arg4 harg4 arg10 x2) (qa0 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_3 c i arg2 harg2 x0) (QA arg3 harg3 x1 6 1)) 1)) (As26_0 ..))))))))))
theorem As26_1 : kernelRun0_A.sl.v2298 c i arg2 harg2 arg3 harg3 arg4 harg4 arg10 arg12 x0 x1 x2 =
    st512 (s6_1 (KA c arg4 harg4 arg10 x2) (qa0 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap26_1 : kernelRun0_A.sl.v2564 c i arg2 harg2 arg3 harg3 arg4 harg4 arg10 arg12 arg13 x0 x1 x2 =
    prob512 (mq6 (KA c arg4 harg4 arg10 x2) (qa0 (kernelRun0_A.sl.r_3 c i arg2 harg2 x0) (QA arg3 harg3 x1 6 1)) 1) (st512 (s6_1 (KA c arg4 harg4 arg10 x2) (qa0 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_3 c i arg2 harg2 x0) (QA arg3 harg3 x1 6 1)) 1)) (As26_1 ..))))))))))
theorem As26_2 : kernelRun0_A.sl.v2329 c i arg2 harg2 arg3 harg3 arg4 harg4 arg10 arg12 x0 x1 x2 =
    st512 (s6_2 (KA c arg4 harg4 arg10 x2) (qa0 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap26_2 : kernelRun0_A.sl.v2595 c i arg2 harg2 arg3 harg3 arg4 harg4 arg10 arg12 arg13 x0 x1 x2 =
    prob512 (mq6 (KA c arg4 harg4 arg10 x2) (qa0 (kernelRun0_A.sl.r_3 c i arg2 harg2 x0) (QA arg3 harg3 x1 6 1)) 1) (st512 (s6_2 (KA c arg4 harg4 arg10 x2) (qa0 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa0 (kernelRun0_A.sl.r_3 c i arg2 harg2 x0) (QA arg3 harg3 x1 6 1)) 1)) (As26_2 ..))))))))))
theorem As26_3 : kernelRun0_A.sl.v2356 c i arg2 harg2 arg3 harg3 arg4 harg4 arg10 arg12 x0 x1 x2 =
    st256 (s6_3 (KA c arg4 harg4 arg10 x2) (qa0 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap26_3 : kernelRun0_A.sl.v2622 c i arg2 harg2 arg3 harg3 arg4 harg4 arg10 arg12 arg13 x0 x1 x2 =
    prob256 (mq6 (KA c arg4 harg4 arg10 x2) (qa0 (kernelRun0_A.sl.r_3 c i arg2 harg2 x0) (QA arg3 harg3 x1 6 1)) 1) (st256 (s6_3 (KA c arg4 harg4 arg10 x2) (qa0 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KA c arg4 harg4 arg10 x2) (qa0 (kernelRun0_A.sl.r_3 c i arg2 harg2 x0) (QA arg3 harg3 x1 6 1)) 1)) (As26_3 ..))))))))))
theorem As27_0 : kernelRun0_A.sl.v2386 c i arg2 harg2 arg3 harg3 arg4 harg4 arg10 arg12 x0 x1 x2 =
    st512 (s6_0 (KA c arg4 harg4 arg10 x2) (qa1 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap27_0 : kernelRun0_A.sl.v2652 c i arg2 harg2 arg3 harg3 arg4 harg4 arg10 arg12 arg13 x0 x1 x2 =
    prob512 (mq6 (KA c arg4 harg4 arg10 x2) (qa1 (kernelRun0_A.sl.r_3 c i arg2 harg2 x0) (QA arg3 harg3 x1 6 1)) 1) (st512 (s6_0 (KA c arg4 harg4 arg10 x2) (qa1 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_3 c i arg2 harg2 x0) (QA arg3 harg3 x1 6 1)) 1)) (As27_0 ..))))))))))
theorem As27_1 : kernelRun0_A.sl.v2409 c i arg2 harg2 arg3 harg3 arg4 harg4 arg10 arg12 x0 x1 x2 =
    st512 (s6_1 (KA c arg4 harg4 arg10 x2) (qa1 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap27_1 : kernelRun0_A.sl.v2675 c i arg2 harg2 arg3 harg3 arg4 harg4 arg10 arg12 arg13 x0 x1 x2 =
    prob512 (mq6 (KA c arg4 harg4 arg10 x2) (qa1 (kernelRun0_A.sl.r_3 c i arg2 harg2 x0) (QA arg3 harg3 x1 6 1)) 1) (st512 (s6_1 (KA c arg4 harg4 arg10 x2) (qa1 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_3 c i arg2 harg2 x0) (QA arg3 harg3 x1 6 1)) 1)) (As27_1 ..))))))))))
theorem As27_2 : kernelRun0_A.sl.v2440 c i arg2 harg2 arg3 harg3 arg4 harg4 arg10 arg12 x0 x1 x2 =
    st512 (s6_2 (KA c arg4 harg4 arg10 x2) (qa1 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap27_2 : kernelRun0_A.sl.v2706 c i arg2 harg2 arg3 harg3 arg4 harg4 arg10 arg12 arg13 x0 x1 x2 =
    prob512 (mq6 (KA c arg4 harg4 arg10 x2) (qa1 (kernelRun0_A.sl.r_3 c i arg2 harg2 x0) (QA arg3 harg3 x1 6 1)) 1) (st512 (s6_2 (KA c arg4 harg4 arg10 x2) (qa1 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KA c arg4 harg4 arg10 x2) (qa1 (kernelRun0_A.sl.r_3 c i arg2 harg2 x0) (QA arg3 harg3 x1 6 1)) 1)) (As27_2 ..))))))))))
theorem As27_3 : kernelRun0_A.sl.v2467 c i arg2 harg2 arg3 harg3 arg4 harg4 arg10 arg12 x0 x1 x2 =
    st256 (s6_3 (KA c arg4 harg4 arg10 x2) (qa1 (kernelRun0_A.sl.r_3 c i arg2 harg2 x0) (QA arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap27_3 : kernelRun0_A.sl.v2721 c i arg2 harg2 arg3 harg3 arg4 harg4 arg10 arg12 arg13 x0 x1 x2 =
    prob256 (mq6 (KA c arg4 harg4 arg10 x2) (qa1 (kernelRun0_A.sl.r_3 c i arg2 harg2 x0) (QA arg3 harg3 x1 6 1)) 1) (st256 (s6_3 (KA c arg4 harg4 arg10 x2) (qa1 (kernelRun0_A.sl.r_3 c i arg2 harg2 x0) (QA arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KA c arg4 harg4 arg10 x2) (qa1 (kernelRun0_A.sl.r_3 c i arg2 harg2 x0) (QA arg3 harg3 x1 6 1)) 1)) (As27_3 ..))))))))))
theorem Apiece6_1 : (kernelRun0_A.sl.v2763 c i arg2 harg2 arg3 harg3 arg4 harg4 arg5 harg5 arg6 harg6 arg7 harg7 arg8 harg8 arg10 arg11 arg12 arg13 x0 x1 x2 x3 x4 x5 x6 : S1x128x256.Idx → Ideal .bf16) =
    pc6 (KA c arg4 harg4 arg10 x2) (VA c arg5 harg5 arg11 x3) 1 (kernelRun0_A.sl.r_3 c i arg2 harg2 x0) (kernelRun0_A.sl.r_4 c arg7 harg7 x5) (QA arg3 harg3 x1 6 1) (GA arg8 harg8 x6) (ZA arg6 harg6 x4 6 1) := by
  show gate (dif (kernelRun0_A.sl.r_4 c arg7 harg7 x5) (norm (acT6 (VA c arg5 harg5 arg11 x3) 1 (kernelRun0_A.sl.v2541 c i arg2 harg2 arg3 harg3 arg4 harg4 arg10 arg12 arg13 x0 x1 x2) (kernelRun0_A.sl.v2564 c i arg2 harg2 arg3 harg3 arg4 harg4 arg10 arg12 arg13 x0 x1 x2) (kernelRun0_A.sl.v2595 c i arg2 harg2 arg3 harg3 arg4 harg4 arg10 arg12 arg13 x0 x1 x2) (kernelRun0_A.sl.v2622 c i arg2 harg2 arg3 harg3 arg4 harg4 arg10 arg12 arg13 x0 x1 x2))) (norm (acT6 (VA c arg5 harg5 arg11 x3) 1 (kernelRun0_A.sl.v2652 c i arg2 harg2 arg3 harg3 arg4 harg4 arg10 arg12 arg13 x0 x1 x2) (kernelRun0_A.sl.v2675 c i arg2 harg2 arg3 harg3 arg4 harg4 arg10 arg12 arg13 x0 x1 x2) (kernelRun0_A.sl.v2706 c i arg2 harg2 arg3 harg3 arg4 harg4 arg10 arg12 arg13 x0 x1 x2) (kernelRun0_A.sl.v2721 c i arg2 harg2 arg3 harg3 arg4 harg4 arg10 arg12 arg13 x0 x1 x2)))) (GA arg8 harg8 x6) (ZA arg6 harg6 x4 6 1) = _
  rw [Ap26_0, Ap26_1, Ap26_2, Ap26_3, Ap27_0, Ap27_1, Ap27_2, Ap27_3]
  rfl

theorem As28_0 : kernelRun0_A.sl.v2530 c i arg2 harg2 arg3 harg3 arg4 harg4 arg10 arg12 x0 x1 x2 =
    st512 (s7_0 (KA c arg4 harg4 arg10 x2) (qa0 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap28_0 : kernelRun0_A.sl.v2775 c i arg2 harg2 arg3 harg3 arg4 harg4 arg10 arg12 arg13 x0 x1 x2 =
    prob512 (mq7 (KA c arg4 harg4 arg10 x2) (qa0 (kernelRun0_A.sl.r_1 c i arg2 harg2 x0) (QA arg3 harg3 x1 7 0)) 0) (st512 (s7_0 (KA c arg4 harg4 arg10 x2) (qa0 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_1 c i arg2 harg2 x0) (QA arg3 harg3 x1 7 0)) 0)) (As28_0 ..))))))))))
theorem As28_1 : kernelRun0_A.sl.v2553 c i arg2 harg2 arg3 harg3 arg4 harg4 arg10 arg12 x0 x1 x2 =
    st512 (s7_1 (KA c arg4 harg4 arg10 x2) (qa0 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap28_1 : kernelRun0_A.sl.v2789 c i arg2 harg2 arg3 harg3 arg4 harg4 arg10 arg12 arg13 x0 x1 x2 =
    prob512 (mq7 (KA c arg4 harg4 arg10 x2) (qa0 (kernelRun0_A.sl.r_1 c i arg2 harg2 x0) (QA arg3 harg3 x1 7 0)) 0) (st512 (s7_1 (KA c arg4 harg4 arg10 x2) (qa0 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_1 c i arg2 harg2 x0) (QA arg3 harg3 x1 7 0)) 0)) (As28_1 ..))))))))))
theorem As28_2 : kernelRun0_A.sl.v2584 c i arg2 harg2 arg3 harg3 arg4 harg4 arg10 arg12 x0 x1 x2 =
    st512 (s7_2 (KA c arg4 harg4 arg10 x2) (qa0 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap28_2 : kernelRun0_A.sl.v2804 c i arg2 harg2 arg3 harg3 arg4 harg4 arg10 arg12 arg13 x0 x1 x2 =
    prob512 (mq7 (KA c arg4 harg4 arg10 x2) (qa0 (kernelRun0_A.sl.r_1 c i arg2 harg2 x0) (QA arg3 harg3 x1 7 0)) 0) (st512 (s7_2 (KA c arg4 harg4 arg10 x2) (qa0 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_1 c i arg2 harg2 x0) (QA arg3 harg3 x1 7 0)) 0)) (As28_2 ..))))))))))
theorem As28_3 : kernelRun0_A.sl.v2611 c i arg2 harg2 arg3 harg3 arg4 harg4 arg10 arg12 x0 x1 x2 =
    st512 (s7_3 (KA c arg4 harg4 arg10 x2) (qa0 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap28_3 : kernelRun0_A.sl.v2819 c i arg2 harg2 arg3 harg3 arg4 harg4 arg10 arg12 arg13 x0 x1 x2 =
    prob512 (mq7 (KA c arg4 harg4 arg10 x2) (qa0 (kernelRun0_A.sl.r_1 c i arg2 harg2 x0) (QA arg3 harg3 x1 7 0)) 0) (st512 (s7_3 (KA c arg4 harg4 arg10 x2) (qa0 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_1 c i arg2 harg2 x0) (QA arg3 harg3 x1 7 0)) 0)) (As28_3 ..))))))))))
theorem As29_0 : kernelRun0_A.sl.v2641 c i arg2 harg2 arg3 harg3 arg4 harg4 arg10 arg12 x0 x1 x2 =
    st512 (s7_0 (KA c arg4 harg4 arg10 x2) (qa1 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap29_0 : kernelRun0_A.sl.v2840 c i arg2 harg2 arg3 harg3 arg4 harg4 arg10 arg12 arg13 x0 x1 x2 =
    prob512 (mq7 (KA c arg4 harg4 arg10 x2) (qa1 (kernelRun0_A.sl.r_1 c i arg2 harg2 x0) (QA arg3 harg3 x1 7 0)) 0) (st512 (s7_0 (KA c arg4 harg4 arg10 x2) (qa1 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_1 c i arg2 harg2 x0) (QA arg3 harg3 x1 7 0)) 0)) (As29_0 ..))))))))))
theorem As29_1 : kernelRun0_A.sl.v2664 c i arg2 harg2 arg3 harg3 arg4 harg4 arg10 arg12 x0 x1 x2 =
    st512 (s7_1 (KA c arg4 harg4 arg10 x2) (qa1 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap29_1 : kernelRun0_A.sl.v2854 c i arg2 harg2 arg3 harg3 arg4 harg4 arg10 arg12 arg13 x0 x1 x2 =
    prob512 (mq7 (KA c arg4 harg4 arg10 x2) (qa1 (kernelRun0_A.sl.r_1 c i arg2 harg2 x0) (QA arg3 harg3 x1 7 0)) 0) (st512 (s7_1 (KA c arg4 harg4 arg10 x2) (qa1 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_1 c i arg2 harg2 x0) (QA arg3 harg3 x1 7 0)) 0)) (As29_1 ..))))))))))
theorem As29_2 : kernelRun0_A.sl.v2695 c i arg2 harg2 arg3 harg3 arg4 harg4 arg10 arg12 x0 x1 x2 =
    st512 (s7_2 (KA c arg4 harg4 arg10 x2) (qa1 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Ap29_2 : kernelRun0_A.sl.v2869 c i arg2 harg2 arg3 harg3 arg4 harg4 arg10 arg12 arg13 x0 x1 x2 =
    prob512 (mq7 (KA c arg4 harg4 arg10 x2) (qa1 (kernelRun0_A.sl.r_1 c i arg2 harg2 x0) (QA arg3 harg3 x1 7 0)) 0) (st512 (s7_2 (KA c arg4 harg4 arg10 x2) (qa1 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_1 c i arg2 harg2 x0) (QA arg3 harg3 x1 7 0)) 0)) (As29_2 ..))))))))))
theorem As29_3 : kernelRun0_A.sl.v2710 c i arg2 harg2 arg3 harg3 arg4 harg4 arg10 arg12 x0 x1 x2 =
    st512 (s7_3 (KA c arg4 harg4 arg10 x2) (qa1 (kernelRun0_A.sl.r_1 c i arg2 harg2 x0) (QA arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Ap29_3 : kernelRun0_A.sl.v2884 c i arg2 harg2 arg3 harg3 arg4 harg4 arg10 arg12 arg13 x0 x1 x2 =
    prob512 (mq7 (KA c arg4 harg4 arg10 x2) (qa1 (kernelRun0_A.sl.r_1 c i arg2 harg2 x0) (QA arg3 harg3 x1 7 0)) 0) (st512 (s7_3 (KA c arg4 harg4 arg10 x2) (qa1 (kernelRun0_A.sl.r_1 c i arg2 harg2 x0) (QA arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_1 c i arg2 harg2 x0) (QA arg3 harg3 x1 7 0)) 0)) (As29_3 ..))))))))))
theorem Apiece7_0 : (kernelRun0_A.sl.v2926 c i arg2 harg2 arg3 harg3 arg4 harg4 arg5 harg5 arg6 harg6 arg7 harg7 arg8 harg8 arg10 arg11 arg12 arg13 x0 x1 x2 x3 x4 x5 x6 : S1x128x256.Idx → Ideal .bf16) =
    pc7 (KA c arg4 harg4 arg10 x2) (VA c arg5 harg5 arg11 x3) 0 (kernelRun0_A.sl.r_1 c i arg2 harg2 x0) (kernelRun0_A.sl.r_4 c arg7 harg7 x5) (QA arg3 harg3 x1 7 0) (GA arg8 harg8 x6) (ZA arg6 harg6 x4 7 0) := by
  show gate (dif (kernelRun0_A.sl.r_4 c arg7 harg7 x5) (norm (acT7 (VA c arg5 harg5 arg11 x3) 0 (kernelRun0_A.sl.v2775 c i arg2 harg2 arg3 harg3 arg4 harg4 arg10 arg12 arg13 x0 x1 x2) (kernelRun0_A.sl.v2789 c i arg2 harg2 arg3 harg3 arg4 harg4 arg10 arg12 arg13 x0 x1 x2) (kernelRun0_A.sl.v2804 c i arg2 harg2 arg3 harg3 arg4 harg4 arg10 arg12 arg13 x0 x1 x2) (kernelRun0_A.sl.v2819 c i arg2 harg2 arg3 harg3 arg4 harg4 arg10 arg12 arg13 x0 x1 x2))) (norm (acT7 (VA c arg5 harg5 arg11 x3) 0 (kernelRun0_A.sl.v2840 c i arg2 harg2 arg3 harg3 arg4 harg4 arg10 arg12 arg13 x0 x1 x2) (kernelRun0_A.sl.v2854 c i arg2 harg2 arg3 harg3 arg4 harg4 arg10 arg12 arg13 x0 x1 x2) (kernelRun0_A.sl.v2869 c i arg2 harg2 arg3 harg3 arg4 harg4 arg10 arg12 arg13 x0 x1 x2) (kernelRun0_A.sl.v2884 c i arg2 harg2 arg3 harg3 arg4 harg4 arg10 arg12 arg13 x0 x1 x2)))) (GA arg8 harg8 x6) (ZA arg6 harg6 x4 7 0) = _
  rw [Ap28_0, Ap28_1, Ap28_2, Ap28_3, Ap29_0, Ap29_1, Ap29_2, Ap29_3]
  rfl

theorem As30_0 : kernelRun0_A.sl.v2764 c i arg2 harg2 arg3 harg3 arg4 harg4 arg10 arg12 x0 x1 x2 =
    st512 (s7_0 (KA c arg4 harg4 arg10 x2) (qa0 (kernelRun0_A.sl.r_3 c i arg2 harg2 x0) (QA arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Ap30_0 : kernelRun0_A.sl.v2929 c i arg2 harg2 arg3 harg3 arg4 harg4 arg10 arg12 arg13 x0 x1 x2 =
    prob512 (mq7 (KA c arg4 harg4 arg10 x2) (qa0 (kernelRun0_A.sl.r_3 c i arg2 harg2 x0) (QA arg3 harg3 x1 7 1)) 1) (st512 (s7_0 (KA c arg4 harg4 arg10 x2) (qa0 (kernelRun0_A.sl.r_3 c i arg2 harg2 x0) (QA arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_3 c i arg2 harg2 x0) (QA arg3 harg3 x1 7 1)) 1)) (As30_0 ..)))))))))
theorem As30_1 : kernelRun0_A.sl.v2778 c i arg2 harg2 arg3 harg3 arg4 harg4 arg10 arg12 x0 x1 x2 =
    st512 (s7_1 (KA c arg4 harg4 arg10 x2) (qa0 (kernelRun0_A.sl.r_3 c i arg2 harg2 x0) (QA arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Ap30_1 : kernelRun0_A.sl.v2934 c i arg2 harg2 arg3 harg3 arg4 harg4 arg10 arg12 arg13 x0 x1 x2 =
    prob512 (mq7 (KA c arg4 harg4 arg10 x2) (qa0 (kernelRun0_A.sl.r_3 c i arg2 harg2 x0) (QA arg3 harg3 x1 7 1)) 1) (st512 (s7_1 (KA c arg4 harg4 arg10 x2) (qa0 (kernelRun0_A.sl.r_3 c i arg2 harg2 x0) (QA arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_3 c i arg2 harg2 x0) (QA arg3 harg3 x1 7 1)) 1)) (As30_1 ..))))))))
theorem As30_2 : kernelRun0_A.sl.v2793 c i arg2 harg2 arg3 harg3 arg4 harg4 arg10 arg12 x0 x1 x2 =
    st512 (s7_2 (KA c arg4 harg4 arg10 x2) (qa0 (kernelRun0_A.sl.r_3 c i arg2 harg2 x0) (QA arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))
theorem Ap30_2 : kernelRun0_A.sl.v2940 c i arg2 harg2 arg3 harg3 arg4 harg4 arg10 arg12 arg13 x0 x1 x2 =
    prob512 (mq7 (KA c arg4 harg4 arg10 x2) (qa0 (kernelRun0_A.sl.r_3 c i arg2 harg2 x0) (QA arg3 harg3 x1 7 1)) 1) (st512 (s7_2 (KA c arg4 harg4 arg10 x2) (qa0 (kernelRun0_A.sl.r_3 c i arg2 harg2 x0) (QA arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_3 c i arg2 harg2 x0) (QA arg3 harg3 x1 7 1)) 1)) (As30_2 ..)))))))
theorem As30_3 : kernelRun0_A.sl.v2808 c i arg2 harg2 arg3 harg3 arg4 harg4 arg10 arg12 x0 x1 x2 =
    st512 (s7_3 (KA c arg4 harg4 arg10 x2) (qa0 (kernelRun0_A.sl.r_3 c i arg2 harg2 x0) (QA arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))
theorem Ap30_3 : kernelRun0_A.sl.v2946 c i arg2 harg2 arg3 harg3 arg4 harg4 arg10 arg12 arg13 x0 x1 x2 =
    prob512 (mq7 (KA c arg4 harg4 arg10 x2) (qa0 (kernelRun0_A.sl.r_3 c i arg2 harg2 x0) (QA arg3 harg3 x1 7 1)) 1) (st512 (s7_3 (KA c arg4 harg4 arg10 x2) (qa0 (kernelRun0_A.sl.r_3 c i arg2 harg2 x0) (QA arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa0 (kernelRun0_A.sl.r_3 c i arg2 harg2 x0) (QA arg3 harg3 x1 7 1)) 1)) (As30_3 ..))))))
theorem As31_0 : kernelRun0_A.sl.v2829 c i arg2 harg2 arg3 harg3 arg4 harg4 arg10 arg12 x0 x1 x2 =
    st512 (s7_0 (KA c arg4 harg4 arg10 x2) (qa1 (kernelRun0_A.sl.r_3 c i arg2 harg2 x0) (QA arg3 harg3 x1 7 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Ap31_0 : kernelRun0_A.sl.v2958 c i arg2 harg2 arg3 harg3 arg4 harg4 arg10 arg12 arg13 x0 x1 x2 =
    prob512 (mq7 (KA c arg4 harg4 arg10 x2) (qa1 (kernelRun0_A.sl.r_3 c i arg2 harg2 x0) (QA arg3 harg3 x1 7 1)) 1) (st512 (s7_0 (KA c arg4 harg4 arg10 x2) (qa1 (kernelRun0_A.sl.r_3 c i arg2 harg2 x0) (QA arg3 harg3 x1 7 1)) 1)) :=
  (View.readCov_skip _ _ _ _ _ rfl).trans ((View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_3 c i arg2 harg2 x0) (QA arg3 harg3 x1 7 1)) 1)) (As31_0 ..)))))
theorem As31_1 : kernelRun0_A.sl.v2843 c i arg2 harg2 arg3 harg3 arg4 harg4 arg10 arg12 x0 x1 x2 =
    st512 (s7_1 (KA c arg4 harg4 arg10 x2) (qa1 (kernelRun0_A.sl.r_3 c i arg2 harg2 x0) (QA arg3 harg3 x1 7 1)) 1) :=
  (View.readCov_skip _ _ _ _ _ rfl).trans ((View.readCov_skip _ _ _ _ _ rfl).trans ((View.readCov_cons_toLoadRect _ _ _ _).trans (rfl)))
theorem Ap31_1 : kernelRun0_A.sl.v2963 c i arg2 harg2 arg3 harg3 arg4 harg4 arg10 arg12 arg13 x0 x1 x2 =
    prob512 (mq7 (KA c arg4 harg4 arg10 x2) (qa1 (kernelRun0_A.sl.r_3 c i arg2 harg2 x0) (QA arg3 harg3 x1 7 1)) 1) (st512 (s7_1 (KA c arg4 harg4 arg10 x2) (qa1 (kernelRun0_A.sl.r_3 c i arg2 harg2 x0) (QA arg3 harg3 x1 7 1)) 1)) :=
  (View.readCov_skip _ _ _ _ _ rfl).trans ((View.readCov_skip _ _ _ _ _ rfl).trans ((View.readCov_cons_toLoadRect _ _ _ _).trans (congrArg (prob512 (mq7 (KA c arg4 harg4 arg10 x2) (qa1 (kernelRun0_A.sl.r_3 c i arg2 harg2 x0) (QA arg3 harg3 x1 7 1)) 1)) (As31_1 ..))))
theorem As31_2 : kernelRun0_A.sl.v2858 c i arg2 harg2 arg3 harg3 arg4 harg4 arg10 arg12 x0 x1 x2 =
    st512 (s7_2 (KA c arg4 harg4 arg10 x2) (qa1 (kernelRun0_A.sl.r_3 c i arg2 harg2 x0) (QA arg3 harg3 x1 7 1)) 1) :=
  (View.readCov_skip _ _ _ _ _ rfl).trans ((View.readCov_cons_toLoadRect _ _ _ _).trans (rfl))
theorem Ap31_2 : kernelRun0_A.sl.v2969 c i arg2 harg2 arg3 harg3 arg4 harg4 arg10 arg12 arg13 x0 x1 x2 =
    prob512 (mq7 (KA c arg4 harg4 arg10 x2) (qa1 (kernelRun0_A.sl.r_3 c i arg2 harg2 x0) (QA arg3 harg3 x1 7 1)) 1) (st512 (s7_2 (KA c arg4 harg4 arg10 x2) (qa1 (kernelRun0_A.sl.r_3 c i arg2 harg2 x0) (QA arg3 harg3 x1 7 1)) 1)) :=
  (View.readCov_skip _ _ _ _ _ rfl).trans ((View.readCov_cons_toLoadRect _ _ _ _).trans (congrArg (prob512 (mq7 (KA c arg4 harg4 arg10 x2) (qa1 (kernelRun0_A.sl.r_3 c i arg2 harg2 x0) (QA arg3 harg3 x1 7 1)) 1)) (As31_2 ..)))
theorem As31_3 : kernelRun0_A.sl.v2873 c i arg2 harg2 arg3 harg3 arg4 harg4 arg10 arg12 x0 x1 x2 =
    st512 (s7_3 (KA c arg4 harg4 arg10 x2) (qa1 (kernelRun0_A.sl.r_3 c i arg2 harg2 x0) (QA arg3 harg3 x1 7 1)) 1) :=
  (View.readCov_cons_toLoadRect _ _ _ _).trans (rfl)
theorem Ap31_3 : kernelRun0_A.sl.v2975 c i arg2 harg2 arg3 harg3 arg4 harg4 arg10 arg12 arg13 x0 x1 x2 =
    prob512 (mq7 (KA c arg4 harg4 arg10 x2) (qa1 (kernelRun0_A.sl.r_3 c i arg2 harg2 x0) (QA arg3 harg3 x1 7 1)) 1) (st512 (s7_3 (KA c arg4 harg4 arg10 x2) (qa1 (kernelRun0_A.sl.r_3 c i arg2 harg2 x0) (QA arg3 harg3 x1 7 1)) 1)) :=
  (View.readCov_cons_toLoadRect _ _ _ _).trans (congrArg (prob512 (mq7 (KA c arg4 harg4 arg10 x2) (qa1 (kernelRun0_A.sl.r_3 c i arg2 harg2 x0) (QA arg3 harg3 x1 7 1)) 1)) (As31_3 ..))
theorem Apiece7_1 : (k0_pay1 (kernelRun0_A.sl.r_78 c i arg2 harg2 arg3 harg3 arg4 harg4 arg5 harg5 arg6 harg6 arg7 harg7 arg8 harg8 arg10 arg11 arg12 arg13 x0 x1 x2 x3 x4 x5 x6) : S1x128x256.Idx → Ideal .bf16) =
    pc7 (KA c arg4 harg4 arg10 x2) (VA c arg5 harg5 arg11 x3) 1 (kernelRun0_A.sl.r_3 c i arg2 harg2 x0) (kernelRun0_A.sl.r_4 c arg7 harg7 x5) (QA arg3 harg3 x1 7 1) (GA arg8 harg8 x6) (ZA arg6 harg6 x4 7 1) := by
  show gate (dif (kernelRun0_A.sl.r_4 c arg7 harg7 x5) (norm (acT7 (VA c arg5 harg5 arg11 x3) 1 (kernelRun0_A.sl.v2929 c i arg2 harg2 arg3 harg3 arg4 harg4 arg10 arg12 arg13 x0 x1 x2) (kernelRun0_A.sl.v2934 c i arg2 harg2 arg3 harg3 arg4 harg4 arg10 arg12 arg13 x0 x1 x2) (kernelRun0_A.sl.v2940 c i arg2 harg2 arg3 harg3 arg4 harg4 arg10 arg12 arg13 x0 x1 x2) (kernelRun0_A.sl.v2946 c i arg2 harg2 arg3 harg3 arg4 harg4 arg10 arg12 arg13 x0 x1 x2))) (norm (acT7 (VA c arg5 harg5 arg11 x3) 1 (kernelRun0_A.sl.v2958 c i arg2 harg2 arg3 harg3 arg4 harg4 arg10 arg12 arg13 x0 x1 x2) (kernelRun0_A.sl.v2963 c i arg2 harg2 arg3 harg3 arg4 harg4 arg10 arg12 arg13 x0 x1 x2) (kernelRun0_A.sl.v2969 c i arg2 harg2 arg3 harg3 arg4 harg4 arg10 arg12 arg13 x0 x1 x2) (kernelRun0_A.sl.v2975 c i arg2 harg2 arg3 harg3 arg4 harg4 arg10 arg12 arg13 x0 x1 x2)))) (GA arg8 harg8 x6) (ZA arg6 harg6 x4 7 1) = _
  rw [Ap30_0, Ap30_1, Ap30_2, Ap30_3, Ap31_0, Ap31_1, Ap31_2, Ap31_3]
  rfl

end Cert.KernelIdeal.Att

end
-- ==== Proof.Hand.PiecesB.lean ====
module

public import proofs.«01_k».proof.Proof.Hand.Tile
public import proofs.«01_k».proof.Proof.Gen.KernelIdeal.Frame
public import Idealize.ShloMosaic.Lib.Pipeline.ReadBack

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : ¬cond0_0 i)
    (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32) (xs0 : Vec Ideal S2x2048x256 .bf16) (xs1 : Vec Ideal S2x144x2048 .bf16)

/-- The key buffer of the point. -/
def KB : Vec Ideal S2x2048x256 .bf16 := arg10.view.read (Elt Ideal) (arg10.view.writes (Elt Ideal) (harg10.unread xs0) (kernelRun0_B.sl.HS0_2 c arg4 harg4 x2))
/-- The value buffer of the point. -/
def VB : Vec Ideal S2x144x2048 .bf16 := arg11.view.read (Elt Ideal) (arg11.view.writes (Elt Ideal) (harg11.unread xs1) (kernelRun0_B.sl.HS1_2 c arg5 harg5 x3))
def QB (qi : Fin 8) (hh : Fin 2) : Vec Ideal S1x128x256 .bf16 := fun y => arg3.view.read (Elt Ideal) (harg3.unread x1) ((Rect.unit (s := S1x256x2048) ![0, hh.val * 128, qi.val * 256] S1x128x256.size (inbq hh qi)).toLoadRect.idx y)
def ZB (qi : Fin 8) (hh : Fin 2) : Vec Ideal S1x128x256 .f32 := fun y => arg6.view.read (Elt Ideal) (harg6.unread x4) ((Rect.unit (s := S1x256x2048) ![0, hh.val * 128, qi.val * 256] S1x128x256.size (inbq hh qi)).toLoadRect.idx y)
def GB : Vec Ideal S128x256 .f32 := View.readAt (Elt Ideal) arg8.view (Rect.unit (s := S128x256) ![0, 0] S128x256.size (by decide)).toLoadRect (harg8.unread x6)

theorem Bs0_0 : kernelRun0_B.sl.v202 c i arg2 harg2 arg3 harg3 arg4 harg4 arg10 harg10 arg12 x0 x1 x2 xs0 =
    st256 (s0_0 (KB c arg4 harg4 arg10 harg10 x2 xs0) (qa0 (kernelRun0_B.sl.r_1 c i arg2 harg2 x0) (QB arg3 harg3 x1 0 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Bp0_0 : kernelRun0_B.sl.v232 c i arg2 harg2 arg3 harg3 arg4 harg4 arg10 harg10 arg12 arg13 x0 x1 x2 xs0 =
    prob256 (mq0 (KB c arg4 harg4 arg10 harg10 x2 xs0) (qa0 (kernelRun0_B.sl.r_1 c i arg2 harg2 x0) (QB arg3 harg3 x1 0 0)) 0) (st256 (s0_0 (KB c arg4 harg4 arg10 harg10 x2 xs0) (qa0 (kernelRun0_B.sl.r_1 c i arg2 harg2 x0) (QB arg3 harg3 x1 0 0)) 0)) :=
  (View.readCov_cons_toLoadRect _ _ _ _).trans (congrArg (prob256 (mq0 (KB c arg4 harg4 arg10 harg10 x2 xs0) (qa0 (kernelRun0_B.sl.r_1 c i arg2 harg2 x0) (QB arg3 harg3 x1 0 0)) 0)) (Bs0_0 ..))
theorem Bs1_0 : kernelRun0_B.sl.v241 c i arg2 harg2 arg3 harg3 arg4 harg4 arg10 harg10 arg12 x0 x1 x2 xs0 =
    st256 (s0_0 (KB c arg4 harg4 arg10 harg10 x2 xs0) (qa1 (kernelRun0_B.sl.r_1 c i arg2 harg2 x0) (QB arg3 harg3 x1 0 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Bp1_0 : kernelRun0_B.sl.v271 c i arg2 harg2 arg3 harg3 arg4 harg4 arg10 harg10 arg12 arg13 x0 x1 x2 xs0 =
    prob256 (mq0 (KB c arg4 harg4 arg10 harg10 x2 xs0) (qa1 (kernelRun0_B.sl.r_1 c i arg2 harg2 x0) (QB arg3 harg3 x1 0 0)) 0) (st256 (s0_0 (KB c arg4 harg4 arg10 harg10 x2 xs0) (qa1 (kernelRun0_B.sl.r_1 c i arg2 harg2 x0) (QB arg3 harg3 x1 0 0)) 0)) :=
  (View.readCov_cons_toLoadRect _ _ _ _).trans (congrArg (prob256 (mq0 (KB c arg4 harg4 arg10 harg10 x2 xs0) (qa1 (kernelRun0_B.sl.r_1 c i arg2 harg2 x0) (QB arg3 harg3 x1 0 0)) 0)) (Bs1_0 ..))
theorem Bpiece0_0 : (kernelRun0_B.sl.v312 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc0 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 0 0) (GB arg8 harg8 x6) (ZB arg6 harg6 x4 0 0) := by
  show gate (dif (kernelRun0_B.sl.r_4 c arg7 harg7 x5) (norm (acT0 (VB c arg5 harg5 arg11 harg11 x3 xs1) 0 (kernelRun0_B.sl.v232 c i arg2 harg2 arg3 harg3 arg4 harg4 arg10 harg10 arg12 arg13 x0 x1 x2 xs0))) (norm (acT0 (VB c arg5 harg5 arg11 harg11 x3 xs1) 0 (kernelRun0_B.sl.v271 c i arg2 harg2 arg3 harg3 arg4 harg4 arg10 harg10 arg12 arg13 x0 x1 x2 xs0)))) (GB arg8 harg8 x6) (ZB arg6 harg6 x4 0 0) = _
  rw [Bp0_0, Bp1_0]
  rfl

theorem Bs2_0 : kernelRun0_B.sl.v313 c i arg2 harg2 arg3 harg3 arg4 harg4 arg10 harg10 arg12 x0 x1 x2 xs0 =
    st256 (s0_0 (KB c arg4 harg4 arg10 harg10 x2 xs0) (qa0 (kernelRun0_B.sl.r_3 c i arg2 harg2 x0) (QB arg3 harg3 x1 0 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Bp2_0 : kernelRun0_B.sl.v343 c i arg2 harg2 arg3 harg3 arg4 harg4 arg10 harg10 arg12 arg13 x0 x1 x2 xs0 =
    prob256 (mq0 (KB c arg4 harg4 arg10 harg10 x2 xs0) (qa0 (kernelRun0_B.sl.r_3 c i arg2 harg2 x0) (QB arg3 harg3 x1 0 1)) 1) (st256 (s0_0 (KB c arg4 harg4 arg10 harg10 x2 xs0) (qa0 (kernelRun0_B.sl.r_3 c i arg2 harg2 x0) (QB arg3 harg3 x1 0 1)) 1)) :=
  (View.readCov_cons_toLoadRect _ _ _ _).trans (congrArg (prob256 (mq0 (KB c arg4 harg4 arg10 harg10 x2 xs0) (qa0 (kernelRun0_B.sl.r_3 c i arg2 harg2 x0) (QB arg3 harg3 x1 0 1)) 1)) (Bs2_0 ..))
theorem Bs3_0 : kernelRun0_B.sl.v352 c i arg2 harg2 arg3 harg3 arg4 harg4 arg10 harg10 arg12 x0 x1 x2 xs0 =
    st256 (s0_0 (KB c arg4 harg4 arg10 harg10 x2 xs0) (qa1 (kernelRun0_B.sl.r_3 c i arg2 harg2 x0) (QB arg3 harg3 x1 0 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Bp3_0 : kernelRun0_B.sl.v382 c i arg2 harg2 arg3 harg3 arg4 harg4 arg10 harg10 arg12 arg13 x0 x1 x2 xs0 =
    prob256 (mq0 (KB c arg4 harg4 arg10 harg10 x2 xs0) (qa1 (kernelRun0_B.sl.r_3 c i arg2 harg2 x0) (QB arg3 harg3 x1 0 1)) 1) (st256 (s0_0 (KB c arg4 harg4 arg10 harg10 x2 xs0) (qa1 (kernelRun0_B.sl.r_3 c i arg2 harg2 x0) (QB arg3 harg3 x1 0 1)) 1)) :=
  (View.readCov_cons_toLoadRect _ _ _ _).trans (congrArg (prob256 (mq0 (KB c arg4 harg4 arg10 harg10 x2 xs0) (qa1 (kernelRun0_B.sl.r_3 c i arg2 harg2 x0) (QB arg3 harg3 x1 0 1)) 1)) (Bs3_0 ..))
theorem Bpiece0_1 : (kernelRun0_B.sl.v423 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc0 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 0 1) (GB arg8 harg8 x6) (ZB arg6 harg6 x4 0 1) := by
  show gate (dif (kernelRun0_B.sl.r_4 c arg7 harg7 x5) (norm (acT0 (VB c arg5 harg5 arg11 harg11 x3 xs1) 1 (kernelRun0_B.sl.v343 c i arg2 harg2 arg3 harg3 arg4 harg4 arg10 harg10 arg12 arg13 x0 x1 x2 xs0))) (norm (acT0 (VB c arg5 harg5 arg11 harg11 x3 xs1) 1 (kernelRun0_B.sl.v382 c i arg2 harg2 arg3 harg3 arg4 harg4 arg10 harg10 arg12 arg13 x0 x1 x2 xs0)))) (GB arg8 harg8 x6) (ZB arg6 harg6 x4 0 1) = _
  rw [Bp2_0, Bp3_0]
  rfl

theorem Bs4_0 : kernelRun0_B.sl.v424 c i arg2 harg2 arg3 harg3 arg4 harg4 arg10 harg10 arg12 x0 x1 x2 xs0 =
    st512 (s1_0 (KB c arg4 harg4 arg10 harg10 x2 xs0) (qa0 (kernelRun0_B.sl.r_1 c i arg2 harg2 x0) (QB arg3 harg3 x1 1 0)) 0) :=
  (View.readCov_skip _ _ _ _ _ rfl).trans ((View.readCov_skip _ _ _ _ _ rfl).trans ((View.readCov_skip _ _ _ _ _ rfl).trans ((View.readCov_cons_toLoadRect _ _ _ _).trans (rfl))))
theorem Bp4_0 : kernelRun0_B.sl.v447 c i arg2 harg2 arg3 harg3 arg4 harg4 arg10 harg10 arg12 arg13 x0 x1 x2 xs0 =
    prob512 (mq1 (KB c arg4 harg4 arg10 harg10 x2 xs0) (qa0 (kernelRun0_B.sl.r_1 c i arg2 harg2 x0) (QB arg3 harg3 x1 1 0)) 0) (st512 (s1_0 (KB c arg4 harg4 arg10 harg10 x2 xs0) (qa0 (kernelRun0_B.sl.r_1 c i arg2 harg2 x0) (QB arg3 harg3 x1 1 0)) 0)) :=
  (View.readCov_cons_toLoadRect _ _ _ _).trans (congrArg (prob512 (mq1 (KB c arg4 harg4 arg10 harg10 x2 xs0) (qa0 (kernelRun0_B.sl.r_1 c i arg2 harg2 x0) (QB arg3 harg3 x1 1 0)) 0)) (Bs4_0 ..))
theorem Bs5_0 : kernelRun0_B.sl.v469 c i arg2 harg2 arg3 harg3 arg4 harg4 arg10 harg10 arg12 x0 x1 x2 xs0 =
    st512 (s1_0 (KB c arg4 harg4 arg10 harg10 x2 xs0) (qa1 (kernelRun0_B.sl.r_1 c i arg2 harg2 x0) (QB arg3 harg3 x1 1 0)) 0) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))
theorem Bp5_0 : kernelRun0_B.sl.v492 c i arg2 harg2 arg3 harg3 arg4 harg4 arg10 harg10 arg12 arg13 x0 x1 x2 xs0 =
    prob512 (mq1 (KB c arg4 harg4 arg10 harg10 x2 xs0) (qa1 (kernelRun0_B.sl.r_1 c i arg2 harg2 x0) (QB arg3 harg3 x1 1 0)) 0) (st512 (s1_0 (KB c arg4 harg4 arg10 harg10 x2 xs0) (qa1 (kernelRun0_B.sl.r_1 c i arg2 harg2 x0) (QB arg3 harg3 x1 1 0)) 0)) :=
  (View.readCov_cons_toLoadRect _ _ _ _).trans (congrArg (prob512 (mq1 (KB c arg4 harg4 arg10 harg10 x2 xs0) (qa1 (kernelRun0_B.sl.r_1 c i arg2 harg2 x0) (QB arg3 harg3 x1 1 0)) 0)) (Bs5_0 ..))
theorem Bpiece1_0 : (k0_pay77 (kernelRun0_B.sl.r_4 c arg7 harg7 x5) (kernelRun0_B.sl.r_22 c i arg2 harg2 arg3 harg3 arg4 harg4 arg5 harg5 arg10 harg10 arg11 harg11 arg12 arg13 x0 x1 x2 x3 xs0 xs1) (kernelRun0_B.sl.v495 c i arg2 harg2 arg3 harg3 arg4 harg4 arg5 harg5 arg10 harg10 arg11 harg11 arg12 arg13 x0 x1 x2 x3 xs0 xs1) (kernelRun0_B.sl.v499 c i arg2 harg2 arg3 harg3 arg4 harg4 arg5 harg5 arg10 harg10 arg11 harg11 arg12 arg13 x0 x1 x2 x3 xs0 xs1) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 256] S1x128x256.size inb_S1x256x2048_S1x128x256_0_0_256).toLoadRect (harg6.unread x4)) : S1x128x256.Idx → Ideal .bf16) =
    pc1 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 1 0) (GB arg8 harg8 x6) (ZB arg6 harg6 x4 1 0) := by
  show gate (dif (kernelRun0_B.sl.r_4 c arg7 harg7 x5) (norm (acT1 (VB c arg5 harg5 arg11 harg11 x3 xs1) 0 (kernelRun0_B.sl.v447 c i arg2 harg2 arg3 harg3 arg4 harg4 arg10 harg10 arg12 arg13 x0 x1 x2 xs0))) (norm (acT1 (VB c arg5 harg5 arg11 harg11 x3 xs1) 0 (kernelRun0_B.sl.v492 c i arg2 harg2 arg3 harg3 arg4 harg4 arg10 harg10 arg12 arg13 x0 x1 x2 xs0)))) (GB arg8 harg8 x6) (ZB arg6 harg6 x4 1 0) = _
  rw [Bp4_0, Bp5_0]
  rfl

theorem Bs6_0 : kernelRun0_B.sl.v547 c i arg2 harg2 arg3 harg3 arg4 harg4 arg10 harg10 arg12 x0 x1 x2 xs0 =
    st512 (s1_0 (KB c arg4 harg4 arg10 harg10 x2 xs0) (qa0 (kernelRun0_B.sl.r_3 c i arg2 harg2 x0) (QB arg3 harg3 x1 1 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))
theorem Bp6_0 : kernelRun0_B.sl.v570 c i arg2 harg2 arg3 harg3 arg4 harg4 arg10 harg10 arg12 arg13 x0 x1 x2 xs0 =
    prob512 (mq1 (KB c arg4 harg4 arg10 harg10 x2 xs0) (qa0 (kernelRun0_B.sl.r_3 c i arg2 harg2 x0) (QB arg3 harg3 x1 1 1)) 1) (st512 (s1_0 (KB c arg4 harg4 arg10 harg10 x2 xs0) (qa0 (kernelRun0_B.sl.r_3 c i arg2 harg2 x0) (QB arg3 harg3 x1 1 1)) 1)) :=
  (View.readCov_cons_toLoadRect _ _ _ _).trans (congrArg (prob512 (mq1 (KB c arg4 harg4 arg10 harg10 x2 xs0) (qa0 (kernelRun0_B.sl.r_3 c i arg2 harg2 x0) (QB arg3 harg3 x1 1 1)) 1)) (Bs6_0 ..))
theorem Bs7_0 : kernelRun0_B.sl.v592 c i arg2 harg2 arg3 harg3 arg4 harg4 arg10 harg10 arg12 x0 x1 x2 xs0 =
    st512 (s1_0 (KB c arg4 harg4 arg10 harg10 x2 xs0) (qa1 (kernelRun0_B.sl.r_3 c i arg2 harg2 x0) (QB arg3 harg3 x1 1 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp7_0 : kernelRun0_B.sl.v615 c i arg2 harg2 arg3 harg3 arg4 harg4 arg10 harg10 arg12 arg13 x0 x1 x2 xs0 =
    prob512 (mq1 (KB c arg4 harg4 arg10 harg10 x2 xs0) (qa1 (kernelRun0_B.sl.r_3 c i arg2 harg2 x0) (QB arg3 harg3 x1 1 1)) 1) (st512 (s1_0 (KB c arg4 harg4 arg10 harg10 x2 xs0) (qa1 (kernelRun0_B.sl.r_3 c i arg2 harg2 x0) (QB arg3 harg3 x1 1 1)) 1)) :=
  (View.readCov_cons_toLoadRect _ _ _ _).trans (congrArg (prob512 (mq1 (KB c arg4 harg4 arg10 harg10 x2 xs0) (qa1 (kernelRun0_B.sl.r_3 c i arg2 harg2 x0) (QB arg3 harg3 x1 1 1)) 1)) (Bs7_0 ..))
theorem Bpiece1_1 : (k0_pay97 (kernelRun0_B.sl.v641 c i arg2 harg2 arg3 harg3 arg4 harg4 arg5 harg5 arg7 harg7 arg8 harg8 arg10 harg10 arg11 harg11 arg12 arg13 x0 x1 x2 x3 x5 x6 xs0 xs1) (View.readAt (Elt Ideal) arg6.view (Rect.unit (s := S1x256x2048) ![0, 128, 256] S1x128x256.size inb_S1x256x2048_S1x128x256_0_128_256).toLoadRect (harg6.unread x4)) : S1x128x256.Idx → Ideal .bf16) =
    pc1 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 1 1) (GB arg8 harg8 x6) (ZB arg6 harg6 x4 1 1) := by
  show gate (dif (kernelRun0_B.sl.r_4 c arg7 harg7 x5) (norm (acT1 (VB c arg5 harg5 arg11 harg11 x3 xs1) 1 (kernelRun0_B.sl.v570 c i arg2 harg2 arg3 harg3 arg4 harg4 arg10 harg10 arg12 arg13 x0 x1 x2 xs0))) (norm (acT1 (VB c arg5 harg5 arg11 harg11 x3 xs1) 1 (kernelRun0_B.sl.v615 c i arg2 harg2 arg3 harg3 arg4 harg4 arg10 harg10 arg12 arg13 x0 x1 x2 xs0)))) (GB arg8 harg8 x6) (ZB arg6 harg6 x4 1 1) = _
  rw [Bp6_0, Bp7_0]
  rfl

theorem Bs8_0 : kernelRun0_B.sl.v670 c i arg2 harg2 arg3 harg3 arg4 harg4 arg10 harg10 arg12 x0 x1 x2 xs0 =
    st512 (s2_0 (KB c arg4 harg4 arg10 harg10 x2 xs0) (qa0 (kernelRun0_B.sl.r_1 c i arg2 harg2 x0) (QB arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp8_0 : kernelRun0_B.sl.v702 c i arg2 harg2 arg3 harg3 arg4 harg4 arg10 harg10 arg12 arg13 x0 x1 x2 xs0 =
    prob512 (mq2 (KB c arg4 harg4 arg10 harg10 x2 xs0) (qa0 (kernelRun0_B.sl.r_1 c i arg2 harg2 x0) (QB arg3 harg3 x1 2 0)) 0) (st512 (s2_0 (KB c arg4 harg4 arg10 harg10 x2 xs0) (qa0 (kernelRun0_B.sl.r_1 c i arg2 harg2 x0) (QB arg3 harg3 x1 2 0)) 0)) :=
  (View.readCov_skip _ _ _ _ _ rfl).trans ((View.readCov_cons_toLoadRect _ _ _ _).trans (congrArg (prob512 (mq2 (KB c arg4 harg4 arg10 harg10 x2 xs0) (qa0 (kernelRun0_B.sl.r_1 c i arg2 harg2 x0) (QB arg3 harg3 x1 2 0)) 0)) (Bs8_0 ..)))
theorem Bs8_1 : kernelRun0_B.sl.v679 c i arg2 harg2 arg3 harg3 arg4 harg4 arg10 harg10 arg12 x0 x1 x2 xs0 =
    st256 (s2_1 (KB c arg4 harg4 arg10 harg10 x2 xs0) (qa0 (kernelRun0_B.sl.r_1 c i arg2 harg2 x0) (QB arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp8_1 : kernelRun0_B.sl.v723 c i arg2 harg2 arg3 harg3 arg4 harg4 arg10 harg10 arg12 arg13 x0 x1 x2 xs0 =
    prob256 (mq2 (KB c arg4 harg4 arg10 harg10 x2 xs0) (qa0 (kernelRun0_B.sl.r_1 c i arg2 harg2 x0) (QB arg3 harg3 x1 2 0)) 0) (st256 (s2_1 (KB c arg4 harg4 arg10 harg10 x2 xs0) (qa0 (kernelRun0_B.sl.r_1 c i arg2 harg2 x0) (QB arg3 harg3 x1 2 0)) 0)) :=
  (View.readCov_cons_toLoadRect _ _ _ _).trans (congrArg (prob256 (mq2 (KB c arg4 harg4 arg10 harg10 x2 xs0) (qa0 (kernelRun0_B.sl.r_1 c i arg2 harg2 x0) (QB arg3 harg3 x1 2 0)) 0)) (Bs8_1 ..))
theorem Bs9_0 : kernelRun0_B.sl.v733 c i arg2 harg2 arg3 harg3 arg4 harg4 arg10 harg10 arg12 x0 x1 x2 xs0 =
    st512 (s2_0 (KB c arg4 harg4 arg10 harg10 x2 xs0) (qa1 (kernelRun0_B.sl.r_1 c i arg2 harg2 x0) (QB arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp9_0 : kernelRun0_B.sl.v765 c i arg2 harg2 arg3 harg3 arg4 harg4 arg10 harg10 arg12 arg13 x0 x1 x2 xs0 =
    prob512 (mq2 (KB c arg4 harg4 arg10 harg10 x2 xs0) (qa1 (kernelRun0_B.sl.r_1 c i arg2 harg2 x0) (QB arg3 harg3 x1 2 0)) 0) (st512 (s2_0 (KB c arg4 harg4 arg10 harg10 x2 xs0) (qa1 (kernelRun0_B.sl.r_1 c i arg2 harg2 x0) (QB arg3 harg3 x1 2 0)) 0)) :=
  (View.readCov_skip _ _ _ _ _ rfl).trans ((View.readCov_cons_toLoadRect _ _ _ _).trans (congrArg (prob512 (mq2 (KB c arg4 harg4 arg10 harg10 x2 xs0) (qa1 (kernelRun0_B.sl.r_1 c i arg2 harg2 x0) (QB arg3 harg3 x1 2 0)) 0)) (Bs9_0 ..)))
theorem Bs9_1 : kernelRun0_B.sl.v742 c i arg2 harg2 arg3 harg3 arg4 harg4 arg10 harg10 arg12 x0 x1 x2 xs0 =
    st256 (s2_1 (KB c arg4 harg4 arg10 harg10 x2 xs0) (qa1 (kernelRun0_B.sl.r_1 c i arg2 harg2 x0) (QB arg3 harg3 x1 2 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp9_1 : kernelRun0_B.sl.v786 c i arg2 harg2 arg3 harg3 arg4 harg4 arg10 harg10 arg12 arg13 x0 x1 x2 xs0 =
    prob256 (mq2 (KB c arg4 harg4 arg10 harg10 x2 xs0) (qa1 (kernelRun0_B.sl.r_1 c i arg2 harg2 x0) (QB arg3 harg3 x1 2 0)) 0) (st256 (s2_1 (KB c arg4 harg4 arg10 harg10 x2 xs0) (qa1 (kernelRun0_B.sl.r_1 c i arg2 harg2 x0) (QB arg3 harg3 x1 2 0)) 0)) :=
  (View.readCov_cons_toLoadRect _ _ _ _).trans (congrArg (prob256 (mq2 (KB c arg4 harg4 arg10 harg10 x2 xs0) (qa1 (kernelRun0_B.sl.r_1 c i arg2 harg2 x0) (QB arg3 harg3 x1 2 0)) 0)) (Bs9_1 ..))
theorem Bpiece2_0 : (kernelRun0_B.sl.v828 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc2 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 2 0) (GB arg8 harg8 x6) (ZB arg6 harg6 x4 2 0) := by
  show gate (dif (kernelRun0_B.sl.r_4 c arg7 harg7 x5) (norm (acT2 (VB c arg5 harg5 arg11 harg11 x3 xs1) 0 (kernelRun0_B.sl.v702 c i arg2 harg2 arg3 harg3 arg4 harg4 arg10 harg10 arg12 arg13 x0 x1 x2 xs0) (kernelRun0_B.sl.v723 c i arg2 harg2 arg3 harg3 arg4 harg4 arg10 harg10 arg12 arg13 x0 x1 x2 xs0))) (norm (acT2 (VB c arg5 harg5 arg11 harg11 x3 xs1) 0 (kernelRun0_B.sl.v765 c i arg2 harg2 arg3 harg3 arg4 harg4 arg10 harg10 arg12 arg13 x0 x1 x2 xs0) (kernelRun0_B.sl.v786 c i arg2 harg2 arg3 harg3 arg4 harg4 arg10 harg10 arg12 arg13 x0 x1 x2 xs0)))) (GB arg8 harg8 x6) (ZB arg6 harg6 x4 2 0) = _
  rw [Bp8_0, Bp8_1, Bp9_0, Bp9_1]
  rfl

theorem Bs10_0 : kernelRun0_B.sl.v829 c i arg2 harg2 arg3 harg3 arg4 harg4 arg10 harg10 arg12 x0 x1 x2 xs0 =
    st512 (s2_0 (KB c arg4 harg4 arg10 harg10 x2 xs0) (qa0 (kernelRun0_B.sl.r_3 c i arg2 harg2 x0) (QB arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp10_0 : kernelRun0_B.sl.v861 c i arg2 harg2 arg3 harg3 arg4 harg4 arg10 harg10 arg12 arg13 x0 x1 x2 xs0 =
    prob512 (mq2 (KB c arg4 harg4 arg10 harg10 x2 xs0) (qa0 (kernelRun0_B.sl.r_3 c i arg2 harg2 x0) (QB arg3 harg3 x1 2 1)) 1) (st512 (s2_0 (KB c arg4 harg4 arg10 harg10 x2 xs0) (qa0 (kernelRun0_B.sl.r_3 c i arg2 harg2 x0) (QB arg3 harg3 x1 2 1)) 1)) :=
  (View.readCov_skip _ _ _ _ _ rfl).trans ((View.readCov_cons_toLoadRect _ _ _ _).trans (congrArg (prob512 (mq2 (KB c arg4 harg4 arg10 harg10 x2 xs0) (qa0 (kernelRun0_B.sl.r_3 c i arg2 harg2 x0) (QB arg3 harg3 x1 2 1)) 1)) (Bs10_0 ..)))
theorem Bs10_1 : kernelRun0_B.sl.v838 c i arg2 harg2 arg3 harg3 arg4 harg4 arg10 harg10 arg12 x0 x1 x2 xs0 =
    st256 (s2_1 (KB c arg4 harg4 arg10 harg10 x2 xs0) (qa0 (kernelRun0_B.sl.r_3 c i arg2 harg2 x0) (QB arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp10_1 : kernelRun0_B.sl.v882 c i arg2 harg2 arg3 harg3 arg4 harg4 arg10 harg10 arg12 arg13 x0 x1 x2 xs0 =
    prob256 (mq2 (KB c arg4 harg4 arg10 harg10 x2 xs0) (qa0 (kernelRun0_B.sl.r_3 c i arg2 harg2 x0) (QB arg3 harg3 x1 2 1)) 1) (st256 (s2_1 (KB c arg4 harg4 arg10 harg10 x2 xs0) (qa0 (kernelRun0_B.sl.r_3 c i arg2 harg2 x0) (QB arg3 harg3 x1 2 1)) 1)) :=
  (View.readCov_cons_toLoadRect _ _ _ _).trans (congrArg (prob256 (mq2 (KB c arg4 harg4 arg10 harg10 x2 xs0) (qa0 (kernelRun0_B.sl.r_3 c i arg2 harg2 x0) (QB arg3 harg3 x1 2 1)) 1)) (Bs10_1 ..))
theorem Bs11_0 : kernelRun0_B.sl.v892 c i arg2 harg2 arg3 harg3 arg4 harg4 arg10 harg10 arg12 x0 x1 x2 xs0 =
    st512 (s2_0 (KB c arg4 harg4 arg10 harg10 x2 xs0) (qa1 (kernelRun0_B.sl.r_3 c i arg2 harg2 x0) (QB arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp11_0 : kernelRun0_B.sl.v924 c i arg2 harg2 arg3 harg3 arg4 harg4 arg10 harg10 arg12 arg13 x0 x1 x2 xs0 =
    prob512 (mq2 (KB c arg4 harg4 arg10 harg10 x2 xs0) (qa1 (kernelRun0_B.sl.r_3 c i arg2 harg2 x0) (QB arg3 harg3 x1 2 1)) 1) (st512 (s2_0 (KB c arg4 harg4 arg10 harg10 x2 xs0) (qa1 (kernelRun0_B.sl.r_3 c i arg2 harg2 x0) (QB arg3 harg3 x1 2 1)) 1)) :=
  (View.readCov_skip _ _ _ _ _ rfl).trans ((View.readCov_cons_toLoadRect _ _ _ _).trans (congrArg (prob512 (mq2 (KB c arg4 harg4 arg10 harg10 x2 xs0) (qa1 (kernelRun0_B.sl.r_3 c i arg2 harg2 x0) (QB arg3 harg3 x1 2 1)) 1)) (Bs11_0 ..)))
theorem Bs11_1 : kernelRun0_B.sl.v901 c i arg2 harg2 arg3 harg3 arg4 harg4 arg10 harg10 arg12 x0 x1 x2 xs0 =
    st256 (s2_1 (KB c arg4 harg4 arg10 harg10 x2 xs0) (qa1 (kernelRun0_B.sl.r_3 c i arg2 harg2 x0) (QB arg3 harg3 x1 2 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp11_1 : kernelRun0_B.sl.v945 c i arg2 harg2 arg3 harg3 arg4 harg4 arg10 harg10 arg12 arg13 x0 x1 x2 xs0 =
    prob256 (mq2 (KB c arg4 harg4 arg10 harg10 x2 xs0) (qa1 (kernelRun0_B.sl.r_3 c i arg2 harg2 x0) (QB arg3 harg3 x1 2 1)) 1) (st256 (s2_1 (KB c arg4 harg4 arg10 harg10 x2 xs0) (qa1 (kernelRun0_B.sl.r_3 c i arg2 harg2 x0) (QB arg3 harg3 x1 2 1)) 1)) :=
  (View.readCov_cons_toLoadRect _ _ _ _).trans (congrArg (prob256 (mq2 (KB c arg4 harg4 arg10 harg10 x2 xs0) (qa1 (kernelRun0_B.sl.r_3 c i arg2 harg2 x0) (QB arg3 harg3 x1 2 1)) 1)) (Bs11_1 ..))
theorem Bpiece2_1 : (kernelRun0_B.sl.v987 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc2 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 2 1) (GB arg8 harg8 x6) (ZB arg6 harg6 x4 2 1) := by
  show gate (dif (kernelRun0_B.sl.r_4 c arg7 harg7 x5) (norm (acT2 (VB c arg5 harg5 arg11 harg11 x3 xs1) 1 (kernelRun0_B.sl.v861 c i arg2 harg2 arg3 harg3 arg4 harg4 arg10 harg10 arg12 arg13 x0 x1 x2 xs0) (kernelRun0_B.sl.v882 c i arg2 harg2 arg3 harg3 arg4 harg4 arg10 harg10 arg12 arg13 x0 x1 x2 xs0))) (norm (acT2 (VB c arg5 harg5 arg11 harg11 x3 xs1) 1 (kernelRun0_B.sl.v924 c i arg2 harg2 arg3 harg3 arg4 harg4 arg10 harg10 arg12 arg13 x0 x1 x2 xs0) (kernelRun0_B.sl.v945 c i arg2 harg2 arg3 harg3 arg4 harg4 arg10 harg10 arg12 arg13 x0 x1 x2 xs0)))) (GB arg8 harg8 x6) (ZB arg6 harg6 x4 2 1) = _
  rw [Bp10_0, Bp10_1, Bp11_0, Bp11_1]
  rfl

theorem Bs12_0 : kernelRun0_B.sl.v988 c i arg2 harg2 arg3 harg3 arg4 harg4 arg10 harg10 arg12 x0 x1 x2 xs0 =
    st512 (s3_0 (KB c arg4 harg4 arg10 harg10 x2 xs0) (qa0 (kernelRun0_B.sl.r_1 c i arg2 harg2 x0) (QB arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp12_0 : kernelRun0_B.sl.v1020 c i arg2 harg2 arg3 harg3 arg4 harg4 arg10 harg10 arg12 arg13 x0 x1 x2 xs0 =
    prob512 (mq3 (KB c arg4 harg4 arg10 harg10 x2 xs0) (qa0 (kernelRun0_B.sl.r_1 c i arg2 harg2 x0) (QB arg3 harg3 x1 3 0)) 0) (st512 (s3_0 (KB c arg4 harg4 arg10 harg10 x2 xs0) (qa0 (kernelRun0_B.sl.r_1 c i arg2 harg2 x0) (QB arg3 harg3 x1 3 0)) 0)) :=
  (View.readCov_skip _ _ _ _ _ rfl).trans ((View.readCov_cons_toLoadRect _ _ _ _).trans (congrArg (prob512 (mq3 (KB c arg4 harg4 arg10 harg10 x2 xs0) (qa0 (kernelRun0_B.sl.r_1 c i arg2 harg2 x0) (QB arg3 harg3 x1 3 0)) 0)) (Bs12_0 ..)))
theorem Bs12_1 : kernelRun0_B.sl.v997 c i arg2 harg2 arg3 harg3 arg4 harg4 arg10 harg10 arg12 x0 x1 x2 xs0 =
    st512 (s3_1 (KB c arg4 harg4 arg10 harg10 x2 xs0) (qa0 (kernelRun0_B.sl.r_1 c i arg2 harg2 x0) (QB arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp12_1 : kernelRun0_B.sl.v1034 c i arg2 harg2 arg3 harg3 arg4 harg4 arg10 harg10 arg12 arg13 x0 x1 x2 xs0 =
    prob512 (mq3 (KB c arg4 harg4 arg10 harg10 x2 xs0) (qa0 (kernelRun0_B.sl.r_1 c i arg2 harg2 x0) (QB arg3 harg3 x1 3 0)) 0) (st512 (s3_1 (KB c arg4 harg4 arg10 harg10 x2 xs0) (qa0 (kernelRun0_B.sl.r_1 c i arg2 harg2 x0) (QB arg3 harg3 x1 3 0)) 0)) :=
  (View.readCov_cons_toLoadRect _ _ _ _).trans (congrArg (prob512 (mq3 (KB c arg4 harg4 arg10 harg10 x2 xs0) (qa0 (kernelRun0_B.sl.r_1 c i arg2 harg2 x0) (QB arg3 harg3 x1 3 0)) 0)) (Bs12_1 ..))
theorem Bs13_0 : kernelRun0_B.sl.v1057 c i arg2 harg2 arg3 harg3 arg4 harg4 arg10 harg10 arg12 x0 x1 x2 xs0 =
    st512 (s3_0 (KB c arg4 harg4 arg10 harg10 x2 xs0) (qa1 (kernelRun0_B.sl.r_1 c i arg2 harg2 x0) (QB arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp13_0 : kernelRun0_B.sl.v1089 c i arg2 harg2 arg3 harg3 arg4 harg4 arg10 harg10 arg12 arg13 x0 x1 x2 xs0 =
    prob512 (mq3 (KB c arg4 harg4 arg10 harg10 x2 xs0) (qa1 (kernelRun0_B.sl.r_1 c i arg2 harg2 x0) (QB arg3 harg3 x1 3 0)) 0) (st512 (s3_0 (KB c arg4 harg4 arg10 harg10 x2 xs0) (qa1 (kernelRun0_B.sl.r_1 c i arg2 harg2 x0) (QB arg3 harg3 x1 3 0)) 0)) :=
  (View.readCov_skip _ _ _ _ _ rfl).trans ((View.readCov_cons_toLoadRect _ _ _ _).trans (congrArg (prob512 (mq3 (KB c arg4 harg4 arg10 harg10 x2 xs0) (qa1 (kernelRun0_B.sl.r_1 c i arg2 harg2 x0) (QB arg3 harg3 x1 3 0)) 0)) (Bs13_0 ..)))
theorem Bs13_1 : kernelRun0_B.sl.v1066 c i arg2 harg2 arg3 harg3 arg4 harg4 arg10 harg10 arg12 x0 x1 x2 xs0 =
    st512 (s3_1 (KB c arg4 harg4 arg10 harg10 x2 xs0) (qa1 (kernelRun0_B.sl.r_1 c i arg2 harg2 x0) (QB arg3 harg3 x1 3 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp13_1 : kernelRun0_B.sl.v1247 c i arg2 harg2 arg3 harg3 arg4 harg4 arg10 harg10 arg12 arg13 x0 x1 x2 xs0 =
    prob512 (mq3 (KB c arg4 harg4 arg10 harg10 x2 xs0) (qa1 (kernelRun0_B.sl.r_1 c i arg2 harg2 x0) (QB arg3 harg3 x1 3 0)) 0) (st512 (s3_1 (KB c arg4 harg4 arg10 harg10 x2 xs0) (qa1 (kernelRun0_B.sl.r_1 c i arg2 harg2 x0) (QB arg3 harg3 x1 3 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KB c arg4 harg4 arg10 harg10 x2 xs0) (qa1 (kernelRun0_B.sl.r_1 c i arg2 harg2 x0) (QB arg3 harg3 x1 3 0)) 0)) (Bs13_1 ..)))))))))
theorem Bpiece3_0 : (kernelRun0_B.sl.v1289 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc3 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 3 0) (GB arg8 harg8 x6) (ZB arg6 harg6 x4 3 0) := by
  show gate (dif (kernelRun0_B.sl.r_4 c arg7 harg7 x5) (norm (acT3 (VB c arg5 harg5 arg11 harg11 x3 xs1) 0 (kernelRun0_B.sl.v1020 c i arg2 harg2 arg3 harg3 arg4 harg4 arg10 harg10 arg12 arg13 x0 x1 x2 xs0) (kernelRun0_B.sl.v1034 c i arg2 harg2 arg3 harg3 arg4 harg4 arg10 harg10 arg12 arg13 x0 x1 x2 xs0))) (norm (acT3 (VB c arg5 harg5 arg11 harg11 x3 xs1) 0 (kernelRun0_B.sl.v1089 c i arg2 harg2 arg3 harg3 arg4 harg4 arg10 harg10 arg12 arg13 x0 x1 x2 xs0) (kernelRun0_B.sl.v1247 c i arg2 harg2 arg3 harg3 arg4 harg4 arg10 harg10 arg12 arg13 x0 x1 x2 xs0)))) (GB arg8 harg8 x6) (ZB arg6 harg6 x4 3 0) = _
  rw [Bp12_0, Bp12_1, Bp13_0, Bp13_1]
  rfl

theorem Bs14_0 : kernelRun0_B.sl.v1101 c i arg2 harg2 arg3 harg3 arg4 harg4 arg10 harg10 arg12 x0 x1 x2 xs0 =
    st512 (s3_0 (KB c arg4 harg4 arg10 harg10 x2 xs0) (qa0 (kernelRun0_B.sl.r_3 c i arg2 harg2 x0) (QB arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp14_0 : kernelRun0_B.sl.v1331 c i arg2 harg2 arg3 harg3 arg4 harg4 arg10 harg10 arg12 arg13 x0 x1 x2 xs0 =
    prob512 (mq3 (KB c arg4 harg4 arg10 harg10 x2 xs0) (qa0 (kernelRun0_B.sl.r_3 c i arg2 harg2 x0) (QB arg3 harg3 x1 3 1)) 1) (st512 (s3_0 (KB c arg4 harg4 arg10 harg10 x2 xs0) (qa0 (kernelRun0_B.sl.r_3 c i arg2 harg2 x0) (QB arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KB c arg4 harg4 arg10 harg10 x2 xs0) (qa0 (kernelRun0_B.sl.r_3 c i arg2 harg2 x0) (QB arg3 harg3 x1 3 1)) 1)) (Bs14_0 ..))))))))))
theorem Bs14_1 : kernelRun0_B.sl.v1123 c i arg2 harg2 arg3 harg3 arg4 harg4 arg10 harg10 arg12 x0 x1 x2 xs0 =
    st512 (s3_1 (KB c arg4 harg4 arg10 harg10 x2 xs0) (qa0 (kernelRun0_B.sl.r_3 c i arg2 harg2 x0) (QB arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp14_1 : kernelRun0_B.sl.v1361 c i arg2 harg2 arg3 harg3 arg4 harg4 arg10 harg10 arg12 arg13 x0 x1 x2 xs0 =
    prob512 (mq3 (KB c arg4 harg4 arg10 harg10 x2 xs0) (qa0 (kernelRun0_B.sl.r_3 c i arg2 harg2 x0) (QB arg3 harg3 x1 3 1)) 1) (st512 (s3_1 (KB c arg4 harg4 arg10 harg10 x2 xs0) (qa0 (kernelRun0_B.sl.r_3 c i arg2 harg2 x0) (QB arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KB c arg4 harg4 arg10 harg10 x2 xs0) (qa0 (kernelRun0_B.sl.r_3 c i arg2 harg2 x0) (QB arg3 harg3 x1 3 1)) 1)) (Bs14_1 ..))))))))))
theorem Bs15_0 : kernelRun0_B.sl.v1144 c i arg2 harg2 arg3 harg3 arg4 harg4 arg10 harg10 arg12 x0 x1 x2 xs0 =
    st512 (s3_0 (KB c arg4 harg4 arg10 harg10 x2 xs0) (qa1 (kernelRun0_B.sl.r_3 c i arg2 harg2 x0) (QB arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp15_0 : kernelRun0_B.sl.v1394 c i arg2 harg2 arg3 harg3 arg4 harg4 arg10 harg10 arg12 arg13 x0 x1 x2 xs0 =
    prob512 (mq3 (KB c arg4 harg4 arg10 harg10 x2 xs0) (qa1 (kernelRun0_B.sl.r_3 c i arg2 harg2 x0) (QB arg3 harg3 x1 3 1)) 1) (st512 (s3_0 (KB c arg4 harg4 arg10 harg10 x2 xs0) (qa1 (kernelRun0_B.sl.r_3 c i arg2 harg2 x0) (QB arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KB c arg4 harg4 arg10 harg10 x2 xs0) (qa1 (kernelRun0_B.sl.r_3 c i arg2 harg2 x0) (QB arg3 harg3 x1 3 1)) 1)) (Bs15_0 ..))))))))))
theorem Bs15_1 : kernelRun0_B.sl.v1162 c i arg2 harg2 arg3 harg3 arg4 harg4 arg10 harg10 arg12 x0 x1 x2 xs0 =
    st512 (s3_1 (KB c arg4 harg4 arg10 harg10 x2 xs0) (qa1 (kernelRun0_B.sl.r_3 c i arg2 harg2 x0) (QB arg3 harg3 x1 3 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp15_1 : kernelRun0_B.sl.v1417 c i arg2 harg2 arg3 harg3 arg4 harg4 arg10 harg10 arg12 arg13 x0 x1 x2 xs0 =
    prob512 (mq3 (KB c arg4 harg4 arg10 harg10 x2 xs0) (qa1 (kernelRun0_B.sl.r_3 c i arg2 harg2 x0) (QB arg3 harg3 x1 3 1)) 1) (st512 (s3_1 (KB c arg4 harg4 arg10 harg10 x2 xs0) (qa1 (kernelRun0_B.sl.r_3 c i arg2 harg2 x0) (QB arg3 harg3 x1 3 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq3 (KB c arg4 harg4 arg10 harg10 x2 xs0) (qa1 (kernelRun0_B.sl.r_3 c i arg2 harg2 x0) (QB arg3 harg3 x1 3 1)) 1)) (Bs15_1 ..))))))))))
theorem Bpiece3_1 : (k0_pay230 (kernelRun0_B.sl.v1444 c i arg2 harg2 arg3 harg3 arg4 harg4 arg5 harg5 arg7 harg7 arg8 harg8 arg10 harg10 arg11 harg11 arg12 arg13 x0 x1 x2 x3 x5 x6 xs0 xs1) (View.readAt (Elt Ideal) arg6.view (Rect.unit (s := S1x256x2048) ![0, 128, 768] S1x128x256.size inb_S1x256x2048_S1x128x256_0_128_768).toLoadRect (harg6.unread x4)) : S1x128x256.Idx → Ideal .bf16) =
    pc3 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 3 1) (GB arg8 harg8 x6) (ZB arg6 harg6 x4 3 1) := by
  show gate (dif (kernelRun0_B.sl.r_4 c arg7 harg7 x5) (norm (acT3 (VB c arg5 harg5 arg11 harg11 x3 xs1) 1 (kernelRun0_B.sl.v1331 c i arg2 harg2 arg3 harg3 arg4 harg4 arg10 harg10 arg12 arg13 x0 x1 x2 xs0) (kernelRun0_B.sl.v1361 c i arg2 harg2 arg3 harg3 arg4 harg4 arg10 harg10 arg12 arg13 x0 x1 x2 xs0))) (norm (acT3 (VB c arg5 harg5 arg11 harg11 x3 xs1) 1 (kernelRun0_B.sl.v1394 c i arg2 harg2 arg3 harg3 arg4 harg4 arg10 harg10 arg12 arg13 x0 x1 x2 xs0) (kernelRun0_B.sl.v1417 c i arg2 harg2 arg3 harg3 arg4 harg4 arg10 harg10 arg12 arg13 x0 x1 x2 xs0)))) (GB arg8 harg8 x6) (ZB arg6 harg6 x4 3 1) = _
  rw [Bp14_0, Bp14_1, Bp15_0, Bp15_1]
  rfl

theorem Bs16_0 : kernelRun0_B.sl.v1184 c i arg2 harg2 arg3 harg3 arg4 harg4 arg10 harg10 arg12 x0 x1 x2 xs0 =
    st512 (s4_0 (KB c arg4 harg4 arg10 harg10 x2 xs0) (qa0 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp16_0 : kernelRun0_B.sl.v1487 c i arg2 harg2 arg3 harg3 arg4 harg4 arg10 harg10 arg12 arg13 x0 x1 x2 xs0 =
    prob512 (mq4 (KB c arg4 harg4 arg10 harg10 x2 xs0) (qa0 (kernelRun0_B.sl.r_1 c i arg2 harg2 x0) (QB arg3 harg3 x1 4 0)) 0) (st512 (s4_0 (KB c arg4 harg4 arg10 harg10 x2 xs0) (qa0 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa0 (kernelRun0_B.sl.r_1 c i arg2 harg2 x0) (QB arg3 harg3 x1 4 0)) 0)) (Bs16_0 ..))))))))))
theorem Bs16_1 : kernelRun0_B.sl.v1205 c i arg2 harg2 arg3 harg3 arg4 harg4 arg10 harg10 arg12 x0 x1 x2 xs0 =
    st512 (s4_1 (KB c arg4 harg4 arg10 harg10 x2 xs0) (qa0 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp16_1 : kernelRun0_B.sl.v1513 c i arg2 harg2 arg3 harg3 arg4 harg4 arg10 harg10 arg12 arg13 x0 x1 x2 xs0 =
    prob512 (mq4 (KB c arg4 harg4 arg10 harg10 x2 xs0) (qa0 (kernelRun0_B.sl.r_1 c i arg2 harg2 x0) (QB arg3 harg3 x1 4 0)) 0) (st512 (s4_1 (KB c arg4 harg4 arg10 harg10 x2 xs0) (qa0 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa0 (kernelRun0_B.sl.r_1 c i arg2 harg2 x0) (QB arg3 harg3 x1 4 0)) 0)) (Bs16_1 ..))))))))))
theorem Bs16_2 : kernelRun0_B.sl.v1223 c i arg2 harg2 arg3 harg3 arg4 harg4 arg10 harg10 arg12 x0 x1 x2 xs0 =
    st256 (s4_2 (KB c arg4 harg4 arg10 harg10 x2 xs0) (qa0 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp16_2 : kernelRun0_B.sl.v1537 c i arg2 harg2 arg3 harg3 arg4 harg4 arg10 harg10 arg12 arg13 x0 x1 x2 xs0 =
    prob256 (mq4 (KB c arg4 harg4 arg10 harg10 x2 xs0) (qa0 (kernelRun0_B.sl.r_1 c i arg2 harg2 x0) (QB arg3 harg3 x1 4 0)) 0) (st256 (s4_2 (KB c arg4 harg4 arg10 harg10 x2 xs0) (qa0 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KB c arg4 harg4 arg10 harg10 x2 xs0) (qa0 (kernelRun0_B.sl.r_1 c i arg2 harg2 x0) (QB arg3 harg3 x1 4 0)) 0)) (Bs16_2 ..))))))))))
theorem Bs17_0 : kernelRun0_B.sl.v1302 c i arg2 harg2 arg3 harg3 arg4 harg4 arg10 harg10 arg12 x0 x1 x2 xs0 =
    st512 (s4_0 (KB c arg4 harg4 arg10 harg10 x2 xs0) (qa1 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp17_0 : kernelRun0_B.sl.v1574 c i arg2 harg2 arg3 harg3 arg4 harg4 arg10 harg10 arg12 arg13 x0 x1 x2 xs0 =
    prob512 (mq4 (KB c arg4 harg4 arg10 harg10 x2 xs0) (qa1 (kernelRun0_B.sl.r_1 c i arg2 harg2 x0) (QB arg3 harg3 x1 4 0)) 0) (st512 (s4_0 (KB c arg4 harg4 arg10 harg10 x2 xs0) (qa1 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa1 (kernelRun0_B.sl.r_1 c i arg2 harg2 x0) (QB arg3 harg3 x1 4 0)) 0)) (Bs17_0 ..))))))))))
theorem Bs17_1 : kernelRun0_B.sl.v1320 c i arg2 harg2 arg3 harg3 arg4 harg4 arg10 harg10 arg12 x0 x1 x2 xs0 =
    st512 (s4_1 (KB c arg4 harg4 arg10 harg10 x2 xs0) (qa1 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp17_1 : kernelRun0_B.sl.v1600 c i arg2 harg2 arg3 harg3 arg4 harg4 arg10 harg10 arg12 arg13 x0 x1 x2 xs0 =
    prob512 (mq4 (KB c arg4 harg4 arg10 harg10 x2 xs0) (qa1 (kernelRun0_B.sl.r_1 c i arg2 harg2 x0) (QB arg3 harg3 x1 4 0)) 0) (st512 (s4_1 (KB c arg4 harg4 arg10 harg10 x2 xs0) (qa1 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa1 (kernelRun0_B.sl.r_1 c i arg2 harg2 x0) (QB arg3 harg3 x1 4 0)) 0)) (Bs17_1 ..))))))))))
theorem Bs17_2 : kernelRun0_B.sl.v1350 c i arg2 harg2 arg3 harg3 arg4 harg4 arg10 harg10 arg12 x0 x1 x2 xs0 =
    st256 (s4_2 (KB c arg4 harg4 arg10 harg10 x2 xs0) (qa1 (kernelRun0_B.sl.r_1 c i arg2 harg2 x0) (QB arg3 harg3 x1 4 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp17_2 : kernelRun0_B.sl.v1624 c i arg2 harg2 arg3 harg3 arg4 harg4 arg10 harg10 arg12 arg13 x0 x1 x2 xs0 =
    prob256 (mq4 (KB c arg4 harg4 arg10 harg10 x2 xs0) (qa1 (kernelRun0_B.sl.r_1 c i arg2 harg2 x0) (QB arg3 harg3 x1 4 0)) 0) (st256 (s4_2 (KB c arg4 harg4 arg10 harg10 x2 xs0) (qa1 (kernelRun0_B.sl.r_1 c i arg2 harg2 x0) (QB arg3 harg3 x1 4 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KB c arg4 harg4 arg10 harg10 x2 xs0) (qa1 (kernelRun0_B.sl.r_1 c i arg2 harg2 x0) (QB arg3 harg3 x1 4 0)) 0)) (Bs17_2 ..))))))))))
theorem Bpiece4_0 : (k0_pay269 (kernelRun0_B.sl.v1636 c i arg2 harg2 arg3 harg3 arg4 harg4 arg5 harg5 arg7 harg7 arg10 harg10 arg11 harg11 arg12 arg13 x0 x1 x2 x3 x5 xs0 xs1) (kernelRun0_B.sl.v1641 c i arg2 harg2 arg3 harg3 arg4 harg4 arg5 harg5 arg7 harg7 arg10 harg10 arg11 harg11 arg12 arg13 x0 x1 x2 x3 x5 xs0 xs1) (kernelRun0_B.sl.v399 (F := Ideal)) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 1024] S1x128x256.size inb_S1x256x2048_S1x128x256_0_0_1024).toLoadRect (harg6.unread x4)) : S1x128x256.Idx → Ideal .bf16) =
    pc4 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 4 0) (GB arg8 harg8 x6) (ZB arg6 harg6 x4 4 0) := by
  show gate (dif (kernelRun0_B.sl.r_4 c arg7 harg7 x5) (norm (acT4 (VB c arg5 harg5 arg11 harg11 x3 xs1) 0 (kernelRun0_B.sl.v1487 c i arg2 harg2 arg3 harg3 arg4 harg4 arg10 harg10 arg12 arg13 x0 x1 x2 xs0) (kernelRun0_B.sl.v1513 c i arg2 harg2 arg3 harg3 arg4 harg4 arg10 harg10 arg12 arg13 x0 x1 x2 xs0) (kernelRun0_B.sl.v1537 c i arg2 harg2 arg3 harg3 arg4 harg4 arg10 harg10 arg12 arg13 x0 x1 x2 xs0))) (norm (acT4 (VB c arg5 harg5 arg11 harg11 x3 xs1) 0 (kernelRun0_B.sl.v1574 c i arg2 harg2 arg3 harg3 arg4 harg4 arg10 harg10 arg12 arg13 x0 x1 x2 xs0) (kernelRun0_B.sl.v1600 c i arg2 harg2 arg3 harg3 arg4 harg4 arg10 harg10 arg12 arg13 x0 x1 x2 xs0) (kernelRun0_B.sl.v1624 c i arg2 harg2 arg3 harg3 arg4 harg4 arg10 harg10 arg12 arg13 x0 x1 x2 xs0)))) (GB arg8 harg8 x6) (ZB arg6 harg6 x4 4 0) = _
  rw [Bp16_0, Bp16_1, Bp16_2, Bp17_0, Bp17_1, Bp17_2]
  rfl

theorem Bs18_0 : kernelRun0_B.sl.v1383 c i arg2 harg2 arg3 harg3 arg4 harg4 arg10 harg10 arg12 x0 x1 x2 xs0 =
    st512 (s4_0 (KB c arg4 harg4 arg10 harg10 x2 xs0) (qa0 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp18_0 : kernelRun0_B.sl.v1694 c i arg2 harg2 arg3 harg3 arg4 harg4 arg10 harg10 arg12 arg13 x0 x1 x2 xs0 =
    prob512 (mq4 (KB c arg4 harg4 arg10 harg10 x2 xs0) (qa0 (kernelRun0_B.sl.r_3 c i arg2 harg2 x0) (QB arg3 harg3 x1 4 1)) 1) (st512 (s4_0 (KB c arg4 harg4 arg10 harg10 x2 xs0) (qa0 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa0 (kernelRun0_B.sl.r_3 c i arg2 harg2 x0) (QB arg3 harg3 x1 4 1)) 1)) (Bs18_0 ..))))))))))
theorem Bs18_1 : kernelRun0_B.sl.v1406 c i arg2 harg2 arg3 harg3 arg4 harg4 arg10 harg10 arg12 x0 x1 x2 xs0 =
    st512 (s4_1 (KB c arg4 harg4 arg10 harg10 x2 xs0) (qa0 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp18_1 : kernelRun0_B.sl.v1720 c i arg2 harg2 arg3 harg3 arg4 harg4 arg10 harg10 arg12 arg13 x0 x1 x2 xs0 =
    prob512 (mq4 (KB c arg4 harg4 arg10 harg10 x2 xs0) (qa0 (kernelRun0_B.sl.r_3 c i arg2 harg2 x0) (QB arg3 harg3 x1 4 1)) 1) (st512 (s4_1 (KB c arg4 harg4 arg10 harg10 x2 xs0) (qa0 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa0 (kernelRun0_B.sl.r_3 c i arg2 harg2 x0) (QB arg3 harg3 x1 4 1)) 1)) (Bs18_1 ..))))))))))
theorem Bs18_2 : kernelRun0_B.sl.v1476 c i arg2 harg2 arg3 harg3 arg4 harg4 arg10 harg10 arg12 x0 x1 x2 xs0 =
    st256 (s4_2 (KB c arg4 harg4 arg10 harg10 x2 xs0) (qa0 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp18_2 : kernelRun0_B.sl.v1744 c i arg2 harg2 arg3 harg3 arg4 harg4 arg10 harg10 arg12 arg13 x0 x1 x2 xs0 =
    prob256 (mq4 (KB c arg4 harg4 arg10 harg10 x2 xs0) (qa0 (kernelRun0_B.sl.r_3 c i arg2 harg2 x0) (QB arg3 harg3 x1 4 1)) 1) (st256 (s4_2 (KB c arg4 harg4 arg10 harg10 x2 xs0) (qa0 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KB c arg4 harg4 arg10 harg10 x2 xs0) (qa0 (kernelRun0_B.sl.r_3 c i arg2 harg2 x0) (QB arg3 harg3 x1 4 1)) 1)) (Bs18_2 ..))))))))))
theorem Bs19_0 : kernelRun0_B.sl.v1502 c i arg2 harg2 arg3 harg3 arg4 harg4 arg10 harg10 arg12 x0 x1 x2 xs0 =
    st512 (s4_0 (KB c arg4 harg4 arg10 harg10 x2 xs0) (qa1 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp19_0 : kernelRun0_B.sl.v1774 c i arg2 harg2 arg3 harg3 arg4 harg4 arg10 harg10 arg12 arg13 x0 x1 x2 xs0 =
    prob512 (mq4 (KB c arg4 harg4 arg10 harg10 x2 xs0) (qa1 (kernelRun0_B.sl.r_3 c i arg2 harg2 x0) (QB arg3 harg3 x1 4 1)) 1) (st512 (s4_0 (KB c arg4 harg4 arg10 harg10 x2 xs0) (qa1 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa1 (kernelRun0_B.sl.r_3 c i arg2 harg2 x0) (QB arg3 harg3 x1 4 1)) 1)) (Bs19_0 ..))))))))))
theorem Bs19_1 : kernelRun0_B.sl.v1526 c i arg2 harg2 arg3 harg3 arg4 harg4 arg10 harg10 arg12 x0 x1 x2 xs0 =
    st512 (s4_1 (KB c arg4 harg4 arg10 harg10 x2 xs0) (qa1 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp19_1 : kernelRun0_B.sl.v1801 c i arg2 harg2 arg3 harg3 arg4 harg4 arg10 harg10 arg12 arg13 x0 x1 x2 xs0 =
    prob512 (mq4 (KB c arg4 harg4 arg10 harg10 x2 xs0) (qa1 (kernelRun0_B.sl.r_3 c i arg2 harg2 x0) (QB arg3 harg3 x1 4 1)) 1) (st512 (s4_1 (KB c arg4 harg4 arg10 harg10 x2 xs0) (qa1 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq4 (KB c arg4 harg4 arg10 harg10 x2 xs0) (qa1 (kernelRun0_B.sl.r_3 c i arg2 harg2 x0) (QB arg3 harg3 x1 4 1)) 1)) (Bs19_1 ..))))))))))
theorem Bs19_2 : kernelRun0_B.sl.v1563 c i arg2 harg2 arg3 harg3 arg4 harg4 arg10 harg10 arg12 x0 x1 x2 xs0 =
    st256 (s4_2 (KB c arg4 harg4 arg10 harg10 x2 xs0) (qa1 (kernelRun0_B.sl.r_3 c i arg2 harg2 x0) (QB arg3 harg3 x1 4 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp19_2 : kernelRun0_B.sl.v1828 c i arg2 harg2 arg3 harg3 arg4 harg4 arg10 harg10 arg12 arg13 x0 x1 x2 xs0 =
    prob256 (mq4 (KB c arg4 harg4 arg10 harg10 x2 xs0) (qa1 (kernelRun0_B.sl.r_3 c i arg2 harg2 x0) (QB arg3 harg3 x1 4 1)) 1) (st256 (s4_2 (KB c arg4 harg4 arg10 harg10 x2 xs0) (qa1 (kernelRun0_B.sl.r_3 c i arg2 harg2 x0) (QB arg3 harg3 x1 4 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq4 (KB c arg4 harg4 arg10 harg10 x2 xs0) (qa1 (kernelRun0_B.sl.r_3 c i arg2 harg2 x0) (QB arg3 harg3 x1 4 1)) 1)) (Bs19_2 ..))))))))))
theorem Bpiece4_1 : (kernelRun0_B.sl.v1870 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc4 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 4 1) (GB arg8 harg8 x6) (ZB arg6 harg6 x4 4 1) := by
  show gate (dif (kernelRun0_B.sl.r_4 c arg7 harg7 x5) (norm (acT4 (VB c arg5 harg5 arg11 harg11 x3 xs1) 1 (kernelRun0_B.sl.v1694 c i arg2 harg2 arg3 harg3 arg4 harg4 arg10 harg10 arg12 arg13 x0 x1 x2 xs0) (kernelRun0_B.sl.v1720 c i arg2 harg2 arg3 harg3 arg4 harg4 arg10 harg10 arg12 arg13 x0 x1 x2 xs0) (kernelRun0_B.sl.v1744 c i arg2 harg2 arg3 harg3 arg4 harg4 arg10 harg10 arg12 arg13 x0 x1 x2 xs0))) (norm (acT4 (VB c arg5 harg5 arg11 harg11 x3 xs1) 1 (kernelRun0_B.sl.v1774 c i arg2 harg2 arg3 harg3 arg4 harg4 arg10 harg10 arg12 arg13 x0 x1 x2 xs0) (kernelRun0_B.sl.v1801 c i arg2 harg2 arg3 harg3 arg4 harg4 arg10 harg10 arg12 arg13 x0 x1 x2 xs0) (kernelRun0_B.sl.v1828 c i arg2 harg2 arg3 harg3 arg4 harg4 arg10 harg10 arg12 arg13 x0 x1 x2 xs0)))) (GB arg8 harg8 x6) (ZB arg6 harg6 x4 4 1) = _
  rw [Bp18_0, Bp18_1, Bp18_2, Bp19_0, Bp19_1, Bp19_2]
  rfl

theorem Bs20_0 : kernelRun0_B.sl.v1589 c i arg2 harg2 arg3 harg3 arg4 harg4 arg10 harg10 arg12 x0 x1 x2 xs0 =
    st512 (s5_0 (KB c arg4 harg4 arg10 harg10 x2 xs0) (qa0 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp20_0 : kernelRun0_B.sl.v1891 c i arg2 harg2 arg3 harg3 arg4 harg4 arg10 harg10 arg12 arg13 x0 x1 x2 xs0 =
    prob512 (mq5 (KB c arg4 harg4 arg10 harg10 x2 xs0) (qa0 (kernelRun0_B.sl.r_1 c i arg2 harg2 x0) (QB arg3 harg3 x1 5 0)) 0) (st512 (s5_0 (KB c arg4 harg4 arg10 harg10 x2 xs0) (qa0 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_1 c i arg2 harg2 x0) (QB arg3 harg3 x1 5 0)) 0)) (Bs20_0 ..))))))))))
theorem Bs20_1 : kernelRun0_B.sl.v1613 c i arg2 harg2 arg3 harg3 arg4 harg4 arg10 harg10 arg12 x0 x1 x2 xs0 =
    st512 (s5_1 (KB c arg4 harg4 arg10 harg10 x2 xs0) (qa0 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp20_1 : kernelRun0_B.sl.v1914 c i arg2 harg2 arg3 harg3 arg4 harg4 arg10 harg10 arg12 arg13 x0 x1 x2 xs0 =
    prob512 (mq5 (KB c arg4 harg4 arg10 harg10 x2 xs0) (qa0 (kernelRun0_B.sl.r_1 c i arg2 harg2 x0) (QB arg3 harg3 x1 5 0)) 0) (st512 (s5_1 (KB c arg4 harg4 arg10 harg10 x2 xs0) (qa0 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_1 c i arg2 harg2 x0) (QB arg3 harg3 x1 5 0)) 0)) (Bs20_1 ..))))))))))
theorem Bs20_2 : kernelRun0_B.sl.v1683 c i arg2 harg2 arg3 harg3 arg4 harg4 arg10 harg10 arg12 x0 x1 x2 xs0 =
    st512 (s5_2 (KB c arg4 harg4 arg10 harg10 x2 xs0) (qa0 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp20_2 : kernelRun0_B.sl.v1942 c i arg2 harg2 arg3 harg3 arg4 harg4 arg10 harg10 arg12 arg13 x0 x1 x2 xs0 =
    prob512 (mq5 (KB c arg4 harg4 arg10 harg10 x2 xs0) (qa0 (kernelRun0_B.sl.r_1 c i arg2 harg2 x0) (QB arg3 harg3 x1 5 0)) 0) (st512 (s5_2 (KB c arg4 harg4 arg10 harg10 x2 xs0) (qa0 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_1 c i arg2 harg2 x0) (QB arg3 harg3 x1 5 0)) 0)) (Bs20_2 ..))))))))))
theorem Bs21_0 : kernelRun0_B.sl.v1709 c i arg2 harg2 arg3 harg3 arg4 harg4 arg10 harg10 arg12 x0 x1 x2 xs0 =
    st512 (s5_0 (KB c arg4 harg4 arg10 harg10 x2 xs0) (qa1 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp21_0 : kernelRun0_B.sl.v1975 c i arg2 harg2 arg3 harg3 arg4 harg4 arg10 harg10 arg12 arg13 x0 x1 x2 xs0 =
    prob512 (mq5 (KB c arg4 harg4 arg10 harg10 x2 xs0) (qa1 (kernelRun0_B.sl.r_1 c i arg2 harg2 x0) (QB arg3 harg3 x1 5 0)) 0) (st512 (s5_0 (KB c arg4 harg4 arg10 harg10 x2 xs0) (qa1 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_1 c i arg2 harg2 x0) (QB arg3 harg3 x1 5 0)) 0)) (Bs21_0 ..))))))))))
theorem Bs21_1 : kernelRun0_B.sl.v1733 c i arg2 harg2 arg3 harg3 arg4 harg4 arg10 harg10 arg12 x0 x1 x2 xs0 =
    st512 (s5_1 (KB c arg4 harg4 arg10 harg10 x2 xs0) (qa1 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp21_1 : kernelRun0_B.sl.v1998 c i arg2 harg2 arg3 harg3 arg4 harg4 arg10 harg10 arg12 arg13 x0 x1 x2 xs0 =
    prob512 (mq5 (KB c arg4 harg4 arg10 harg10 x2 xs0) (qa1 (kernelRun0_B.sl.r_1 c i arg2 harg2 x0) (QB arg3 harg3 x1 5 0)) 0) (st512 (s5_1 (KB c arg4 harg4 arg10 harg10 x2 xs0) (qa1 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_1 c i arg2 harg2 x0) (QB arg3 harg3 x1 5 0)) 0)) (Bs21_1 ..))))))))))
theorem Bs21_2 : kernelRun0_B.sl.v1763 c i arg2 harg2 arg3 harg3 arg4 harg4 arg10 harg10 arg12 x0 x1 x2 xs0 =
    st512 (s5_2 (KB c arg4 harg4 arg10 harg10 x2 xs0) (qa1 (kernelRun0_B.sl.r_1 c i arg2 harg2 x0) (QB arg3 harg3 x1 5 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp21_2 : kernelRun0_B.sl.v2022 c i arg2 harg2 arg3 harg3 arg4 harg4 arg10 harg10 arg12 arg13 x0 x1 x2 xs0 =
    prob512 (mq5 (KB c arg4 harg4 arg10 harg10 x2 xs0) (qa1 (kernelRun0_B.sl.r_1 c i arg2 harg2 x0) (QB arg3 harg3 x1 5 0)) 0) (st512 (s5_2 (KB c arg4 harg4 arg10 harg10 x2 xs0) (qa1 (kernelRun0_B.sl.r_1 c i arg2 harg2 x0) (QB arg3 harg3 x1 5 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_1 c i arg2 harg2 x0) (QB arg3 harg3 x1 5 0)) 0)) (Bs21_2 ..))))))))))
theorem Bpiece5_0 : (k0_pay335 (kernelRun0_B.sl.v2034 c i arg2 harg2 arg3 harg3 arg4 harg4 arg5 harg5 arg7 harg7 arg10 harg10 arg11 harg11 arg12 arg13 x0 x1 x2 x3 x5 xs0 xs1) (kernelRun0_B.sl.v2037 c i arg2 harg2 arg3 harg3 arg4 harg4 arg5 harg5 arg7 harg7 arg10 harg10 arg11 harg11 arg12 arg13 x0 x1 x2 x3 x5 xs0 xs1) (View.readAt (Elt Ideal) arg8.view (Rect.unit (s := S128x256) ![0, 0] S128x256.size inb_S128x256_S128x256_0_0).toLoadRect (harg8.unread x6)) (View.readAt (Elt Ideal) arg6.view (Rect.unit (s := S1x256x2048) ![0, 0, 1280] S1x128x256.size inb_S1x256x2048_S1x128x256_0_0_1280).toLoadRect (harg6.unread x4)) : S1x128x256.Idx → Ideal .bf16) =
    pc5 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 5 0) (GB arg8 harg8 x6) (ZB arg6 harg6 x4 5 0) := by
  show gate (dif (kernelRun0_B.sl.r_4 c arg7 harg7 x5) (norm (acT5 (VB c arg5 harg5 arg11 harg11 x3 xs1) 0 (kernelRun0_B.sl.v1891 c i arg2 harg2 arg3 harg3 arg4 harg4 arg10 harg10 arg12 arg13 x0 x1 x2 xs0) (kernelRun0_B.sl.v1914 c i arg2 harg2 arg3 harg3 arg4 harg4 arg10 harg10 arg12 arg13 x0 x1 x2 xs0) (kernelRun0_B.sl.v1942 c i arg2 harg2 arg3 harg3 arg4 harg4 arg10 harg10 arg12 arg13 x0 x1 x2 xs0))) (norm (acT5 (VB c arg5 harg5 arg11 harg11 x3 xs1) 0 (kernelRun0_B.sl.v1975 c i arg2 harg2 arg3 harg3 arg4 harg4 arg10 harg10 arg12 arg13 x0 x1 x2 xs0) (kernelRun0_B.sl.v1998 c i arg2 harg2 arg3 harg3 arg4 harg4 arg10 harg10 arg12 arg13 x0 x1 x2 xs0) (kernelRun0_B.sl.v2022 c i arg2 harg2 arg3 harg3 arg4 harg4 arg10 harg10 arg12 arg13 x0 x1 x2 xs0)))) (GB arg8 harg8 x6) (ZB arg6 harg6 x4 5 0) = _
  rw [Bp20_0, Bp20_1, Bp20_2, Bp21_0, Bp21_1, Bp21_2]
  rfl

theorem Bs22_0 : kernelRun0_B.sl.v1790 c i arg2 harg2 arg3 harg3 arg4 harg4 arg10 harg10 arg12 x0 x1 x2 xs0 =
    st512 (s5_0 (KB c arg4 harg4 arg10 harg10 x2 xs0) (qa0 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp22_0 : kernelRun0_B.sl.v2089 c i arg2 harg2 arg3 harg3 arg4 harg4 arg10 harg10 arg12 arg13 x0 x1 x2 xs0 =
    prob512 (mq5 (KB c arg4 harg4 arg10 harg10 x2 xs0) (qa0 (kernelRun0_B.sl.r_3 c i arg2 harg2 x0) (QB arg3 harg3 x1 5 1)) 1) (st512 (s5_0 (KB c arg4 harg4 arg10 harg10 x2 xs0) (qa0 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_3 c i arg2 harg2 x0) (QB arg3 harg3 x1 5 1)) 1)) (Bs22_0 ..))))))))))
theorem Bs22_1 : kernelRun0_B.sl.v1817 c i arg2 harg2 arg3 harg3 arg4 harg4 arg10 harg10 arg12 x0 x1 x2 xs0 =
    st512 (s5_1 (KB c arg4 harg4 arg10 harg10 x2 xs0) (qa0 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp22_1 : kernelRun0_B.sl.v2115 c i arg2 harg2 arg3 harg3 arg4 harg4 arg10 harg10 arg12 arg13 x0 x1 x2 xs0 =
    prob512 (mq5 (KB c arg4 harg4 arg10 harg10 x2 xs0) (qa0 (kernelRun0_B.sl.r_3 c i arg2 harg2 x0) (QB arg3 harg3 x1 5 1)) 1) (st512 (s5_1 (KB c arg4 harg4 arg10 harg10 x2 xs0) (qa0 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_3 c i arg2 harg2 x0) (QB arg3 harg3 x1 5 1)) 1)) (Bs22_1 ..))))))))))
theorem Bs22_2 : kernelRun0_B.sl.v1880 c i arg2 harg2 arg3 harg3 arg4 harg4 arg10 harg10 arg12 x0 x1 x2 xs0 =
    st512 (s5_2 (KB c arg4 harg4 arg10 harg10 x2 xs0) (qa0 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp22_2 : kernelRun0_B.sl.v2139 c i arg2 harg2 arg3 harg3 arg4 harg4 arg10 harg10 arg12 arg13 x0 x1 x2 xs0 =
    prob512 (mq5 (KB c arg4 harg4 arg10 harg10 x2 xs0) (qa0 (kernelRun0_B.sl.r_3 c i arg2 harg2 x0) (QB arg3 harg3 x1 5 1)) 1) (st512 (s5_2 (KB c arg4 harg4 arg10 harg10 x2 xs0) (qa0 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa0 (kernelRun0_B.sl.r_3 c i arg2 harg2 x0) (QB arg3 harg3 x1 5 1)) 1)) (Bs22_2 ..))))))))))
theorem Bs23_0 : kernelRun0_B.sl.v1903 c i arg2 harg2 arg3 harg3 arg4 harg4 arg10 harg10 arg12 x0 x1 x2 xs0 =
    st512 (s5_0 (KB c arg4 harg4 arg10 harg10 x2 xs0) (qa1 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp23_0 : kernelRun0_B.sl.v2169 c i arg2 harg2 arg3 harg3 arg4 harg4 arg10 harg10 arg12 arg13 x0 x1 x2 xs0 =
    prob512 (mq5 (KB c arg4 harg4 arg10 harg10 x2 xs0) (qa1 (kernelRun0_B.sl.r_3 c i arg2 harg2 x0) (QB arg3 harg3 x1 5 1)) 1) (st512 (s5_0 (KB c arg4 harg4 arg10 harg10 x2 xs0) (qa1 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_3 c i arg2 harg2 x0) (QB arg3 harg3 x1 5 1)) 1)) (Bs23_0 ..))))))))))
theorem Bs23_1 : kernelRun0_B.sl.v1931 c i arg2 harg2 arg3 harg3 arg4 harg4 arg10 harg10 arg12 x0 x1 x2 xs0 =
    st512 (s5_1 (KB c arg4 harg4 arg10 harg10 x2 xs0) (qa1 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp23_1 : kernelRun0_B.sl.v2196 c i arg2 harg2 arg3 harg3 arg4 harg4 arg10 harg10 arg12 arg13 x0 x1 x2 xs0 =
    prob512 (mq5 (KB c arg4 harg4 arg10 harg10 x2 xs0) (qa1 (kernelRun0_B.sl.r_3 c i arg2 harg2 x0) (QB arg3 harg3 x1 5 1)) 1) (st512 (s5_1 (KB c arg4 harg4 arg10 harg10 x2 xs0) (qa1 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_3 c i arg2 harg2 x0) (QB arg3 harg3 x1 5 1)) 1)) (Bs23_1 ..))))))))))
theorem Bs23_2 : kernelRun0_B.sl.v1964 c i arg2 harg2 arg3 harg3 arg4 harg4 arg10 harg10 arg12 x0 x1 x2 xs0 =
    st512 (s5_2 (KB c arg4 harg4 arg10 harg10 x2 xs0) (qa1 (kernelRun0_B.sl.r_3 c i arg2 harg2 x0) (QB arg3 harg3 x1 5 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp23_2 : kernelRun0_B.sl.v2223 c i arg2 harg2 arg3 harg3 arg4 harg4 arg10 harg10 arg12 arg13 x0 x1 x2 xs0 =
    prob512 (mq5 (KB c arg4 harg4 arg10 harg10 x2 xs0) (qa1 (kernelRun0_B.sl.r_3 c i arg2 harg2 x0) (QB arg3 harg3 x1 5 1)) 1) (st512 (s5_2 (KB c arg4 harg4 arg10 harg10 x2 xs0) (qa1 (kernelRun0_B.sl.r_3 c i arg2 harg2 x0) (QB arg3 harg3 x1 5 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq5 (KB c arg4 harg4 arg10 harg10 x2 xs0) (qa1 (kernelRun0_B.sl.r_3 c i arg2 harg2 x0) (QB arg3 harg3 x1 5 1)) 1)) (Bs23_2 ..))))))))))
theorem Bpiece5_1 : (kernelRun0_B.sl.v2265 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc5 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 5 1) (GB arg8 harg8 x6) (ZB arg6 harg6 x4 5 1) := by
  show gate (dif (kernelRun0_B.sl.r_4 c arg7 harg7 x5) (norm (acT5 (VB c arg5 harg5 arg11 harg11 x3 xs1) 1 (kernelRun0_B.sl.v2089 c i arg2 harg2 arg3 harg3 arg4 harg4 arg10 harg10 arg12 arg13 x0 x1 x2 xs0) (kernelRun0_B.sl.v2115 c i arg2 harg2 arg3 harg3 arg4 harg4 arg10 harg10 arg12 arg13 x0 x1 x2 xs0) (kernelRun0_B.sl.v2139 c i arg2 harg2 arg3 harg3 arg4 harg4 arg10 harg10 arg12 arg13 x0 x1 x2 xs0))) (norm (acT5 (VB c arg5 harg5 arg11 harg11 x3 xs1) 1 (kernelRun0_B.sl.v2169 c i arg2 harg2 arg3 harg3 arg4 harg4 arg10 harg10 arg12 arg13 x0 x1 x2 xs0) (kernelRun0_B.sl.v2196 c i arg2 harg2 arg3 harg3 arg4 harg4 arg10 harg10 arg12 arg13 x0 x1 x2 xs0) (kernelRun0_B.sl.v2223 c i arg2 harg2 arg3 harg3 arg4 harg4 arg10 harg10 arg12 arg13 x0 x1 x2 xs0)))) (GB arg8 harg8 x6) (ZB arg6 harg6 x4 5 1) = _
  rw [Bp22_0, Bp22_1, Bp22_2, Bp23_0, Bp23_1, Bp23_2]
  rfl

theorem Bs24_0 : kernelRun0_B.sl.v1987 c i arg2 harg2 arg3 harg3 arg4 harg4 arg10 harg10 arg12 x0 x1 x2 xs0 =
    st512 (s6_0 (KB c arg4 harg4 arg10 harg10 x2 xs0) (qa0 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp24_0 : kernelRun0_B.sl.v2286 c i arg2 harg2 arg3 harg3 arg4 harg4 arg10 harg10 arg12 arg13 x0 x1 x2 xs0 =
    prob512 (mq6 (KB c arg4 harg4 arg10 harg10 x2 xs0) (qa0 (kernelRun0_B.sl.r_1 c i arg2 harg2 x0) (QB arg3 harg3 x1 6 0)) 0) (st512 (s6_0 (KB c arg4 harg4 arg10 harg10 x2 xs0) (qa0 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_1 c i arg2 harg2 x0) (QB arg3 harg3 x1 6 0)) 0)) (Bs24_0 ..))))))))))
theorem Bs24_1 : kernelRun0_B.sl.v2011 c i arg2 harg2 arg3 harg3 arg4 harg4 arg10 harg10 arg12 x0 x1 x2 xs0 =
    st512 (s6_1 (KB c arg4 harg4 arg10 harg10 x2 xs0) (qa0 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp24_1 : kernelRun0_B.sl.v2309 c i arg2 harg2 arg3 harg3 arg4 harg4 arg10 harg10 arg12 arg13 x0 x1 x2 xs0 =
    prob512 (mq6 (KB c arg4 harg4 arg10 harg10 x2 xs0) (qa0 (kernelRun0_B.sl.r_1 c i arg2 harg2 x0) (QB arg3 harg3 x1 6 0)) 0) (st512 (s6_1 (KB c arg4 harg4 arg10 harg10 x2 xs0) (qa0 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_1 c i arg2 harg2 x0) (QB arg3 harg3 x1 6 0)) 0)) (Bs24_1 ..))))))))))
theorem Bs24_2 : kernelRun0_B.sl.v2078 c i arg2 harg2 arg3 harg3 arg4 harg4 arg10 harg10 arg12 x0 x1 x2 xs0 =
    st512 (s6_2 (KB c arg4 harg4 arg10 harg10 x2 xs0) (qa0 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp24_2 : kernelRun0_B.sl.v2340 c i arg2 harg2 arg3 harg3 arg4 harg4 arg10 harg10 arg12 arg13 x0 x1 x2 xs0 =
    prob512 (mq6 (KB c arg4 harg4 arg10 harg10 x2 xs0) (qa0 (kernelRun0_B.sl.r_1 c i arg2 harg2 x0) (QB arg3 harg3 x1 6 0)) 0) (st512 (s6_2 (KB c arg4 harg4 arg10 harg10 x2 xs0) (qa0 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_1 c i arg2 harg2 x0) (QB arg3 harg3 x1 6 0)) 0)) (Bs24_2 ..))))))))))
theorem Bs24_3 : kernelRun0_B.sl.v2104 c i arg2 harg2 arg3 harg3 arg4 harg4 arg10 harg10 arg12 x0 x1 x2 xs0 =
    st256 (s6_3 (KB c arg4 harg4 arg10 harg10 x2 xs0) (qa0 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp24_3 : kernelRun0_B.sl.v2367 c i arg2 harg2 arg3 harg3 arg4 harg4 arg10 harg10 arg12 arg13 x0 x1 x2 xs0 =
    prob256 (mq6 (KB c arg4 harg4 arg10 harg10 x2 xs0) (qa0 (kernelRun0_B.sl.r_1 c i arg2 harg2 x0) (QB arg3 harg3 x1 6 0)) 0) (st256 (s6_3 (KB c arg4 harg4 arg10 harg10 x2 xs0) (qa0 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KB c arg4 harg4 arg10 harg10 x2 xs0) (qa0 (kernelRun0_B.sl.r_1 c i arg2 harg2 x0) (QB arg3 harg3 x1 6 0)) 0)) (Bs24_3 ..))))))))))
theorem Bs25_0 : kernelRun0_B.sl.v2128 c i arg2 harg2 arg3 harg3 arg4 harg4 arg10 harg10 arg12 x0 x1 x2 xs0 =
    st512 (s6_0 (KB c arg4 harg4 arg10 harg10 x2 xs0) (qa1 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp25_0 : kernelRun0_B.sl.v2397 c i arg2 harg2 arg3 harg3 arg4 harg4 arg10 harg10 arg12 arg13 x0 x1 x2 xs0 =
    prob512 (mq6 (KB c arg4 harg4 arg10 harg10 x2 xs0) (qa1 (kernelRun0_B.sl.r_1 c i arg2 harg2 x0) (QB arg3 harg3 x1 6 0)) 0) (st512 (s6_0 (KB c arg4 harg4 arg10 harg10 x2 xs0) (qa1 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_1 c i arg2 harg2 x0) (QB arg3 harg3 x1 6 0)) 0)) (Bs25_0 ..))))))))))
theorem Bs25_1 : kernelRun0_B.sl.v2158 c i arg2 harg2 arg3 harg3 arg4 harg4 arg10 harg10 arg12 x0 x1 x2 xs0 =
    st512 (s6_1 (KB c arg4 harg4 arg10 harg10 x2 xs0) (qa1 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp25_1 : kernelRun0_B.sl.v2420 c i arg2 harg2 arg3 harg3 arg4 harg4 arg10 harg10 arg12 arg13 x0 x1 x2 xs0 =
    prob512 (mq6 (KB c arg4 harg4 arg10 harg10 x2 xs0) (qa1 (kernelRun0_B.sl.r_1 c i arg2 harg2 x0) (QB arg3 harg3 x1 6 0)) 0) (st512 (s6_1 (KB c arg4 harg4 arg10 harg10 x2 xs0) (qa1 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_1 c i arg2 harg2 x0) (QB arg3 harg3 x1 6 0)) 0)) (Bs25_1 ..))))))))))
theorem Bs25_2 : kernelRun0_B.sl.v2185 c i arg2 harg2 arg3 harg3 arg4 harg4 arg10 harg10 arg12 x0 x1 x2 xs0 =
    st512 (s6_2 (KB c arg4 harg4 arg10 harg10 x2 xs0) (qa1 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp25_2 : kernelRun0_B.sl.v2451 c i arg2 harg2 arg3 harg3 arg4 harg4 arg10 harg10 arg12 arg13 x0 x1 x2 xs0 =
    prob512 (mq6 (KB c arg4 harg4 arg10 harg10 x2 xs0) (qa1 (kernelRun0_B.sl.r_1 c i arg2 harg2 x0) (QB arg3 harg3 x1 6 0)) 0) (st512 (s6_2 (KB c arg4 harg4 arg10 harg10 x2 xs0) (qa1 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_1 c i arg2 harg2 x0) (QB arg3 harg3 x1 6 0)) 0)) (Bs25_2 ..))))))))))
theorem Bs25_3 : kernelRun0_B.sl.v2212 c i arg2 harg2 arg3 harg3 arg4 harg4 arg10 harg10 arg12 x0 x1 x2 xs0 =
    st256 (s6_3 (KB c arg4 harg4 arg10 harg10 x2 xs0) (qa1 (kernelRun0_B.sl.r_1 c i arg2 harg2 x0) (QB arg3 harg3 x1 6 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp25_3 : kernelRun0_B.sl.v2478 c i arg2 harg2 arg3 harg3 arg4 harg4 arg10 harg10 arg12 arg13 x0 x1 x2 xs0 =
    prob256 (mq6 (KB c arg4 harg4 arg10 harg10 x2 xs0) (qa1 (kernelRun0_B.sl.r_1 c i arg2 harg2 x0) (QB arg3 harg3 x1 6 0)) 0) (st256 (s6_3 (KB c arg4 harg4 arg10 harg10 x2 xs0) (qa1 (kernelRun0_B.sl.r_1 c i arg2 harg2 x0) (QB arg3 harg3 x1 6 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KB c arg4 harg4 arg10 harg10 x2 xs0) (qa1 (kernelRun0_B.sl.r_1 c i arg2 harg2 x0) (QB arg3 harg3 x1 6 0)) 0)) (Bs25_3 ..))))))))))
theorem Bpiece6_0 : (kernelRun0_B.sl.v2520 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc6 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 6 0) (GB arg8 harg8 x6) (ZB arg6 harg6 x4 6 0) := by
  show gate (dif (kernelRun0_B.sl.r_4 c arg7 harg7 x5) (norm (acT6 (VB c arg5 harg5 arg11 harg11 x3 xs1) 0 (kernelRun0_B.sl.v2286 c i arg2 harg2 arg3 harg3 arg4 harg4 arg10 harg10 arg12 arg13 x0 x1 x2 xs0) (kernelRun0_B.sl.v2309 c i arg2 harg2 arg3 harg3 arg4 harg4 arg10 harg10 arg12 arg13 x0 x1 x2 xs0) (kernelRun0_B.sl.v2340 c i arg2 harg2 arg3 harg3 arg4 harg4 arg10 harg10 arg12 arg13 x0 x1 x2 xs0) (kernelRun0_B.sl.v2367 c i arg2 harg2 arg3 harg3 arg4 harg4 arg10 harg10 arg12 arg13 x0 x1 x2 xs0))) (norm (acT6 (VB c arg5 harg5 arg11 harg11 x3 xs1) 0 (kernelRun0_B.sl.v2397 c i arg2 harg2 arg3 harg3 arg4 harg4 arg10 harg10 arg12 arg13 x0 x1 x2 xs0) (kernelRun0_B.sl.v2420 c i arg2 harg2 arg3 harg3 arg4 harg4 arg10 harg10 arg12 arg13 x0 x1 x2 xs0) (kernelRun0_B.sl.v2451 c i arg2 harg2 arg3 harg3 arg4 harg4 arg10 harg10 arg12 arg13 x0 x1 x2 xs0) (kernelRun0_B.sl.v2478 c i arg2 harg2 arg3 harg3 arg4 harg4 arg10 harg10 arg12 arg13 x0 x1 x2 xs0)))) (GB arg8 harg8 x6) (ZB arg6 harg6 x4 6 0) = _
  rw [Bp24_0, Bp24_1, Bp24_2, Bp24_3, Bp25_0, Bp25_1, Bp25_2, Bp25_3]
  rfl

theorem Bs26_0 : kernelRun0_B.sl.v2275 c i arg2 harg2 arg3 harg3 arg4 harg4 arg10 harg10 arg12 x0 x1 x2 xs0 =
    st512 (s6_0 (KB c arg4 harg4 arg10 harg10 x2 xs0) (qa0 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp26_0 : kernelRun0_B.sl.v2541 c i arg2 harg2 arg3 harg3 arg4 harg4 arg10 harg10 arg12 arg13 x0 x1 x2 xs0 =
    prob512 (mq6 (KB c arg4 harg4 arg10 harg10 x2 xs0) (qa0 (kernelRun0_B.sl.r_3 c i arg2 harg2 x0) (QB arg3 harg3 x1 6 1)) 1) (st512 (s6_0 (KB c arg4 harg4 arg10 harg10 x2 xs0) (qa0 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_3 c i arg2 harg2 x0) (QB arg3 harg3 x1 6 1)) 1)) (Bs26_0 ..))))))))))
theorem Bs26_1 : kernelRun0_B.sl.v2298 c i arg2 harg2 arg3 harg3 arg4 harg4 arg10 harg10 arg12 x0 x1 x2 xs0 =
    st512 (s6_1 (KB c arg4 harg4 arg10 harg10 x2 xs0) (qa0 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp26_1 : kernelRun0_B.sl.v2564 c i arg2 harg2 arg3 harg3 arg4 harg4 arg10 harg10 arg12 arg13 x0 x1 x2 xs0 =
    prob512 (mq6 (KB c arg4 harg4 arg10 harg10 x2 xs0) (qa0 (kernelRun0_B.sl.r_3 c i arg2 harg2 x0) (QB arg3 harg3 x1 6 1)) 1) (st512 (s6_1 (KB c arg4 harg4 arg10 harg10 x2 xs0) (qa0 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_3 c i arg2 harg2 x0) (QB arg3 harg3 x1 6 1)) 1)) (Bs26_1 ..))))))))))
theorem Bs26_2 : kernelRun0_B.sl.v2329 c i arg2 harg2 arg3 harg3 arg4 harg4 arg10 harg10 arg12 x0 x1 x2 xs0 =
    st512 (s6_2 (KB c arg4 harg4 arg10 harg10 x2 xs0) (qa0 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp26_2 : kernelRun0_B.sl.v2595 c i arg2 harg2 arg3 harg3 arg4 harg4 arg10 harg10 arg12 arg13 x0 x1 x2 xs0 =
    prob512 (mq6 (KB c arg4 harg4 arg10 harg10 x2 xs0) (qa0 (kernelRun0_B.sl.r_3 c i arg2 harg2 x0) (QB arg3 harg3 x1 6 1)) 1) (st512 (s6_2 (KB c arg4 harg4 arg10 harg10 x2 xs0) (qa0 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa0 (kernelRun0_B.sl.r_3 c i arg2 harg2 x0) (QB arg3 harg3 x1 6 1)) 1)) (Bs26_2 ..))))))))))
theorem Bs26_3 : kernelRun0_B.sl.v2356 c i arg2 harg2 arg3 harg3 arg4 harg4 arg10 harg10 arg12 x0 x1 x2 xs0 =
    st256 (s6_3 (KB c arg4 harg4 arg10 harg10 x2 xs0) (qa0 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp26_3 : kernelRun0_B.sl.v2622 c i arg2 harg2 arg3 harg3 arg4 harg4 arg10 harg10 arg12 arg13 x0 x1 x2 xs0 =
    prob256 (mq6 (KB c arg4 harg4 arg10 harg10 x2 xs0) (qa0 (kernelRun0_B.sl.r_3 c i arg2 harg2 x0) (QB arg3 harg3 x1 6 1)) 1) (st256 (s6_3 (KB c arg4 harg4 arg10 harg10 x2 xs0) (qa0 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KB c arg4 harg4 arg10 harg10 x2 xs0) (qa0 (kernelRun0_B.sl.r_3 c i arg2 harg2 x0) (QB arg3 harg3 x1 6 1)) 1)) (Bs26_3 ..))))))))))
theorem Bs27_0 : kernelRun0_B.sl.v2386 c i arg2 harg2 arg3 harg3 arg4 harg4 arg10 harg10 arg12 x0 x1 x2 xs0 =
    st512 (s6_0 (KB c arg4 harg4 arg10 harg10 x2 xs0) (qa1 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp27_0 : kernelRun0_B.sl.v2652 c i arg2 harg2 arg3 harg3 arg4 harg4 arg10 harg10 arg12 arg13 x0 x1 x2 xs0 =
    prob512 (mq6 (KB c arg4 harg4 arg10 harg10 x2 xs0) (qa1 (kernelRun0_B.sl.r_3 c i arg2 harg2 x0) (QB arg3 harg3 x1 6 1)) 1) (st512 (s6_0 (KB c arg4 harg4 arg10 harg10 x2 xs0) (qa1 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_3 c i arg2 harg2 x0) (QB arg3 harg3 x1 6 1)) 1)) (Bs27_0 ..))))))))))
theorem Bs27_1 : kernelRun0_B.sl.v2409 c i arg2 harg2 arg3 harg3 arg4 harg4 arg10 harg10 arg12 x0 x1 x2 xs0 =
    st512 (s6_1 (KB c arg4 harg4 arg10 harg10 x2 xs0) (qa1 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp27_1 : kernelRun0_B.sl.v2675 c i arg2 harg2 arg3 harg3 arg4 harg4 arg10 harg10 arg12 arg13 x0 x1 x2 xs0 =
    prob512 (mq6 (KB c arg4 harg4 arg10 harg10 x2 xs0) (qa1 (kernelRun0_B.sl.r_3 c i arg2 harg2 x0) (QB arg3 harg3 x1 6 1)) 1) (st512 (s6_1 (KB c arg4 harg4 arg10 harg10 x2 xs0) (qa1 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_3 c i arg2 harg2 x0) (QB arg3 harg3 x1 6 1)) 1)) (Bs27_1 ..))))))))))
theorem Bs27_2 : kernelRun0_B.sl.v2440 c i arg2 harg2 arg3 harg3 arg4 harg4 arg10 harg10 arg12 x0 x1 x2 xs0 =
    st512 (s6_2 (KB c arg4 harg4 arg10 harg10 x2 xs0) (qa1 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp27_2 : kernelRun0_B.sl.v2706 c i arg2 harg2 arg3 harg3 arg4 harg4 arg10 harg10 arg12 arg13 x0 x1 x2 xs0 =
    prob512 (mq6 (KB c arg4 harg4 arg10 harg10 x2 xs0) (qa1 (kernelRun0_B.sl.r_3 c i arg2 harg2 x0) (QB arg3 harg3 x1 6 1)) 1) (st512 (s6_2 (KB c arg4 harg4 arg10 harg10 x2 xs0) (qa1 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq6 (KB c arg4 harg4 arg10 harg10 x2 xs0) (qa1 (kernelRun0_B.sl.r_3 c i arg2 harg2 x0) (QB arg3 harg3 x1 6 1)) 1)) (Bs27_2 ..))))))))))
theorem Bs27_3 : kernelRun0_B.sl.v2467 c i arg2 harg2 arg3 harg3 arg4 harg4 arg10 harg10 arg12 x0 x1 x2 xs0 =
    st256 (s6_3 (KB c arg4 harg4 arg10 harg10 x2 xs0) (qa1 (kernelRun0_B.sl.r_3 c i arg2 harg2 x0) (QB arg3 harg3 x1 6 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp27_3 : kernelRun0_B.sl.v2721 c i arg2 harg2 arg3 harg3 arg4 harg4 arg10 harg10 arg12 arg13 x0 x1 x2 xs0 =
    prob256 (mq6 (KB c arg4 harg4 arg10 harg10 x2 xs0) (qa1 (kernelRun0_B.sl.r_3 c i arg2 harg2 x0) (QB arg3 harg3 x1 6 1)) 1) (st256 (s6_3 (KB c arg4 harg4 arg10 harg10 x2 xs0) (qa1 (kernelRun0_B.sl.r_3 c i arg2 harg2 x0) (QB arg3 harg3 x1 6 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob256 (mq6 (KB c arg4 harg4 arg10 harg10 x2 xs0) (qa1 (kernelRun0_B.sl.r_3 c i arg2 harg2 x0) (QB arg3 harg3 x1 6 1)) 1)) (Bs27_3 ..))))))))))
theorem Bpiece6_1 : (kernelRun0_B.sl.v2763 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc6 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 6 1) (GB arg8 harg8 x6) (ZB arg6 harg6 x4 6 1) := by
  show gate (dif (kernelRun0_B.sl.r_4 c arg7 harg7 x5) (norm (acT6 (VB c arg5 harg5 arg11 harg11 x3 xs1) 1 (kernelRun0_B.sl.v2541 c i arg2 harg2 arg3 harg3 arg4 harg4 arg10 harg10 arg12 arg13 x0 x1 x2 xs0) (kernelRun0_B.sl.v2564 c i arg2 harg2 arg3 harg3 arg4 harg4 arg10 harg10 arg12 arg13 x0 x1 x2 xs0) (kernelRun0_B.sl.v2595 c i arg2 harg2 arg3 harg3 arg4 harg4 arg10 harg10 arg12 arg13 x0 x1 x2 xs0) (kernelRun0_B.sl.v2622 c i arg2 harg2 arg3 harg3 arg4 harg4 arg10 harg10 arg12 arg13 x0 x1 x2 xs0))) (norm (acT6 (VB c arg5 harg5 arg11 harg11 x3 xs1) 1 (kernelRun0_B.sl.v2652 c i arg2 harg2 arg3 harg3 arg4 harg4 arg10 harg10 arg12 arg13 x0 x1 x2 xs0) (kernelRun0_B.sl.v2675 c i arg2 harg2 arg3 harg3 arg4 harg4 arg10 harg10 arg12 arg13 x0 x1 x2 xs0) (kernelRun0_B.sl.v2706 c i arg2 harg2 arg3 harg3 arg4 harg4 arg10 harg10 arg12 arg13 x0 x1 x2 xs0) (kernelRun0_B.sl.v2721 c i arg2 harg2 arg3 harg3 arg4 harg4 arg10 harg10 arg12 arg13 x0 x1 x2 xs0)))) (GB arg8 harg8 x6) (ZB arg6 harg6 x4 6 1) = _
  rw [Bp26_0, Bp26_1, Bp26_2, Bp26_3, Bp27_0, Bp27_1, Bp27_2, Bp27_3]
  rfl

theorem Bs28_0 : kernelRun0_B.sl.v2530 c i arg2 harg2 arg3 harg3 arg4 harg4 arg10 harg10 arg12 x0 x1 x2 xs0 =
    st512 (s7_0 (KB c arg4 harg4 arg10 harg10 x2 xs0) (qa0 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp28_0 : kernelRun0_B.sl.v2775 c i arg2 harg2 arg3 harg3 arg4 harg4 arg10 harg10 arg12 arg13 x0 x1 x2 xs0 =
    prob512 (mq7 (KB c arg4 harg4 arg10 harg10 x2 xs0) (qa0 (kernelRun0_B.sl.r_1 c i arg2 harg2 x0) (QB arg3 harg3 x1 7 0)) 0) (st512 (s7_0 (KB c arg4 harg4 arg10 harg10 x2 xs0) (qa0 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_1 c i arg2 harg2 x0) (QB arg3 harg3 x1 7 0)) 0)) (Bs28_0 ..))))))))))
theorem Bs28_1 : kernelRun0_B.sl.v2553 c i arg2 harg2 arg3 harg3 arg4 harg4 arg10 harg10 arg12 x0 x1 x2 xs0 =
    st512 (s7_1 (KB c arg4 harg4 arg10 harg10 x2 xs0) (qa0 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp28_1 : kernelRun0_B.sl.v2789 c i arg2 harg2 arg3 harg3 arg4 harg4 arg10 harg10 arg12 arg13 x0 x1 x2 xs0 =
    prob512 (mq7 (KB c arg4 harg4 arg10 harg10 x2 xs0) (qa0 (kernelRun0_B.sl.r_1 c i arg2 harg2 x0) (QB arg3 harg3 x1 7 0)) 0) (st512 (s7_1 (KB c arg4 harg4 arg10 harg10 x2 xs0) (qa0 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_1 c i arg2 harg2 x0) (QB arg3 harg3 x1 7 0)) 0)) (Bs28_1 ..))))))))))
theorem Bs28_2 : kernelRun0_B.sl.v2584 c i arg2 harg2 arg3 harg3 arg4 harg4 arg10 harg10 arg12 x0 x1 x2 xs0 =
    st512 (s7_2 (KB c arg4 harg4 arg10 harg10 x2 xs0) (qa0 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp28_2 : kernelRun0_B.sl.v2804 c i arg2 harg2 arg3 harg3 arg4 harg4 arg10 harg10 arg12 arg13 x0 x1 x2 xs0 =
    prob512 (mq7 (KB c arg4 harg4 arg10 harg10 x2 xs0) (qa0 (kernelRun0_B.sl.r_1 c i arg2 harg2 x0) (QB arg3 harg3 x1 7 0)) 0) (st512 (s7_2 (KB c arg4 harg4 arg10 harg10 x2 xs0) (qa0 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_1 c i arg2 harg2 x0) (QB arg3 harg3 x1 7 0)) 0)) (Bs28_2 ..))))))))))
theorem Bs28_3 : kernelRun0_B.sl.v2611 c i arg2 harg2 arg3 harg3 arg4 harg4 arg10 harg10 arg12 x0 x1 x2 xs0 =
    st512 (s7_3 (KB c arg4 harg4 arg10 harg10 x2 xs0) (qa0 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp28_3 : kernelRun0_B.sl.v2819 c i arg2 harg2 arg3 harg3 arg4 harg4 arg10 harg10 arg12 arg13 x0 x1 x2 xs0 =
    prob512 (mq7 (KB c arg4 harg4 arg10 harg10 x2 xs0) (qa0 (kernelRun0_B.sl.r_1 c i arg2 harg2 x0) (QB arg3 harg3 x1 7 0)) 0) (st512 (s7_3 (KB c arg4 harg4 arg10 harg10 x2 xs0) (qa0 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_1 c i arg2 harg2 x0) (QB arg3 harg3 x1 7 0)) 0)) (Bs28_3 ..))))))))))
theorem Bs29_0 : kernelRun0_B.sl.v2641 c i arg2 harg2 arg3 harg3 arg4 harg4 arg10 harg10 arg12 x0 x1 x2 xs0 =
    st512 (s7_0 (KB c arg4 harg4 arg10 harg10 x2 xs0) (qa1 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp29_0 : kernelRun0_B.sl.v2840 c i arg2 harg2 arg3 harg3 arg4 harg4 arg10 harg10 arg12 arg13 x0 x1 x2 xs0 =
    prob512 (mq7 (KB c arg4 harg4 arg10 harg10 x2 xs0) (qa1 (kernelRun0_B.sl.r_1 c i arg2 harg2 x0) (QB arg3 harg3 x1 7 0)) 0) (st512 (s7_0 (KB c arg4 harg4 arg10 harg10 x2 xs0) (qa1 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_1 c i arg2 harg2 x0) (QB arg3 harg3 x1 7 0)) 0)) (Bs29_0 ..))))))))))
theorem Bs29_1 : kernelRun0_B.sl.v2664 c i arg2 harg2 arg3 harg3 arg4 harg4 arg10 harg10 arg12 x0 x1 x2 xs0 =
    st512 (s7_1 (KB c arg4 harg4 arg10 harg10 x2 xs0) (qa1 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp29_1 : kernelRun0_B.sl.v2854 c i arg2 harg2 arg3 harg3 arg4 harg4 arg10 harg10 arg12 arg13 x0 x1 x2 xs0 =
    prob512 (mq7 (KB c arg4 harg4 arg10 harg10 x2 xs0) (qa1 (kernelRun0_B.sl.r_1 c i arg2 harg2 x0) (QB arg3 harg3 x1 7 0)) 0) (st512 (s7_1 (KB c arg4 harg4 arg10 harg10 x2 xs0) (qa1 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_1 c i arg2 harg2 x0) (QB arg3 harg3 x1 7 0)) 0)) (Bs29_1 ..))))))))))
theorem Bs29_2 : kernelRun0_B.sl.v2695 c i arg2 harg2 arg3 harg3 arg4 harg4 arg10 harg10 arg12 x0 x1 x2 xs0 =
    st512 (s7_2 (KB c arg4 harg4 arg10 harg10 x2 xs0) (qa1 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))))
theorem Bp29_2 : kernelRun0_B.sl.v2869 c i arg2 harg2 arg3 harg3 arg4 harg4 arg10 harg10 arg12 arg13 x0 x1 x2 xs0 =
    prob512 (mq7 (KB c arg4 harg4 arg10 harg10 x2 xs0) (qa1 (kernelRun0_B.sl.r_1 c i arg2 harg2 x0) (QB arg3 harg3 x1 7 0)) 0) (st512 (s7_2 (KB c arg4 harg4 arg10 harg10 x2 xs0) (qa1 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_1 c i arg2 harg2 x0) (QB arg3 harg3 x1 7 0)) 0)) (Bs29_2 ..))))))))))
theorem Bs29_3 : kernelRun0_B.sl.v2710 c i arg2 harg2 arg3 harg3 arg4 harg4 arg10 harg10 arg12 x0 x1 x2 xs0 =
    st512 (s7_3 (KB c arg4 harg4 arg10 harg10 x2 xs0) (qa1 (kernelRun0_B.sl.r_1 c i arg2 harg2 x0) (QB arg3 harg3 x1 7 0)) 0) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))))
theorem Bp29_3 : kernelRun0_B.sl.v2884 c i arg2 harg2 arg3 harg3 arg4 harg4 arg10 harg10 arg12 arg13 x0 x1 x2 xs0 =
    prob512 (mq7 (KB c arg4 harg4 arg10 harg10 x2 xs0) (qa1 (kernelRun0_B.sl.r_1 c i arg2 harg2 x0) (QB arg3 harg3 x1 7 0)) 0) (st512 (s7_3 (KB c arg4 harg4 arg10 harg10 x2 xs0) (qa1 (kernelRun0_B.sl.r_1 c i arg2 harg2 x0) (QB arg3 harg3 x1 7 0)) 0)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_1 c i arg2 harg2 x0) (QB arg3 harg3 x1 7 0)) 0)) (Bs29_3 ..))))))))))
theorem Bpiece7_0 : (kernelRun0_B.sl.v2926 c i arg2 harg2 arg3 harg3 arg4 harg4 arg5 harg5 arg6 harg6 arg7 harg7 arg8 harg8 arg10 harg10 arg11 harg11 arg12 arg13 x0 x1 x2 x3 x4 x5 x6 xs0 xs1 : S1x128x256.Idx → Ideal .bf16) =
    pc7 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 7 0) (GB arg8 harg8 x6) (ZB arg6 harg6 x4 7 0) := by
  show gate (dif (kernelRun0_B.sl.r_4 c arg7 harg7 x5) (norm (acT7 (VB c arg5 harg5 arg11 harg11 x3 xs1) 0 (kernelRun0_B.sl.v2775 c i arg2 harg2 arg3 harg3 arg4 harg4 arg10 harg10 arg12 arg13 x0 x1 x2 xs0) (kernelRun0_B.sl.v2789 c i arg2 harg2 arg3 harg3 arg4 harg4 arg10 harg10 arg12 arg13 x0 x1 x2 xs0) (kernelRun0_B.sl.v2804 c i arg2 harg2 arg3 harg3 arg4 harg4 arg10 harg10 arg12 arg13 x0 x1 x2 xs0) (kernelRun0_B.sl.v2819 c i arg2 harg2 arg3 harg3 arg4 harg4 arg10 harg10 arg12 arg13 x0 x1 x2 xs0))) (norm (acT7 (VB c arg5 harg5 arg11 harg11 x3 xs1) 0 (kernelRun0_B.sl.v2840 c i arg2 harg2 arg3 harg3 arg4 harg4 arg10 harg10 arg12 arg13 x0 x1 x2 xs0) (kernelRun0_B.sl.v2854 c i arg2 harg2 arg3 harg3 arg4 harg4 arg10 harg10 arg12 arg13 x0 x1 x2 xs0) (kernelRun0_B.sl.v2869 c i arg2 harg2 arg3 harg3 arg4 harg4 arg10 harg10 arg12 arg13 x0 x1 x2 xs0) (kernelRun0_B.sl.v2884 c i arg2 harg2 arg3 harg3 arg4 harg4 arg10 harg10 arg12 arg13 x0 x1 x2 xs0)))) (GB arg8 harg8 x6) (ZB arg6 harg6 x4 7 0) = _
  rw [Bp28_0, Bp28_1, Bp28_2, Bp28_3, Bp29_0, Bp29_1, Bp29_2, Bp29_3]
  rfl

theorem Bs30_0 : kernelRun0_B.sl.v2764 c i arg2 harg2 arg3 harg3 arg4 harg4 arg10 harg10 arg12 x0 x1 x2 xs0 =
    st512 (s7_0 (KB c arg4 harg4 arg10 harg10 x2 xs0) (qa0 (kernelRun0_B.sl.r_3 c i arg2 harg2 x0) (QB arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))))
theorem Bp30_0 : kernelRun0_B.sl.v2929 c i arg2 harg2 arg3 harg3 arg4 harg4 arg10 harg10 arg12 arg13 x0 x1 x2 xs0 =
    prob512 (mq7 (KB c arg4 harg4 arg10 harg10 x2 xs0) (qa0 (kernelRun0_B.sl.r_3 c i arg2 harg2 x0) (QB arg3 harg3 x1 7 1)) 1) (st512 (s7_0 (KB c arg4 harg4 arg10 harg10 x2 xs0) (qa0 (kernelRun0_B.sl.r_3 c i arg2 harg2 x0) (QB arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_3 c i arg2 harg2 x0) (QB arg3 harg3 x1 7 1)) 1)) (Bs30_0 ..)))))))))
theorem Bs30_1 : kernelRun0_B.sl.v2778 c i arg2 harg2 arg3 harg3 arg4 harg4 arg10 harg10 arg12 x0 x1 x2 xs0 =
    st512 (s7_1 (KB c arg4 harg4 arg10 harg10 x2 xs0) (qa0 (kernelRun0_B.sl.r_3 c i arg2 harg2 x0) (QB arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))))
theorem Bp30_1 : kernelRun0_B.sl.v2934 c i arg2 harg2 arg3 harg3 arg4 harg4 arg10 harg10 arg12 arg13 x0 x1 x2 xs0 =
    prob512 (mq7 (KB c arg4 harg4 arg10 harg10 x2 xs0) (qa0 (kernelRun0_B.sl.r_3 c i arg2 harg2 x0) (QB arg3 harg3 x1 7 1)) 1) (st512 (s7_1 (KB c arg4 harg4 arg10 harg10 x2 xs0) (qa0 (kernelRun0_B.sl.r_3 c i arg2 harg2 x0) (QB arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_3 c i arg2 harg2 x0) (QB arg3 harg3 x1 7 1)) 1)) (Bs30_1 ..))))))))
theorem Bs30_2 : kernelRun0_B.sl.v2793 c i arg2 harg2 arg3 harg3 arg4 harg4 arg10 harg10 arg12 x0 x1 x2 xs0 =
    st512 (s7_2 (KB c arg4 harg4 arg10 harg10 x2 xs0) (qa0 (kernelRun0_B.sl.r_3 c i arg2 harg2 x0) (QB arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl))))))
theorem Bp30_2 : kernelRun0_B.sl.v2940 c i arg2 harg2 arg3 harg3 arg4 harg4 arg10 harg10 arg12 arg13 x0 x1 x2 xs0 =
    prob512 (mq7 (KB c arg4 harg4 arg10 harg10 x2 xs0) (qa0 (kernelRun0_B.sl.r_3 c i arg2 harg2 x0) (QB arg3 harg3 x1 7 1)) 1) (st512 (s7_2 (KB c arg4 harg4 arg10 harg10 x2 xs0) (qa0 (kernelRun0_B.sl.r_3 c i arg2 harg2 x0) (QB arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_3 c i arg2 harg2 x0) (QB arg3 harg3 x1 7 1)) 1)) (Bs30_2 ..)))))))
theorem Bs30_3 : kernelRun0_B.sl.v2808 c i arg2 harg2 arg3 harg3 arg4 harg4 arg10 harg10 arg12 x0 x1 x2 xs0 =
    st512 (s7_3 (KB c arg4 harg4 arg10 harg10 x2 xs0) (qa0 (kernelRun0_B.sl.r_3 c i arg2 harg2 x0) (QB arg3 harg3 x1 7 1)) 1) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (rfl)))))
theorem Bp30_3 : kernelRun0_B.sl.v2946 c i arg2 harg2 arg3 harg3 arg4 harg4 arg10 harg10 arg12 arg13 x0 x1 x2 xs0 =
    prob512 (mq7 (KB c arg4 harg4 arg10 harg10 x2 xs0) (qa0 (kernelRun0_B.sl.r_3 c i arg2 harg2 x0) (QB arg3 harg3 x1 7 1)) 1) (st512 (s7_3 (KB c arg4 harg4 arg10 harg10 x2 xs0) (qa0 (kernelRun0_B.sl.r_3 c i arg2 harg2 x0) (QB arg3 harg3 x1 7 1)) 1)) :=
  (View.readCov_skip _ _ _ _ _ rfl).trans ((View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa0 (kernelRun0_B.sl.r_3 c i arg2 harg2 x0) (QB arg3 harg3 x1 7 1)) 1)) (Bs30_3 ..))))))
theorem Bs31_0 : kernelRun0_B.sl.v2829 c i arg2 harg2 arg3 harg3 arg4 harg4 arg10 harg10 arg12 x0 x1 x2 xs0 =
    st512 (s7_0 (KB c arg4 harg4 arg10 harg10 x2 xs0) (qa1 (kernelRun0_B.sl.r_3 c i arg2 harg2 x0) (QB arg3 harg3 x1 7 1)) 1) :=
  (View.readCov_skip _ _ _ _ _ rfl).trans ((View.readCov_skip _ _ _ _ _ rfl).trans ((View.readCov_skip _ _ _ _ _ rfl).trans ((View.readCov_cons_toLoadRect _ _ _ _).trans (rfl))))
theorem Bp31_0 : kernelRun0_B.sl.v2958 c i arg2 harg2 arg3 harg3 arg4 harg4 arg10 harg10 arg12 arg13 x0 x1 x2 xs0 =
    prob512 (mq7 (KB c arg4 harg4 arg10 harg10 x2 xs0) (qa1 (kernelRun0_B.sl.r_3 c i arg2 harg2 x0) (QB arg3 harg3 x1 7 1)) 1) (st512 (s7_0 (KB c arg4 harg4 arg10 harg10 x2 xs0) (qa1 (kernelRun0_B.sl.r_3 c i arg2 harg2 x0) (QB arg3 harg3 x1 7 1)) 1)) :=
  (View.readCov_skip _ _ _ _ _ rfl).trans ((View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_3 c i arg2 harg2 x0) (QB arg3 harg3 x1 7 1)) 1)) (Bs31_0 ..)))))
theorem Bs31_1 : kernelRun0_B.sl.v2843 c i arg2 harg2 arg3 harg3 arg4 harg4 arg10 harg10 arg12 x0 x1 x2 xs0 =
    st512 (s7_1 (KB c arg4 harg4 arg10 harg10 x2 xs0) (qa1 (kernelRun0_B.sl.r_3 c i arg2 harg2 x0) (QB arg3 harg3 x1 7 1)) 1) :=
  (View.readCov_skip _ _ _ _ _ rfl).trans ((View.readCov_skip _ _ _ _ _ rfl).trans ((View.readCov_cons_toLoadRect _ _ _ _).trans (rfl)))
theorem Bp31_1 : kernelRun0_B.sl.v2963 c i arg2 harg2 arg3 harg3 arg4 harg4 arg10 harg10 arg12 arg13 x0 x1 x2 xs0 =
    prob512 (mq7 (KB c arg4 harg4 arg10 harg10 x2 xs0) (qa1 (kernelRun0_B.sl.r_3 c i arg2 harg2 x0) (QB arg3 harg3 x1 7 1)) 1) (st512 (s7_1 (KB c arg4 harg4 arg10 harg10 x2 xs0) (qa1 (kernelRun0_B.sl.r_3 c i arg2 harg2 x0) (QB arg3 harg3 x1 7 1)) 1)) :=
  (View.readCov_skip _ _ _ _ _ rfl).trans ((View.readCov_skip _ _ _ _ _ rfl).trans ((View.readCov_cons_toLoadRect _ _ _ _).trans (congrArg (prob512 (mq7 (KB c arg4 harg4 arg10 harg10 x2 xs0) (qa1 (kernelRun0_B.sl.r_3 c i arg2 harg2 x0) (QB arg3 harg3 x1 7 1)) 1)) (Bs31_1 ..))))
theorem Bs31_2 : kernelRun0_B.sl.v2858 c i arg2 harg2 arg3 harg3 arg4 harg4 arg10 harg10 arg12 x0 x1 x2 xs0 =
    st512 (s7_2 (KB c arg4 harg4 arg10 harg10 x2 xs0) (qa1 (kernelRun0_B.sl.r_3 c i arg2 harg2 x0) (QB arg3 harg3 x1 7 1)) 1) :=
  (View.readCov_skip _ _ _ _ _ rfl).trans ((View.readCov_cons_toLoadRect _ _ _ _).trans (rfl))
theorem Bp31_2 : kernelRun0_B.sl.v2969 c i arg2 harg2 arg3 harg3 arg4 harg4 arg10 harg10 arg12 arg13 x0 x1 x2 xs0 =
    prob512 (mq7 (KB c arg4 harg4 arg10 harg10 x2 xs0) (qa1 (kernelRun0_B.sl.r_3 c i arg2 harg2 x0) (QB arg3 harg3 x1 7 1)) 1) (st512 (s7_2 (KB c arg4 harg4 arg10 harg10 x2 xs0) (qa1 (kernelRun0_B.sl.r_3 c i arg2 harg2 x0) (QB arg3 harg3 x1 7 1)) 1)) :=
  (View.readCov_skip _ _ _ _ _ rfl).trans ((View.readCov_cons_toLoadRect _ _ _ _).trans (congrArg (prob512 (mq7 (KB c arg4 harg4 arg10 harg10 x2 xs0) (qa1 (kernelRun0_B.sl.r_3 c i arg2 harg2 x0) (QB arg3 harg3 x1 7 1)) 1)) (Bs31_2 ..)))
theorem Bs31_3 : kernelRun0_B.sl.v2873 c i arg2 harg2 arg3 harg3 arg4 harg4 arg10 harg10 arg12 x0 x1 x2 xs0 =
    st512 (s7_3 (KB c arg4 harg4 arg10 harg10 x2 xs0) (qa1 (kernelRun0_B.sl.r_3 c i arg2 harg2 x0) (QB arg3 harg3 x1 7 1)) 1) :=
  (View.readCov_cons_toLoadRect _ _ _ _).trans (rfl)
theorem Bp31_3 : kernelRun0_B.sl.v2975 c i arg2 harg2 arg3 harg3 arg4 harg4 arg10 harg10 arg12 arg13 x0 x1 x2 xs0 =
    prob512 (mq7 (KB c arg4 harg4 arg10 harg10 x2 xs0) (qa1 (kernelRun0_B.sl.r_3 c i arg2 harg2 x0) (QB arg3 harg3 x1 7 1)) 1) (st512 (s7_3 (KB c arg4 harg4 arg10 harg10 x2 xs0) (qa1 (kernelRun0_B.sl.r_3 c i arg2 harg2 x0) (QB arg3 harg3 x1 7 1)) 1)) :=
  (View.readCov_cons_toLoadRect _ _ _ _).trans (congrArg (prob512 (mq7 (KB c arg4 harg4 arg10 harg10 x2 xs0) (qa1 (kernelRun0_B.sl.r_3 c i arg2 harg2 x0) (QB arg3 harg3 x1 7 1)) 1)) (Bs31_3 ..))
theorem Bpiece7_1 : (k0_pay1 (kernelRun0_B.sl.r_78 c i arg2 harg2 arg3 harg3 arg4 harg4 arg5 harg5 arg6 harg6 arg7 harg7 arg8 harg8 arg10 harg10 arg11 harg11 arg12 arg13 x0 x1 x2 x3 x4 x5 x6 xs0 xs1) : S1x128x256.Idx → Ideal .bf16) =
    pc7 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 7 1) (GB arg8 harg8 x6) (ZB arg6 harg6 x4 7 1) := by
  show gate (dif (kernelRun0_B.sl.r_4 c arg7 harg7 x5) (norm (acT7 (VB c arg5 harg5 arg11 harg11 x3 xs1) 1 (kernelRun0_B.sl.v2929 c i arg2 harg2 arg3 harg3 arg4 harg4 arg10 harg10 arg12 arg13 x0 x1 x2 xs0) (kernelRun0_B.sl.v2934 c i arg2 harg2 arg3 harg3 arg4 harg4 arg10 harg10 arg12 arg13 x0 x1 x2 xs0) (kernelRun0_B.sl.v2940 c i arg2 harg2 arg3 harg3 arg4 harg4 arg10 harg10 arg12 arg13 x0 x1 x2 xs0) (kernelRun0_B.sl.v2946 c i arg2 harg2 arg3 harg3 arg4 harg4 arg10 harg10 arg12 arg13 x0 x1 x2 xs0))) (norm (acT7 (VB c arg5 harg5 arg11 harg11 x3 xs1) 1 (kernelRun0_B.sl.v2958 c i arg2 harg2 arg3 harg3 arg4 harg4 arg10 harg10 arg12 arg13 x0 x1 x2 xs0) (kernelRun0_B.sl.v2963 c i arg2 harg2 arg3 harg3 arg4 harg4 arg10 harg10 arg12 arg13 x0 x1 x2 xs0) (kernelRun0_B.sl.v2969 c i arg2 harg2 arg3 harg3 arg4 harg4 arg10 harg10 arg12 arg13 x0 x1 x2 xs0) (kernelRun0_B.sl.v2975 c i arg2 harg2 arg3 harg3 arg4 harg4 arg10 harg10 arg12 arg13 x0 x1 x2 xs0)))) (GB arg8 harg8 x6) (ZB arg6 harg6 x4 7 1) = _
  rw [Bp30_0, Bp30_1, Bp30_2, Bp30_3, Bp31_0, Bp31_1, Bp31_2, Bp31_3]
  rfl

end Cert.KernelIdeal.Att

end
-- ==== Proof.Hand.Buf.lean ====
/- The key and value buffers of a point, element by element: the head's keys beside the position digits, the head's values above the row of ones. -/
module

public import proofs.«01_k».proof.Proof.Hand.PiecesA
public import proofs.«01_k».proof.Proof.Hand.PiecesB
public import proofs.«01_k».proof.Proof.Hand.Rows
public import Idealize.ShloMosaic.Lib.WritesUnit

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .smem S8 .f32) (harg2 : arg2.IsWhole) (arg4 : Memref sig .tc .vmem S1x2048x256 .bf16) (harg4 : arg4.IsWhole) (arg5 : Memref sig .tc .vmem S1x256x2048 .bf16) (harg5 : arg5.IsWhole)
   (arg7 : Memref sig .tc .vmem S4x64 .f32) (harg7 : arg7.IsWhole) (arg10 : Memref sig .tc .vmem S2x2048x256 .bf16) (harg10 : arg10.IsWhole) (arg11 : Memref sig .tc .vmem S2x144x2048 .bf16) (harg11 : arg11.IsWhole)
    (x0 : Vec Ideal S8 .f32) (x2 : Vec Ideal S1x2048x256 .bf16) (x3 : Vec Ideal S1x256x2048 .bf16) (x5 : Vec Ideal S4x64 .f32) (xs0 : Vec Ideal S2x2048x256 .bf16) (xs1 : Vec Ideal S2x144x2048 .bf16)

theorem off3 {a b c : ℕ} {s : Shape} (h : s.rank = 3) : True := trivial

/-- The place of a local index in a buffer of three axes. -/
theorem at3 {n0 n1 n2 m0 m1 m2 : ℕ} {a b d : ℕ} {i0 : Fin n0} {i1 : Fin n1} {i2 : Fin n2} {j0 : Fin m0} {j1 : Fin m1} {j2 : Fin m2}
    (h0 : i0.val = a + j0.val) (h1 : i1.val = b + j1.val) (h2 : i2.val = d + j2.val) :
    ∀ x : Fin 3, (ix3 i0 i1 i2 x).val = (![a, b, d] : Fin 3 → ℕ) x + (ix3 j0 j1 j2 x).val := fun x =>
  match x with
  | 0 => h0
  | 1 => h1
  | 2 => h2

theorem ones_at (r : Fin 16) (j : Fin 2048) : k0_pay6 (F := Ideal) (ix3 0 r j) = 1 := by
  pointwise [k0_pay6]
theorem digits_at (j : Fin 2048) (f : Fin 128) : kernelRun0_A.sl.v3087 (F := Ideal) (ix3 0 j f) = dig (ix2 j f) := by
  unfold kernelRun0_A.sl.v3087
  pointwise [k0_pay5]
  rfl
theorem onesA_at (r : Fin 16) (j : Fin 2048) : kernelRun0_A.sl.v3091 (F := Ideal) (ix3 0 r j) = 1 := ones_at r j

theorem v9A (j : Fin 2048) (f : Fin 128) : kernelRun0_A.sl.v9 c arg4 harg4 x2 (ix3 0 j f) = x2 (ix3 0 j ⟨f.val, by omega⟩) := by
  unfold kernelRun0_A.sl.v9 kernelRun0_A.sl.v6
  pointwise []
  rw [View.readAt_eq_ld, harg4.read_unread]
  refine congrArg x2 (funext fun a => Fin.ext ?_)
  match a with
  | 0 => rfl
  | 1 => show _ + 1 * _ = _; simp
  | 2 => show _ + 1 * _ = _; simp

theorem v19A (j : Fin 2048) (f : Fin 128) : kernelRun0_A.sl.v19 c arg4 harg4 x2 (ix3 0 j f) = x2 (ix3 0 j ⟨128 + f.val, by omega⟩) := by
  unfold kernelRun0_A.sl.v19 kernelRun0_A.sl.v16
  pointwise []
  rw [View.readAt_eq_ld, harg4.read_unread]
  refine congrArg x2 (funext fun a => Fin.ext ?_)
  match a with
  | 0 => rfl
  | 1 => show _ + 1 * _ = _; simp
  | 2 => show _ + 1 * _ = _; simp

theorem v14A (j : Fin 128) (f : Fin 2048) : kernelRun0_A.sl.v14 c arg5 harg5 x3 (ix3 0 j f) = x3 (ix3 0 ⟨j.val, by omega⟩ f) := by
  unfold kernelRun0_A.sl.v14 kernelRun0_A.sl.v11
  pointwise []
  rw [View.readAt_eq_ld, harg5.read_unread]
  refine congrArg x3 (funext fun a => Fin.ext ?_)
  match a with
  | 0 => rfl
  | 1 => show _ + 1 * _ = _; simp
  | 2 => show _ + 1 * _ = _; simp

theorem v24A (j : Fin 128) (f : Fin 2048) : kernelRun0_A.sl.v24 c arg5 harg5 x3 (ix3 0 j f) = x3 (ix3 0 ⟨128 + j.val, by omega⟩ f) := by
  unfold kernelRun0_A.sl.v24 kernelRun0_A.sl.v21
  pointwise []
  rw [View.readAt_eq_ld, harg5.read_unread]
  refine congrArg x3 (funext fun a => Fin.ext ?_)
  match a with
  | 0 => rfl
  | 1 => show _ + 1 * _ = _; simp
  | 2 => show _ + 1 * _ = _; simp

theorem v9B (j : Fin 2048) (f : Fin 128) : kernelRun0_B.sl.v9 c arg4 harg4 x2 (ix3 0 j f) = x2 (ix3 0 j ⟨f.val, by omega⟩) := by
  unfold kernelRun0_B.sl.v9 kernelRun0_B.sl.v6
  pointwise []
  rw [View.readAt_eq_ld, harg4.read_unread]
  refine congrArg x2 (funext fun a => Fin.ext ?_)
  match a with
  | 0 => rfl
  | 1 => show _ + 1 * _ = _; simp
  | 2 => show _ + 1 * _ = _; simp

theorem v19B (j : Fin 2048) (f : Fin 128) : kernelRun0_B.sl.v19 c arg4 harg4 x2 (ix3 0 j f) = x2 (ix3 0 j ⟨128 + f.val, by omega⟩) := by
  unfold kernelRun0_B.sl.v19 kernelRun0_B.sl.v16
  pointwise []
  rw [View.readAt_eq_ld, harg4.read_unread]
  refine congrArg x2 (funext fun a => Fin.ext ?_)
  match a with
  | 0 => rfl
  | 1 => show _ + 1 * _ = _; simp
  | 2 => show _ + 1 * _ = _; simp

theorem v14B (j : Fin 128) (f : Fin 2048) : kernelRun0_B.sl.v14 c arg5 harg5 x3 (ix3 0 j f) = x3 (ix3 0 ⟨j.val, by omega⟩ f) := by
  unfold kernelRun0_B.sl.v14 kernelRun0_B.sl.v11
  pointwise []
  rw [View.readAt_eq_ld, harg5.read_unread]
  refine congrArg x3 (funext fun a => Fin.ext ?_)
  match a with
  | 0 => rfl
  | 1 => show _ + 1 * _ = _; simp
  | 2 => show _ + 1 * _ = _; simp

theorem v24B (j : Fin 128) (f : Fin 2048) : kernelRun0_B.sl.v24 c arg5 harg5 x3 (ix3 0 j f) = x3 (ix3 0 ⟨128 + j.val, by omega⟩ f) := by
  unfold kernelRun0_B.sl.v24 kernelRun0_B.sl.v21
  pointwise []
  rw [View.readAt_eq_ld, harg5.read_unread]
  refine congrArg x3 (funext fun a => Fin.ext ?_)
  match a with
  | 0 => rfl
  | 1 => show _ + 1 * _ = _; simp
  | 2 => show _ + 1 * _ = _; simp

/-- Lanes 128 and 129 of the key buffer hold the digits of the position. -/
def Dg (s : Vec Ideal S2x2048x256 .bf16) : Prop := ∀ (hh : Fin 2) (j : Fin 2048), s (ix3 hh j 128) = (((j.val / 256 : ℕ) : ℝ) : EReal) ∧ s (ix3 hh j 129) = (((j.val % 256 : ℕ) : ℝ) : EReal)
/-- Row 128 of the value buffer holds ones. -/
def On (s : Vec Ideal S2x144x2048 .bf16) : Prop := ∀ (hh : Fin 2) (j : Fin 2048), s (ix3 hh 128 j) = 1

theorem KA_k {kr : ℕ → ℕ → ℝ} (hx : ∀ (j : Fin 2048) (f : Fin 256), x2 (ix3 0 j f) = ((kr j.val f.val : ℝ) : EReal)) (hh : Fin 2) (j : Fin 2048) (f : Fin 128) :
    KA c arg4 harg4 arg10 x2 (ix3 hh j ⟨f.val, lt256 f⟩) = ((kr j.val (hh.val * 128 + f.val) : ℝ) : EReal) := by
  unfold KA kernelRun0_A.sl.HS0_4
  match hh with
  | 0 =>
    refine (View.read_writes_cons_unit_of_not_mem _ _ _ _ _ _ rfl 0 (Or.inl Nat.zero_lt_one)).trans ?_
    refine (View.read_writes_cons_unit_of_mem _ _ _ _ _ _ (ix3 0 j f) rfl (at3 (by rfl) (by simp) (by simp))).trans ?_
    rw [v9A, hx]; simp
  | 1 =>
    refine (View.read_writes_cons_unit_of_mem _ _ _ _ _ _ (ix3 0 j f) rfl (at3 (by rfl) (by simp) (by simp))).trans ?_
    rw [v19A, hx]; simp

theorem VA_v {vr : ℕ → ℕ → ℝ} (hx : ∀ (f : Fin 256) (j : Fin 2048), x3 (ix3 0 f j) = ((vr f.val j.val : ℝ) : EReal)) (hh : Fin 2) (f : Fin 128) (j : Fin 2048) :
    VA c arg5 harg5 arg11 x3 (ix3 hh ⟨f.val, lt144 f⟩ j) = ((vr (hh.val * 128 + f.val) j.val : ℝ) : EReal) := by
  unfold VA kernelRun0_A.sl.HS1_4
  match hh with
  | 0 =>
    refine (View.read_writes_cons_unit_of_not_mem _ _ _ _ _ _ rfl 0 (Or.inl Nat.zero_lt_one)).trans ?_
    refine (View.read_writes_cons_unit_of_mem _ _ _ _ _ _ (ix3 0 f j) rfl (at3 (by rfl) (by simp) (by simp))).trans ?_
    rw [v14A, hx]; simp
  | 1 =>
    refine (View.read_writes_cons_unit_of_mem _ _ _ _ _ _ (ix3 0 f j) rfl (at3 (by rfl) (by simp) (by simp))).trans ?_
    rw [v24A, hx]; simp

theorem KB_k {kr : ℕ → ℕ → ℝ} (hx : ∀ (j : Fin 2048) (f : Fin 256), x2 (ix3 0 j f) = ((kr j.val f.val : ℝ) : EReal)) (hh : Fin 2) (j : Fin 2048) (f : Fin 128) :
    KB c arg4 harg4 arg10 harg10 x2 xs0 (ix3 hh j ⟨f.val, lt256 f⟩) = ((kr j.val (hh.val * 128 + f.val) : ℝ) : EReal) := by
  unfold KB kernelRun0_B.sl.HS0_2
  match hh with
  | 0 =>
    refine (View.read_writes_cons_unit_of_not_mem _ _ _ _ _ _ rfl 0 (Or.inl Nat.zero_lt_one)).trans ?_
    refine (View.read_writes_cons_unit_of_mem _ _ _ _ _ _ (ix3 0 j f) rfl (at3 (by rfl) (by simp) (by simp))).trans ?_
    rw [v9B, hx]; simp
  | 1 =>
    refine (View.read_writes_cons_unit_of_mem _ _ _ _ _ _ (ix3 0 j f) rfl (at3 (by rfl) (by simp) (by simp))).trans ?_
    rw [v19B, hx]; simp

theorem VB_v {vr : ℕ → ℕ → ℝ} (hx : ∀ (f : Fin 256) (j : Fin 2048), x3 (ix3 0 f j) = ((vr f.val j.val : ℝ) : EReal)) (hh : Fin 2) (f : Fin 128) (j : Fin 2048) :
    VB c arg5 harg5 arg11 harg11 x3 xs1 (ix3 hh ⟨f.val, lt144 f⟩ j) = ((vr (hh.val * 128 + f.val) j.val : ℝ) : EReal) := by
  unfold VB kernelRun0_B.sl.HS1_2
  match hh with
  | 0 =>
    refine (View.read_writes_cons_unit_of_not_mem _ _ _ _ _ _ rfl 0 (Or.inl Nat.zero_lt_one)).trans ?_
    refine (View.read_writes_cons_unit_of_mem _ _ _ _ _ _ (ix3 0 f j) rfl (at3 (by rfl) (by simp) (by simp))).trans ?_
    rw [v14B, hx]; simp
  | 1 =>
    refine (View.read_writes_cons_unit_of_mem _ _ _ _ _ _ (ix3 0 f j) rfl (at3 (by rfl) (by simp) (by simp))).trans ?_
    rw [v24B, hx]; simp

theorem KA_lane (hh : Fin 2) (j : Fin 2048) (f : Fin 128) : KA c arg4 harg4 arg10 x2 (ix3 hh j ⟨128 + f.val, by omega⟩) = dig (ix2 j f) := by
  unfold KA kernelRun0_A.sl.HS0_4
  refine (View.read_writes_cons_unit_of_not_mem _ _ _ _ _ _ rfl 2 (Or.inr (Nat.le_add_right 128 _))).trans ?_
  refine (View.read_writes_cons_unit_of_not_mem _ _ _ _ _ _ rfl 2 (Or.inr (Nat.le_add_right 128 _))).trans ?_
  match hh with
  | 0 =>
    refine (View.read_writes_cons_unit_of_not_mem _ _ _ _ _ _ rfl 0 (Or.inl Nat.zero_lt_one)).trans ?_
    refine (View.read_writes_cons_unit_of_mem _ _ _ _ _ _ (ix3 0 j f) rfl (at3 (by rfl) (by simp) (by simp))).trans ?_
    rw [digits_at]
  | 1 =>
    refine (View.read_writes_cons_unit_of_mem _ _ _ _ _ _ (ix3 0 j f) rfl (at3 (by rfl) (by simp) (by simp))).trans ?_
    rw [digits_at]
theorem KA_d : Dg (KA c arg4 harg4 arg10 x2) := fun hh j => ⟨(KA_lane _ _ _ _ _ hh j 0).trans (dig0 j), (KA_lane _ _ _ _ _ hh j 1).trans (dig1 j)⟩

theorem VA_row (hh : Fin 2) (r : Fin 16) (j : Fin 2048) : VA c arg5 harg5 arg11 x3 (ix3 hh ⟨128 + r.val, by omega⟩ j) = 1 := by
  unfold VA kernelRun0_A.sl.HS1_4
  refine (View.read_writes_cons_unit_of_not_mem _ _ _ _ _ _ rfl 1 (Or.inr (by show 0 + 128 ≤ 128 + r.val; omega))).trans ?_
  refine (View.read_writes_cons_unit_of_not_mem _ _ _ _ _ _ rfl 1 (Or.inr (by show 0 + 128 ≤ 128 + r.val; omega))).trans ?_
  match hh with
  | 0 =>
    refine (View.read_writes_cons_unit_of_not_mem _ _ _ _ _ _ rfl 0 (Or.inl Nat.zero_lt_one)).trans ?_
    refine (View.read_writes_cons_unit_of_mem _ _ _ _ _ _ (ix3 0 r j) rfl (at3 (by rfl) (by simp) (by simp))).trans ?_
    rw [onesA_at]
  | 1 =>
    refine (View.read_writes_cons_unit_of_mem _ _ _ _ _ _ (ix3 0 r j) rfl (at3 (by rfl) (by simp) (by simp))).trans ?_
    rw [onesA_at]

theorem KB_lane (hh : Fin 2) (j : Fin 2048) (f : Fin 128) : KB c arg4 harg4 arg10 harg10 x2 xs0 (ix3 hh j ⟨128 + f.val, by omega⟩) = xs0 (ix3 hh j ⟨128 + f.val, by omega⟩) := by
  unfold KB kernelRun0_B.sl.HS0_2
  refine (View.read_writes_cons_unit_of_not_mem _ _ _ _ _ _ rfl 2 (Or.inr (Nat.le_add_right 128 _))).trans ?_
  refine (View.read_writes_cons_unit_of_not_mem _ _ _ _ _ _ rfl 2 (Or.inr (Nat.le_add_right 128 _))).trans ?_
  exact congrFun (harg10.read_unread xs0) _
theorem KB_d (h : Dg xs0) : Dg (KB c arg4 harg4 arg10 harg10 x2 xs0) := fun hh j =>
  ⟨(KB_lane _ _ _ _ _ _ _ hh j 0).trans (h hh j).1, (KB_lane _ _ _ _ _ _ _ hh j 1).trans (h hh j).2⟩

theorem VB_row (hh : Fin 2) (r : Fin 16) (j : Fin 2048) : VB c arg5 harg5 arg11 harg11 x3 xs1 (ix3 hh ⟨128 + r.val, by omega⟩ j) = xs1 (ix3 hh ⟨128 + r.val, by omega⟩ j) := by
  unfold VB kernelRun0_B.sl.HS1_2
  refine (View.read_writes_cons_unit_of_not_mem _ _ _ _ _ _ rfl 1 (Or.inr (by show 0 + 128 ≤ 128 + r.val; omega))).trans ?_
  refine (View.read_writes_cons_unit_of_not_mem _ _ _ _ _ _ rfl 1 (Or.inr (by show 0 + 128 ≤ 128 + r.val; omega))).trans ?_
  exact congrFun (harg11.read_unread xs1) _
theorem VA_o : On (VA c arg5 harg5 arg11 x3) := fun hh j => VA_row c arg5 harg5 arg11 x3 hh 0 j
theorem VB_o (h : On xs1) : On (VB c arg5 harg5 arg11 harg11 x3 xs1) := fun hh j => (VB_row c arg5 harg5 arg11 harg11 x3 xs1 hh 0 j).trans (h hh j)

/-- The slopes' word at a place. -/
theorem word_at (w : BitVec 32) (n : ℕ) (hn : n < 8) (inb : ∀ a, k0_off1 i w a + S1.size a ≤ S8.size a) (h : k0_off1 i w 0 = n) (p : S1.numel ≠ 0 ∨ True) (y : S1.Idx) :
    View.readAt (Elt Ideal) arg2.view (Rect.unit (s := S8) (k0_off1 i w) S1.size inb).toLoadRect (harg2.unread x0) y = x0 (ix1 ⟨n, hn⟩) := by
  rw [View.readAt_eq_ld, harg2.read_unread]
  refine congrArg x0 (funext fun a => Fin.ext ?_)
  match a with
  | 0 => show k0_off1 i w 0 + 1 * (y 0).val = n; have := (y 0).isLt; have e : S1.size 0 = 1 := rfl; omega

end Cert.KernelIdeal.Att

end
-- ==== Proof.Hand.Blk.lean ====
/- One block of the attention's result: each piece a point stores is a tile of one function of the block's index. -/
module

public import proofs.«01_k».proof.Proof.Hand.El
public import proofs.«01_k».proof.Proof.Hand.Buf

@[expose] public section

set_option maxRecDepth 16384

noncomputable section

open Idealize.ShloMosaic Idealize.ShloMosaic.TcCoe Idealize.SL.Sem

namespace Cert.KernelIdeal.Att

open Cert.KernelIdeal Cert.KernelIdeal.Gen

/-- The block's element at row `r` and query `Q`: the head is `r / 128`. -/
def bv (kr qr vr : ℕ → ℕ → ℝ) (cs : ℕ → ℝ) (l : ℝ) (G : Vec Ideal S128x256 .f32) (Z : Vec Ideal S1x256x2048 .f32) (y : S1x256x2048.Idx) : EReal :=
  gt (fun x => ((dm (fun j f => kr j ((y 1).val / 128 * 128 + f)) (fun f Q => qr ((y 1).val / 128 * 128 + f) Q) (fun x j => vr ((y 1).val / 128 * 128 + x) j)
      (cs ((y 1).val / 128)) l (y 2).val x.val : ℝ) : EReal)) ⟨(y 1).val % 128, Nat.mod_lt _ (by decide)⟩
    (G (ix2 ⟨(y 1).val % 128, Nat.mod_lt _ (by decide)⟩ ⟨(y 2).val % 256, Nat.mod_lt _ (by decide)⟩)) (Z y)

theorem eta1 (x : S1x128x256.Idx) : x = ix3 0 (x 1) (x 2) := funext fun a => by
  match a with
  | 0 => exact Fin.ext (by have h : (x 0).val < 1 := (x 0).isLt; show (x 0).val = 0; omega)
  | 1 => rfl
  | 2 => rfl
theorem eta2 (x : S1x256x2048.Idx) : x = ix3 0 (x 1) (x 2) := funext fun a => by
  match a with
  | 0 => exact Fin.ext (by have h : (x 0).val < 1 := (x 0).isLt; show (x 0).val = 0; omega)
  | 1 => rfl
  | 2 => rfl

section
variable {KA : Vec Ideal S2x2048x256 .bf16} {VA : Vec Ideal S2x144x2048 .bf16} {pos : FVec Ideal S16x256 .bf16} {q : Vec Ideal S1x128x256 .bf16} {hh : Fin 2} {cs : ℕ → ℝ} {l : ℝ} {kr qr vr : ℕ → ℕ → ℝ}
  {lam : FVec Ideal S1x1 .f32} {g : Vec Ideal S128x256 .f32} {z : Vec Ideal S1x128x256 .f32} {Z : Vec Ideal S1x256x2048 .f32}
  (hp : Pos pos (cs hh.val)) (hk : ∀ (hh : Fin 2) (j : Fin 2048) (f : Fin 128), KA (ix3 hh j ⟨f.val, lt256 f⟩) = ((kr j.val (hh.val * 128 + f.val) : ℝ) : EReal))
  (hd : Dg KA) (hv : ∀ (hh : Fin 2) (x : Fin 128) (j : Fin 2048), VA (ix3 hh ⟨x.val, lt144 x⟩ j) = ((vr (hh.val * 128 + x.val) j.val : ℝ) : EReal)) (hw : On VA)
  (hl : lam (ix2 0 0) = ((l : ℝ) : EReal))
include hp hk hd hv hw hl

theorem pcy0 (x : S1x128x256.Idx) (y : S1x256x2048.Idx) (hq : ∀ (f : Fin 128) (i : Fin 256), q (ix3 0 f i) = ((qr (hh.val * 128 + f.val) (0 + i.val) : ℝ) : EReal))
    (hz : z x = Z y) (h1 : (y 1).val = hh.val * 128 + (x 1).val) (h2 : (y 2).val = 0 + (x 2).val) :
    pc0 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc0_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc0 KA VA hh pos lam q g z) (eta1 x)).trans (e.trans (congrArg (gt _ _ _) (congrArg z (eta1 x).symm)))

theorem pcy1 (x : S1x128x256.Idx) (y : S1x256x2048.Idx) (hq : ∀ (f : Fin 128) (i : Fin 256), q (ix3 0 f i) = ((qr (hh.val * 128 + f.val) (256 + i.val) : ℝ) : EReal))
    (hz : z x = Z y) (h1 : (y 1).val = hh.val * 128 + (x 1).val) (h2 : (y 2).val = 256 + (x 2).val) :
    pc1 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc1_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc1 KA VA hh pos lam q g z) (eta1 x)).trans (e.trans (congrArg (gt _ _ _) (congrArg z (eta1 x).symm)))

theorem pcy2 (x : S1x128x256.Idx) (y : S1x256x2048.Idx) (hq : ∀ (f : Fin 128) (i : Fin 256), q (ix3 0 f i) = ((qr (hh.val * 128 + f.val) (512 + i.val) : ℝ) : EReal))
    (hz : z x = Z y) (h1 : (y 1).val = hh.val * 128 + (x 1).val) (h2 : (y 2).val = 512 + (x 2).val) :
    pc2 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc2_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc2 KA VA hh pos lam q g z) (eta1 x)).trans (e.trans (congrArg (gt _ _ _) (congrArg z (eta1 x).symm)))

theorem pcy3 (x : S1x128x256.Idx) (y : S1x256x2048.Idx) (hq : ∀ (f : Fin 128) (i : Fin 256), q (ix3 0 f i) = ((qr (hh.val * 128 + f.val) (768 + i.val) : ℝ) : EReal))
    (hz : z x = Z y) (h1 : (y 1).val = hh.val * 128 + (x 1).val) (h2 : (y 2).val = 768 + (x 2).val) :
    pc3 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc3_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc3 KA VA hh pos lam q g z) (eta1 x)).trans (e.trans (congrArg (gt _ _ _) (congrArg z (eta1 x).symm)))

theorem pcy4 (x : S1x128x256.Idx) (y : S1x256x2048.Idx) (hq : ∀ (f : Fin 128) (i : Fin 256), q (ix3 0 f i) = ((qr (hh.val * 128 + f.val) (1024 + i.val) : ℝ) : EReal))
    (hz : z x = Z y) (h1 : (y 1).val = hh.val * 128 + (x 1).val) (h2 : (y 2).val = 1024 + (x 2).val) :
    pc4 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc4_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc4 KA VA hh pos lam q g z) (eta1 x)).trans (e.trans (congrArg (gt _ _ _) (congrArg z (eta1 x).symm)))

theorem pcy5 (x : S1x128x256.Idx) (y : S1x256x2048.Idx) (hq : ∀ (f : Fin 128) (i : Fin 256), q (ix3 0 f i) = ((qr (hh.val * 128 + f.val) (1280 + i.val) : ℝ) : EReal))
    (hz : z x = Z y) (h1 : (y 1).val = hh.val * 128 + (x 1).val) (h2 : (y 2).val = 1280 + (x 2).val) :
    pc5 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc5_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc5 KA VA hh pos lam q g z) (eta1 x)).trans (e.trans (congrArg (gt _ _ _) (congrArg z (eta1 x).symm)))

theorem pcy6 (x : S1x128x256.Idx) (y : S1x256x2048.Idx) (hq : ∀ (f : Fin 128) (i : Fin 256), q (ix3 0 f i) = ((qr (hh.val * 128 + f.val) (1536 + i.val) : ℝ) : EReal))
    (hz : z x = Z y) (h1 : (y 1).val = hh.val * 128 + (x 1).val) (h2 : (y 2).val = 1536 + (x 2).val) :
    pc6 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc6_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc6 KA VA hh pos lam q g z) (eta1 x)).trans (e.trans (congrArg (gt _ _ _) (congrArg z (eta1 x).symm)))

theorem pcy7 (x : S1x128x256.Idx) (y : S1x256x2048.Idx) (hq : ∀ (f : Fin 128) (i : Fin 256), q (ix3 0 f i) = ((qr (hh.val * 128 + f.val) (1792 + i.val) : ℝ) : EReal))
    (hz : z x = Z y) (h1 : (y 1).val = hh.val * 128 + (x 1).val) (h2 : (y 2).val = 1792 + (x 2).val) :
    pc7 KA VA hh pos lam q g z x = bv kr qr vr cs l g Z y := by
  have b1 : (x 1).val < 128 := (x 1).isLt
  have b2 : (x 2).val < 256 := (x 2).isLt
  have d1 : (y 1).val / 128 = hh.val := by omega
  have m1 : (⟨(y 1).val % 128, Nat.mod_lt _ (by decide)⟩ : Fin 128) = x 1 := Fin.ext (by show (y 1).val % 128 = (x 1).val; omega)
  have m2 : (⟨(y 2).val % 256, Nat.mod_lt _ (by decide)⟩ : Fin 256) = x 2 := Fin.ext (by show (y 2).val % 256 = (x 2).val; omega)
  unfold bv
  rw [m1, m2, d1, h2, ← hz]
  have e := pc7_at (g := g) (z := z) (e := x 1) (kr := fun j f => kr j (hh.val * 128 + f)) (qr := fun f Q => qr (hh.val * 128 + f) Q) (vr := fun x j => vr (hh.val * 128 + x) j)
    hp (hk hh) (fun j => (hd hh j).1) (fun j => (hd hh j).2) (hv hh) (hw hh) hl (fun f => hq f (x 2))
  exact (congrArg (pc7 KA VA hh pos lam q g z) (eta1 x)).trans (e.trans (congrArg (gt _ _ _) (congrArg z (eta1 x).symm)))

end

/-- The slope's place in the table. -/
theorem off_w0 (i : grid0.Coords) : k0_off1 i 0#32 0 = (i 1).val * 2 + 0 := by
  unfold k0_off1
  show _ = (i 1).val * 2
  generalize i 1 = j
  revert j; decide +kernel
theorem off_w1 (i : grid0.Coords) : k0_off1 i 1#32 0 = (i 1).val * 2 + 1 := by
  unfold k0_off1
  show _ = (i 1).val * 2 + 1
  generalize i 1 = j
  revert j; decide +kernel

/-- The weight of the second map. -/
def lamE (w : Vec Ideal S4x64 .f32) : EReal :=
  Ideal.exp (∑ x : Fin 64, w (ix2 0 x) * w (ix2 1 x)) - Ideal.exp (∑ x : Fin 64, w (ix2 2 x) * w (ix2 3 x)) + Ideal.ofBits FTy.f32 1055981900#32
theorem lam_at (w : Vec Ideal S4x64 .f32) : k0_pay18 (F := Ideal) w (ix2 0 0) = lamE w := by
  unfold lamE
  pointwise [k0_pay18]

section
variable (c : Dev nD) (i : grid0.Coords) (arg2 : Memref sig .tc .smem S8 .f32) (harg2 : arg2.IsWhole) (arg3 : Memref sig .tc .vmem S1x256x2048 .bf16) (harg3 : arg3.IsWhole)
  (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole)
  (x0 : Vec Ideal S8 .f32) (x1 : Vec Ideal S1x256x2048 .bf16) (x4 : Vec Ideal S1x256x2048 .f32) (x5 : Vec Ideal S4x64 .f32) (x6 : Vec Ideal S128x256 .f32)

theorem QA_at {qr : ℕ → ℕ → ℝ} (hx : ∀ (f : Fin 256) (Q : Fin 2048), x1 (ix3 0 f Q) = ((qr f.val Q.val : ℝ) : EReal)) (qi : Fin 8) (hh : Fin 2) (f : Fin 128) (i : Fin 256) :
    QA arg3 harg3 x1 qi hh (ix3 0 f i) = ((qr (hh.val * 128 + f.val) (qi.val * 256 + i.val) : ℝ) : EReal) := by
  unfold QA
  rw [harg3.read_unread, ← hx ⟨hh.val * 128 + f.val, by omega⟩ ⟨qi.val * 256 + i.val, by omega⟩]
  refine congrArg x1 (funext fun a => Fin.ext ?_)
  match a with
  | 0 => rfl
  | 1 => show _ + 1 * _ = _; simp
  | 2 => show _ + 1 * _ = _; simp
theorem ZA_at (qi : Fin 8) (hh : Fin 2) (x : S1x128x256.Idx) (y : S1x256x2048.Idx) (h1 : (y 1).val = hh.val * 128 + (x 1).val) (h2 : (y 2).val = qi.val * 256 + (x 2).val) :
    ZA arg6 harg6 x4 qi hh x = x4 y := by
  unfold ZA
  rw [harg6.read_unread]
  refine congrArg x4 (funext fun a => Fin.ext ?_)
  match a with
  | 0 => have h : (x 0).val < 1 := (x 0).isLt; have h' : (y 0).val < 1 := (y 0).isLt; show 0 + 1 * (x 0).val = (y 0).val; omega
  | 1 => show hh.val * 128 + 1 * (x 1).val = (y 1).val; omega
  | 2 => show qi.val * 256 + 1 * (x 2).val = (y 2).val; omega
theorem GA_eq : GA arg8 harg8 x6 = x6 := by
  unfold GA
  rw [View.readAt_eq_ld, harg8.read_unread]
  exact View.ld_unit_lit _ _ (by decide)
theorem lamA_at : kernelRun0_A.sl.r_4 c arg7 harg7 x5 (ix2 0 0) = lamE x5 := by
  unfold kernelRun0_A.sl.r_4
  rw [lam_at, View.readAt_eq_ld, harg7.read_unread]
  exact congrArg lamE (View.ld_unit_lit _ _ (by decide))
theorem pos0A {sl : ℕ → ℝ} (hs : ∀ n : Fin 8, x0 (ix1 n) = ((sl n.val : ℝ) : EReal)) : Pos (kernelRun0_A.sl.r_1 c i arg2 harg2 x0) (sl ((i 1).val * 2 + 0) * (Real.log 2)⁻¹) := by
  have hn : (i 1).val * 2 + 0 < 8 := by have h : (i 1).val < 4 := (i 1).isLt; omega
  have e : kernelRun0_A.sl.r c i arg2 harg2 x0 = ((sl ((i 1).val * 2 + 0) : ℝ) : EReal) := (word_at i arg2 harg2 x0 0#32 _ hn _ (off_w0 i) (Or.inr trivial) _).trans (hs ⟨_, hn⟩)
  unfold kernelRun0_A.sl.r_1
  rw [e]
  exact pos13 _
theorem pos1A {sl : ℕ → ℝ} (hs : ∀ n : Fin 8, x0 (ix1 n) = ((sl n.val : ℝ) : EReal)) : Pos (kernelRun0_A.sl.r_3 c i arg2 harg2 x0) (sl ((i 1).val * 2 + 1) * (Real.log 2)⁻¹) := by
  have hn : (i 1).val * 2 + 1 < 8 := by have h : (i 1).val < 4 := (i 1).isLt; omega
  have e : kernelRun0_A.sl.r_2 c i arg2 harg2 x0 = ((sl ((i 1).val * 2 + 1) : ℝ) : EReal) := (word_at i arg2 harg2 x0 1#32 _ hn _ (off_w1 i) (Or.inr trivial) _).trans (hs ⟨_, hn⟩)
  unfold kernelRun0_A.sl.r_3
  rw [e]
  exact pos14 _

theorem QB_at {qr : ℕ → ℕ → ℝ} (hx : ∀ (f : Fin 256) (Q : Fin 2048), x1 (ix3 0 f Q) = ((qr f.val Q.val : ℝ) : EReal)) (qi : Fin 8) (hh : Fin 2) (f : Fin 128) (i : Fin 256) :
    QB arg3 harg3 x1 qi hh (ix3 0 f i) = ((qr (hh.val * 128 + f.val) (qi.val * 256 + i.val) : ℝ) : EReal) := by
  unfold QB
  rw [harg3.read_unread, ← hx ⟨hh.val * 128 + f.val, by omega⟩ ⟨qi.val * 256 + i.val, by omega⟩]
  refine congrArg x1 (funext fun a => Fin.ext ?_)
  match a with
  | 0 => rfl
  | 1 => show _ + 1 * _ = _; simp
  | 2 => show _ + 1 * _ = _; simp
theorem ZB_at (qi : Fin 8) (hh : Fin 2) (x : S1x128x256.Idx) (y : S1x256x2048.Idx) (h1 : (y 1).val = hh.val * 128 + (x 1).val) (h2 : (y 2).val = qi.val * 256 + (x 2).val) :
    ZB arg6 harg6 x4 qi hh x = x4 y := by
  unfold ZB
  rw [harg6.read_unread]
  refine congrArg x4 (funext fun a => Fin.ext ?_)
  match a with
  | 0 => have h : (x 0).val < 1 := (x 0).isLt; have h' : (y 0).val < 1 := (y 0).isLt; show 0 + 1 * (x 0).val = (y 0).val; omega
  | 1 => show hh.val * 128 + 1 * (x 1).val = (y 1).val; omega
  | 2 => show qi.val * 256 + 1 * (x 2).val = (y 2).val; omega
theorem GB_eq : GB arg8 harg8 x6 = x6 := by
  unfold GB
  rw [View.readAt_eq_ld, harg8.read_unread]
  exact View.ld_unit_lit _ _ (by decide)
theorem lamB_at : kernelRun0_B.sl.r_4 c arg7 harg7 x5 (ix2 0 0) = lamE x5 := by
  unfold kernelRun0_B.sl.r_4
  rw [lam_at, View.readAt_eq_ld, harg7.read_unread]
  exact congrArg lamE (View.ld_unit_lit _ _ (by decide))
theorem pos0B {sl : ℕ → ℝ} (hs : ∀ n : Fin 8, x0 (ix1 n) = ((sl n.val : ℝ) : EReal)) : Pos (kernelRun0_B.sl.r_1 c i arg2 harg2 x0) (sl ((i 1).val * 2 + 0) * (Real.log 2)⁻¹) := by
  have hn : (i 1).val * 2 + 0 < 8 := by have h : (i 1).val < 4 := (i 1).isLt; omega
  have e : kernelRun0_B.sl.r c i arg2 harg2 x0 = ((sl ((i 1).val * 2 + 0) : ℝ) : EReal) := (word_at i arg2 harg2 x0 0#32 _ hn _ (off_w0 i) (Or.inr trivial) _).trans (hs ⟨_, hn⟩)
  unfold kernelRun0_B.sl.r_1
  rw [e]
  exact pos13 _
theorem pos1B {sl : ℕ → ℝ} (hs : ∀ n : Fin 8, x0 (ix1 n) = ((sl n.val : ℝ) : EReal)) : Pos (kernelRun0_B.sl.r_3 c i arg2 harg2 x0) (sl ((i 1).val * 2 + 1) * (Real.log 2)⁻¹) := by
  have hn : (i 1).val * 2 + 1 < 8 := by have h : (i 1).val < 4 := (i 1).isLt; omega
  have e : kernelRun0_B.sl.r_2 c i arg2 harg2 x0 = ((sl ((i 1).val * 2 + 1) : ℝ) : EReal) := (word_at i arg2 harg2 x0 1#32 _ hn _ (off_w1 i) (Or.inr trivial) _).trans (hs ⟨_, hn⟩)
  unfold kernelRun0_B.sl.r_3
  rw [e]
  exact pos14 _

end

end Cert.KernelIdeal.Att

end
-- ==== Proof.Hand.PtA.lean ====
/- What a point at the grid's start leaves in the result's block. -/
module

public import proofs.«01_k».proof.Proof.Hand.Blk
public import Idealize.ShloMosaic.Lib.Pipeline.Value

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : cond0_0 i)
  (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32)
  (xs0 : Vec Ideal S2x2048x256 .bf16) (xs1 : Vec Ideal S2x144x2048 .bf16)
  {kr qr vr : ℕ → ℕ → ℝ} {sl : ℕ → ℝ} {l : ℝ} (hs : ∀ n : Fin 8, x0 (ix1 n) = ((sl n.val : ℝ) : EReal))
  (hq : ∀ (f : Fin 256) (Q : Fin 2048), x1 (ix3 0 f Q) = ((qr f.val Q.val : ℝ) : EReal)) (hk : ∀ (j : Fin 2048) (f : Fin 256), x2 (ix3 0 j f) = ((kr j.val f.val : ℝ) : EReal))
  (hv : ∀ (f : Fin 256) (j : Fin 2048), x3 (ix3 0 f j) = ((vr f.val j.val : ℝ) : EReal)) (hl : lamE x5 = ((l : ℝ) : EReal))
variable {c i arg2 harg2 arg3 harg3 arg4 harg4 arg5 harg5 arg6 harg6 arg7 harg7 arg8 harg8 arg9 harg9 arg10 harg10 arg11 harg11 arg12 harg12 arg13 harg13 hc0 x0 x1 x2 x3 x4 x5 x6}
include hs hq hk hv hl

theorem Apt7_1 (x : S1x128x256.Idx) (y : S1x256x2048.Idx) (h1 : (y 1).val = 128 + 1 * (x 1).val) (h2 : (y 2).val = 1792 + 1 * (x 2).val) :
    pc7 (KA c arg4 harg4 arg10 x2) (VA c arg5 harg5 arg11 x3) 1 (kernelRun0_A.sl.r_3 c i arg2 harg2 x0) (kernelRun0_A.sl.r_4 c arg7 harg7 x5) (QA arg3 harg3 x1 7 1) (GA arg8 harg8 x6) (ZA arg6 harg6 x4 7 1) x
      = bv kr qr vr (fun h => sl ((i 1).val * 2 + h) * (Real.log 2)⁻¹) l x6 x4 y := by
  rw [GA_eq]
  exact pcy7 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 7 1 f j) (ZA_at arg6 harg6 x4 7 1 x y (h1.trans (by simp)) (h2.trans (by simp))) (h1.trans (by simp)) (h2.trans (by simp))

theorem Apt7_0 (x : S1x128x256.Idx) (y : S1x256x2048.Idx) (h1 : (y 1).val = 0 + 1 * (x 1).val) (h2 : (y 2).val = 1792 + 1 * (x 2).val) :
    pc7 (KA c arg4 harg4 arg10 x2) (VA c arg5 harg5 arg11 x3) 0 (kernelRun0_A.sl.r_1 c i arg2 harg2 x0) (kernelRun0_A.sl.r_4 c arg7 harg7 x5) (QA arg3 harg3 x1 7 0) (GA arg8 harg8 x6) (ZA arg6 harg6 x4 7 0) x
      = bv kr qr vr (fun h => sl ((i 1).val * 2 + h) * (Real.log 2)⁻¹) l x6 x4 y := by
  rw [GA_eq]
  exact pcy7 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 7 0 f j) (ZA_at arg6 harg6 x4 7 0 x y (h1.trans (by simp)) (h2.trans (by simp))) (h1.trans (by simp)) (h2.trans (by simp))

theorem Apt6_1 (x : S1x128x256.Idx) (y : S1x256x2048.Idx) (h1 : (y 1).val = 128 + 1 * (x 1).val) (h2 : (y 2).val = 1536 + 1 * (x 2).val) :
    pc6 (KA c arg4 harg4 arg10 x2) (VA c arg5 harg5 arg11 x3) 1 (kernelRun0_A.sl.r_3 c i arg2 harg2 x0) (kernelRun0_A.sl.r_4 c arg7 harg7 x5) (QA arg3 harg3 x1 6 1) (GA arg8 harg8 x6) (ZA arg6 harg6 x4 6 1) x
      = bv kr qr vr (fun h => sl ((i 1).val * 2 + h) * (Real.log 2)⁻¹) l x6 x4 y := by
  rw [GA_eq]
  exact pcy6 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 6 1 f j) (ZA_at arg6 harg6 x4 6 1 x y (h1.trans (by simp)) (h2.trans (by simp))) (h1.trans (by simp)) (h2.trans (by simp))

theorem Apt6_0 (x : S1x128x256.Idx) (y : S1x256x2048.Idx) (h1 : (y 1).val = 0 + 1 * (x 1).val) (h2 : (y 2).val = 1536 + 1 * (x 2).val) :
    pc6 (KA c arg4 harg4 arg10 x2) (VA c arg5 harg5 arg11 x3) 0 (kernelRun0_A.sl.r_1 c i arg2 harg2 x0) (kernelRun0_A.sl.r_4 c arg7 harg7 x5) (QA arg3 harg3 x1 6 0) (GA arg8 harg8 x6) (ZA arg6 harg6 x4 6 0) x
      = bv kr qr vr (fun h => sl ((i 1).val * 2 + h) * (Real.log 2)⁻¹) l x6 x4 y := by
  rw [GA_eq]
  exact pcy6 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 6 0 f j) (ZA_at arg6 harg6 x4 6 0 x y (h1.trans (by simp)) (h2.trans (by simp))) (h1.trans (by simp)) (h2.trans (by simp))

theorem Apt5_1 (x : S1x128x256.Idx) (y : S1x256x2048.Idx) (h1 : (y 1).val = 128 + 1 * (x 1).val) (h2 : (y 2).val = 1280 + 1 * (x 2).val) :
    pc5 (KA c arg4 harg4 arg10 x2) (VA c arg5 harg5 arg11 x3) 1 (kernelRun0_A.sl.r_3 c i arg2 harg2 x0) (kernelRun0_A.sl.r_4 c arg7 harg7 x5) (QA arg3 harg3 x1 5 1) (GA arg8 harg8 x6) (ZA arg6 harg6 x4 5 1) x
      = bv kr qr vr (fun h => sl ((i 1).val * 2 + h) * (Real.log 2)⁻¹) l x6 x4 y := by
  rw [GA_eq]
  exact pcy5 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 5 1 f j) (ZA_at arg6 harg6 x4 5 1 x y (h1.trans (by simp)) (h2.trans (by simp))) (h1.trans (by simp)) (h2.trans (by simp))

theorem Apt5_0 (x : S1x128x256.Idx) (y : S1x256x2048.Idx) (h1 : (y 1).val = 0 + 1 * (x 1).val) (h2 : (y 2).val = 1280 + 1 * (x 2).val) :
    pc5 (KA c arg4 harg4 arg10 x2) (VA c arg5 harg5 arg11 x3) 0 (kernelRun0_A.sl.r_1 c i arg2 harg2 x0) (kernelRun0_A.sl.r_4 c arg7 harg7 x5) (QA arg3 harg3 x1 5 0) (GA arg8 harg8 x6) (ZA arg6 harg6 x4 5 0) x
      = bv kr qr vr (fun h => sl ((i 1).val * 2 + h) * (Real.log 2)⁻¹) l x6 x4 y := by
  rw [GA_eq]
  exact pcy5 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 5 0 f j) (ZA_at arg6 harg6 x4 5 0 x y (h1.trans (by simp)) (h2.trans (by simp))) (h1.trans (by simp)) (h2.trans (by simp))

theorem Apt4_1 (x : S1x128x256.Idx) (y : S1x256x2048.Idx) (h1 : (y 1).val = 128 + 1 * (x 1).val) (h2 : (y 2).val = 1024 + 1 * (x 2).val) :
    pc4 (KA c arg4 harg4 arg10 x2) (VA c arg5 harg5 arg11 x3) 1 (kernelRun0_A.sl.r_3 c i arg2 harg2 x0) (kernelRun0_A.sl.r_4 c arg7 harg7 x5) (QA arg3 harg3 x1 4 1) (GA arg8 harg8 x6) (ZA arg6 harg6 x4 4 1) x
      = bv kr qr vr (fun h => sl ((i 1).val * 2 + h) * (Real.log 2)⁻¹) l x6 x4 y := by
  rw [GA_eq]
  exact pcy4 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 4 1 f j) (ZA_at arg6 harg6 x4 4 1 x y (h1.trans (by simp)) (h2.trans (by simp))) (h1.trans (by simp)) (h2.trans (by simp))

theorem Apt4_0 (x : S1x128x256.Idx) (y : S1x256x2048.Idx) (h1 : (y 1).val = 0 + 1 * (x 1).val) (h2 : (y 2).val = 1024 + 1 * (x 2).val) :
    pc4 (KA c arg4 harg4 arg10 x2) (VA c arg5 harg5 arg11 x3) 0 (kernelRun0_A.sl.r_1 c i arg2 harg2 x0) (kernelRun0_A.sl.r_4 c arg7 harg7 x5) (QA arg3 harg3 x1 4 0) (GA arg8 harg8 x6) (ZA arg6 harg6 x4 4 0) x
      = bv kr qr vr (fun h => sl ((i 1).val * 2 + h) * (Real.log 2)⁻¹) l x6 x4 y := by
  rw [GA_eq]
  exact pcy4 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 4 0 f j) (ZA_at arg6 harg6 x4 4 0 x y (h1.trans (by simp)) (h2.trans (by simp))) (h1.trans (by simp)) (h2.trans (by simp))

theorem Apt3_1 (x : S1x128x256.Idx) (y : S1x256x2048.Idx) (h1 : (y 1).val = 128 + 1 * (x 1).val) (h2 : (y 2).val = 768 + 1 * (x 2).val) :
    pc3 (KA c arg4 harg4 arg10 x2) (VA c arg5 harg5 arg11 x3) 1 (kernelRun0_A.sl.r_3 c i arg2 harg2 x0) (kernelRun0_A.sl.r_4 c arg7 harg7 x5) (QA arg3 harg3 x1 3 1) (GA arg8 harg8 x6) (ZA arg6 harg6 x4 3 1) x
      = bv kr qr vr (fun h => sl ((i 1).val * 2 + h) * (Real.log 2)⁻¹) l x6 x4 y := by
  rw [GA_eq]
  exact pcy3 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 3 1 f j) (ZA_at arg6 harg6 x4 3 1 x y (h1.trans (by simp)) (h2.trans (by simp))) (h1.trans (by simp)) (h2.trans (by simp))

theorem Apt3_0 (x : S1x128x256.Idx) (y : S1x256x2048.Idx) (h1 : (y 1).val = 0 + 1 * (x 1).val) (h2 : (y 2).val = 768 + 1 * (x 2).val) :
    pc3 (KA c arg4 harg4 arg10 x2) (VA c arg5 harg5 arg11 x3) 0 (kernelRun0_A.sl.r_1 c i arg2 harg2 x0) (kernelRun0_A.sl.r_4 c arg7 harg7 x5) (QA arg3 harg3 x1 3 0) (GA arg8 harg8 x6) (ZA arg6 harg6 x4 3 0) x
      = bv kr qr vr (fun h => sl ((i 1).val * 2 + h) * (Real.log 2)⁻¹) l x6 x4 y := by
  rw [GA_eq]
  exact pcy3 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 3 0 f j) (ZA_at arg6 harg6 x4 3 0 x y (h1.trans (by simp)) (h2.trans (by simp))) (h1.trans (by simp)) (h2.trans (by simp))

theorem Apt2_1 (x : S1x128x256.Idx) (y : S1x256x2048.Idx) (h1 : (y 1).val = 128 + 1 * (x 1).val) (h2 : (y 2).val = 512 + 1 * (x 2).val) :
    pc2 (KA c arg4 harg4 arg10 x2) (VA c arg5 harg5 arg11 x3) 1 (kernelRun0_A.sl.r_3 c i arg2 harg2 x0) (kernelRun0_A.sl.r_4 c arg7 harg7 x5) (QA arg3 harg3 x1 2 1) (GA arg8 harg8 x6) (ZA arg6 harg6 x4 2 1) x
      = bv kr qr vr (fun h => sl ((i 1).val * 2 + h) * (Real.log 2)⁻¹) l x6 x4 y := by
  rw [GA_eq]
  exact pcy2 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 2 1 f j) (ZA_at arg6 harg6 x4 2 1 x y (h1.trans (by simp)) (h2.trans (by simp))) (h1.trans (by simp)) (h2.trans (by simp))

theorem Apt2_0 (x : S1x128x256.Idx) (y : S1x256x2048.Idx) (h1 : (y 1).val = 0 + 1 * (x 1).val) (h2 : (y 2).val = 512 + 1 * (x 2).val) :
    pc2 (KA c arg4 harg4 arg10 x2) (VA c arg5 harg5 arg11 x3) 0 (kernelRun0_A.sl.r_1 c i arg2 harg2 x0) (kernelRun0_A.sl.r_4 c arg7 harg7 x5) (QA arg3 harg3 x1 2 0) (GA arg8 harg8 x6) (ZA arg6 harg6 x4 2 0) x
      = bv kr qr vr (fun h => sl ((i 1).val * 2 + h) * (Real.log 2)⁻¹) l x6 x4 y := by
  rw [GA_eq]
  exact pcy2 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 2 0 f j) (ZA_at arg6 harg6 x4 2 0 x y (h1.trans (by simp)) (h2.trans (by simp))) (h1.trans (by simp)) (h2.trans (by simp))

theorem Apt1_1 (x : S1x128x256.Idx) (y : S1x256x2048.Idx) (h1 : (y 1).val = 128 + 1 * (x 1).val) (h2 : (y 2).val = 256 + 1 * (x 2).val) :
    pc1 (KA c arg4 harg4 arg10 x2) (VA c arg5 harg5 arg11 x3) 1 (kernelRun0_A.sl.r_3 c i arg2 harg2 x0) (kernelRun0_A.sl.r_4 c arg7 harg7 x5) (QA arg3 harg3 x1 1 1) (GA arg8 harg8 x6) (ZA arg6 harg6 x4 1 1) x
      = bv kr qr vr (fun h => sl ((i 1).val * 2 + h) * (Real.log 2)⁻¹) l x6 x4 y := by
  rw [GA_eq]
  exact pcy1 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 1 1 f j) (ZA_at arg6 harg6 x4 1 1 x y (h1.trans (by simp)) (h2.trans (by simp))) (h1.trans (by simp)) (h2.trans (by simp))

theorem Apt1_0 (x : S1x128x256.Idx) (y : S1x256x2048.Idx) (h1 : (y 1).val = 0 + 1 * (x 1).val) (h2 : (y 2).val = 256 + 1 * (x 2).val) :
    pc1 (KA c arg4 harg4 arg10 x2) (VA c arg5 harg5 arg11 x3) 0 (kernelRun0_A.sl.r_1 c i arg2 harg2 x0) (kernelRun0_A.sl.r_4 c arg7 harg7 x5) (QA arg3 harg3 x1 1 0) (GA arg8 harg8 x6) (ZA arg6 harg6 x4 1 0) x
      = bv kr qr vr (fun h => sl ((i 1).val * 2 + h) * (Real.log 2)⁻¹) l x6 x4 y := by
  rw [GA_eq]
  exact pcy1 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 1 0 f j) (ZA_at arg6 harg6 x4 1 0 x y (h1.trans (by simp)) (h2.trans (by simp))) (h1.trans (by simp)) (h2.trans (by simp))

theorem Apt0_1 (x : S1x128x256.Idx) (y : S1x256x2048.Idx) (h1 : (y 1).val = 128 + 1 * (x 1).val) (h2 : (y 2).val = 0 + 1 * (x 2).val) :
    pc0 (KA c arg4 harg4 arg10 x2) (VA c arg5 harg5 arg11 x3) 1 (kernelRun0_A.sl.r_3 c i arg2 harg2 x0) (kernelRun0_A.sl.r_4 c arg7 harg7 x5) (QA arg3 harg3 x1 0 1) (GA arg8 harg8 x6) (ZA arg6 harg6 x4 0 1) x
      = bv kr qr vr (fun h => sl ((i 1).val * 2 + h) * (Real.log 2)⁻¹) l x6 x4 y := by
  rw [GA_eq]
  exact pcy0 (cs := fun h => sl ((i 1).val * 2 + h) * (Real.log 2)⁻¹) (pos1A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 0 1 f j) (ZA_at arg6 harg6 x4 0 1 x y (h1.trans (by simp)) (h2.trans (by simp))) (h1.trans (by simp)) (h2.trans (by simp))

theorem Apt0_0 (x : S1x128x256.Idx) (y : S1x256x2048.Idx) (h1 : (y 1).val = 0 + 1 * (x 1).val) (h2 : (y 2).val = 0 + 1 * (x 2).val) :
    pc0 (KA c arg4 harg4 arg10 x2) (VA c arg5 harg5 arg11 x3) 0 (kernelRun0_A.sl.r_1 c i arg2 harg2 x0) (kernelRun0_A.sl.r_4 c arg7 harg7 x5) (QA arg3 harg3 x1 0 0) (GA arg8 harg8 x6) (ZA arg6 harg6 x4 0 0) x
      = bv kr qr vr (fun h => sl ((i 1).val * 2 + h) * (Real.log 2)⁻¹) l x6 x4 y := by
  rw [GA_eq]
  exact pcy0 (cs := fun h => sl ((i 1).val * 2 + h) * (Real.log 2)⁻¹) (pos0A c i arg2 harg2 x0 hs) (KA_k c arg4 harg4 arg10 x2 hk) (KA_d c arg4 harg4 arg10 x2) (VA_v c arg5 harg5 arg11 x3 hv) (VA_o c arg5 harg5 arg11 x3) ((lamA_at c arg7 harg7 x5).trans hl) x y
    (fun f j => QA_at arg3 harg3 x1 hq 0 0 f j) (ZA_at arg6 harg6 x4 0 0 x y (h1.trans (by simp)) (h2.trans (by simp))) (h1.trans (by simp)) (h2.trans (by simp))

theorem outA_eq  : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = bv kr qr vr (fun h => sl ((i 1).val * 2 + h) * (Real.log 2)⁻¹) l x6 x4 := by
  unfold out0_A_7
  rw [View.read_writes_junk_eq_canon]
  funext y
  refine View.canon_apply_of_pieces _ _ (View.PiecesOf.mem ?_) y (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)
  exact ⟨fun x => (congrFun (Apiece7_1 c i arg2 harg2 arg3 harg3 arg4 harg4 arg5 harg5 arg6 harg6 arg7 harg7 arg8 harg8 arg10 arg11 arg12 arg13 x0 x1 x2 x3 x4 x5 x6) x).trans (Apt7_1 (hs := hs) (hq := hq) (hk := hk) (hv := hv) (hl := hl) x _ rfl rfl),
    fun x => (congrFun (Apiece7_0 c i arg2 harg2 arg3 harg3 arg4 harg4 arg5 harg5 arg6 harg6 arg7 harg7 arg8 harg8 arg10 arg11 arg12 arg13 x0 x1 x2 x3 x4 x5 x6) x).trans (Apt7_0 (hs := hs) (hq := hq) (hk := hk) (hv := hv) (hl := hl) x _ rfl rfl),
    fun x => (congrFun (Apiece6_1 c i arg2 harg2 arg3 harg3 arg4 harg4 arg5 harg5 arg6 harg6 arg7 harg7 arg8 harg8 arg10 arg11 arg12 arg13 x0 x1 x2 x3 x4 x5 x6) x).trans (Apt6_1 (hs := hs) (hq := hq) (hk := hk) (hv := hv) (hl := hl) x _ rfl rfl),
    fun x => (congrFun (Apiece6_0 c i arg2 harg2 arg3 harg3 arg4 harg4 arg5 harg5 arg6 harg6 arg7 harg7 arg8 harg8 arg10 arg11 arg12 arg13 x0 x1 x2 x3 x4 x5 x6) x).trans (Apt6_0 (hs := hs) (hq := hq) (hk := hk) (hv := hv) (hl := hl) x _ rfl rfl),
    fun x => (congrFun (Apiece5_1 c i arg2 harg2 arg3 harg3 arg4 harg4 arg5 harg5 arg6 harg6 arg7 harg7 arg8 harg8 arg10 arg11 arg12 arg13 x0 x1 x2 x3 x4 x5 x6) x).trans (Apt5_1 (hs := hs) (hq := hq) (hk := hk) (hv := hv) (hl := hl) x _ rfl rfl),
    fun x => (congrFun (Apiece5_0 c i arg2 harg2 arg3 harg3 arg4 harg4 arg5 harg5 arg6 harg6 arg7 harg7 arg8 harg8 arg10 arg11 arg12 arg13 x0 x1 x2 x3 x4 x5 x6) x).trans (Apt5_0 (hs := hs) (hq := hq) (hk := hk) (hv := hv) (hl := hl) x _ rfl rfl),
    fun x => (congrFun (Apiece4_1 c i arg2 harg2 arg3 harg3 arg4 harg4 arg5 harg5 arg6 harg6 arg7 harg7 arg8 harg8 arg10 arg11 arg12 arg13 x0 x1 x2 x3 x4 x5 x6) x).trans (Apt4_1 (hs := hs) (hq := hq) (hk := hk) (hv := hv) (hl := hl) x _ rfl rfl),
    fun x => (congrFun (Apiece4_0 c i arg2 harg2 arg3 harg3 arg4 harg4 arg5 harg5 arg6 harg6 arg7 harg7 arg8 harg8 arg10 arg11 arg12 arg13 x0 x1 x2 x3 x4 x5 x6) x).trans (Apt4_0 (hs := hs) (hq := hq) (hk := hk) (hv := hv) (hl := hl) x _ rfl rfl),
    fun x => (congrFun (Apiece3_1 c i arg2 harg2 arg3 harg3 arg4 harg4 arg5 harg5 arg6 harg6 arg7 harg7 arg8 harg8 arg10 arg11 arg12 arg13 x0 x1 x2 x3 x4 x5 x6) x).trans (Apt3_1 (hs := hs) (hq := hq) (hk := hk) (hv := hv) (hl := hl) x _ rfl rfl),
    fun x => (congrFun (Apiece3_0 c i arg2 harg2 arg3 harg3 arg4 harg4 arg5 harg5 arg6 harg6 arg7 harg7 arg8 harg8 arg10 arg11 arg12 arg13 x0 x1 x2 x3 x4 x5 x6) x).trans (Apt3_0 (hs := hs) (hq := hq) (hk := hk) (hv := hv) (hl := hl) x _ rfl rfl),
    fun x => (congrFun (Apiece2_1 c i arg2 harg2 arg3 harg3 arg4 harg4 arg5 harg5 arg6 harg6 arg7 harg7 arg8 harg8 arg10 arg11 arg12 arg13 x0 x1 x2 x3 x4 x5 x6) x).trans (Apt2_1 (hs := hs) (hq := hq) (hk := hk) (hv := hv) (hl := hl) x _ rfl rfl),
    fun x => (congrFun (Apiece2_0 c i arg2 harg2 arg3 harg3 arg4 harg4 arg5 harg5 arg6 harg6 arg7 harg7 arg8 harg8 arg10 arg11 arg12 arg13 x0 x1 x2 x3 x4 x5 x6) x).trans (Apt2_0 (hs := hs) (hq := hq) (hk := hk) (hv := hv) (hl := hl) x _ rfl rfl),
    fun x => (congrFun (Apiece1_1 c i arg2 harg2 arg3 harg3 arg4 harg4 arg5 harg5 arg6 harg6 arg7 harg7 arg8 harg8 arg10 arg11 arg12 arg13 x0 x1 x2 x3 x4 x5 x6) x).trans (Apt1_1 (hs := hs) (hq := hq) (hk := hk) (hv := hv) (hl := hl) x _ rfl rfl),
    fun x => (congrFun (Apiece1_0 c i arg2 harg2 arg3 harg3 arg4 harg4 arg5 harg5 arg6 harg6 arg7 harg7 arg8 harg8 arg10 arg11 arg12 arg13 x0 x1 x2 x3 x4 x5 x6) x).trans (Apt1_0 (hs := hs) (hq := hq) (hk := hk) (hv := hv) (hl := hl) x _ rfl rfl),
    fun x => (congrFun (Apiece0_1 c i arg2 harg2 arg3 harg3 arg4 harg4 arg5 harg5 arg6 harg6 arg7 harg7 arg8 harg8 arg10 arg11 arg12 arg13 x0 x1 x2 x3 x4 x5 x6) x).trans (Apt0_1 (hs := hs) (hq := hq) (hk := hk) (hv := hv) (hl := hl) x _ rfl rfl),
    fun x => (congrFun (Apiece0_0 c i arg2 harg2 arg3 harg3 arg4 harg4 arg5 harg5 arg6 harg6 arg7 harg7 arg8 harg8 arg10 arg11 arg12 arg13 x0 x1 x2 x3 x4 x5 x6) x).trans (Apt0_0 (hs := hs) (hq := hq) (hk := hk) (hv := hv) (hl := hl) x _ rfl rfl), trivial⟩

end Cert.KernelIdeal.Att

end
-- ==== Proof.Hand.PtB.lean ====
/- What a point after the first leaves in the result's block. -/
module

public import proofs.«01_k».proof.Proof.Hand.Blk
public import Idealize.ShloMosaic.Lib.Pipeline.Value

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : ¬cond0_0 i)
  (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32)
  (xs0 : Vec Ideal S2x2048x256 .bf16) (xs1 : Vec Ideal S2x144x2048 .bf16)
  {kr qr vr : ℕ → ℕ → ℝ} {sl : ℕ → ℝ} {l : ℝ} (hs : ∀ n : Fin 8, x0 (ix1 n) = ((sl n.val : ℝ) : EReal))
  (hq : ∀ (f : Fin 256) (Q : Fin 2048), x1 (ix3 0 f Q) = ((qr f.val Q.val : ℝ) : EReal)) (hk : ∀ (j : Fin 2048) (f : Fin 256), x2 (ix3 0 j f) = ((kr j.val f.val : ℝ) : EReal))
  (hv : ∀ (f : Fin 256) (j : Fin 2048), x3 (ix3 0 f j) = ((vr f.val j.val : ℝ) : EReal)) (hl : lamE x5 = ((l : ℝ) : EReal)) (hd : Dg xs0) (ho : On xs1)
variable {c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1}
include hs hq hk hv hl hd ho

theorem Bpt7_1 (x : S1x128x256.Idx) (y : S1x256x2048.Idx) (h1 : (y 1).val = 128 + 1 * (x 1).val) (h2 : (y 2).val = 1792 + 1 * (x 2).val) :
    pc7 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 7 1) (GB arg8 harg8 x6) (ZB arg6 harg6 x4 7 1) x
      = bv kr qr vr (fun h => sl ((i 1).val * 2 + h) * (Real.log 2)⁻¹) l x6 x4 y := by
  rw [GB_eq]
  exact pcy7 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 7 1 f j) (ZB_at arg6 harg6 x4 7 1 x y (h1.trans (by simp)) (h2.trans (by simp))) (h1.trans (by simp)) (h2.trans (by simp))

theorem Bpt7_0 (x : S1x128x256.Idx) (y : S1x256x2048.Idx) (h1 : (y 1).val = 0 + 1 * (x 1).val) (h2 : (y 2).val = 1792 + 1 * (x 2).val) :
    pc7 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 7 0) (GB arg8 harg8 x6) (ZB arg6 harg6 x4 7 0) x
      = bv kr qr vr (fun h => sl ((i 1).val * 2 + h) * (Real.log 2)⁻¹) l x6 x4 y := by
  rw [GB_eq]
  exact pcy7 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 7 0 f j) (ZB_at arg6 harg6 x4 7 0 x y (h1.trans (by simp)) (h2.trans (by simp))) (h1.trans (by simp)) (h2.trans (by simp))

theorem Bpt6_1 (x : S1x128x256.Idx) (y : S1x256x2048.Idx) (h1 : (y 1).val = 128 + 1 * (x 1).val) (h2 : (y 2).val = 1536 + 1 * (x 2).val) :
    pc6 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 6 1) (GB arg8 harg8 x6) (ZB arg6 harg6 x4 6 1) x
      = bv kr qr vr (fun h => sl ((i 1).val * 2 + h) * (Real.log 2)⁻¹) l x6 x4 y := by
  rw [GB_eq]
  exact pcy6 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 6 1 f j) (ZB_at arg6 harg6 x4 6 1 x y (h1.trans (by simp)) (h2.trans (by simp))) (h1.trans (by simp)) (h2.trans (by simp))

theorem Bpt6_0 (x : S1x128x256.Idx) (y : S1x256x2048.Idx) (h1 : (y 1).val = 0 + 1 * (x 1).val) (h2 : (y 2).val = 1536 + 1 * (x 2).val) :
    pc6 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 6 0) (GB arg8 harg8 x6) (ZB arg6 harg6 x4 6 0) x
      = bv kr qr vr (fun h => sl ((i 1).val * 2 + h) * (Real.log 2)⁻¹) l x6 x4 y := by
  rw [GB_eq]
  exact pcy6 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 6 0 f j) (ZB_at arg6 harg6 x4 6 0 x y (h1.trans (by simp)) (h2.trans (by simp))) (h1.trans (by simp)) (h2.trans (by simp))

theorem Bpt5_1 (x : S1x128x256.Idx) (y : S1x256x2048.Idx) (h1 : (y 1).val = 128 + 1 * (x 1).val) (h2 : (y 2).val = 1280 + 1 * (x 2).val) :
    pc5 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 5 1) (GB arg8 harg8 x6) (ZB arg6 harg6 x4 5 1) x
      = bv kr qr vr (fun h => sl ((i 1).val * 2 + h) * (Real.log 2)⁻¹) l x6 x4 y := by
  rw [GB_eq]
  exact pcy5 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 5 1 f j) (ZB_at arg6 harg6 x4 5 1 x y (h1.trans (by simp)) (h2.trans (by simp))) (h1.trans (by simp)) (h2.trans (by simp))

theorem Bpt5_0 (x : S1x128x256.Idx) (y : S1x256x2048.Idx) (h1 : (y 1).val = 0 + 1 * (x 1).val) (h2 : (y 2).val = 1280 + 1 * (x 2).val) :
    pc5 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 5 0) (GB arg8 harg8 x6) (ZB arg6 harg6 x4 5 0) x
      = bv kr qr vr (fun h => sl ((i 1).val * 2 + h) * (Real.log 2)⁻¹) l x6 x4 y := by
  rw [GB_eq]
  exact pcy5 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 5 0 f j) (ZB_at arg6 harg6 x4 5 0 x y (h1.trans (by simp)) (h2.trans (by simp))) (h1.trans (by simp)) (h2.trans (by simp))

theorem Bpt4_1 (x : S1x128x256.Idx) (y : S1x256x2048.Idx) (h1 : (y 1).val = 128 + 1 * (x 1).val) (h2 : (y 2).val = 1024 + 1 * (x 2).val) :
    pc4 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 4 1) (GB arg8 harg8 x6) (ZB arg6 harg6 x4 4 1) x
      = bv kr qr vr (fun h => sl ((i 1).val * 2 + h) * (Real.log 2)⁻¹) l x6 x4 y := by
  rw [GB_eq]
  exact pcy4 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 4 1 f j) (ZB_at arg6 harg6 x4 4 1 x y (h1.trans (by simp)) (h2.trans (by simp))) (h1.trans (by simp)) (h2.trans (by simp))

theorem Bpt4_0 (x : S1x128x256.Idx) (y : S1x256x2048.Idx) (h1 : (y 1).val = 0 + 1 * (x 1).val) (h2 : (y 2).val = 1024 + 1 * (x 2).val) :
    pc4 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 4 0) (GB arg8 harg8 x6) (ZB arg6 harg6 x4 4 0) x
      = bv kr qr vr (fun h => sl ((i 1).val * 2 + h) * (Real.log 2)⁻¹) l x6 x4 y := by
  rw [GB_eq]
  exact pcy4 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 4 0 f j) (ZB_at arg6 harg6 x4 4 0 x y (h1.trans (by simp)) (h2.trans (by simp))) (h1.trans (by simp)) (h2.trans (by simp))

theorem Bpt3_1 (x : S1x128x256.Idx) (y : S1x256x2048.Idx) (h1 : (y 1).val = 128 + 1 * (x 1).val) (h2 : (y 2).val = 768 + 1 * (x 2).val) :
    pc3 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 3 1) (GB arg8 harg8 x6) (ZB arg6 harg6 x4 3 1) x
      = bv kr qr vr (fun h => sl ((i 1).val * 2 + h) * (Real.log 2)⁻¹) l x6 x4 y := by
  rw [GB_eq]
  exact pcy3 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 3 1 f j) (ZB_at arg6 harg6 x4 3 1 x y (h1.trans (by simp)) (h2.trans (by simp))) (h1.trans (by simp)) (h2.trans (by simp))

theorem Bpt3_0 (x : S1x128x256.Idx) (y : S1x256x2048.Idx) (h1 : (y 1).val = 0 + 1 * (x 1).val) (h2 : (y 2).val = 768 + 1 * (x 2).val) :
    pc3 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 3 0) (GB arg8 harg8 x6) (ZB arg6 harg6 x4 3 0) x
      = bv kr qr vr (fun h => sl ((i 1).val * 2 + h) * (Real.log 2)⁻¹) l x6 x4 y := by
  rw [GB_eq]
  exact pcy3 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 3 0 f j) (ZB_at arg6 harg6 x4 3 0 x y (h1.trans (by simp)) (h2.trans (by simp))) (h1.trans (by simp)) (h2.trans (by simp))

theorem Bpt2_1 (x : S1x128x256.Idx) (y : S1x256x2048.Idx) (h1 : (y 1).val = 128 + 1 * (x 1).val) (h2 : (y 2).val = 512 + 1 * (x 2).val) :
    pc2 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 2 1) (GB arg8 harg8 x6) (ZB arg6 harg6 x4 2 1) x
      = bv kr qr vr (fun h => sl ((i 1).val * 2 + h) * (Real.log 2)⁻¹) l x6 x4 y := by
  rw [GB_eq]
  exact pcy2 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 2 1 f j) (ZB_at arg6 harg6 x4 2 1 x y (h1.trans (by simp)) (h2.trans (by simp))) (h1.trans (by simp)) (h2.trans (by simp))

theorem Bpt2_0 (x : S1x128x256.Idx) (y : S1x256x2048.Idx) (h1 : (y 1).val = 0 + 1 * (x 1).val) (h2 : (y 2).val = 512 + 1 * (x 2).val) :
    pc2 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 2 0) (GB arg8 harg8 x6) (ZB arg6 harg6 x4 2 0) x
      = bv kr qr vr (fun h => sl ((i 1).val * 2 + h) * (Real.log 2)⁻¹) l x6 x4 y := by
  rw [GB_eq]
  exact pcy2 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 2 0 f j) (ZB_at arg6 harg6 x4 2 0 x y (h1.trans (by simp)) (h2.trans (by simp))) (h1.trans (by simp)) (h2.trans (by simp))

theorem Bpt1_1 (x : S1x128x256.Idx) (y : S1x256x2048.Idx) (h1 : (y 1).val = 128 + 1 * (x 1).val) (h2 : (y 2).val = 256 + 1 * (x 2).val) :
    pc1 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 1 1) (GB arg8 harg8 x6) (ZB arg6 harg6 x4 1 1) x
      = bv kr qr vr (fun h => sl ((i 1).val * 2 + h) * (Real.log 2)⁻¹) l x6 x4 y := by
  rw [GB_eq]
  exact pcy1 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 1 1 f j) (ZB_at arg6 harg6 x4 1 1 x y (h1.trans (by simp)) (h2.trans (by simp))) (h1.trans (by simp)) (h2.trans (by simp))

theorem Bpt1_0 (x : S1x128x256.Idx) (y : S1x256x2048.Idx) (h1 : (y 1).val = 0 + 1 * (x 1).val) (h2 : (y 2).val = 256 + 1 * (x 2).val) :
    pc1 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 1 0) (GB arg8 harg8 x6) (ZB arg6 harg6 x4 1 0) x
      = bv kr qr vr (fun h => sl ((i 1).val * 2 + h) * (Real.log 2)⁻¹) l x6 x4 y := by
  rw [GB_eq]
  exact pcy1 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 1 0 f j) (ZB_at arg6 harg6 x4 1 0 x y (h1.trans (by simp)) (h2.trans (by simp))) (h1.trans (by simp)) (h2.trans (by simp))

theorem Bpt0_1 (x : S1x128x256.Idx) (y : S1x256x2048.Idx) (h1 : (y 1).val = 128 + 1 * (x 1).val) (h2 : (y 2).val = 0 + 1 * (x 2).val) :
    pc0 (KB c arg4 harg4 arg10 harg10 x2 xs0) (VB c arg5 harg5 arg11 harg11 x3 xs1) 1 (kernelRun0_B.sl.r_3 c i arg2 harg2 x0) (kernelRun0_B.sl.r_4 c arg7 harg7 x5) (QB arg3 harg3 x1 0 1) (GB arg8 harg8 x6) (ZB arg6 harg6 x4 0 1) x
      = bv kr qr vr (fun h => sl ((i 1).val * 2 + h) * (Real.log 2)⁻¹) l x6 x4 y := by
  rw [GB_eq]
  exact pcy0 (cs := fun h => sl ((i 1).val * 2 + h) * (Real.log 2)⁻¹) (pos1B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 0 1 f j) (ZB_at arg6 harg6 x4 0 1 x y (h1.trans (by simp)) (h2.trans (by simp))) (h1.trans (by simp)) (h2.trans (by simp))

theorem Bpt0_0 (x : S1x128x256.Idx) (y : S1x256x2048.Idx) (h1 : (y 1).val = 0 + 1 * (x 1).val) (h2 : (y 2).val = 0 + 1 * (x 2).val) :
    pc0 (KB c arg4 harg4 arg10 harg10 x2 xs0) (VB c arg5 harg5 arg11 harg11 x3 xs1) 0 (kernelRun0_B.sl.r_1 c i arg2 harg2 x0) (kernelRun0_B.sl.r_4 c arg7 harg7 x5) (QB arg3 harg3 x1 0 0) (GB arg8 harg8 x6) (ZB arg6 harg6 x4 0 0) x
      = bv kr qr vr (fun h => sl ((i 1).val * 2 + h) * (Real.log 2)⁻¹) l x6 x4 y := by
  rw [GB_eq]
  exact pcy0 (cs := fun h => sl ((i 1).val * 2 + h) * (Real.log 2)⁻¹) (pos0B c i arg2 harg2 x0 hs) (KB_k c arg4 harg4 arg10 harg10 x2 xs0 hk) (KB_d c arg4 harg4 arg10 harg10 x2 xs0 hd) (VB_v c arg5 harg5 arg11 harg11 x3 xs1 hv) (VB_o c arg5 harg5 arg11 harg11 x3 xs1 ho) ((lamB_at c arg7 harg7 x5).trans hl) x y
    (fun f j => QB_at arg3 harg3 x1 hq 0 0 f j) (ZB_at arg6 harg6 x4 0 0 x y (h1.trans (by simp)) (h2.trans (by simp))) (h1.trans (by simp)) (h2.trans (by simp))

theorem outB_eq  : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1
    = bv kr qr vr (fun h => sl ((i 1).val * 2 + h) * (Real.log 2)⁻¹) l x6 x4 := by
  unfold out0_B_7
  rw [View.read_writes_junk_eq_canon]
  funext y
  refine View.canon_apply_of_pieces _ _ (View.PiecesOf.mem ?_) y (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 y)
  exact ⟨fun x => (congrFun (Bpiece7_1 c i arg2 harg2 arg3 harg3 arg4 harg4 arg5 harg5 arg6 harg6 arg7 harg7 arg8 harg8 arg10 harg10 arg11 harg11 arg12 arg13 x0 x1 x2 x3 x4 x5 x6 xs0 xs1) x).trans (Bpt7_1 (hs := hs) (hq := hq) (hk := hk) (hv := hv) (hl := hl) (hd := hd) (ho := ho) x _ rfl rfl),
    fun x => (congrFun (Bpiece7_0 c i arg2 harg2 arg3 harg3 arg4 harg4 arg5 harg5 arg6 harg6 arg7 harg7 arg8 harg8 arg10 harg10 arg11 harg11 arg12 arg13 x0 x1 x2 x3 x4 x5 x6 xs0 xs1) x).trans (Bpt7_0 (hs := hs) (hq := hq) (hk := hk) (hv := hv) (hl := hl) (hd := hd) (ho := ho) x _ rfl rfl),
    fun x => (congrFun (Bpiece6_1 c i arg2 harg2 arg3 harg3 arg4 harg4 arg5 harg5 arg6 harg6 arg7 harg7 arg8 harg8 arg10 harg10 arg11 harg11 arg12 arg13 x0 x1 x2 x3 x4 x5 x6 xs0 xs1) x).trans (Bpt6_1 (hs := hs) (hq := hq) (hk := hk) (hv := hv) (hl := hl) (hd := hd) (ho := ho) x _ rfl rfl),
    fun x => (congrFun (Bpiece6_0 c i arg2 harg2 arg3 harg3 arg4 harg4 arg5 harg5 arg6 harg6 arg7 harg7 arg8 harg8 arg10 harg10 arg11 harg11 arg12 arg13 x0 x1 x2 x3 x4 x5 x6 xs0 xs1) x).trans (Bpt6_0 (hs := hs) (hq := hq) (hk := hk) (hv := hv) (hl := hl) (hd := hd) (ho := ho) x _ rfl rfl),
    fun x => (congrFun (Bpiece5_1 c i arg2 harg2 arg3 harg3 arg4 harg4 arg5 harg5 arg6 harg6 arg7 harg7 arg8 harg8 arg10 harg10 arg11 harg11 arg12 arg13 x0 x1 x2 x3 x4 x5 x6 xs0 xs1) x).trans (Bpt5_1 (hs := hs) (hq := hq) (hk := hk) (hv := hv) (hl := hl) (hd := hd) (ho := ho) x _ rfl rfl),
    fun x => (congrFun (Bpiece5_0 c i arg2 harg2 arg3 harg3 arg4 harg4 arg5 harg5 arg6 harg6 arg7 harg7 arg8 harg8 arg10 harg10 arg11 harg11 arg12 arg13 x0 x1 x2 x3 x4 x5 x6 xs0 xs1) x).trans (Bpt5_0 (hs := hs) (hq := hq) (hk := hk) (hv := hv) (hl := hl) (hd := hd) (ho := ho) x _ rfl rfl),
    fun x => (congrFun (Bpiece4_1 c i arg2 harg2 arg3 harg3 arg4 harg4 arg5 harg5 arg6 harg6 arg7 harg7 arg8 harg8 arg10 harg10 arg11 harg11 arg12 arg13 x0 x1 x2 x3 x4 x5 x6 xs0 xs1) x).trans (Bpt4_1 (hs := hs) (hq := hq) (hk := hk) (hv := hv) (hl := hl) (hd := hd) (ho := ho) x _ rfl rfl),
    fun x => (congrFun (Bpiece4_0 c i arg2 harg2 arg3 harg3 arg4 harg4 arg5 harg5 arg6 harg6 arg7 harg7 arg8 harg8 arg10 harg10 arg11 harg11 arg12 arg13 x0 x1 x2 x3 x4 x5 x6 xs0 xs1) x).trans (Bpt4_0 (hs := hs) (hq := hq) (hk := hk) (hv := hv) (hl := hl) (hd := hd) (ho := ho) x _ rfl rfl),
    fun x => (congrFun (Bpiece3_1 c i arg2 harg2 arg3 harg3 arg4 harg4 arg5 harg5 arg6 harg6 arg7 harg7 arg8 harg8 arg10 harg10 arg11 harg11 arg12 arg13 x0 x1 x2 x3 x4 x5 x6 xs0 xs1) x).trans (Bpt3_1 (hs := hs) (hq := hq) (hk := hk) (hv := hv) (hl := hl) (hd := hd) (ho := ho) x _ rfl rfl),
    fun x => (congrFun (Bpiece3_0 c i arg2 harg2 arg3 harg3 arg4 harg4 arg5 harg5 arg6 harg6 arg7 harg7 arg8 harg8 arg10 harg10 arg11 harg11 arg12 arg13 x0 x1 x2 x3 x4 x5 x6 xs0 xs1) x).trans (Bpt3_0 (hs := hs) (hq := hq) (hk := hk) (hv := hv) (hl := hl) (hd := hd) (ho := ho) x _ rfl rfl),
    fun x => (congrFun (Bpiece2_1 c i arg2 harg2 arg3 harg3 arg4 harg4 arg5 harg5 arg6 harg6 arg7 harg7 arg8 harg8 arg10 harg10 arg11 harg11 arg12 arg13 x0 x1 x2 x3 x4 x5 x6 xs0 xs1) x).trans (Bpt2_1 (hs := hs) (hq := hq) (hk := hk) (hv := hv) (hl := hl) (hd := hd) (ho := ho) x _ rfl rfl),
    fun x => (congrFun (Bpiece2_0 c i arg2 harg2 arg3 harg3 arg4 harg4 arg5 harg5 arg6 harg6 arg7 harg7 arg8 harg8 arg10 harg10 arg11 harg11 arg12 arg13 x0 x1 x2 x3 x4 x5 x6 xs0 xs1) x).trans (Bpt2_0 (hs := hs) (hq := hq) (hk := hk) (hv := hv) (hl := hl) (hd := hd) (ho := ho) x _ rfl rfl),
    fun x => (congrFun (Bpiece1_1 c i arg2 harg2 arg3 harg3 arg4 harg4 arg5 harg5 arg6 harg6 arg7 harg7 arg8 harg8 arg10 harg10 arg11 harg11 arg12 arg13 x0 x1 x2 x3 x4 x5 x6 xs0 xs1) x).trans (Bpt1_1 (hs := hs) (hq := hq) (hk := hk) (hv := hv) (hl := hl) (hd := hd) (ho := ho) x _ rfl rfl),
    fun x => (congrFun (Bpiece1_0 c i arg2 harg2 arg3 harg3 arg4 harg4 arg5 harg5 arg6 harg6 arg7 harg7 arg8 harg8 arg10 harg10 arg11 harg11 arg12 arg13 x0 x1 x2 x3 x4 x5 x6 xs0 xs1) x).trans (Bpt1_0 (hs := hs) (hq := hq) (hk := hk) (hv := hv) (hl := hl) (hd := hd) (ho := ho) x _ rfl rfl),
    fun x => (congrFun (Bpiece0_1 c i arg2 harg2 arg3 harg3 arg4 harg4 arg5 harg5 arg6 harg6 arg7 harg7 arg8 harg8 arg10 harg10 arg11 harg11 arg12 arg13 x0 x1 x2 x3 x4 x5 x6 xs0 xs1) x).trans (Bpt0_1 (hs := hs) (hq := hq) (hk := hk) (hv := hv) (hl := hl) (hd := hd) (ho := ho) x _ rfl rfl),
    fun x => (congrFun (Bpiece0_0 c i arg2 harg2 arg3 harg3 arg4 harg4 arg5 harg5 arg6 harg6 arg7 harg7 arg8 harg8 arg10 harg10 arg11 harg11 arg12 arg13 x0 x1 x2 x3 x4 x5 x6 xs0 xs1) x).trans (Bpt0_0 (hs := hs) (hq := hq) (hk := hk) (hv := hv) (hl := hl) (hd := hd) (ho := ho) x _ rfl rfl), trivial⟩

end Cert.KernelIdeal.Att

end
-- ==== Proof.Hand.Ent.lean ====
/- What the attention's windows read: the arguments, scaled and transposed by the host before the call. -/
module

public import proofs.«01_k».proof.Proof.Hand.Rows
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ) (c : Dev nD) (t : Fin cfg0.N)

/-- The windows' block indices at every grid point. -/
theorem idx : ∀ t : Fin cfg0.N,
    win0_0.index t = ![0] ∧ win0_1.index t = ![t.val / 4, t.val % 4, 0] ∧ win0_2.index t = ![t.val / 4, 0, t.val % 4]
      ∧ win0_3.index t = ![t.val / 4, t.val % 4, 0] ∧ win0_4.index t = ![t.val / 4, t.val % 4, 0] ∧ win0_5.index t = ![0, 0] ∧ win0_6.index t = ![0, 0]
      ∧ win0_7.index t = ![t.val / 4, t.val % 4, 0] ∧ (grid0.coords t 1).val = t.val % 4 :=
  (by decide +kernel : ∀ t : Fin grid0.N,
    win0_0.index t = ![0] ∧ win0_1.index t = ![t.val / 4, t.val % 4, 0] ∧ win0_2.index t = ![t.val / 4, 0, t.val % 4]
      ∧ win0_3.index t = ![t.val / 4, t.val % 4, 0] ∧ win0_4.index t = ![t.val / 4, t.val % 4, 0] ∧ win0_5.index t = ![0, 0] ∧ win0_6.index t = ![0, 0]
      ∧ win0_7.index t = ![t.val / 4, t.val % 4, 0] ∧ (grid0.coords t 1).val = t.val % 4)

/-- Argument 0. -/
abbrev A0 : Shape.Idx S16x2048x1024 → EReal := m ((c : Thread nD τ).loc main_arg0)
/-- Argument 1. -/
abbrev A1 : Shape.Idx S16x2048x1024 → EReal := m ((c : Thread nD τ).loc main_arg1)
/-- Argument 2. -/
abbrev A2 : Shape.Idx S16x2048x1024 → EReal := m ((c : Thread nD τ).loc main_arg2)
/-- Argument 3. -/
abbrev A3 : Shape.Idx S16x2048x1024 → EReal := m ((c : Thread nD τ).loc main_arg3)
/-- Argument 4. -/
abbrev A4 : Shape.Idx S1x4x64 → EReal := m ((c : Thread nD τ).loc main_arg4)
/-- Argument 5. -/
abbrev A5 : Shape.Idx S1x128 → EReal := m ((c : Thread nD τ).loc main_arg5)

theorem ht : t.val < 64 := lt_of_lt_of_eq t.isLt (show cfg0.N = 64 from N_0)

/-- The scale the host gives the queries. -/
def qsc : EReal := Ideal.div (Ideal.ofBits .f32 0x3E000000#32) (Ideal.log (Ideal.ofBits .f32 0x40000000#32))

theorem ib1 (f : Fin 256) (Q : Fin 2048) : (iblk m c 1 t : Vec Ideal S1x256x2048 .bf16) (ix3 0 f Q)
    = A0 m c (ix3 ⟨t.val / 4, by have := ht t; omega⟩ Q ⟨t.val % 4 * 256 + f.val, by omega⟩) * qsc := by
  have h := ht t
  blk_simp [iblk]
  entry_read
  pointwise [qsc]
  blk_point [iblk, V, idx t]

theorem ib2 (j : Fin 2048) (f : Fin 256) : (iblk m c 2 t : Vec Ideal S1x2048x256 .bf16) (ix3 0 j f)
    = A1 m c (ix3 ⟨t.val / 4, by have := ht t; omega⟩ j ⟨t.val % 4 * 256 + f.val, by omega⟩) := by
  have h := ht t
  blk_simp [iblk]
  entry_read
  pointwise []
  blk_point [iblk, V, idx t]

theorem ib3 (f : Fin 256) (j : Fin 2048) : (iblk m c 3 t : Vec Ideal S1x256x2048 .bf16) (ix3 0 f j)
    = A2 m c (ix3 ⟨t.val / 4, by have := ht t; omega⟩ j ⟨t.val % 4 * 256 + f.val, by omega⟩) := by
  have h := ht t
  blk_simp [iblk]
  entry_read
  pointwise []
  blk_point [iblk, V, idx t]

theorem ib4 (f : Fin 256) (j : Fin 2048) : (iblk m c 4 t : Vec Ideal S1x256x2048 .f32) (ix3 0 f j)
    = A3 m c (ix3 ⟨t.val / 4, by have := ht t; omega⟩ j ⟨t.val % 4 * 256 + f.val, by omega⟩) := by
  have h := ht t
  blk_simp [iblk]
  entry_read
  pointwise []
  blk_point [iblk, V, idx t]

theorem ib5 (a : Fin 4) (f : Fin 64) : (iblk m c 5 t : Vec Ideal S4x64 .f32) (ix2 a f)
    = A4 m c (ix3 0 a f) := by
  have h := ht t
  blk_simp [iblk]
  entry_read
  pointwise []
  blk_point [iblk, V, idx t]

theorem ib6 (e : Fin 128) (f : Fin 256) : (iblk m c 6 t : Vec Ideal S128x256 .f32) (ix2 e f)
    = A5 m c (ix2 0 e) := by
  have h := ht t
  blk_simp [iblk]
  entry_read
  pointwise []
  blk_point [iblk, V, idx t]

/-- The slope of head `n`. -/
def slp (n : Fin 8) : EReal := Ideal.exp (Ideal.ofBits .f32 0x3F317218#32 * Ideal.div (Ideal.ofBits .f32 0xC1000000#32 * (Ideal.ofBits .f32 0x3F800000#32 + FloatOps.sitofp (F := Ideal) FTy.f32 (BitVec.ofNat 32 n.val))) (Ideal.ofBits .f32 0x41000000#32))
theorem ib0 (n : Fin 8) : (iblk m c 0 t : Vec Ideal S8 .f32) (ix1 n) = slp n := by
  have h := ht t
  blk_simp [iblk]
  entry_read
  pointwise [slp]
  blk_point [iblk, V, idx t]

end Cert.KernelIdeal.Att

end
-- ==== Proof.Hand.Cst.lean ====
/- The constants and the small functions of the attention at the reals. -/
module

public import proofs.«01_k».proof.Proof.Hand.Ent
public import proofs.«01_k».proof.Proof.Hand.Blk

@[expose] public section

set_option maxRecDepth 16384

noncomputable section

open Idealize.ShloMosaic Idealize.ShloMosaic.TcCoe Idealize.SL.Sem

namespace Cert.KernelIdeal.Att

open Cert.KernelIdeal Cert.KernelIdeal.Gen

theorem c_eighth : Ideal.ofBits FTy.f32 0x3E000000#32 = ((1 / 8 : ℝ) : EReal) := by
  simp [Ideal.ofBits, Ideal.ieee]; norm_num; rw [← EReal.coe_mul]; norm_num
theorem c_two : Ideal.ofBits FTy.f32 0x40000000#32 = ((2 : ℝ) : EReal) := by
  simp [Ideal.ofBits, Ideal.ieee]; norm_num; rw [← EReal.coe_mul]; norm_num
theorem c_eight : Ideal.ofBits FTy.f32 0x41000000#32 = ((8 : ℝ) : EReal) := by
  simp [Ideal.ofBits, Ideal.ieee]; norm_num; rw [← EReal.coe_mul]; norm_num
theorem c_half : Ideal.ofBits FTy.f32 0x3F000000#32 = ((1 / 2 : ℝ) : EReal) := by
  simp [Ideal.ofBits, Ideal.ieee]; norm_num; rw [← EReal.coe_mul]; norm_num

/-- A real number among the extended ones. -/
def IsR (x : EReal) : Prop := x = ((x.toReal : ℝ) : EReal)
theorem isR_coe (r : ℝ) : IsR ((r : ℝ) : EReal) := rfl
theorem IsR.mul {x y : EReal} (hx : IsR x) (hy : IsR y) : IsR (x * y) := by rw [hx, hy, ← EReal.coe_mul]; rfl
theorem IsR.add {x y : EReal} (hx : IsR x) (hy : IsR y) : IsR (x + y) := by rw [hx, hy, ← EReal.coe_add]; rfl
theorem IsR.sub {x y : EReal} (hx : IsR x) (hy : IsR y) : IsR (x - y) := by rw [hx, hy, ← EReal.coe_sub]; rfl
theorem IsR.exp {x : EReal} (hx : IsR x) : IsR (Ideal.exp x) := by rw [hx, Ideal.exp_coe]; rfl
theorem IsR.neg {x : EReal} (hx : IsR x) : IsR (-x) := by rw [hx, ← EReal.coe_neg]; rfl
theorem IsR.sum {n : ℕ} {f : Fin n → EReal} (h : ∀ x, IsR (f x)) : IsR (∑ x, f x) := by
  rw [Finset.sum_congr rfl fun x _ => h x, coe_sum]; rfl

theorem r_lam : IsR (Ideal.ofBits FTy.f32 1055981900#32) := by
  simp [Ideal.ofBits, Ideal.ieee]; norm_num; exact (isR_coe _).mul (isR_coe _)
theorem r_ln2 : IsR (Ideal.ofBits FTy.f32 0x3F317218#32) := by
  simp [Ideal.ofBits, Ideal.ieee]; norm_num; exact (isR_coe _).mul (isR_coe _)
theorem r_m8 : IsR (Ideal.ofBits FTy.f32 0xC1000000#32) := by
  simp [Ideal.ofBits, Ideal.ieee]; norm_num; exact ((isR_coe _).mul (isR_coe _)).neg
theorem r_one : IsR (Ideal.ofBits FTy.f32 0x3F800000#32) := by
  simp [Ideal.ofBits, Ideal.ieee]; norm_num; exact (isR_coe _).mul (isR_coe _)

theorem slp_r (n : Fin 8) : IsR (slp n) := by
  unfold slp
  rw [sitofp_nat n.val (by omega), c_eight, Ideal.div_coe (by norm_num)]
  exact (r_ln2.mul ((r_m8.mul (r_one.add (isR_coe _))).mul (isR_coe _))).exp

theorem qsc_val : qsc = ((1 / 8 * (Real.log 2)⁻¹ : ℝ) : EReal) := by
  unfold qsc
  rw [c_eighth, c_two, Ideal.log_coe, if_neg (by norm_num)]
  rw [Ideal.div_coe (Real.log_pos (by norm_num)).ne', ← EReal.coe_mul, one_div (Real.log 2)]

theorem lamE_r (w : Vec Ideal S4x64 .f32) (h : ∀ a f, IsR (w (ix2 a f))) : IsR (lamE w) :=
  ((IsR.sum fun x => (h 0 x).mul (h 1 x)).exp.sub (IsR.sum fun x => (h 2 x).mul (h 3 x)).exp).add r_lam

end Cert.KernelIdeal.Att

end
-- ==== Proof.Hand.Car.lean ====
/- What a point leaves in the two buffers it keeps. -/
module

public import proofs.«01_k».proof.Proof.Hand.Buf

@[expose] public section

set_option maxRecDepth 16384

noncomputable section

open Idealize.ShloMosaic Idealize.ShloMosaic.TcCoe Idealize.SL.Sem

namespace Cert.KernelIdeal.Att

open Cert.KernelIdeal Cert.KernelIdeal.Gen

section A
variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : cond0_0 i)
  (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32)
  (xs0 : Vec Ideal S2x2048x256 .bf16) (xs1 : Vec Ideal S2x144x2048 .bf16)

theorem lsA_0 : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = kernelRun0_A.sl.HS0_4 c arg4 harg4 x2 := by
  unfold kernelRun0_A
  rfl
theorem lsA_1 : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = kernelRun0_A.sl.HS1_4 c arg5 harg5 x3 := by
  unfold kernelRun0_A
  rfl
variable {c i arg2 harg2 arg3 harg3 arg4 harg4 arg5 harg5 arg6 harg6 arg7 harg7 arg8 harg8 arg9 harg9 arg10 harg10 arg11 harg11 arg12 harg12 arg13 harg13 hc0 x0 x1 x2 x3 x4 x5 x6}
theorem sA_0 : Dg (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6) := by
  rw [sout0_A_0, lsA_0]
  exact KA_d c arg4 harg4 scM0_0 x2
theorem sA_1 : On (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6) := by
  rw [sout0_A_1, lsA_1]
  exact VA_o c arg5 harg5 scM0_1 x3

end A

section B
variable (c : Dev nD) (i : grid0.Coords) (arg2 : Memref sig .tc .smem S8 .f32) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x256x2048 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x256x2048 .bf16) (harg9 : arg9.IsWhole) (arg10 : Memref sig .tc .vmem S2x2048x256 .bf16) (harg10 : arg10.IsWhole) (arg11 : Memref sig .tc .vmem S2x144x2048 .bf16) (harg11 : arg11.IsWhole) (arg12 : Memref sig .tc .vmem S4x2048x256 .f32) (harg12 : arg12.IsWhole) (arg13 : Memref sig .tc .vmem S4x2048x256 .bf16) (harg13 : arg13.IsWhole) (hc0 : ¬cond0_0 i)
  (x0 : Vec Ideal S8 .f32) (x1 : Vec Ideal S1x256x2048 .bf16) (x2 : Vec Ideal S1x2048x256 .bf16) (x3 : Vec Ideal S1x256x2048 .bf16) (x4 : Vec Ideal S1x256x2048 .f32) (x5 : Vec Ideal S4x64 .f32) (x6 : Vec Ideal S128x256 .f32)
  (xs0 : Vec Ideal S2x2048x256 .bf16) (xs1 : Vec Ideal S2x144x2048 .bf16)

theorem lsB_0 : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1 = kernelRun0_B.sl.HS0_2 c arg4 harg4 x2 := by
  unfold kernelRun0_B
  rfl
theorem lsB_1 : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1 = kernelRun0_B.sl.HS1_2 c arg5 harg5 x3 := by
  unfold kernelRun0_B
  rfl
variable {c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1}
theorem sB_0 (h : Dg xs0) : Dg (sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1) := by
  rw [sout0_B_0, lsB_0]
  exact KB_d c arg4 harg4 arg10 harg10 x2 xs0 h
theorem sB_1 (h : On xs1) : On (sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1) := by
  rw [sout0_B_1, lsB_1]
  exact VB_o c arg5 harg5 arg11 harg11 x3 xs1 h

end B

end Cert.KernelIdeal.Att

end
-- ==== Proof.Hand.Bridge.lean ====
/- From the blocks of the attention to its whole result. -/
module

public import proofs.«01_k».proof.Proof.Hand.PtA
public import proofs.«01_k».proof.Proof.Hand.PtB
public import proofs.«01_k».proof.Proof.Hand.Cst
public import proofs.«01_k».proof.Proof.Hand.Car

@[expose] public section

set_option maxRecDepth 16384

noncomputable section

open Idealize.ShloMosaic Idealize.ShloMosaic.TcCoe Idealize.SL.Sem

namespace Cert.KernelIdeal.Att

open Cert.KernelIdeal Cert.KernelIdeal.Gen

variable (m : (ℓ : Loc nD τ sig) → Buf (Elt Ideal) ℓ) (c : Dev nD)

theorem invA (t : Fin cfg0.N) (hz : t.val % 64 = 0) : Dg (outsAt0 m c t.val t.isLt).2.1 ∧ On (outsAt0 m c t.val t.isLt).2.2 := by
  rw [outsAt0_A m c t hz]
  dsimp only
  exact ⟨sA_0, sA_1⟩
theorem invB (t : Fin cfg0.N) (hz : ¬ t.val % 64 = 0) (p : t.val - 1 < cfg0.N) (h : Dg (outsAt0 m c (t.val - 1) p).2.1 ∧ On (outsAt0 m c (t.val - 1) p).2.2) :
    Dg (outsAt0 m c t.val t.isLt).2.1 ∧ On (outsAt0 m c t.val t.isLt).2.2 := by
  rw [outsAt0_B m c t hz]
  dsimp only
  exact ⟨sB_0 h.1, sB_1 h.2⟩
/-- The two kept buffers hold the digits and the ones after every point. -/
theorem inv : ∀ (n : ℕ) (hn : n < cfg0.N), Dg (outsAt0 m c n hn).2.1 ∧ On (outsAt0 m c n hn).2.2 := by
  intro n
  induction n with
  | zero => exact fun hn => invA m c ⟨0, hn⟩ (Nat.zero_mod 64)
  | succ n ih =>
    intro hn
    have hN := lt_of_lt_of_eq hn (show cfg0.N = 64 from N_0)
    exact invB m c ⟨n + 1, hn⟩ (show ¬ (n + 1) % 64 = 0 by omega) (Nat.lt_of_succ_lt hn) (ih _)

/-- The real entry of an argument. -/
def rd (A : Shape.Idx S16x2048x1024 → EReal) (b : Fin 16) (p q : ℕ) : ℝ :=
  if h : p < 2048 ∧ q < 1024 then (A (ix3 b ⟨p, h.1⟩ ⟨q, h.2⟩)).toReal else 0

/-- The real slope of a head. -/
def slr (n : ℕ) : ℝ := if h : n < 8 then (slp ⟨n, h⟩).toReal else 0

/-- The attention's entry at a batch, a column of the heads and a query. -/
def kval (a0 a1 a2 a3 : Shape.Idx S16x2048x1024 → EReal) (a5 : Shape.Idx S1x128 → EReal) (l : ℝ) (b : Fin 16) (R : Fin 1024) (Q : Fin 2048) : EReal :=
  gt (fun x => ((dm (fun j f => rd a1 b j (R.val / 128 * 128 + f)) (fun f q => rd a0 b q (R.val / 128 * 128 + f) * (1 / 8 * (Real.log 2)⁻¹))
      (fun x j => rd a2 b j (R.val / 128 * 128 + x)) (slr (R.val / 128) * (Real.log 2)⁻¹) l Q.val x.val : ℝ) : EReal))
    ⟨R.val % 128, by omega⟩ (a5 (ix2 0 ⟨R.val % 128, by omega⟩)) (a3 (ix3 b Q R))

/-- The block of a point. -/
theorem pt (h0 : ∀ i, A0 m c i = (((A0 m c i).toReal : ℝ) : EReal)) (h1 : ∀ i, A1 m c i = (((A1 m c i).toReal : ℝ) : EReal)) (h2 : ∀ i, A2 m c i = (((A2 m c i).toReal : ℝ) : EReal))
    {l : ℝ} (hl : ∀ t, lamE (iblk m c 5 t) = (l : EReal)) (t : Fin cfg0.N) :
    (outsAt0 m c t.val t.isLt).1 = bv (fun j f => rd (A1 m c) ⟨t.val / 4, by have := ht t; omega⟩ j (t.val % 4 * 256 + f))
      (fun f q => rd (A0 m c) ⟨t.val / 4, by have := ht t; omega⟩ q (t.val % 4 * 256 + f) * (1 / 8 * (Real.log 2)⁻¹))
      (fun x j => rd (A2 m c) ⟨t.val / 4, by have := ht t; omega⟩ j (t.val % 4 * 256 + x))
      (fun h => slr ((grid0.coords t 1).val * 2 + h) * (Real.log 2)⁻¹) l (iblk m c 6 t) (iblk m c 4 t) := by
  have hq : ∀ (f : Fin 256) (Q : Fin 2048), (iblk m c 1 t : Vec Ideal S1x256x2048 .bf16) (ix3 0 f Q)
      = ((rd (A0 m c) ⟨t.val / 4, by have := ht t; omega⟩ Q.val (t.val % 4 * 256 + f.val) * (1 / 8 * (Real.log 2)⁻¹) : ℝ) : EReal) := fun f Q => by
    rw [ib1, h0, qsc_val, ← EReal.coe_mul, rd, dif_pos ⟨Q.isLt, by omega⟩]
  have hk : ∀ (j : Fin 2048) (f : Fin 256), (iblk m c 2 t : Vec Ideal S1x2048x256 .bf16) (ix3 0 j f)
      = ((rd (A1 m c) ⟨t.val / 4, by have := ht t; omega⟩ j.val (t.val % 4 * 256 + f.val) : ℝ) : EReal) := fun j f => by
    rw [ib2, h1, rd, dif_pos ⟨j.isLt, by omega⟩]
  have hv : ∀ (f : Fin 256) (j : Fin 2048), (iblk m c 3 t : Vec Ideal S1x256x2048 .bf16) (ix3 0 f j)
      = ((rd (A2 m c) ⟨t.val / 4, by have := ht t; omega⟩ j.val (t.val % 4 * 256 + f.val) : ℝ) : EReal) := fun f j => by
    rw [ib3, h2, rd, dif_pos ⟨j.isLt, by omega⟩]
  have hs : ∀ n : Fin 8, (iblk m c 0 t : Vec Ideal S8 .f32) (ix1 n) = ((slr n.val : ℝ) : EReal) := fun n => by
    rw [ib0, slp_r, slr, dif_pos n.isLt]
  by_cases hz : t.val % 64 = 0
  · rw [outsAt0_A m c t hz]
    dsimp only
    exact outA_eq hs hq hk hv (hl t)
  · rw [outsAt0_B m c t hz]
    dsimp only
    exact outB_eq hs hq hk hv (hl t) (inv m c _ _).1 (inv m c _ _).2

/-- The block of a point at an index is the result's entry there. -/
theorem asm {l : ℝ} (t : Fin cfg0.N) (y : S1x256x2048.Idx) (b : Fin 16) (R : Fin 1024) (Q : Fin 2048) (e0 : b.val = t.val / 4)
    (e1 : R.val = t.val % 4 * 256 + (y 1).val) (e2 : Q.val = (y 2).val) :
    bv (fun j f => rd (A1 m c) ⟨t.val / 4, by have := ht t; omega⟩ j (t.val % 4 * 256 + f))
      (fun f q => rd (A0 m c) ⟨t.val / 4, by have := ht t; omega⟩ q (t.val % 4 * 256 + f) * (1 / 8 * (Real.log 2)⁻¹))
      (fun x j => rd (A2 m c) ⟨t.val / 4, by have := ht t; omega⟩ j (t.val % 4 * 256 + x))
      (fun h => slr ((grid0.coords t 1).val * 2 + h) * (Real.log 2)⁻¹) l (iblk m c 6 t) (iblk m c 4 t) y
      = kval (A0 m c) (A1 m c) (A2 m c) (A3 m c) (A5 m c) l b R Q := by
  have hb : (⟨t.val / 4, by have := ht t; omega⟩ : Fin 16) = b := Fin.ext e0.symm
  have hy1 : (y 1).val < 256 := (y 1).isLt
  have hQ : (⟨(y 2).val, (y 2).isLt⟩ : Fin 2048) = Q := Fin.ext e2.symm
  have hd : R.val / 128 = t.val % 4 * 2 + (y 1).val / 128 := by omega
  have hm : R.val % 128 = (y 1).val % 128 := by omega
  have hz : (iblk m c 4 t : Vec Ideal S1x256x2048 .f32) y = A3 m c (ix3 b Q R) := by
    rw [eta2 y]
    refine (ib4 m c t (y 1) (y 2)).trans ?_
    congr 2 <;> first | exact hb | exact hQ | exact Fin.ext e1.symm
  unfold bv kval
  rw [hz]
  simp only [ib6, hm, hb, hd, (idx t).2.2.2.2.2.2.2.2, e2]
  have hf : ∀ h f : ℕ, (t.val % 4 * 2 + h) * 128 + f = t.val % 4 * 256 + (h * 128 + f) := fun h f => by ring
  simp only [hf]

/-- The whole result. -/
theorem final (h0 : ∀ i, A0 m c i = (((A0 m c i).toReal : ℝ) : EReal)) (h1 : ∀ i, A1 m c i = (((A1 m c i).toReal : ℝ) : EReal)) (h2 : ∀ i, A2 m c i = (((A2 m c i).toReal : ℝ) : EReal))
    {l : ℝ} (hl : ∀ t, lamE (iblk m c 5 t) = (l : EReal)) :
    (dats m 0 c).arrAt 7 (cfgs 0).N = fun i => kval (A0 m c) (A1 m c) (A2 m c) (A3 m c) (A5 m c) l (i 0) (i 1) (i 2) := by
  refine (dats m 0 c).arrAt_eq_of_covers 7 _ (by decide +kernel) fun t _ y => ?_
  blk_simp
  rw [after0_7, pt m c h0 h1 h2 hl t]
  have hix := idx t
  have htt := ht t
  have e0 : ((win0_7.blk t).view.emb y 0).val = t.val / 4 := by blk_point [idx t]
  have e1 : ((win0_7.blk t).view.emb y 1).val = t.val % 4 * 256 + (y 1).val := by blk_point [idx t]
  have e2 : ((win0_7.blk t).view.emb y 2).val = (y 2).val := by blk_point [idx t]
  revert e0 e1 e2
  generalize (win0_7.blk t).view.emb y 0 = b
  generalize (win0_7.blk t).view.emb y 1 = R
  generalize (win0_7.blk t).view.emb y 2 = Q
  exact asm m c t y b R Q

end Cert.KernelIdeal.Att

end
-- ==== Proof.Hand.RefVal.lean ====
/- The reference attention at real arguments. -/
module

public import proofs.«01_k».proof.Proof.Hand.RefAt
public import proofs.«01_k».proof.Proof.Hand.Bridge

@[expose] public section

set_option maxRecDepth 16384

noncomputable section

open Idealize.ShloMosaic Idealize.ShloMosaic.TcCoe Idealize.SL.Sem

namespace Cert.ReferenceIdeal.Att

open Cert.ReferenceIdeal Cert.ReferenceIdeal.Gen
open Cert.KernelIdeal.Att (rd slr slp wt soft sc dm kval gt IsR c_eighth c_eight c_half slp_r sitofp_nat coe_sum wt_nonneg wt_sum_pos fold_max_ne_top le_fold_max negInf)

theorem c_one : Ideal.ofBits FTy.f32 1065353216#32 = (1 : EReal) := by
  simp [Ideal.ofBits, Ideal.ieee]; norm_num; rw [← EReal.coe_mul]; norm_num

theorem sub_int (q k : Fin 2048) : (IntOp.subi (BitVec.ofNat 32 q.val) (BitVec.ofNat 32 k.val)).toInt = (q.val : ℤ) - (k.val : ℤ) := by
  have hq : (BitVec.ofNat 32 q.val).toInt = (q.val : ℤ) := by
    rw [BitVec.toInt_eq_toNat_of_lt (by simp; omega), BitVec.toNat_ofNat, Nat.mod_eq_of_lt (by omega)]
  have hk : (BitVec.ofNat 32 k.val).toInt = (k.val : ℤ) := by
    rw [BitVec.toInt_eq_toNat_of_lt (by simp; omega), BitVec.toNat_ofNat, Nat.mod_eq_of_lt (by omega)]
  show (BitVec.ofNat 32 q.val - BitVec.ofNat 32 k.val).toInt = _
  rw [BitVec.toInt_sub, hq, hk]
  exact Int.bmod_eq_of_le (by omega) (by omega)

theorem dist (q k : Fin 2048) : (FloatOps.sitofp (F := Ideal) FTy.f32 (IntOp.subi (BitVec.ofNat 32 q.val) (BitVec.ofNat 32 k.val)) : EReal)
    = (((q.val : ℝ) - (k.val : ℝ) : ℝ) : EReal) := by
  show (((IntOp.subi (BitVec.ofNat 32 q.val) (BitVec.ofNat 32 k.val)).toInt : ℝ) : EReal) = _
  rw [sub_int]
  push_cast
  rfl

/-- The bias is the slope times the distance, and nothing after the query. -/
theorem rB_val (h : Fin 8) (q k : Fin 2048) :
    rB (ix3 h q k) = if k.val ≤ q.val then ((-(slr h.val) * ((q.val : ℝ) - (k.val : ℝ)) : ℝ) : EReal) else ⊥ := by
  rw [rB_at, dist, negInf]
  have hc : ((0 : EReal) ≤ (((q.val : ℝ) - (k.val : ℝ) : ℝ) : EReal)) ↔ k.val ≤ q.val := by
    rw [← EReal.coe_zero, EReal.coe_le_coe_iff, sub_nonneg]
    exact Nat.cast_le
  have hs : Ideal.exp (Ideal.ofBits FTy.f32 1060205080#32 *
        Ideal.div (Ideal.ofBits FTy.f32 3238002688#32 * (1 + (FloatOps.sitofp (F := Ideal) FTy.f32 (BitVec.ofNat 32 h.val) : EReal))) (Ideal.ofBits FTy.f32 1090519040#32))
      = ((slr h.val : ℝ) : EReal) := by
    have e := slp_r h
    rw [slr, dif_pos h.isLt]
    refine Eq.trans ?_ e
    rw [slp, c_one]
  rw [hs]
  simp only [hc]
  split
  · rw [← EReal.coe_neg, ← EReal.coe_mul]
  · rfl

/-- A score as a real number. -/
def sr (a0 a1 : Shape.Idx S16x2048x1024 → EReal) (b : Fin 16) (n o : ℕ) (q k : ℕ) : ℝ :=
  (∑ d ∈ Finset.range 64, rd a0 b q (n * 128 + (o + d)) * rd a1 b k (n * 128 + (o + d))) * (1 / 8) + -(slr n) * ((q : ℝ) - (k : ℝ))

section
variable (a0 a1 a2 a3 : FVec Ideal S16x2048x1024 .f32) (a4 : FVec Ideal S1x4x64 .f32) (a5 : FVec Ideal S1x128 .f32)
  (h0 : ∀ i, a0 i = (((a0 i : EReal).toReal : ℝ) : EReal)) (h1 : ∀ i, a1 i = (((a1 i : EReal).toReal : ℝ) : EReal))
  (h2 : ∀ i, a2 i = (((a2 i : EReal).toReal : ℝ) : EReal))
include h0 h1

theorem rS_val (b : Fin 16) (h : Fin 8) (e : Fin 2) (q k : Fin 2048) :
    rS a0 a1 (ix5 b h e q k) = if k.val ≤ q.val then ((sr a0 a1 b h.val (e.val * 64) q.val k.val : ℝ) : EReal) else ⊥ := by
  have hd : (∑ x : Fin 64, a0 (ix3 b q ⟨h.val * 128 + e.val * 64 + x.val, by omega⟩) * a1 (ix3 b k ⟨h.val * 128 + e.val * 64 + x.val, by omega⟩))
      = ((∑ d ∈ Finset.range 64, rd a0 b q.val (h.val * 128 + (e.val * 64 + d)) * rd a1 b k.val (h.val * 128 + (e.val * 64 + d)) : ℝ) : EReal) := by
    rw [Finset.sum_range, ← coe_sum]
    refine Finset.sum_congr rfl fun x _ => ?_
    rw [h0, h1, ← EReal.coe_mul, rd, rd, dif_pos ⟨q.isLt, by omega⟩, dif_pos ⟨k.isLt, by omega⟩]
    simp only [Nat.add_assoc]
  rw [rS_at, hd, rB_val, show (1040187392#32) = 0x3E000000#32 from rfl, c_eighth, ← EReal.coe_mul]
  split
  · rw [← EReal.coe_add]; rfl
  · exact EReal.add_bot _

theorem rM_val (b : Fin 16) (h : Fin 8) (e : Fin 2) (q : Fin 2048) : ∃ M : ℝ, rM a0 a1 (ix4 b h e q) = ((M : ℝ) : EReal) := by
  have key : ∀ s : FVec Ideal S16x8x2x2048x2048 .f32, (∀ x, (s (ix5 b h e q x) : EReal) ≠ ⊤) → (s (ix5 b h e q q) : EReal) ≠ ⊥ → ∃ M : ℝ, mx s (ix4 b h e q) = ((M : ℝ) : EReal) := fun s ht hb => by
    rw [mx_at, negInf, bot_sup_eq]
    have e1 := fold_max_ne_top (fun x => s (ix5 b h e q x)) ht
    have e2 := le_fold_max (fun x => s (ix5 b h e q x)) q
    have e3 : Finset.fold max (⊥ : EReal) (fun x => s (ix5 b h e q x)) Finset.univ ≠ ⊥ := fun hh => hb (le_bot_iff.mp (hh ▸ e2))
    exact ⟨_, (EReal.coe_toReal e1 e3).symm⟩
  rw [rM_eq]
  refine key _ (fun x => ?_) ?_
  · rw [rS_val a0 a1 h0 h1]; split
    · exact EReal.coe_ne_top _
    · exact bot_ne_top
  · rw [rS_val a0 a1 h0 h1, if_pos le_rfl]; exact EReal.coe_ne_bot _

/-- The kernel's score of the same query and key. -/
abbrev ks (n o q : ℕ) (b : Fin 16) : ℕ → ℝ :=
  sc (fun j f => rd a1 b j (n * 128 + f)) (fun f q => rd a0 b q (n * 128 + f) * (1 / 8 * (Real.log 2)⁻¹)) (slr n * (Real.log 2)⁻¹) o q

omit h0 h1 in
theorem exp_sr (b : Fin 16) (n o q k : ℕ) (M : ℝ) :
    Real.exp (sr a0 a1 b n o q k - M) = Real.rpow 2 (ks a0 a1 n o q b k) * Real.exp (-(slr n) * q - M) := by
  show _ = (2 : ℝ) ^ (ks a0 a1 n o q b k) * _
  rw [Real.rpow_def_of_pos (by norm_num), ← Real.exp_add]
  congr 1
  have hl : Real.log 2 ≠ 0 := (Real.log_pos (by norm_num)).ne'
  unfold sr ks sc
  rw [mul_add, Finset.mul_sum, Finset.sum_mul]
  have e1 : ∀ d, Real.log 2 * (rd a1 b k (n * 128 + (o + d)) * (rd a0 b q (n * 128 + (o + d)) * (1 / 8 * (Real.log 2)⁻¹)))
      = rd a0 b q (n * 128 + (o + d)) * rd a1 b k (n * 128 + (o + d)) * (1 / 8) := fun d => by field_simp
  have e2 : Real.log 2 * (slr n * (Real.log 2)⁻¹ * (k : ℝ)) = slr n * k := by field_simp
  simp only [e1, e2]
  ring

theorem rE_val (b : Fin 16) (h : Fin 8) (e : Fin 2) (q : Fin 2048) : ∃ C : ℝ, 0 < C ∧ ∀ k : Fin 2048,
    rE a0 a1 (ix5 b h e q k) = ((wt (ks a0 a1 h.val (e.val * 64) q.val b) q.val k.val * C : ℝ) : EReal) := by
  obtain ⟨M, hM⟩ := rM_val a0 a1 h0 h1 b h e q
  refine ⟨Real.exp (-(slr h.val) * q.val - M), Real.exp_pos _, fun k => ?_⟩
  rw [rE_at, hM, rS_val a0 a1 h0 h1]
  unfold wt
  split
  · rw [← EReal.coe_sub, Ideal.exp_coe, exp_sr]
  · rw [EReal.bot_sub, Ideal.exp_bot]; simp

theorem rP_val (b : Fin 16) (h : Fin 8) (e : Fin 2) (q k : Fin 2048) :
    rP a0 a1 (ix5 b h e q k) = ((wt (ks a0 a1 h.val (e.val * 64) q.val b) q.val k.val / ∑ j ∈ Finset.range 2048, wt (ks a0 a1 h.val (e.val * 64) q.val b) q.val j : ℝ) : EReal) := by
  obtain ⟨C, hC, hE⟩ := rE_val a0 a1 h0 h1 b h e q
  have hW := wt_sum_pos (ks a0 a1 h.val (e.val * 64) q.val b) q.val
  rw [rP_at, Finset.sum_congr rfl fun j _ => hE j, hE, coe_sum, ← Finset.sum_mul, ← Finset.sum_range (fun j => wt (ks a0 a1 h.val (e.val * 64) q.val b) q.val j),
    Ideal.div_coe (mul_pos hW hC).ne', ← EReal.coe_mul]
  congr 1
  field_simp

include h2

theorem rO_val {l : ℝ} (hl : rL a4 ix0 = ((l : ℝ) : EReal)) (b : Fin 16) (q : Fin 2048) (h : Fin 8) (x : Fin 128) :
    rO a0 a1 a2 a4 (ix4 b q h x) = ((dm (fun j f => rd a1 b j (h.val * 128 + f)) (fun f q => rd a0 b q (h.val * 128 + f) * (1 / 8 * (Real.log 2)⁻¹))
      (fun x j => rd a2 b j (h.val * 128 + x)) (slr h.val * (Real.log 2)⁻¹) l q.val x.val : ℝ) : EReal) := by
  have hA : ∀ j : Fin 2048, a2 (ix3 b j ⟨h.val * 128 + x.val, by omega⟩) * rA a0 a1 a4 (ix4 b h q j)
      = (((wt (ks a0 a1 h.val 0 q.val b) q.val j.val * rd a2 b j.val (h.val * 128 + x.val)) / (∑ j ∈ Finset.range 2048, wt (ks a0 a1 h.val 0 q.val b) q.val j)
        - l * ((wt (ks a0 a1 h.val 64 q.val b) q.val j.val * rd a2 b j.val (h.val * 128 + x.val)) / (∑ j ∈ Finset.range 2048, wt (ks a0 a1 h.val 64 q.val b) q.val j)) : ℝ) : EReal) := fun j => by
    rw [rA_at, rP_val a0 a1 h0 h1, rP_val a0 a1 h0 h1, hl, h2, ← EReal.coe_mul, ← EReal.coe_sub, ← EReal.coe_mul]
    congr 1
    rw [rd, dif_pos ⟨j.isLt, by omega⟩]
    simp only [Fin.val_zero, Fin.val_one, Nat.zero_mul, Nat.one_mul]
    ring
  rw [rO_at, Finset.sum_congr rfl fun j _ => hA j, coe_sum]
  congr 1
  rw [Finset.sum_sub_distrib, ← Finset.mul_sum, ← Finset.sum_div, ← Finset.sum_div,
    ← Finset.sum_range (fun j => wt (ks a0 a1 h.val 0 q.val b) q.val j * rd a2 b j (h.val * 128 + x.val)),
    ← Finset.sum_range (fun j => wt (ks a0 a1 h.val 64 q.val b) q.val j * rd a2 b j (h.val * 128 + x.val))]
  rfl

end

/-- The two spellings of the gate. -/
theorem gate_eq (z : EReal) : z * Ideal.logistic z
    = z * (Ideal.ofBits .f32 1056964608#32 * Ideal.tanh (Ideal.ofBits .f32 1056964608#32 * z) + Ideal.ofBits .f32 1056964608#32) := by
  have hh : (0 : ℝ) < 1 / 2 := by norm_num
  rw [show (1056964608#32) = 0x3F000000#32 from rfl, c_half]
  induction z with
  | bot =>
    rw [EReal.coe_mul_bot_of_pos hh, Ideal.tanh_bot, Ideal.logistic_bot]
    congr 1
    rw [← EReal.coe_one, ← EReal.coe_neg, ← EReal.coe_mul, ← EReal.coe_add]
    norm_num
  | top =>
    rw [EReal.coe_mul_top_of_pos hh, Ideal.tanh_top, Ideal.logistic_top]
    congr 1
    rw [← EReal.coe_one, ← EReal.coe_mul, ← EReal.coe_add]
    norm_num
  | coe r =>
    rw [← EReal.coe_mul, Ideal.tanh_coe, Ideal.logistic_coe, ← EReal.coe_mul, ← EReal.coe_mul, ← EReal.coe_add, ← EReal.coe_mul]
    congr 2
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    have p1 := Real.exp_pos (1 / 2 * r)
    have p2 := Real.exp_pos (-(1 / 2 * r))
    rw [e]
    generalize Real.exp (1 / 2 * r) = u at *
    generalize Real.exp (-(1 / 2 * r)) = v at *
    have hu : u = v⁻¹ := eq_inv_of_mul_eq_one_left e1
    subst hu
    field_simp
    ring

/-- The reference's entry is the kernel's. -/
theorem rR_val (a0 a1 a2 a3 : FVec Ideal S16x2048x1024 .f32) (a4 : FVec Ideal S1x4x64 .f32) (a5 : FVec Ideal S1x128 .f32)
    (h0 : ∀ i, a0 i = (((a0 i : EReal).toReal : ℝ) : EReal)) (h1 : ∀ i, a1 i = (((a1 i : EReal).toReal : ℝ) : EReal))
    (h2 : ∀ i, a2 i = (((a2 i : EReal).toReal : ℝ) : EReal)) {l : ℝ} (hl : rL a4 ix0 = ((l : ℝ) : EReal)) (b : Fin 16) (R : Fin 1024) (Q : Fin 2048) :
    rR a0 a1 a2 a3 a4 a5 (ix3 b R Q) = kval a0 a1 a2 a3 a5 l b R Q := by
  rw [rR_at]
  simp only [rO_val a0 a1 a2 a4 h0 h1 h2 hl, gate_eq]
  rfl

end Cert.ReferenceIdeal.Att

end
-- ==== Proof.Hand.AttnValue.lean ====
/- The attention's result is its reference's, at finite queries, keys, values and weights. -/
module

public import proofs.«01_k».proof.Defs
public import proofs.«01_k».proof.Proof.Hand.Fin
public import proofs.«01_k».proof.Proof.Hand.RefVal
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.Proof.AttnClaims

open Cert.KernelIdeal.Att (A0 A1 A2 A3 A4 A5 kval lamE lamE_r ib5 IsR)

theorem lam_blk (m : (ℓ : Loc Cert.KernelIdeal.nD Cert.KernelIdeal.τ Cert.KernelIdeal.sig) → Buf (Elt Ideal) ℓ) (c : Dev Cert.KernelIdeal.nD)
    (t : Fin Cert.KernelIdeal.cfg0.N) : lamE (Cert.KernelIdeal.Gen.iblk m c 5 t) = Cert.ReferenceIdeal.Att.rL (A4 m c) ix0 := by
  rw [Cert.ReferenceIdeal.Att.rL_at]
  unfold lamE
  simp only [ib5]

theorem lam_r (a4 : FVec Ideal Cert.ReferenceIdeal.S1x4x64 .f32) (h4 : ∀ i, a4 i = (((a4 i : EReal).toReal : ℝ) : EReal)) :
    IsR (Cert.ReferenceIdeal.Att.rL a4 ix0) := by
  rw [Cert.ReferenceIdeal.Att.rL_at]
  exact ((IsR.sum fun x => IsR.mul (h4 _) (h4 _)).exp.sub (IsR.sum fun x => IsR.mul (h4 _) (h4 _)).exp).add Cert.KernelIdeal.Att.r_lam

theorem eta3 (i : Cert.ReferenceIdeal.S16x1024x2048.Idx) : i = ix3 (i 0) (i 1) (i 2) := funext fun a => by
  match a with
  | 0 => rfl
  | 1 => rfl
  | 2 => rfl

theorem value (m : (ℓ : Loc Cert.KernelIdeal.nD Cert.KernelIdeal.τ Cert.KernelIdeal.sig) → Buf (Elt Ideal) ℓ) (h : Cert.Pre_KernelIdeal_finite m) (c : Dev Cert.KernelIdeal.nD) :
    (Cert.KernelIdeal.Gen.dats m 0 c).arrAt 7 (Cert.KernelIdeal.cfgs 0).N
      = Cert.ReferenceIdeal.Att.rR (A0 m c) (A1 m c) (A2 m c) (A3 m c) (A4 m c) (A5 m c) := by
  obtain ⟨h0, h1, h2, h4⟩ := Cert.Finite.of_pre _ _ _ _ _ _ (h c)
  have hl := lam_r (A4 m c) h4
  rw [Cert.KernelIdeal.Att.final m c h0 h1 h2 fun t => (lam_blk m c t).trans hl]
  funext i
  rw [eta3 i]
  exact (Cert.ReferenceIdeal.Att.rR_val (A0 m c) (A1 m c) (A2 m c) (A3 m c) (A4 m c) (A5 m c) h0 h1 h2 hl (i 0) (i 1) (i 2)).symm

theorem algebraic : Cert.algebraic_KernelIdeal_ReferenceIdeal_pre_finite := by
  intro m ρ m' ρ' hpre hagree
  refine ⟨_, (θ_run Cert.KernelIdeal.defs _ _).mono
    (fun _ h c => ⟨(h c).1.trans (value m hpre c), (h c).2⟩)
    (Cert.KernelIdeal.Value.run_blocks (F := Ideal) m ρ), ?_⟩
  refine (θ_run Cert.ReferenceIdeal.defs _ _).mono (fun _ h c => ⟨(h c).1.trans ((Cert.ReferenceIdeal.Att.res_eq m' c).trans ?_), (h c).2⟩)
    (Cert.ReferenceIdeal.Value.run (F := Ideal) m' ρ')
  obtain ⟨h0, h1, h2, h3, h4, h5⟩ := hagree c
  rw [h0, h1, h2, h3, h4, h5]

end Cert.Proof.AttnClaims

end
-- ==== Proof.Hand.BackPay.lean ====
/- What the stages of the second half of the layer store, read at an index. -/
module

public import proofs.«01_k».proof.Proof.Gen.Kernel3Ideal.Skeleton
public import Idealize.ShloMosaic.Lib.Pipeline.ValueKit

@[expose] public section

set_option maxRecDepth 16384

noncomputable section

open Idealize.ShloMosaic Idealize.ShloMosaic.TcCoe

namespace Cert.Kernel3Ideal.Bk

open Cert.Kernel3Ideal Cert.Kernel3Ideal.Gen

/-- The reciprocal root of a row's mean square. -/
def rsq (f : Fin 1024 → EReal) : EReal :=
  Ideal.rsqrt (Ideal.div (∑ x, f x * f x) (Ideal.ofBits .f32 0x44800000#32) + Ideal.ofBits .f32 0x358637BD#32)

/-- A row of the residual stream after the addition. -/
def oRow (x y g : Fin 1024 → EReal) (n : Fin 1024) : EReal := x n + y n * rsq y * g n

theorem pay4_at (a : Vec Ideal S1x256x1024 .bf16) (b : Vec Ideal S1024x256 .bf16) (r n : Fin 256) :
    k0_pay4 (F := Ideal) a b (ix3 0 r n) = ∑ k : Fin 1024, a (ix3 0 r k) * b (ix2 k n) := by
  pointwise [k0_pay4]

theorem pay25_at (a : Vec Ideal S256x1024 .bf16) (b : Vec Ideal S1x1x256x1024 .bf16) (r n : Fin 256) :
    k0_pay25 (F := Ideal) a b (ix4 0 0 r n) = ∑ k : Fin 1024, a (ix2 r k) * b (ix4 0 0 n k) := by
  pointwise [k0_pay25]

theorem pay29_at (a : Vec Ideal S1x1x256x1024 .bf16) (b : Vec Ideal S1024x256 .bf16) (r n : Fin 256) :
    k0_pay29 (F := Ideal) a b (ix4 0 0 r n) = ∑ k : Fin 1024, a (ix4 0 0 r k) * b (ix2 k n) := by
  pointwise [k0_pay29]

theorem pay33_at (a : Vec Ideal S256x1024 .bf16) (b : Vec Ideal S1x1x256x1024 .bf16) (r n : Fin 256) :
    k0_pay33 (F := Ideal) a b (ix4 0 0 r n) = ∑ k : Fin 1024, a (ix2 r k) * b (ix4 0 0 n k) := by
  pointwise [k0_pay33]

theorem pay19_at (a : Vec Ideal S256x1024 .bf16) (b : Vec Ideal S1x1x256x1024 .bf16) (r n : Fin 256) :
    k0_pay19 (F := Ideal) a b (ix4 0 0 r n) = (∑ k : Fin 1024, a (ix2 r k) * b (ix4 0 0 n k)) * (Named.named κ "q_scale" (0x3E38AA3B#32 : BitVec (FTy.bits .f32)) : Ideal .f32) := by
  pointwise [k0_pay19]

theorem pay13_at (x : Vec Ideal S1x1x256x1024 .f32) (y : Vec Ideal S1x256x1024 .f32) (g : Vec Ideal S1x1024 .f32) (r : Fin 256) (n : Fin 1024) :
    k0_pay13 (F := Ideal) (k0_pay9 x) (k0_pay10 y) (k0_pay11 g) (k0_pay12 y) (Scalar.ofBits .f32 0x44800000#32) (ix2 r n)
      = oRow (fun k => x (ix4 0 0 r k)) (fun k => y (ix3 0 r k)) (fun k => g (ix2 0 k)) n := by
  pointwise [k0_pay13, k0_pay9, k0_pay10, k0_pay11, k0_pay12, oRow, rsq]

theorem pay15_at (a b : FVec Ideal S256x1024 .f32) (g : FVec Ideal S1x1024 .f32) (d : FVec Ideal S256x1 .f32) (e : Ideal .f32) (o : Fin 1024 → EReal) (r : Fin 256)
    (h : ∀ n, k0_pay13 (F := Ideal) a b g d e (ix2 r n) = o n) (n : Fin 1024) :
    k0_pay15 (F := Ideal) a b g d e (ix2 r n) = o n * rsq o := by
  unfold k0_pay15
  pointwise [rsq]
  simp only [h]

theorem pay16_at (a b : FVec Ideal S256x1024 .f32) (g : FVec Ideal S1x1024 .f32) (d : FVec Ideal S256x1 .f32) (e : Ideal .f32) (w : Vec Ideal S1x1024 .f32) (r : Fin 256) (n : Fin 1024) :
    k0_pay16 (F := Ideal) a b g d e w (ix4 0 0 r n) = k0_pay15 (F := Ideal) a b g d e (ix2 r n) * w (ix2 0 n) := by
  unfold k0_pay16
  pointwise []

theorem pay14_at (a b : FVec Ideal S256x1024 .f32) (g : FVec Ideal S1x1024 .f32) (d : FVec Ideal S256x1 .f32) (e : Ideal .f32) (r : Fin 256) (n : Fin 1024) :
    k0_pay14 (F := Ideal) a b g d e (ix4 0 0 r n) = k0_pay13 (F := Ideal) a b g d e (ix2 r n) := by
  unfold k0_pay14
  pointwise []

theorem pay2_at (a : Vec Ideal S1x1x256x1024 .bf16) (r : Fin 256) (n : Fin 1024) :
    k0_pay2 (F := Ideal) a (ix3 0 r n) = a (ix4 0 0 r n) := by
  pointwise [k0_pay2]

theorem e8 : k0_pay8 (F := Ideal) = k0_pay4 (F := Ideal) := rfl
theorem e7 : k0_pay7 (F := Ideal) = k0_pay4 (F := Ideal) := rfl
theorem e42 : k0_pay42 (F := Ideal) = k0_pay4 (F := Ideal) := rfl
theorem e41 : k0_pay41 (F := Ideal) = k0_pay4 (F := Ideal) := rfl
theorem e40 : k0_pay40 (F := Ideal) = k0_pay4 (F := Ideal) := rfl
theorem e3 : k0_pay3 (F := Ideal) = k0_pay2 (F := Ideal) := rfl
theorem e6 (a : Vec Ideal S1x256x1024 .bf16) (b : Vec Ideal S1024x256 .bf16) : k0_pay6 (F := Ideal) (k0_pay5 a b) = k0_pay4 a b := rfl
theorem e39 (a : Vec Ideal S1x256x1024 .bf16) (b : Vec Ideal S1024x256 .bf16) : k0_pay39 (F := Ideal) (k0_pay38 a b) = k0_pay4 a b := rfl
theorem e18 (a b : FVec Ideal S256x1024 .f32) (g : FVec Ideal S1x1024 .f32) (d : FVec Ideal S256x1 .f32) (e : Ideal .f32) (w : Vec Ideal S1x1024 .f32) :
    k0_pay18 (F := Ideal) (k0_pay17 a b g d e w) = k0_pay16 a b g d e w := rfl
theorem e48 (a : Vec Ideal S1x1x256x1024 .f32) (b : Vec Ideal S1x256x1024 .f32) (g w : Vec Ideal S1x1024 .f32) :
    k0_pay48 (F := Ideal) (k0_pay45 a b g) w = k0_pay16 (k0_pay9 a) (k0_pay10 b) (k0_pay11 g) (k0_pay12 b) (Scalar.ofBits .f32 0x44800000#32) w := rfl
theorem e47 (a : Vec Ideal S1x1x256x1024 .f32) (b : Vec Ideal S1x256x1024 .f32) (g w : Vec Ideal S1x1024 .f32) :
    k0_pay47 (F := Ideal) (k0_pay46 a b g w) = k0_pay16 (k0_pay9 a) (k0_pay10 b) (k0_pay11 g) (k0_pay12 b) (Scalar.ofBits .f32 0x44800000#32) w := rfl
theorem e44 (a : Vec Ideal S1x1x256x1024 .f32) (b : Vec Ideal S1x256x1024 .f32) (g : Vec Ideal S1x1024 .f32) :
    k0_pay44 (F := Ideal) a b g = k0_pay14 (k0_pay9 a) (k0_pay10 b) (k0_pay11 g) (k0_pay12 b) (Scalar.ofBits .f32 0x44800000#32) := rfl

theorem e20 (a : Vec Ideal S256x1024 .bf16) (b : Vec Ideal S1x1x256x1024 .bf16) : k0_pay20 (F := Ideal) a b = k0_pay19 a b := rfl
theorem e23 (a : Vec Ideal S256x1024 .bf16) (b : Vec Ideal S1x1x256x1024 .bf16) : k0_pay23 (F := Ideal) (k0_pay21 a) (k0_pay22 b) = k0_pay19 a b := rfl
theorem e24 (a : Vec Ideal S256x1024 .bf16) (b : Vec Ideal S1x1x256x1024 .bf16) : k0_pay24 (F := Ideal) a b = k0_pay19 a b := rfl
theorem e49 (a : Vec Ideal S256x1024 .bf16) (b : Vec Ideal S1x1x256x1024 .bf16) : k0_pay49 (F := Ideal) a b = k0_pay19 a b := rfl
theorem e51 (a : Vec Ideal S256x1024 .bf16) (b : Vec Ideal S1x1x256x1024 .bf16) : k0_pay51 (F := Ideal) (k0_pay50 a b) = k0_pay19 a b := rfl
theorem e52 (a : Vec Ideal S256x1024 .bf16) (b : Vec Ideal S1x1x256x1024 .bf16) : k0_pay52 (F := Ideal) a b = k0_pay19 a b := rfl
theorem e53 (a : Vec Ideal S256x1024 .bf16) (b : Vec Ideal S1x1x256x1024 .bf16) : k0_pay53 (F := Ideal) a b = k0_pay19 a b := rfl
theorem e19 (a : Vec Ideal S256x1024 .bf16) (b : Vec Ideal S1x1x256x1024 .bf16) : k0_pay19 (F := Ideal) a b = k0_pay19 a b := rfl
theorem e26 (a : Vec Ideal S256x1024 .bf16) (b : Vec Ideal S1x1x256x1024 .bf16) : k0_pay26 (F := Ideal) a b = k0_pay25 a b := rfl
theorem e27 (a : Vec Ideal S256x1024 .bf16) (b : Vec Ideal S1x1x256x1024 .bf16) : k0_pay27 (F := Ideal) a b = k0_pay25 a b := rfl
theorem e28 (a : Vec Ideal S256x1024 .bf16) (b : Vec Ideal S1x1x256x1024 .bf16) : k0_pay28 (F := Ideal) a b = k0_pay25 a b := rfl
theorem e55 (a : Vec Ideal S256x1024 .bf16) (b : Vec Ideal S1x1x256x1024 .bf16) : k0_pay55 (F := Ideal) (k0_pay54 a) b = k0_pay25 a b := rfl
theorem e56 (a : Vec Ideal S256x1024 .bf16) (b : Vec Ideal S1x1x256x1024 .bf16) : k0_pay56 (F := Ideal) a b = k0_pay25 a b := rfl
theorem e57 (a : Vec Ideal S256x1024 .bf16) (b : Vec Ideal S1x1x256x1024 .bf16) : k0_pay57 (F := Ideal) a b = k0_pay25 a b := rfl
theorem e59 (a : Vec Ideal S256x1024 .bf16) (b : Vec Ideal S1x1x256x1024 .bf16) : k0_pay59 (F := Ideal) (k0_pay58 a) b = k0_pay25 a b := rfl
theorem e25 (a : Vec Ideal S256x1024 .bf16) (b : Vec Ideal S1x1x256x1024 .bf16) : k0_pay25 (F := Ideal) a b = k0_pay25 a b := rfl
theorem e29 (a : Vec Ideal S1x1x256x1024 .bf16) (b : Vec Ideal S1024x256 .bf16) : k0_pay29 (F := Ideal) a b = k0_pay29 a b := rfl
theorem e30 (a : Vec Ideal S1x1x256x1024 .bf16) (b : Vec Ideal S1024x256 .bf16) : k0_pay30 (F := Ideal) a b = k0_pay29 a b := rfl
theorem e31 (a : Vec Ideal S1x1x256x1024 .bf16) (b : Vec Ideal S1024x256 .bf16) : k0_pay31 (F := Ideal) a b = k0_pay29 a b := rfl
theorem e32 (a : Vec Ideal S1x1x256x1024 .bf16) (b : Vec Ideal S1024x256 .bf16) : k0_pay32 (F := Ideal) a b = k0_pay29 a b := rfl
theorem e60 (a : Vec Ideal S1x1x256x1024 .bf16) (b : Vec Ideal S1024x256 .bf16) : k0_pay60 (F := Ideal) a b = k0_pay29 a b := rfl
theorem e61 (a : Vec Ideal S1x1x256x1024 .bf16) (b : Vec Ideal S1024x256 .bf16) : k0_pay61 (F := Ideal) a b = k0_pay29 a b := rfl
theorem e62 (a : Vec Ideal S1x1x256x1024 .bf16) (b : Vec Ideal S1024x256 .bf16) : k0_pay62 (F := Ideal) a b = k0_pay29 a b := rfl
theorem e63 (a : Vec Ideal S1x1x256x1024 .bf16) (b : Vec Ideal S1024x256 .bf16) : k0_pay63 (F := Ideal) a b = k0_pay29 a b := rfl
theorem e33 (a : Vec Ideal S256x1024 .bf16) (b : Vec Ideal S1x1x256x1024 .bf16) : k0_pay33 (F := Ideal) a b = k0_pay33 a b := rfl
theorem e35 (a : Vec Ideal S256x1024 .bf16) (b : Vec Ideal S1x1x256x1024 .bf16) : k0_pay35 (F := Ideal) (k0_pay34 a b) = k0_pay33 a b := rfl
theorem e36 (a : Vec Ideal S256x1024 .bf16) (b : Vec Ideal S1x1x256x1024 .bf16) : k0_pay36 (F := Ideal) a b = k0_pay33 a b := rfl
theorem e37 (a : Vec Ideal S256x1024 .bf16) (b : Vec Ideal S1x1x256x1024 .bf16) : k0_pay37 (F := Ideal) a b = k0_pay33 a b := rfl
theorem e64 (a : Vec Ideal S256x1024 .bf16) (b : Vec Ideal S1x1x256x1024 .bf16) : k0_pay64 (F := Ideal) a b = k0_pay33 a b := rfl
theorem e65 (a : Vec Ideal S256x1024 .bf16) (b : Vec Ideal S1x1x256x1024 .bf16) : k0_pay65 (F := Ideal) a b = k0_pay33 a b := rfl
theorem e66 (a : Vec Ideal S256x1024 .bf16) (b : Vec Ideal S1x1x256x1024 .bf16) : k0_pay66 (F := Ideal) a b = k0_pay33 a b := rfl
theorem e1 (a : Vec Ideal S256x1024 .bf16) (b : Vec Ideal S1x1x256x1024 .bf16) : k0_pay1 (F := Ideal) (k0_pay67 a b) = k0_pay33 a b := rfl

end Cert.Kernel3Ideal.Bk

end
-- ==== Proof.Hand.BackBuf.lean ====
/- What the buffers of the second half of the layer hold: the gated rows, their projection and the normalised rows. -/
module

public import proofs.«01_k».proof.Proof.Hand.BackPay
public import proofs.«01_k».proof.Proof.Gen.Kernel3Ideal.Value
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel3Ideal.Bk

open Cert.Kernel3Ideal Cert.Kernel3Ideal.Gen

/-- A load of a whole window's block at a rectangle is the block at the rectangle's index. -/
theorem rd {s : Shape} {e : EltTy} {sp : Space} (a : Memref sig .tc sp s e) (h : a.IsWhole) (x : Vec Ideal s e) (r : Rect s) (j : r.toLoadRect.shape.Idx) :
    View.readAt (Elt Ideal) a.view r.toLoadRect (h.unread x) j = x (r.emb j) := by
  rw [View.readAt_eq_ld, h.read_unread]
  rfl

/-- A load of stored pieces is the stored contents at the rectangle's index. -/
theorem rc {s : Shape} {e : EltTy} {sp : Space} (v : View sig .tc sp s e) (L : List (View.Piece (Elt Ideal) s e)) (r : Rect s) (j : r.toLoadRect.shape.Idx) :
    v.readCov L r.toLoadRect j = v.read (Elt Ideal) (v.writes (Elt Ideal) v.junk L) (r.emb j) := rfl

theorem at3 {n0 n1 n2 m0 m1 m2 : ℕ} {a b d : ℕ} {i0 : Fin n0} {i1 : Fin n1} {i2 : Fin n2} {j0 : Fin m0} {j1 : Fin m1} {j2 : Fin m2}
    (h0 : i0.val = a + j0.val) (h1 : i1.val = b + j1.val) (h2 : i2.val = d + j2.val) :
    ∀ x : Fin 3, (ix3 i0 i1 i2 x).val = (![a, b, d] : Fin 3 → ℕ) x + (ix3 j0 j1 j2 x).val := fun x =>
  match x with
  | 0 => h0
  | 1 => h1
  | 2 => h2

theorem at4 {n0 n1 n2 n3 m0 m1 m2 m3 : ℕ} {a b d e : ℕ} {i0 : Fin n0} {i1 : Fin n1} {i2 : Fin n2} {i3 : Fin n3} {j0 : Fin m0} {j1 : Fin m1} {j2 : Fin m2} {j3 : Fin m3}
    (h0 : i0.val = a + j0.val) (h1 : i1.val = b + j1.val) (h2 : i2.val = d + j2.val) (h3 : i3.val = e + j3.val) :
    ∀ x : Fin 4, (ix4 i0 i1 i2 i3 x).val = (![a, b, d, e] : Fin 4 → ℕ) x + (ix4 j0 j1 j2 j3 x).val := fun x =>
  match x with
  | 0 => h0
  | 1 => h1
  | 2 => h2
  | 3 => h3

theorem emb2 {n0 n1 : ℕ} {a b : ℕ} {sz : Fin 2 → ℕ} (inb) (j : (Rect.unit (s := ⟨2, ![n0, n1]⟩) ![a, b] sz inb).shape.Idx) (i0 : Fin n0) (i1 : Fin n1)
    (h0 : i0.val = a + (j 0).val) (h1 : i1.val = b + (j 1).val) : (Rect.unit (s := ⟨2, ![n0, n1]⟩) ![a, b] sz inb).emb j = ix2 i0 i1 :=
  funext fun x => Fin.ext (match x with
    | 0 => show a + 1 * (j 0).val = i0.val by omega
    | 1 => show b + 1 * (j 1).val = i1.val by omega)

theorem emb3 {n0 n1 n2 : ℕ} {a b d : ℕ} {sz : Fin 3 → ℕ} (inb) (j : (Rect.unit (s := ⟨3, ![n0, n1, n2]⟩) ![a, b, d] sz inb).shape.Idx) (i0 : Fin n0) (i1 : Fin n1) (i2 : Fin n2)
    (h0 : i0.val = a + (j 0).val) (h1 : i1.val = b + (j 1).val) (h2 : i2.val = d + (j 2).val) :
    (Rect.unit (s := ⟨3, ![n0, n1, n2]⟩) ![a, b, d] sz inb).emb j = ix3 i0 i1 i2 :=
  funext fun x => Fin.ext (match x with
    | 0 => show a + 1 * (j 0).val = i0.val by omega
    | 1 => show b + 1 * (j 1).val = i1.val by omega
    | 2 => show d + 1 * (j 2).val = i2.val by omega)

theorem emb4 {n0 n1 n2 n3 : ℕ} {a b d e : ℕ} {sz : Fin 4 → ℕ} (inb) (j : (Rect.unit (s := ⟨4, ![n0, n1, n2, n3]⟩) ![a, b, d, e] sz inb).shape.Idx)
    (i0 : Fin n0) (i1 : Fin n1) (i2 : Fin n2) (i3 : Fin n3)
    (h0 : i0.val = a + (j 0).val) (h1 : i1.val = b + (j 1).val) (h2 : i2.val = d + (j 2).val) (h3 : i3.val = e + (j 3).val) :
    (Rect.unit (s := ⟨4, ![n0, n1, n2, n3]⟩) ![a, b, d, e] sz inb).emb j = ix4 i0 i1 i2 i3 :=
  funext fun x => Fin.ext (match x with
    | 0 => show a + 1 * (j 0).val = i0.val by omega
    | 1 => show b + 1 * (j 1).val = i1.val by omega
    | 2 => show d + 1 * (j 2).val = i2.val by omega
    | 3 => show e + 1 * (j 3).val = i3.val by omega)

/-- The projected gated rows of a block. -/
def yB (x1 : Vec Ideal S2x1x256x1024 .bf16) (x2 : Vec Ideal S1024x1024 .bf16) (s : Fin 2) (r : Fin 256) (n : Fin 1024) : EReal :=
  ∑ k : Fin 1024, x1 (ix4 s 0 r k) * x2 (ix2 k n)

/-- The residual rows of a block after the addition. -/
def oB (x0 : Vec Ideal S2x1x256x1024 .f32) (x1 : Vec Ideal S2x1x256x1024 .bf16) (x2 : Vec Ideal S1024x1024 .bf16) (x3 : Vec Ideal S1x1024 .f32)
    (s : Fin 2) (r : Fin 256) (n : Fin 1024) : EReal :=
  oRow (fun k => x0 (ix4 s 0 r k)) (fun k => yB x1 x2 s r k) (fun k => x3 (ix2 0 k)) n

/-- The normalised rows of a block under one of the two gains. -/
def hB (x0 : Vec Ideal S2x1x256x1024 .f32) (x1 : Vec Ideal S2x1x256x1024 .bf16) (x2 : Vec Ideal S1024x1024 .bf16) (x3 : Vec Ideal S1x1024 .f32)
    (x4 : Vec Ideal S2x1024 .f32) (s i : Fin 2) (r : Fin 256) (n : Fin 1024) : EReal :=
  oB x0 x1 x2 x3 s r n * rsq (oB x0 x1 x2 x3 s r) * x4 (ix2 i n)

variable (c : Dev nD) (arg2 : Memref sig .tc .vmem S2x1x256x1024 .f32) (harg2 : arg2.IsWhole) (arg3 : Memref sig .tc .vmem S2x1x256x1024 .bf16) (harg3 : arg3.IsWhole)
  (arg4 : Memref sig .tc .vmem S1024x1024 .bf16) (harg4 : arg4.IsWhole) (arg5 : Memref sig .tc .vmem S1x1024 .f32) (harg5 : arg5.IsWhole)
  (arg6 : Memref sig .tc .vmem S2x1024 .f32) (harg6 : arg6.IsWhole)
  (arg16 : Memref sig .tc .vmem S2x256x1024 .bf16) (arg17 : Memref sig .tc .vmem S2x256x1024 .f32) (arg18 : Memref sig .tc .vmem S2x2x256x1024 .bf16)
  (x0 : Vec Ideal S2x1x256x1024 .f32) (x1 : Vec Ideal S2x1x256x1024 .bf16) (x2 : Vec Ideal S1024x1024 .bf16) (x3 : Vec Ideal S1x1024 .f32) (x4 : Vec Ideal S2x1024 .f32)

theorem v238_at (r : Fin 256) (k : Fin 1024) : kernelRun0_A.sl.v238 c arg3 harg3 arg16 x1 (ix3 0 r k) = x1 (ix4 1 0 r k) := by
  unfold kernelRun0_A.sl.v238 kernelRun0_A.sl.HS0_2
  rw [e3]
  refine (congrFun (View.readCov_cons_toLoadRect _ _ _ _) _).trans ?_
  refine (pay2_at _ r k).trans ?_
  rw [rd]
  exact congrArg x1 (emb4 _ _ 1 0 r k rfl rfl (by simp) (by simp))

theorem v10_at (r : Fin 256) (k : Fin 1024) : kernelRun0_A.sl.v10 c arg3 harg3 arg16 x1 (ix3 0 r k) = x1 (ix4 0 0 r k) := by
  refine (congrFun ((View.readCov_skip _ _ _ _ _ rfl).trans (View.readCov_cons_toLoadRect _ _ _ _)) _).trans ?_
  refine (pay2_at _ r k).trans ?_
  rw [rd]
  exact congrArg x1 (emb4 _ _ 0 0 r k rfl rfl (by simp) (by simp))

theorem w_at (o : ℕ) (inb) (k : Fin 1024) (j : Fin 256) (n : Fin 1024) (h : n.val = o + j.val) :
    View.readAt (Elt Ideal) arg4.view (Rect.unit (s := S1024x1024) ![0, o] S1024x256.size inb).toLoadRect (harg4.unread x2) (ix2 k j) = x2 (ix2 k n) := by
  rw [rd]
  exact congrArg x2 (emb2 _ _ k n (by simp) h)

theorem y0_at (o : ℕ) (inb) (r j : Fin 256) (n : Fin 1024) (h : n.val = o + j.val) :
    k0_pay4 (F := Ideal) (kernelRun0_A.sl.v10 c arg3 harg3 arg16 x1)
      (View.readAt (Elt Ideal) arg4.view (Rect.unit (s := S1024x1024) ![0, o] S1024x256.size inb).toLoadRect (harg4.unread x2)) (ix3 0 r j) = yB x1 x2 0 r n := by
  rw [pay4_at]
  refine Finset.sum_congr rfl fun k _ => ?_
  rw [v10_at, w_at (n := n) (h := h)]

theorem y1_at (o : ℕ) (inb) (r j : Fin 256) (n : Fin 1024) (h : n.val = o + j.val) :
    k0_pay4 (F := Ideal) (kernelRun0_A.sl.v238 c arg3 harg3 arg16 x1)
      (View.readAt (Elt Ideal) arg4.view (Rect.unit (s := S1024x1024) ![0, o] S1024x256.size inb).toLoadRect (harg4.unread x2)) (ix3 0 r j) = yB x1 x2 1 r n := by
  rw [pay4_at]
  refine Finset.sum_congr rfl fun k _ => ?_
  rw [v238_at, w_at (n := n) (h := h)]

theorem HS1_4_at (f) (r : Fin 256) (n : Fin 1024) :
    arg17.view.read (Elt Ideal) (arg17.view.writes (Elt Ideal) f (kernelRun0_A.sl.HS1_4 c arg3 harg3 arg4 harg4 arg16 x1 x2)) (ix3 0 r n) = yB x1 x2 0 r n := by
  have hn := n.isLt
  unfold kernelRun0_A.sl.HS1_4 kernelRun0_A.sl.r
  rw [e8, e7, e6]
  by_cases h3 : 768 ≤ n.val
  · refine (View.read_writes_cons_unit_of_mem _ _ _ _ _ _ (ix3 0 r ⟨n.val - 768, by omega⟩) rfl (at3 (by rfl) (by simp) (by simp; omega))).trans ?_
    exact y0_at c arg3 harg3 arg4 harg4 arg16 x1 x2 768 _ r _ n (by simp; omega)
  refine (View.read_writes_cons_unit_of_not_mem _ _ _ _ _ _ rfl 2 (Or.inl (show n.val < 768 by omega))).trans ?_
  by_cases h2 : 512 ≤ n.val
  · refine (View.read_writes_cons_unit_of_mem _ _ _ _ _ _ (ix3 0 r ⟨n.val - 512, by omega⟩) rfl (at3 (by rfl) (by simp) (by simp; omega))).trans ?_
    exact y0_at c arg3 harg3 arg4 harg4 arg16 x1 x2 512 _ r _ n (by simp; omega)
  refine (View.read_writes_cons_unit_of_not_mem _ _ _ _ _ _ rfl 2 (Or.inl (show n.val < 512 by omega))).trans ?_
  by_cases h1 : 256 ≤ n.val
  · refine (View.read_writes_cons_unit_of_mem _ _ _ _ _ _ (ix3 0 r ⟨n.val - 256, by omega⟩) rfl (at3 (by rfl) (by simp) (by simp; omega))).trans ?_
    exact y0_at c arg3 harg3 arg4 harg4 arg16 x1 x2 256 _ r _ n (by simp; omega)
  refine (View.read_writes_cons_unit_of_not_mem _ _ _ _ _ _ rfl 2 (Or.inl (show n.val < 256 by omega))).trans ?_
  refine (View.read_writes_cons_unit_of_mem _ _ _ _ _ _ (ix3 0 r ⟨n.val, by omega⟩) rfl (at3 (by rfl) (by simp) (by simp))).trans ?_
  exact y0_at c arg3 harg3 arg4 harg4 arg16 x1 x2 0 _ r _ n (by simp)

theorem HS1_8_at (f) (r : Fin 256) (n : Fin 1024) :
    arg17.view.read (Elt Ideal) (arg17.view.writes (Elt Ideal) f (kernelRun0_A.sl.HS1_8 c arg3 harg3 arg4 harg4 arg16 x1 x2)) (ix3 1 r n) = yB x1 x2 1 r n := by
  have hn := n.isLt
  unfold kernelRun0_A.sl.HS1_8 kernelRun0_A.sl.r_10
  rw [e42, e41, e40, e39]
  by_cases h3 : 768 ≤ n.val
  · refine (View.read_writes_cons_unit_of_mem _ _ _ _ _ _ (ix3 0 r ⟨n.val - 768, by omega⟩) rfl (at3 (by rfl) (by simp) (by simp; omega))).trans ?_
    exact y1_at c arg3 harg3 arg4 harg4 arg16 x1 x2 768 _ r _ n (by simp; omega)
  refine (View.read_writes_cons_unit_of_not_mem _ _ _ _ _ _ rfl 2 (Or.inl (show n.val < 768 by omega))).trans ?_
  by_cases h2 : 512 ≤ n.val
  · refine (View.read_writes_cons_unit_of_mem _ _ _ _ _ _ (ix3 0 r ⟨n.val - 512, by omega⟩) rfl (at3 (by rfl) (by simp) (by simp; omega))).trans ?_
    exact y1_at c arg3 harg3 arg4 harg4 arg16 x1 x2 512 _ r _ n (by simp; omega)
  refine (View.read_writes_cons_unit_of_not_mem _ _ _ _ _ _ rfl 2 (Or.inl (show n.val < 512 by omega))).trans ?_
  by_cases h1 : 256 ≤ n.val
  · refine (View.read_writes_cons_unit_of_mem _ _ _ _ _ _ (ix3 0 r ⟨n.val - 256, by omega⟩) rfl (at3 (by rfl) (by simp) (by simp; omega))).trans ?_
    exact y1_at c arg3 harg3 arg4 harg4 arg16 x1 x2 256 _ r _ n (by simp; omega)
  refine (View.read_writes_cons_unit_of_not_mem _ _ _ _ _ _ rfl 2 (Or.inl (show n.val < 256 by omega))).trans ?_
  refine (View.read_writes_cons_unit_of_mem _ _ _ _ _ _ (ix3 0 r ⟨n.val, by omega⟩) rfl (at3 (by rfl) (by simp) (by simp))).trans ?_
  exact y1_at c arg3 harg3 arg4 harg4 arg16 x1 x2 0 _ r _ n (by simp)

theorem v44_at (r : Fin 256) (n : Fin 1024) : kernelRun0_A.sl.v44 c arg3 harg3 arg4 harg4 arg16 arg17 x1 x2 (ix3 0 r n) = yB x1 x2 0 r n := by
  unfold kernelRun0_A.sl.v44
  refine (rc _ _ _ _).trans ?_
  rw [emb3 _ _ 0 r n rfl (by simp) (by simp)]
  exact HS1_4_at c arg3 harg3 arg4 harg4 arg16 arg17 x1 x2 arg17.view.junk r n

theorem v272_at (r : Fin 256) (n : Fin 1024) : kernelRun0_A.sl.v272 c arg3 harg3 arg4 harg4 arg16 arg17 x1 x2 (ix3 0 r n) = yB x1 x2 1 r n := by
  unfold kernelRun0_A.sl.v272
  refine (rc _ _ _ _).trans ?_
  rw [emb3 _ _ 1 r n rfl (by simp) (by simp)]
  exact HS1_8_at c arg3 harg3 arg4 harg4 arg16 arg17 x1 x2 arg17.view.junk r n

/-- The rows of the first half. -/
theorem o0_at (r : Fin 256) (n : Fin 1024) :
    k0_pay13 (F := Ideal) (kernelRun0_A.sl.r_1 c arg2 harg2 x0) (kernelRun0_A.sl.r_2 c arg3 harg3 arg4 harg4 arg16 arg17 x1 x2) (kernelRun0_A.sl.r_3 c arg5 harg5 x3)
      (kernelRun0_A.sl.r_4 c arg3 harg3 arg4 harg4 arg16 arg17 x1 x2) kernelRun0_A.sl.cst_54 (ix2 r n) = oB x0 x1 x2 x3 0 r n := by
  refine (pay13_at _ _ _ r n).trans ?_
  simp only [v44_at, rd]
  unfold oB
  congr 1
  · funext k
    exact congrArg x0 (emb4 _ _ 0 0 r k rfl rfl (by simp) (by simp))
  · funext k
    exact congrArg x3 (emb2 _ _ 0 k rfl (by simp))

/-- The rows of the second half. -/
theorem o1_at (r : Fin 256) (n : Fin 1024) :
    k0_pay13 (F := Ideal) (k0_pay9 (View.readAt (Elt Ideal) arg2.view (Rect.unit (s := S2x1x256x1024) ![1, 0, 0, 0] S1x1x256x1024.size inb_S2x1x256x1024_S1x1x256x1024_1_0_0_0).toLoadRect (harg2.unread x0)))
      (k0_pay10 (kernelRun0_A.sl.v272 c arg3 harg3 arg4 harg4 arg16 arg17 x1 x2))
      (k0_pay11 (View.readAt (Elt Ideal) arg5.view (Rect.unit (s := S1x1024) ![0, 0] S1x1024.size inb_S1x1024_S1x1024_0_0).toLoadRect (harg5.unread x3)))
      (k0_pay12 (kernelRun0_A.sl.v272 c arg3 harg3 arg4 harg4 arg16 arg17 x1 x2)) (Scalar.ofBits .f32 0x44800000#32) (ix2 r n) = oB x0 x1 x2 x3 1 r n := by
  refine (pay13_at _ _ _ r n).trans ?_
  simp only [v272_at, rd]
  unfold oB
  congr 1
  · funext k
    exact congrArg x0 (emb4 _ _ 1 0 r k rfl rfl (by simp) (by simp))
  · funext k
    exact congrArg x3 (emb2 _ _ 0 k rfl (by simp))

theorem g_at (i : Fin 2) (inb) (n : Fin 1024) :
    View.readAt (Elt Ideal) arg6.view (Rect.unit (s := S2x1024) ![i.val, 0] S1x1024.size inb).toLoadRect (harg6.unread x4) (ix2 0 n) = x4 (ix2 i n) := by
  rw [rd]
  exact congrArg x4 (emb2 _ _ i n (by simp) (by simp))

theorem h0_at (i : Fin 2) (inb) (r : Fin 256) (n : Fin 1024) :
    k0_pay16 (F := Ideal) (kernelRun0_A.sl.r_1 c arg2 harg2 x0) (kernelRun0_A.sl.r_2 c arg3 harg3 arg4 harg4 arg16 arg17 x1 x2) (kernelRun0_A.sl.r_3 c arg5 harg5 x3)
      (kernelRun0_A.sl.r_4 c arg3 harg3 arg4 harg4 arg16 arg17 x1 x2) kernelRun0_A.sl.cst_54
      (View.readAt (Elt Ideal) arg6.view (Rect.unit (s := S2x1024) ![i.val, 0] S1x1024.size inb).toLoadRect (harg6.unread x4)) (ix4 0 0 r n) = hB x0 x1 x2 x3 x4 0 i r n := by
  refine (pay16_at _ _ _ _ _ _ r n).trans ?_
  rw [pay15_at _ _ _ _ _ (oB x0 x1 x2 x3 0 r) r (o0_at c arg2 harg2 arg3 harg3 arg4 harg4 arg5 harg5 arg16 arg17 x0 x1 x2 x3 r), g_at]
  rfl

theorem h1_at (i : Fin 2) (inb) (r : Fin 256) (n : Fin 1024) :
    k0_pay16 (F := Ideal) (k0_pay9 (View.readAt (Elt Ideal) arg2.view (Rect.unit (s := S2x1x256x1024) ![1, 0, 0, 0] S1x1x256x1024.size inb_S2x1x256x1024_S1x1x256x1024_1_0_0_0).toLoadRect (harg2.unread x0)))
      (k0_pay10 (kernelRun0_A.sl.v272 c arg3 harg3 arg4 harg4 arg16 arg17 x1 x2))
      (k0_pay11 (View.readAt (Elt Ideal) arg5.view (Rect.unit (s := S1x1024) ![0, 0] S1x1024.size inb_S1x1024_S1x1024_0_0).toLoadRect (harg5.unread x3)))
      (k0_pay12 (kernelRun0_A.sl.v272 c arg3 harg3 arg4 harg4 arg16 arg17 x1 x2)) (Scalar.ofBits .f32 0x44800000#32)
      (View.readAt (Elt Ideal) arg6.view (Rect.unit (s := S2x1024) ![i.val, 0] S1x1024.size inb).toLoadRect (harg6.unread x4)) (ix4 0 0 r n) = hB x0 x1 x2 x3 x4 1 i r n := by
  refine (pay16_at _ _ _ _ _ _ r n).trans ?_
  rw [pay15_at _ _ _ _ _ (oB x0 x1 x2 x3 1 r) r (o1_at c arg2 harg2 arg3 harg3 arg4 harg4 arg5 harg5 arg16 arg17 x0 x1 x2 x3 r), g_at]
  rfl

theorem v166_at (r : Fin 256) (n : Fin 1024) : kernelRun0_A.sl.v166 c arg2 harg2 arg3 harg3 arg4 harg4 arg5 harg5 arg6 harg6 arg16 arg17 arg18 x0 x1 x2 x3 x4 (ix4 0 0 r n) = hB x0 x1 x2 x3 x4 0 1 r n := by
  unfold kernelRun0_A.sl.v166 kernelRun0_A.sl.HS2_2 kernelRun0_A.sl.r_5
  rw [e18]
  refine (congrFun (View.readCov_cons_toLoadRect _ _ _ _) _).trans ?_
  exact h0_at c arg2 harg2 arg3 harg3 arg4 harg4 arg5 harg5 arg6 harg6 arg16 arg17 x0 x1 x2 x3 x4 1 _ r n

theorem v92_at (r : Fin 256) (n : Fin 1024) : kernelRun0_A.sl.v92 c arg2 harg2 arg3 harg3 arg4 harg4 arg5 harg5 arg6 harg6 arg16 arg17 arg18 x0 x1 x2 x3 x4 (ix4 0 0 r n) = hB x0 x1 x2 x3 x4 0 0 r n := by
  unfold kernelRun0_A.sl.v92 kernelRun0_A.sl.HS2_2
  refine (congrFun ((View.readCov_skip _ _ _ _ _ rfl).trans (View.readCov_cons_toLoadRect _ _ _ _)) _).trans ?_
  exact h0_at c arg2 harg2 arg3 harg3 arg4 harg4 arg5 harg5 arg6 harg6 arg16 arg17 x0 x1 x2 x3 x4 0 _ r n

theorem v394_at (r : Fin 256) (n : Fin 1024) : kernelRun0_A.sl.v394 c arg2 harg2 arg3 harg3 arg4 harg4 arg5 harg5 arg6 harg6 arg16 arg17 arg18 x0 x1 x2 x3 x4 (ix4 0 0 r n) = hB x0 x1 x2 x3 x4 1 1 r n := by
  unfold kernelRun0_A.sl.v394 kernelRun0_A.sl.HS2_4 kernelRun0_A.sl.r_11
  rw [e48]
  refine (congrFun (View.readCov_cons_toLoadRect _ _ _ _) _).trans ?_
  exact h1_at c arg2 harg2 arg3 harg3 arg4 harg4 arg5 harg5 arg6 harg6 arg16 arg17 x0 x1 x2 x3 x4 1 _ r n

theorem v320_at (r : Fin 256) (n : Fin 1024) : kernelRun0_A.sl.v320 c arg2 harg2 arg3 harg3 arg4 harg4 arg5 harg5 arg6 harg6 arg16 arg17 arg18 x0 x1 x2 x3 x4 (ix4 0 0 r n) = hB x0 x1 x2 x3 x4 1 0 r n := by
  unfold kernelRun0_A.sl.v320 kernelRun0_A.sl.HS2_4 kernelRun0_A.sl.r_12
  rw [e47]
  refine (congrFun ((View.readCov_skip _ _ _ _ _ rfl).trans (View.readCov_cons_toLoadRect _ _ _ _)) _).trans ?_
  exact h1_at c arg2 harg2 arg3 harg3 arg4 harg4 arg5 harg5 arg6 harg6 arg16 arg17 x0 x1 x2 x3 x4 0 _ r n

end Cert.Kernel3Ideal.Bk

end
-- ==== Proof.Hand.BackBlk.lean ====
/- What a grid point of the second half of the layer leaves in its five output blocks. -/
module

public import proofs.«01_k».proof.Proof.Hand.BackBuf

@[expose] public section

set_option maxRecDepth 16384

noncomputable section

open Idealize.ShloMosaic Idealize.ShloMosaic.TcCoe Idealize.SL.Sem

namespace Cert.Kernel3Ideal.Bk

open Cert.Kernel3Ideal Cert.Kernel3Ideal.Gen

theorem eta4 {a b : ℕ} (x : (⟨4, ![1, 1, a, b]⟩ : Shape).Idx) : x = ix4 (0 : Fin 1) (0 : Fin 1) (x 2) (x 3) :=
  funext fun i => match i with
    | 0 => Subsingleton.elim (α := Fin 1) _ _
    | 1 => Subsingleton.elim (α := Fin 1) _ _
    | 2 => rfl
    | 3 => rfl

/-- Rows of weights against rows of activations. -/
def dB (w : Vec Ideal S1024x1024 .bf16) (h : Fin 256 → Fin 1024 → EReal) (r : Fin 1024) (n : Fin 256) : EReal :=
  ∑ k : Fin 1024, w (ix2 r k) * h n k

/-- Rows of activations against columns of weights. -/
def kB (h : Fin 256 → Fin 1024 → EReal) (w : Vec Ideal S1024x1024 .bf16) (r : Fin 256) (n : Fin 1024) : EReal :=
  ∑ k : Fin 1024, h r k * w (ix2 k n)

/-- The scale of the queries. -/
def qs : EReal := (Named.named κ "q_scale" (0x3E38AA3B#32 : BitVec (FTy.bits .f32)) : Ideal .f32)

variable (a : Memref sig .tc .vmem S1024x1024 .bf16) (ha : a.IsWhole) (w : Vec Ideal S1024x1024 .bf16)

theorem row_at {o : ℕ} (inb) (r : Fin 256) (k : Fin 1024) (R : Fin 1024) (hR : R.val = o + r.val) :
    View.readAt (Elt Ideal) a.view (Rect.unit (s := S1024x1024) ![o, 0] S256x1024.size inb).toLoadRect (ha.unread w) (ix2 r k) = w (ix2 R k) := by
  rw [rd]
  exact congrArg w (emb2 _ _ R k hR (by simp))

theorem col_at {o : ℕ} (inb) (k : Fin 1024) (n : Fin 256) (N : Fin 1024) (hN : N.val = o + n.val) :
    View.readAt (Elt Ideal) a.view (Rect.unit (s := S1024x1024) ![0, o] S1024x256.size inb).toLoadRect (ha.unread w) (ix2 k n) = w (ix2 k N) := by
  rw [rd]
  exact congrArg w (emb2 _ _ k N (by simp) hN)

variable (H : Fin 2 → Fin 256 → Fin 1024 → EReal)

theorem qP {o : ℕ} (inb) (s S : Fin 2) (B : Vec Ideal S1x1x256x1024 .bf16) (hB : ∀ r k, B (ix4 0 0 r k) = H s r k) (x : S1x1x256x256.Idx)
    (R : Fin 1024) (n : Fin 256) (hS : S.val = s.val) (hR : R.val = o + 1 * (x 2).val) (hn : n.val = 0 + 1 * (x 3).val) :
    k0_pay19 (F := Ideal) (View.readAt (Elt Ideal) a.view (Rect.unit (s := S1024x1024) ![o, 0] S256x1024.size inb).toLoadRect (ha.unread w)) B x = dB w (H S) R n * qs := by
  obtain rfl : S = s := Fin.ext hS
  obtain rfl : x 3 = n := Fin.ext (by rw [hn]; omega)
  refine (congrArg _ (eta4 x)).trans ?_
  refine (pay19_at _ _ _ _).trans ?_
  unfold dB qs
  refine congrArg (· * _) ?_
  refine Finset.sum_congr rfl fun k _ => ?_
  exact congrArg₂ (· * ·) (row_at a ha w inb (x 2) k R (by rw [hR]; omega)) (hB _ _)

theorem zP {o : ℕ} (inb) (s S : Fin 2) (B : Vec Ideal S1x1x256x1024 .bf16) (hB : ∀ r k, B (ix4 0 0 r k) = H s r k) (x : S1x1x256x256.Idx)
    (R : Fin 1024) (n : Fin 256) (hS : S.val = s.val) (hR : R.val = o + 1 * (x 2).val) (hn : n.val = 0 + 1 * (x 3).val) :
    k0_pay25 (F := Ideal) (View.readAt (Elt Ideal) a.view (Rect.unit (s := S1024x1024) ![o, 0] S256x1024.size inb).toLoadRect (ha.unread w)) B x = dB w (H S) R n := by
  obtain rfl : S = s := Fin.ext hS
  obtain rfl : x 3 = n := Fin.ext (by rw [hn]; omega)
  refine (congrArg _ (eta4 x)).trans ?_
  refine (pay25_at _ _ _ _).trans ?_
  unfold dB

  refine Finset.sum_congr rfl fun k _ => ?_
  exact congrArg₂ (· * ·) (row_at a ha w inb (x 2) k R (by rw [hR]; omega)) (hB _ _)

theorem vP {o : ℕ} (inb) (s S : Fin 2) (B : Vec Ideal S1x1x256x1024 .bf16) (hB : ∀ r k, B (ix4 0 0 r k) = H s r k) (x : S1x1x256x256.Idx)
    (R : Fin 1024) (n : Fin 256) (hS : S.val = s.val) (hR : R.val = o + 1 * (x 2).val) (hn : n.val = 0 + 1 * (x 3).val) :
    k0_pay33 (F := Ideal) (View.readAt (Elt Ideal) a.view (Rect.unit (s := S1024x1024) ![o, 0] S256x1024.size inb).toLoadRect (ha.unread w)) B x = dB w (H S) R n := by
  obtain rfl : S = s := Fin.ext hS
  obtain rfl : x 3 = n := Fin.ext (by rw [hn]; omega)
  refine (congrArg _ (eta4 x)).trans ?_
  refine (pay33_at _ _ _ _).trans ?_
  unfold dB

  refine Finset.sum_congr rfl fun k _ => ?_
  exact congrArg₂ (· * ·) (row_at a ha w inb (x 2) k R (by rw [hR]; omega)) (hB _ _)

theorem kP {o : ℕ} (inb) (s S : Fin 2) (B : Vec Ideal S1x1x256x1024 .bf16) (hB : ∀ r k, B (ix4 0 0 r k) = H s r k) (x : S1x1x256x256.Idx)
    (n : Fin 256) (N : Fin 1024) (hS : S.val = s.val) (hn : n.val = 0 + 1 * (x 2).val) (hN : N.val = o + 1 * (x 3).val) :
    k0_pay29 (F := Ideal) B (View.readAt (Elt Ideal) a.view (Rect.unit (s := S1024x1024) ![0, o] S1024x256.size inb).toLoadRect (ha.unread w)) x = kB (H S) w n N := by
  obtain rfl : S = s := Fin.ext hS
  obtain rfl : x 2 = n := Fin.ext (by rw [hn]; omega)
  refine (congrArg _ (eta4 x)).trans ?_
  refine (pay29_at _ _ _ _).trans ?_
  unfold kB
  refine Finset.sum_congr rfl fun k _ => ?_
  exact congrArg₂ (· * ·) (hB _ _) (col_at a ha w inb k (x 3) N (by rw [hN]; omega))

variable (c : Dev nD) (i : grid0.Coords) (arg2 : Memref sig .tc .vmem S2x1x256x1024 .f32) (harg2 : arg2.IsWhole) (arg3 : Memref sig .tc .vmem S2x1x256x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2x1x256x1024 .f32) (harg11 : arg11.IsWhole) (arg12 : Memref sig .tc .vmem S2x1x1024x256 .bf16) (harg12 : arg12.IsWhole) (arg13 : Memref sig .tc .vmem S2x1x1024x256 .f32) (harg13 : arg13.IsWhole) (arg14 : Memref sig .tc .vmem S2x1x256x1024 .bf16) (harg14 : arg14.IsWhole) (arg15 : Memref sig .tc .vmem S2x1x1024x256 .bf16) (harg15 : arg15.IsWhole) (arg16 : Memref sig .tc .vmem S2x256x1024 .bf16) (harg16 : arg16.IsWhole) (arg17 : Memref sig .tc .vmem S2x256x1024 .f32) (harg17 : arg17.IsWhole) (arg18 : Memref sig .tc .vmem S2x2x256x1024 .bf16) (harg18 : arg18.IsWhole)
  (x0 : Vec Ideal S2x1x256x1024 .f32) (x1 : Vec Ideal S2x1x256x1024 .bf16) (x2 : Vec Ideal S1024x1024 .bf16) (x3 : Vec Ideal S1x1024 .f32) (x4 : Vec Ideal S2x1024 .f32) (x5 : Vec Ideal S1024x1024 .bf16) (x6 : Vec Ideal S1024x1024 .bf16) (x7 : Vec Ideal S1024x1024 .bf16) (x8 : Vec Ideal S1024x1024 .bf16)

theorem oP (s S : Fin 2) (z : Vec Ideal S1x1x256x1024 .f32) (hz : ∀ r n, z (ix4 0 0 r n) = oB x0 x1 x2 x3 s r n) (x : S1x1x256x1024.Idx) (r : Fin 256) (n : Fin 1024)
    (hS : S.val = s.val) (hr : r.val = 0 + 1 * (x 2).val) (hn : n.val = 0 + 1 * (x 3).val) : z x = oB x0 x1 x2 x3 S r n := by
  obtain rfl : S = s := Fin.ext hS
  obtain rfl : x 2 = r := Fin.ext (by rw [hr]; omega)
  obtain rfl : x 3 = n := Fin.ext (by rw [hn]; omega)
  refine (congrArg _ (eta4 x)).trans ?_
  exact hz _ _

/-- A point's block of output 1. -/
def G9 (x0 : Vec Ideal S2x1x256x1024 .f32) (x1 : Vec Ideal S2x1x256x1024 .bf16) (x2 : Vec Ideal S1024x1024 .bf16) (x3 : Vec Ideal S1x1024 .f32) : Vec Ideal S2x1x256x1024 .f32 := fun y => oB x0 x1 x2 x3 (y 0) (y 2) (y 3)

theorem out9_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = (G9 x0 x1 x2 x3) := by
  unfold out0_A_9
  rw [View.read_writes_junk_eq_canon]
  funext y
  refine View.canon_apply_of_pieces ((G9 x0 x1 x2 x3)) _ (View.PiecesOf.mem (G := (G9 x0 x1 x2 x3)) ?_) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 y)
  exact ⟨fun x => (congrFun (e44 _ _ _) x).trans (oP x0 x1 x2 x3 1 _ _ (fun r n => (pay14_at _ _ _ _ _ r n).trans (o1_at c arg2 harg2 arg3 harg3 arg4 harg4 arg5 harg5 arg16 arg17 x0 x1 x2 x3 r n)) x _ _ (by simp) rfl rfl),
    fun x => oP x0 x1 x2 x3 0 _ _ (fun r n => (pay14_at _ _ _ _ _ r n).trans (o0_at c arg2 harg2 arg3 harg3 arg4 harg4 arg5 harg5 arg16 arg17 x0 x1 x2 x3 r n)) x _ _ (by simp) rfl rfl, trivial⟩

/-- A point's block of output 2. -/
def G10 (x0 : Vec Ideal S2x1x256x1024 .f32) (x1 : Vec Ideal S2x1x256x1024 .bf16) (x2 : Vec Ideal S1024x1024 .bf16) (x3 : Vec Ideal S1x1024 .f32) (x4 : Vec Ideal S2x1024 .f32) (x5 : Vec Ideal S1024x1024 .bf16) : Vec Ideal S2x1x1024x256 .bf16 := fun y => dB x5 (hB x0 x1 x2 x3 x4 (y 0) 0) (y 2) (y 3) * qs

theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = (G10 x0 x1 x2 x3 x4 x5) := by
  unfold out0_A_10
  rw [View.read_writes_junk_eq_canon]
  funext y
  refine View.canon_apply_of_pieces ((G10 x0 x1 x2 x3 x4 x5)) _ (View.PiecesOf.mem (G := (G10 x0 x1 x2 x3 x4 x5)) ?_) y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 y)
  exact ⟨fun x => (congrFun (e53 _ _) x).trans (qP arg7 harg7 x5 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e52 _ _) x).trans (qP arg7 harg7 x5 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e51 _ _) x).trans (qP arg7 harg7 x5 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e49 _ _) x).trans (qP arg7 harg7 x5 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e24 _ _) x).trans (qP arg7 harg7 x5 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e23 _ _) x).trans (qP arg7 harg7 x5 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e20 _ _) x).trans (qP arg7 harg7 x5 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e19 _ _) x).trans (qP arg7 harg7 x5 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl), trivial⟩

/-- A point's block of output 3. -/
def G11 (x0 : Vec Ideal S2x1x256x1024 .f32) (x1 : Vec Ideal S2x1x256x1024 .bf16) (x2 : Vec Ideal S1024x1024 .bf16) (x3 : Vec Ideal S1x1024 .f32) (x4 : Vec Ideal S2x1024 .f32) (x6 : Vec Ideal S1024x1024 .bf16) : Vec Ideal S2x1x1024x256 .f32 := fun y => dB x6 (hB x0 x1 x2 x3 x4 (y 0) 0) (y 2) (y 3)

theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = (G11 x0 x1 x2 x3 x4 x6) := by
  unfold out0_A_11
  rw [View.read_writes_junk_eq_canon]
  funext y
  refine View.canon_apply_of_pieces ((G11 x0 x1 x2 x3 x4 x6)) _ (View.PiecesOf.mem (G := (G11 x0 x1 x2 x3 x4 x6)) ?_) y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 y)
  exact ⟨fun x => (congrFun (e59 _ _) x).trans (zP arg8 harg8 x6 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e57 _ _) x).trans (zP arg8 harg8 x6 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e56 _ _) x).trans (zP arg8 harg8 x6 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e55 _ _) x).trans (zP arg8 harg8 x6 (fun s => hB x0 x1 x2 x3 x4 s 0) _ 1 _ _ (fun r k => v320_at c arg2 harg2 arg3 harg3 arg4 harg4 arg5 harg5 arg6 harg6 arg16 arg17 arg18 x0 x1 x2 x3 x4 r k) x _ _ (by simp) rfl rfl),
    fun x => (congrFun (e28 _ _) x).trans (zP arg8 harg8 x6 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e27 _ _) x).trans (zP arg8 harg8 x6 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e26 _ _) x).trans (zP arg8 harg8 x6 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl),
    fun x => (congrFun (e25 _ _) x).trans (zP arg8 harg8 x6 (fun s => hB x0 x1 x2 x3 x4 s 0) _ 0 _ _ (fun r k => v92_at c arg2 harg2 arg3 harg3 arg4 harg4 arg5 harg5 arg6 harg6 arg16 arg17 arg18 x0 x1 x2 x3 x4 r k) x _ _ (by simp) rfl rfl), trivial⟩

/-- A point's block of output 4. -/
def G12 (x0 : Vec Ideal S2x1x256x1024 .f32) (x1 : Vec Ideal S2x1x256x1024 .bf16) (x2 : Vec Ideal S1024x1024 .bf16) (x3 : Vec Ideal S1x1024 .f32) (x4 : Vec Ideal S2x1024 .f32) (x7 : Vec Ideal S1024x1024 .bf16) : Vec Ideal S2x1x256x1024 .bf16 := fun y => kB (hB x0 x1 x2 x3 x4 (y 0) 1) x7 (y 2) (y 3)

theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = (G12 x0 x1 x2 x3 x4 x7) := by
  unfold out0_A_12
  rw [View.read_writes_junk_eq_canon]
  funext y
  refine View.canon_apply_of_pieces ((G12 x0 x1 x2 x3 x4 x7)) _ (View.PiecesOf.mem (G := (G12 x0 x1 x2 x3 x4 x7)) ?_) y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 y)
  exact ⟨fun x => (congrFun (e63 _ _) x).trans (kP arg9 harg9 x7 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e62 _ _) x).trans (kP arg9 harg9 x7 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e61 _ _) x).trans (kP arg9 harg9 x7 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e60 _ _) x).trans (kP arg9 harg9 x7 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e32 _ _) x).trans (kP arg9 harg9 x7 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e31 _ _) x).trans (kP arg9 harg9 x7 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e30 _ _) x).trans (kP arg9 harg9 x7 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e29 _ _) x).trans (kP arg9 harg9 x7 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl), trivial⟩

/-- A point's block of output 5. -/
def G13 (x0 : Vec Ideal S2x1x256x1024 .f32) (x1 : Vec Ideal S2x1x256x1024 .bf16) (x2 : Vec Ideal S1024x1024 .bf16) (x3 : Vec Ideal S1x1024 .f32) (x4 : Vec Ideal S2x1024 .f32) (x8 : Vec Ideal S1024x1024 .bf16) : Vec Ideal S2x1x1024x256 .bf16 := fun y => dB x8 (hB x0 x1 x2 x3 x4 (y 0) 1) (y 2) (y 3)

theorem out13_eq : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = (G13 x0 x1 x2 x3 x4 x8) := by
  unfold out0_A_13
  rw [View.read_writes_junk_eq_canon]
  funext y
  refine View.canon_apply_of_pieces ((G13 x0 x1 x2 x3 x4 x8)) _ (View.PiecesOf.mem (G := (G13 x0 x1 x2 x3 x4 x8)) ?_) y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 y)
  exact ⟨fun x => (congrFun (e1 _ _) x).trans (vP arg10 harg10 x8 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e66 _ _) x).trans (vP arg10 harg10 x8 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e65 _ _) x).trans (vP arg10 harg10 x8 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e64 _ _) x).trans (vP arg10 harg10 x8 (fun s => hB x0 x1 x2 x3 x4 s 1) _ 1 _ _ (fun r k => v394_at c arg2 harg2 arg3 harg3 arg4 harg4 arg5 harg5 arg6 harg6 arg16 arg17 arg18 x0 x1 x2 x3 x4 r k) x _ _ (by simp) rfl rfl),
    fun x => (congrFun (e37 _ _) x).trans (vP arg10 harg10 x8 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e36 _ _) x).trans (vP arg10 harg10 x8 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e35 _ _) x).trans (vP arg10 harg10 x8 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl),
    fun x => (congrFun (e33 _ _) x).trans (vP arg10 harg10 x8 (fun s => hB x0 x1 x2 x3 x4 s 1) _ 0 _ _ (fun r k => v166_at c arg2 harg2 arg3 harg3 arg4 harg4 arg5 harg5 arg6 harg6 arg16 arg17 arg18 x0 x1 x2 x3 x4 r k) x _ _ (by simp) rfl rfl), trivial⟩

end Cert.Kernel3Ideal.Bk

end
-- ==== Proof.Hand.BackRef.lean ====
/- The reference's results of the second half of the layer, read at an index. -/
module

public import proofs.«01_k».proof.Proof.Hand.BackPay
public import proofs.«01_k».proof.Proof.Gen.Reference3Ideal.Run

@[expose] public section

set_option maxRecDepth 16384

noncomputable section

open Idealize.ShloMosaic Idealize.ShloMosaic.TcCoe

namespace Cert.Reference3Ideal.Bk

open Cert.Reference3Ideal Cert.Reference3Ideal.Gen
open Cert.Kernel3Ideal.Bk (rsq oRow)

variable (X G : FVec Ideal S16x2048x1024 .f32) (W : FVec Ideal S1x1024x1024 .f32) (P : FVec Ideal S1x1024 .f32)

/-- The output projection of the gated rows. -/
def yR : FVec Ideal S16x2048x1024 .f32 :=
  Host.dotGeneral dot_S16x2048x1024_S1024x1024_S16x2048x1024_2_0_01_1_n_n none G (shapeCast _ W shapeCasts_S1x1024x1024_S1024x1024)

/-- Each row divided by the root of its mean square. -/
def nR (y : FVec Ideal S16x2048x1024 .f32) : FVec Ideal S16x2048x1024 .f32 :=
  mulf y (broadcastInDim S16x2048x1024 ![0, 1, 2] bcast_S16x2048x1_S16x2048x1024_0_1_2
      (Host.rsqrt (addf (Host.divf
        (broadcastInDim S16x2048x1 ![0, 1] bcast_S16x2048_S16x2048x1_0_1
          (Host.reduceAdd (mulf y y) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32)))))

/-- A gain spread over the rows. -/
def gR (g : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 g)

/-- The residual stream after the addition. -/
def oR : FVec Ideal S16x2048x1024 .f32 :=
  addf X (mulf (nR (yR G W)) (gR (shapeCast _ P shapeCasts_S1x1024_S1024)))

/-- The input projection of the next layer, or its keys and values. -/
def uR (g : FVec Ideal S1024 .f32) (V : FVec Ideal S1024x2048 .f32) : FVec Ideal S16x2048x2048 .f32 :=
  Host.dotGeneral dot_S16x2048x1024_S1024x2048_S16x2048x2048_2_0_01_1_n_n none (mulf (nR (oR X G W P)) (gR g)) V

theorem yR_at (b : Fin 16) (r : Fin 2048) (n : Fin 1024) :
    yR G W (ix3 b r n) = ∑ k : Fin 1024, G (ix3 b r k) * W (ix3 0 k n) := by
  pointwise [yR]

theorem nR_at (y : FVec Ideal S16x2048x1024 .f32) (b : Fin 16) (r : Fin 2048) (n : Fin 1024) :
    nR y (ix3 b r n) = y (ix3 b r n) * rsq (fun k => y (ix3 b r k)) := by
  pointwise [nR, rsq]

theorem gR_at (g : FVec Ideal S1024 .f32) (b : Fin 16) (r : Fin 2048) (n : Fin 1024) : gR g (ix3 b r n) = g (ix1 n) := by
  pointwise [gR]

theorem cP_at (g : FVec Ideal S1x1024 .f32) (n : Fin 1024) : (shapeCast S1024 g shapeCasts_S1x1024_S1024 : FVec Ideal S1024 .f32) (ix1 n) = g (ix2 0 n) := by
  pointwise []

theorem cV_at (V : FVec Ideal S1x1024x2048 .f32) (k : Fin 1024) (n : Fin 2048) :
    (shapeCast S1024x2048 V shapeCasts_S1x1024x2048_S1024x2048 : FVec Ideal S1024x2048 .f32) (ix2 k n) = V (ix3 0 k n) := by
  pointwise []

theorem oR_at (b : Fin 16) (r : Fin 2048) (n : Fin 1024) :
    oR X G W P (ix3 b r n) = oRow (fun k => X (ix3 b r k)) (fun k => ∑ j : Fin 1024, G (ix3 b r j) * W (ix3 0 j k)) (fun k => P (ix2 0 k)) n := by
  have e : oR X G W P (ix3 b r n) = X (ix3 b r n) + nR (yR G W) (ix3 b r n) * gR (shapeCast _ P shapeCasts_S1x1024_S1024) (ix3 b r n) := rfl
  rw [e, nR_at, gR_at, cP_at]
  simp only [yR_at]
  rfl

theorem uR_at (g : FVec Ideal S1024 .f32) (V : FVec Ideal S1024x2048 .f32) (b : Fin 16) (r : Fin 2048) (n : Fin 2048) :
    uR X G W P g V (ix3 b r n)
      = ∑ k : Fin 1024, (oR X G W P (ix3 b r k) * rsq (fun k => oR X G W P (ix3 b r k)) * g (ix1 k)) * V (ix2 k n) := by
  have e : uR X G W P g V (ix3 b r n) = ∑ k : Fin 1024, (nR (oR X G W P) (ix3 b r k) * gR g (ix3 b r k)) * V (ix2 k n) := by
    unfold uR
    pointwise []
  rw [e]
  simp only [nR_at, gR_at]

/-- The query part. -/
def qRes (u : FVec Ideal S16x2048x2048 .f32) : FVec Ideal S2x8x1024x2048 .bf16 :=
  shapeCast _ (truncf .bf16 (transpose S16x1024x2048 [0, 2, 1] (Host.divf (extractStridedSlice S16x2048x1024 ![0, 0, 0] u slices_S16x2048x2048_S16x2048x1024_0_0_0)
    (broadcastInDim S16x2048x1024 ![] bcast_S_S16x2048x1024 (Host.log (constant S_ .f32 0x43800000#32)))) transposes_S16x2048x1024_S16x1024x2048_0_2_1) bitsLt_bf16_f32) shapeCasts_S16x1024x2048_S2x8x1024x2048

/-- The gate part. -/
def zRes (u : FVec Ideal S16x2048x2048 .f32) : FVec Ideal S2x8x1024x2048 .f32 :=
  shapeCast _ (transpose S16x1024x2048 [0, 2, 1] (extractStridedSlice S16x2048x1024 ![0, 0, 1024] u slices_S16x2048x2048_S16x2048x1024_0_0_1024) transposes_S16x2048x1024_S16x1024x2048_0_2_1) shapeCasts_S16x1024x2048_S2x8x1024x2048

/-- The keys. -/
def kRes (u : FVec Ideal S16x2048x2048 .f32) : FVec Ideal S2x8x2048x1024 .bf16 :=
  shapeCast _ (truncf .bf16 (extractStridedSlice S16x2048x1024 ![0, 0, 0] u slices_S16x2048x2048_S16x2048x1024_0_0_0) bitsLt_bf16_f32) shapeCasts_S16x2048x1024_S2x8x2048x1024

/-- The values. -/
def vRes (u : FVec Ideal S16x2048x2048 .f32) : FVec Ideal S2x8x1024x2048 .bf16 :=
  shapeCast _ (truncf .bf16 (transpose S16x1024x2048 [0, 2, 1] (extractStridedSlice S16x2048x1024 ![0, 0, 1024] u slices_S16x2048x2048_S16x2048x1024_0_0_1024) transposes_S16x2048x1024_S16x1024x2048_0_2_1) bitsLt_bf16_f32) shapeCasts_S16x1024x2048_S2x8x1024x2048

theorem qRes_at (u : FVec Ideal S16x2048x2048 .f32) (s : Fin 2) (b : Fin 8) (n : Fin 1024) (r : Fin 2048) :
    qRes u (ix4 s b n r) = Ideal.div (u (ix3 ⟨s.val * 8 + b.val, by omega⟩ r ⟨n.val, by omega⟩)) (Ideal.log (Ideal.ofBits .f32 0x43800000#32)) := by
  pointwise [qRes]

theorem zRes_at (u : FVec Ideal S16x2048x2048 .f32) (s : Fin 2) (b : Fin 8) (n : Fin 1024) (r : Fin 2048) :
    zRes u (ix4 s b n r) = u (ix3 ⟨s.val * 8 + b.val, by omega⟩ r ⟨1024 + n.val, by omega⟩) := by
  pointwise [zRes]

theorem kRes_at (u : FVec Ideal S16x2048x2048 .f32) (s : Fin 2) (b : Fin 8) (r : Fin 2048) (n : Fin 1024) :
    kRes u (ix4 s b r n) = u (ix3 ⟨s.val * 8 + b.val, by omega⟩ r ⟨n.val, by omega⟩) := by
  pointwise [kRes]

theorem vRes_at (u : FVec Ideal S16x2048x2048 .f32) (s : Fin 2) (b : Fin 8) (n : Fin 1024) (r : Fin 2048) :
    vRes u (ix4 s b n r) = u (ix3 ⟨s.val * 8 + b.val, by omega⟩ r ⟨1024 + n.val, by omega⟩) := by
  pointwise [vRes]

/-- The residual result. -/
def oRes : FVec Ideal S2x8x2048x1024 .f32 := shapeCast _ (oR X G W P) shapeCasts_S16x2048x1024_S2x8x2048x1024

theorem oRes_at (s : Fin 2) (b : Fin 8) (r : Fin 2048) (n : Fin 1024) :
    oRes X G W P (ix4 s b r n) = oR X G W P (ix3 ⟨s.val * 8 + b.val, by omega⟩ r n) := by
  pointwise [oRes]

variable (m : (ℓ : Loc nD τ sig) → Buf (Elt Ideal) ℓ) (c : Dev nD)

theorem res1 : Value.res_main_v47 m c = qRes (uR (m ((c : Thread nD τ).loc main_arg0)) (m ((c : Thread nD τ).loc main_arg1)) (m ((c : Thread nD τ).loc main_arg2)) (m ((c : Thread nD τ).loc main_arg3))
    (shapeCast _ (m ((c : Thread nD τ).loc main_arg6)) shapeCasts_S1x1024_S1024) (shapeCast _ (m ((c : Thread nD τ).loc main_arg7)) shapeCasts_S1x1024x2048_S1024x2048)) := rfl

theorem res2 : Value.res_main_v49 m c = zRes (uR (m ((c : Thread nD τ).loc main_arg0)) (m ((c : Thread nD τ).loc main_arg1)) (m ((c : Thread nD τ).loc main_arg2)) (m ((c : Thread nD τ).loc main_arg3))
    (shapeCast _ (m ((c : Thread nD τ).loc main_arg6)) shapeCasts_S1x1024_S1024) (shapeCast _ (m ((c : Thread nD τ).loc main_arg7)) shapeCasts_S1x1024x2048_S1024x2048)) := rfl

theorem res3 : Value.res_main_v51 m c = kRes (uR (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))) := rfl

theorem res4 : Value.res_main_v54 m c = vRes (uR (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))) := rfl

end Cert.Reference3Ideal.Bk

end
-- ==== Proof.Hand.BackFin.lean ====
/- The result arrays of the second half of the layer are the reference's results. -/
module

public import proofs.«01_k».proof.Proof.Hand.BackBlk
public import proofs.«01_k».proof.Proof.Hand.BackRef
public import Idealize.ShloMosaic.Lib.Pipeline.ValueKit

@[expose] public section

set_option maxRecDepth 16384

noncomputable section

open Idealize.ShloMosaic Idealize.ShloMosaic.TcCoe Idealize.SL.Sem

namespace Cert.Kernel3Ideal.Bk

open Cert.Kernel3Ideal Cert.Kernel3Ideal.Gen
open Cert.Reference3Ideal.Bk (oR uR oR_at uR_at cP_at cV_at qRes zRes kRes vRes oRes qRes_at zRes_at kRes_at vRes_at oRes_at)

variable (m : (ℓ : Loc nD τ sig) → Buf (Elt Ideal) ℓ) (c : Dev nD) (t : Fin cfg0.N)

theorem ht (t : Fin cfg0.N) : t.val < 64 := lt_of_lt_of_eq t.isLt (show cfg0.N = 64 from N_0)

/-- The windows' block indices at every grid point. -/
theorem idx : ∀ t : Fin cfg0.N,
    win0_0.index t = ![0, t.val / 8, t.val % 8, 0] ∧ win0_1.index t = ![0, t.val / 8, t.val % 8, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![0, t.val / 8, t.val % 8, 0] ∧ win0_10.index t = ![0, t.val / 8, 0, t.val % 8] ∧ win0_11.index t = ![0, t.val / 8, 0, t.val % 8]
      ∧ win0_12.index t = ![0, t.val / 8, t.val % 8, 0] ∧ win0_13.index t = ![0, t.val / 8, 0, t.val % 8] :=
  (by decide +kernel : ∀ t : Fin grid0.N,
    win0_0.index t = ![0, t.val / 8, t.val % 8, 0] ∧ win0_1.index t = ![0, t.val / 8, t.val % 8, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![0, t.val / 8, t.val % 8, 0] ∧ win0_10.index t = ![0, t.val / 8, 0, t.val % 8] ∧ win0_11.index t = ![0, t.val / 8, 0, t.val % 8]
      ∧ win0_12.index t = ![0, t.val / 8, t.val % 8, 0] ∧ win0_13.index t = ![0, t.val / 8, 0, t.val % 8])

abbrev A0 : FVec Ideal S16x2048x1024 .f32 := m ((c : Thread nD τ).loc main_arg0)
abbrev A1 : FVec Ideal S16x2048x1024 .f32 := m ((c : Thread nD τ).loc main_arg1)
abbrev A2 : FVec Ideal S1x1024x1024 .f32 := m ((c : Thread nD τ).loc main_arg2)
abbrev A3 : FVec Ideal S1x1024 .f32 := m ((c : Thread nD τ).loc main_arg3)
abbrev A4 : FVec Ideal S1024 .f32 := m ((c : Thread nD τ).loc main_arg4)
abbrev A5 : FVec Ideal S1024x2048 .f32 := m ((c : Thread nD τ).loc main_arg5)
abbrev A6 : FVec Ideal S1x1024 .f32 := m ((c : Thread nD τ).loc main_arg6)
abbrev A7 : FVec Ideal S1x1024x2048 .f32 := m ((c : Thread nD τ).loc main_arg7)

/-- The batch of a block's plane. -/
def bt (t : Fin cfg0.N) (s : Fin 2) : Fin 16 := ⟨s.val * 8 + t.val / 8, by have := ht t; omega⟩
/-- The position of a block's row. -/
def ps (t : Fin cfg0.N) (r : Fin 256) : Fin 2048 := ⟨t.val % 8 * 256 + r.val, by omega⟩

theorem ib0 (s : Fin 2) (r : Fin 256) (n : Fin 1024) : (iblk m c 0 t : Vec Ideal S2x1x256x1024 .f32) (ix4 s 0 r n) = A0 m c (ix3 (bt t s) (ps t r) n) := by
  have h := ht t
  unfold bt ps
  blk_simp [iblk]
  entry_read
  pointwise []
  blk_point [iblk, V, idx t]

theorem ib1 (s : Fin 2) (r : Fin 256) (n : Fin 1024) : (iblk m c 1 t : Vec Ideal S2x1x256x1024 .bf16) (ix4 s 0 r n) = A1 m c (ix3 (bt t s) (ps t r) n) := by
  have h := ht t
  unfold bt ps
  blk_simp [iblk]
  entry_read
  pointwise []
  blk_point [iblk, V, idx t]

theorem ib2 (k n : Fin 1024) : (iblk m c 2 t : Vec Ideal S1024x1024 .bf16) (ix2 k n) = A2 m c (ix3 0 k n) := by
  have h := ht t
  blk_simp [iblk]
  entry_read
  pointwise []
  blk_point [iblk, V, idx t]

theorem ib3 (n : Fin 1024) : (iblk m c 3 t : Vec Ideal S1x1024 .f32) (ix2 0 n) = A3 m c (ix2 0 n) := by
  have h := ht t
  blk_simp [iblk]
  entry_read
  pointwise []
  blk_point [iblk, V, idx t]

theorem e4 (y : S2x1024.Idx) : ((win0_4.blk t).view.emb y 0).val = (y 0).val := by blk_point [idx t]

theorem ib4_0 (n : Fin 1024) : (iblk m c 4 t : Vec Ideal S2x1024 .f32) (ix2 0 n) = A6 m c (ix2 0 n) := by
  have h := ht t
  have e : ((win0_4.blk t).view.emb (ix2 (0 : Fin 2) n) 0).val = 0 := e4 t (ix2 (0 : Fin 2) n)
  blk_simp [iblk]
  entry_read
  pointwise []
  blk_point [iblk, V, idx t]
  rename_i h1 h2 h3
  exact absurd (lt_of_eq_of_lt e Nat.one_pos) h1

theorem ib4_1 (n : Fin 1024) : (iblk m c 4 t : Vec Ideal S2x1024 .f32) (ix2 1 n) = A4 m c (ix1 n) := by
  have h := ht t
  have e : ((win0_4.blk t).view.emb (ix2 (1 : Fin 2) n) 0).val = 1 := e4 t (ix2 (1 : Fin 2) n)
  blk_simp [iblk]
  entry_read
  pointwise []
  blk_point [iblk, V, idx t]
  rename_i h1 h2 h3
  exact absurd (lt_of_eq_of_lt e.symm h1) (lt_irrefl 1)

theorem ib5 (r k : Fin 1024) : (iblk m c 5 t : Vec Ideal S1024x1024 .bf16) (ix2 r k) = A7 m c (ix3 0 k ⟨r.val, by omega⟩) := by
  have h := ht t
  blk_simp [iblk]
  entry_read
  pointwise []
  blk_point [iblk, V, idx t]

theorem ib6 (r k : Fin 1024) : (iblk m c 6 t : Vec Ideal S1024x1024 .bf16) (ix2 r k) = A7 m c (ix3 0 k ⟨1024 + r.val, by omega⟩) := by
  have h := ht t
  blk_simp [iblk]
  entry_read
  pointwise []
  blk_point [iblk, V, idx t]

theorem ib7 (k n : Fin 1024) : (iblk m c 7 t : Vec Ideal S1024x1024 .bf16) (ix2 k n) = A5 m c (ix2 k ⟨n.val, by omega⟩) := by
  have h := ht t
  blk_simp [iblk]
  entry_read
  pointwise []
  blk_point [iblk, V, idx t]

theorem ib8 (r k : Fin 1024) : (iblk m c 8 t : Vec Ideal S1024x1024 .bf16) (ix2 r k) = A5 m c (ix2 k ⟨1024 + r.val, by omega⟩) := by
  have h := ht t
  blk_simp [iblk]
  entry_read
  pointwise []
  blk_point [iblk, V, idx t]

theorem qs_val : qs = (((Real.log 256)⁻¹ : ℝ) : EReal) := rfl

theorem c256 : Ideal.ofBits FTy.f32 0x43800000#32 = ((256 : ℝ) : EReal) := by
  simp [Ideal.ofBits, Ideal.ieee]; norm_num; rw [← EReal.coe_mul]; norm_num

theorem div_log (x : EReal) : Ideal.div x (Ideal.log (Ideal.ofBits FTy.f32 0x43800000#32)) = x * qs := by
  rw [qs_val, c256, Ideal.log_coe, if_neg (by norm_num), Ideal.div_coe (Real.log_pos (by norm_num)).ne', one_div]

/-- The reference's residual rows and its two projections of the arguments. -/
abbrev O : FVec Ideal S16x2048x1024 .f32 := oR (A0 m c) (A1 m c) (A2 m c) (A3 m c)
abbrev U1 : FVec Ideal Cert.Reference3Ideal.S16x2048x2048 .f32 := uR (A0 m c) (A1 m c) (A2 m c) (A3 m c)
  (shapeCast Cert.Reference3Ideal.S1024 (A6 m c) Cert.Reference3Ideal.Gen.shapeCasts_S1x1024_S1024)
  (shapeCast Cert.Reference3Ideal.S1024x2048 (A7 m c) Cert.Reference3Ideal.Gen.shapeCasts_S1x1024x2048_S1024x2048)
abbrev U2 : FVec Ideal Cert.Reference3Ideal.S16x2048x2048 .f32 := uR (A0 m c) (A1 m c) (A2 m c) (A3 m c) (A4 m c) (A5 m c)

theorem o_row (s : Fin 2) (r : Fin 256) (n : Fin 1024) :
    oB (iblk m c 0 t) (iblk m c 1 t) (iblk m c 2 t) (iblk m c 3 t) s r n = O m c (ix3 (bt t s) (ps t r) n) := by
  rw [O, oR_at]
  unfold oB yB
  simp only [ib0, ib1, ib2, ib3]

theorem h_row0 (s : Fin 2) (r : Fin 256) (n : Fin 1024) :
    hB (iblk m c 0 t) (iblk m c 1 t) (iblk m c 2 t) (iblk m c 3 t) (iblk m c 4 t) s 0 r n
      = O m c (ix3 (bt t s) (ps t r) n) * rsq (fun k => O m c (ix3 (bt t s) (ps t r) k)) * A6 m c (ix2 0 n) := by
  unfold hB
  rw [ib4_0, o_row, show oB (iblk m c 0 t) (iblk m c 1 t) (iblk m c 2 t) (iblk m c 3 t) s r = fun k => O m c (ix3 (bt t s) (ps t r) k) from funext fun k => o_row m c t s r k]

theorem h_row1 (s : Fin 2) (r : Fin 256) (n : Fin 1024) :
    hB (iblk m c 0 t) (iblk m c 1 t) (iblk m c 2 t) (iblk m c 3 t) (iblk m c 4 t) s 1 r n
      = O m c (ix3 (bt t s) (ps t r) n) * rsq (fun k => O m c (ix3 (bt t s) (ps t r) k)) * A4 m c (ix1 n) := by
  unfold hB
  rw [ib4_1, o_row, show oB (iblk m c 0 t) (iblk m c 1 t) (iblk m c 2 t) (iblk m c 3 t) s r = fun k => O m c (ix3 (bt t s) (ps t r) k) from funext fun k => o_row m c t s r k]

theorem q_row (s : Fin 2) (R : Fin 1024) (r : Fin 256) :
    dB (iblk m c 5 t) (hB (iblk m c 0 t) (iblk m c 1 t) (iblk m c 2 t) (iblk m c 3 t) (iblk m c 4 t) s 0) R r
      = U1 m c (ix3 (bt t s) (ps t r) ⟨R.val, by omega⟩) := by
  rw [U1, uR_at]
  unfold dB
  refine Finset.sum_congr rfl fun k _ => ?_
  rw [ib5, h_row0, cP_at, cV_at, mul_comm]

theorem z_row (s : Fin 2) (R : Fin 1024) (r : Fin 256) :
    dB (iblk m c 6 t) (hB (iblk m c 0 t) (iblk m c 1 t) (iblk m c 2 t) (iblk m c 3 t) (iblk m c 4 t) s 0) R r
      = U1 m c (ix3 (bt t s) (ps t r) ⟨1024 + R.val, by omega⟩) := by
  rw [U1, uR_at]
  unfold dB
  refine Finset.sum_congr rfl fun k _ => ?_
  rw [ib6, h_row0, cP_at, cV_at, mul_comm]

theorem k_row (s : Fin 2) (r : Fin 256) (N : Fin 1024) :
    kB (hB (iblk m c 0 t) (iblk m c 1 t) (iblk m c 2 t) (iblk m c 3 t) (iblk m c 4 t) s 1) (iblk m c 7 t) r N
      = U2 m c (ix3 (bt t s) (ps t r) ⟨N.val, by omega⟩) := by
  rw [U2, uR_at]
  unfold kB
  refine Finset.sum_congr rfl fun k _ => ?_
  rw [ib7, h_row1]

theorem v_row (s : Fin 2) (R : Fin 1024) (r : Fin 256) :
    dB (iblk m c 8 t) (hB (iblk m c 0 t) (iblk m c 1 t) (iblk m c 2 t) (iblk m c 3 t) (iblk m c 4 t) s 1) R r
      = U2 m c (ix3 (bt t s) (ps t r) ⟨1024 + R.val, by omega⟩) := by
  rw [U2, uR_at]
  unfold dB
  refine Finset.sum_congr rfl fun k _ => ?_
  rw [ib8, h_row1, mul_comm]

theorem ix4_of {n0 n1 n2 n3 : ℕ} (z : (⟨4, ![n0, n1, n2, n3]⟩ : Shape).Idx) (a : Fin n0) (b : Fin n1) (d : Fin n2) (e : Fin n3)
    (h0 : (z 0).val = a.val) (h1 : (z 1).val = b.val) (h2 : (z 2).val = d.val) (h3 : (z 3).val = e.val) : z = ix4 a b d e :=
  funext fun i => Fin.ext (match i with
    | 0 => h0
    | 1 => h1
    | 2 => h2
    | 3 => h3)

/-- The batch inside its half. -/
def hb (t : Fin cfg0.N) : Fin 8 := ⟨t.val / 8, by have := ht t; omega⟩

theorem final9 : (dats m 0 c).arrAt 9 (cfgs 0).N = oRes (A0 m c) (A1 m c) (A2 m c) (A3 m c) := by
  refine (dats m 0 c).arrAt_eq_of_covers 9 _ (by decide +kernel) fun t _ y => ?_
  blk_simp
  rw [after0_9]
  unfold outsAt0
  dsimp only
  rw [out9_eq]
  have e : (win0_9.blk t).view.emb y = ix4 (y 0) (hb t) (ps t (y 2)) (y 3) :=
    ix4_of _ _ _ _ _ (by blk_point [idx t]) (by unfold hb; blk_point [idx t]) (by unfold ps; blk_point [idx t]) (by blk_point [idx t])
  refine Eq.trans ?_ (congrArg (oRes (A0 m c) (A1 m c) (A2 m c) (A3 m c)) e).symm
  exact (o_row m c t (y 0) (y 2) (y 3)).trans (oRes_at _ _ _ _ (y 0) (hb t) (ps t (y 2)) (y 3)).symm

theorem final10 : (dats m 0 c).arrAt 10 (cfgs 0).N = qRes (U1 m c) := by
  refine (dats m 0 c).arrAt_eq_of_covers 10 _ (by decide +kernel) fun t _ y => ?_
  blk_simp
  rw [after0_10]
  unfold outsAt0
  dsimp only
  rw [out10_eq]
  have e : (win0_10.blk t).view.emb y = ix4 (y 0) (hb t) (y 2) (ps t (y 3)) :=
    ix4_of _ _ _ _ _ (by blk_point [idx t]) (by unfold hb; blk_point [idx t]) (by blk_point [idx t]) (by unfold ps; blk_point [idx t])
  refine Eq.trans ?_ (congrArg (qRes (U1 m c)) e).symm
  refine Eq.trans ?_ ((qRes_at _ (y 0) (hb t) (y 2) (ps t (y 3))).trans (div_log _)).symm
  exact congrArg (· * qs) (q_row m c t (y 0) (y 2) (y 3))

theorem final11 : (dats m 0 c).arrAt 11 (cfgs 0).N = zRes (U1 m c) := by
  refine (dats m 0 c).arrAt_eq_of_covers 11 _ (by decide +kernel) fun t _ y => ?_
  blk_simp
  rw [after0_11]
  unfold outsAt0
  dsimp only
  rw [out11_eq]
  have e : (win0_11.blk t).view.emb y = ix4 (y 0) (hb t) (y 2) (ps t (y 3)) :=
    ix4_of _ _ _ _ _ (by blk_point [idx t]) (by unfold hb; blk_point [idx t]) (by blk_point [idx t]) (by unfold ps; blk_point [idx t])
  refine Eq.trans ?_ (congrArg (zRes (U1 m c)) e).symm
  exact (z_row m c t (y 0) (y 2) (y 3)).trans (zRes_at _ (y 0) (hb t) (y 2) (ps t (y 3))).symm

theorem final12 : (dats m 0 c).arrAt 12 (cfgs 0).N = kRes (U2 m c) := by
  refine (dats m 0 c).arrAt_eq_of_covers 12 _ (by decide +kernel) fun t _ y => ?_
  blk_simp
  rw [after0_12]
  unfold outsAt0
  dsimp only
  rw [out12_eq]
  have e : (win0_12.blk t).view.emb y = ix4 (y 0) (hb t) (ps t (y 2)) (y 3) :=
    ix4_of _ _ _ _ _ (by blk_point [idx t]) (by unfold hb; blk_point [idx t]) (by unfold ps; blk_point [idx t]) (by blk_point [idx t])
  refine Eq.trans ?_ (congrArg (kRes (U2 m c)) e).symm
  exact (k_row m c t (y 0) (y 2) (y 3)).trans (kRes_at _ (y 0) (hb t) (ps t (y 2)) (y 3)).symm

theorem final13 : (dats m 0 c).arrAt 13 (cfgs 0).N = vRes (U2 m c) := by
  refine (dats m 0 c).arrAt_eq_of_covers 13 _ (by decide +kernel) fun t _ y => ?_
  blk_simp
  rw [after0_13]
  unfold outsAt0
  dsimp only
  rw [out13_eq]
  have e : (win0_13.blk t).view.emb y = ix4 (y 0) (hb t) (y 2) (ps t (y 3)) :=
    ix4_of _ _ _ _ _ (by blk_point [idx t]) (by unfold hb; blk_point [idx t]) (by blk_point [idx t]) (by unfold ps; blk_point [idx t])
  refine Eq.trans ?_ (congrArg (vRes (U2 m c)) e).symm
  exact (v_row m c t (y 0) (y 2) (y 3)).trans (vRes_at _ (y 0) (hb t) (y 2) (ps t (y 3))).symm

end Cert.Kernel3Ideal.Bk

end
-- ==== Proof.Hand.Back.lean ====
/- The claims about the second half of the layer: the frames of its two printings and of its reference, and their equal results. -/
module

public import proofs.«01_k».proof.Defs
public import proofs.«01_k».proof.Proof.Gen.Kernel3.Frame
public import proofs.«01_k».proof.Proof.Hand.BackFin
public import Idealize.ShloMosaic.Lib.Quiescent
public import Idealize.ShloMosaic.Lib.Claim

@[expose] public section

noncomputable section

open Idealize.ShloMosaic Idealize.ShloMosaic.TcCoe Idealize.SL.Sem

namespace Cert.Proof.BackClaims

open Cert.Kernel3Ideal.Bk (final9 final10 final11 final12 final13)
open Cert.Reference3Ideal.Bk (res1 res2 res3 res4)

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

theorem preserves : Cert.preserves_Kernel3_Kernel3Ideal :=
  IdealRules.named_const.statement Cert.Kernel3Ideal.κ "q_scale" .f32 0x3E38AA3B#32 (((Real.log 256)⁻¹ : ℝ) : EReal) rfl

theorem algebraic : Cert.algebraic_Kernel3Ideal_Reference3Ideal := by
  intro m ρ m' ρ' _ hagree
  refine ⟨_, _, _, _, _, (θ_run Cert.Kernel3Ideal.defs _ _).mono
    (fun _ h c => ⟨(h c).1.trans (final9 m c), (h c).2.1.trans (final10 m c), (h c).2.2.1.trans (final11 m c),
      (h c).2.2.2.1.trans (final12 m c), (h c).2.2.2.2.1.trans (final13 m c), (h c).2.2.2.2.2⟩)
    (Cert.Kernel3Ideal.Value.run_blocks (F := Ideal) m ρ), ?_⟩
  refine (θ_run Cert.Reference3Ideal.defs _ _).mono (fun _ h c => ⟨(h c).1.trans ?_, (h c).2.1.trans ?_, (h c).2.2.1.trans ?_,
      (h c).2.2.2.1.trans ?_, (h c).2.2.2.2.1.trans ?_, (h c).2.2.2.2.2⟩)
    (Cert.Reference3Ideal.Value.run (F := Ideal) m' ρ')
  all_goals obtain ⟨h0, h1, h2, h3, h4, h5, h6, h7⟩ := hagree c
  · rw [h0, h1, h2, h3]
    rfl
  · rw [res1, h0, h1, h2, h3, h6, h7]
  · rw [res2, h0, h1, h2, h3, h6, h7]
  · rw [res3, h0, h1, h2, h3, h4, h5]
  · rw [res4, h0, h1, h2, h3, h4, h5]

end Cert.Proof.BackClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_finite
public import proofs.«01_k».proof.Proof.Hand.OutClaims
public import proofs.«01_k».proof.Proof.Hand.AttnFrames
public import proofs.«01_k».proof.Proof.Hand.AttnValue
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Hand.Back
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    AttnClaims.frame_p, AttnClaims.frame_pi, AttnClaims.frame_pi_finite, AttnClaims.frame_ri, AttnClaims.frame_ri_finite,
    OutClaims.frame_p, OutClaims.frame_pi, OutClaims.frame_ri,
    BackClaims.frame_p, BackClaims.frame_pi, BackClaims.frame_ri,
    AttnClaims.preserves, AttnClaims.algebraic, trivial, OutClaims.algebraic,
    BackClaims.preserves, BackClaims.algebraic⟩

end Cert.Proof

end
